-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_decay_above [hPre_decay_above : Cert.Pre_decay_above.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_decay_above.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_decay_above [hPre_decay_above : Cert.Pre_decay_above.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_decay_above.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Kernel13Ideal_pre_decay_above [hKernel13Ideal : Cert.Kernel13Ideal.Facts] [hPre_decay_above : Cert.Pre_decay_above.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_decay_above m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Reference13Ideal_pre_decay_above [hReference13Ideal : Cert.Reference13Ideal.Facts] [hPre_decay_above : Cert.Pre_decay_above.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_decay_above m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "slope2" .f32 0x3F1837F0#32 (((1 * ((Real.sqrt 2) * (Real.sqrt (Real.sqrt 2))))⁻¹ : ℝ) : EReal)
  ∧ IdealRules.named_const.Statement Cert.KernelIdeal.κ "slope1" .f32 0x3F3504F3#32 (((1 * (Real.sqrt 2))⁻¹ : ℝ) : EReal)
  ∧ IdealRules.named_const.Statement Cert.KernelIdeal.κ "slope0" .f32 0x3F5744FD#32 (((1 * (Real.sqrt (Real.sqrt 2)))⁻¹ : ℝ) : EReal)
  ∧ IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥
  ∧ IdealRules.named_const.Statement Cert.KernelIdeal.κ "slope6" .f32 0x3E9837F0#32 (((2 * ((Real.sqrt 2) * (Real.sqrt (Real.sqrt 2))))⁻¹ : ℝ) : EReal)
  ∧ IdealRules.named_const.Statement Cert.KernelIdeal.κ "slope5" .f32 0x3EB504F3#32 (((2 * (Real.sqrt 2))⁻¹ : ℝ) : EReal)
  ∧ IdealRules.named_const.Statement Cert.KernelIdeal.κ "slope4" .f32 0x3ED744FD#32 (((2 * (Real.sqrt (Real.sqrt 2)))⁻¹ : ℝ) : EReal)
  ∧ IdealRules.named_const.Statement Cert.KernelIdeal.κ "slope10" .f32 0x3E1837F0#32 (((4 * ((Real.sqrt 2) * (Real.sqrt (Real.sqrt 2))))⁻¹ : ℝ) : EReal)
  ∧ IdealRules.named_const.Statement Cert.KernelIdeal.κ "slope9" .f32 0x3E3504F3#32 (((4 * (Real.sqrt 2))⁻¹ : ℝ) : EReal)
  ∧ IdealRules.named_const.Statement Cert.KernelIdeal.κ "slope8" .f32 0x3E5744FD#32 (((4 * (Real.sqrt (Real.sqrt 2)))⁻¹ : ℝ) : EReal)
  ∧ IdealRules.named_const.Statement Cert.KernelIdeal.κ "slope14" .f32 0x3D9837F0#32 (((8 * ((Real.sqrt 2) * (Real.sqrt (Real.sqrt 2))))⁻¹ : ℝ) : EReal)
  ∧ IdealRules.named_const.Statement Cert.KernelIdeal.κ "slope12" .f32 0x3DD744FD#32 (((8 * (Real.sqrt (Real.sqrt 2)))⁻¹ : ℝ) : EReal)
  ∧ IdealRules.named_const.Statement Cert.KernelIdeal.κ "slope18" .f32 0x3D1837F0#32 (((16 * ((Real.sqrt 2) * (Real.sqrt (Real.sqrt 2))))⁻¹ : ℝ) : EReal)
  ∧ IdealRules.named_const.Statement Cert.KernelIdeal.κ "slope17" .f32 0x3D3504F3#32 (((16 * (Real.sqrt 2))⁻¹ : ℝ) : EReal)
  ∧ IdealRules.named_const.Statement Cert.KernelIdeal.κ "slope16" .f32 0x3D5744FD#32 (((16 * (Real.sqrt (Real.sqrt 2)))⁻¹ : ℝ) : EReal)
  ∧ IdealRules.named_const.Statement Cert.KernelIdeal.κ "slope22" .f32 0x3C9837F0#32 (((32 * ((Real.sqrt 2) * (Real.sqrt (Real.sqrt 2))))⁻¹ : ℝ) : EReal)
  ∧ IdealRules.named_const.Statement Cert.KernelIdeal.κ "slope21" .f32 0x3CB504F3#32 (((32 * (Real.sqrt 2))⁻¹ : ℝ) : EReal)
  ∧ IdealRules.named_const.Statement Cert.KernelIdeal.κ "slope20" .f32 0x3CD744FD#32 (((32 * (Real.sqrt (Real.sqrt 2)))⁻¹ : ℝ) : EReal)
  ∧ IdealRules.named_const.Statement Cert.KernelIdeal.κ "slope26" .f32 0x3C1837F0#32 (((64 * ((Real.sqrt 2) * (Real.sqrt (Real.sqrt 2))))⁻¹ : ℝ) : EReal)
  ∧ IdealRules.named_const.Statement Cert.KernelIdeal.κ "slope25" .f32 0x3C3504F3#32 (((64 * (Real.sqrt 2))⁻¹ : ℝ) : EReal)
  ∧ IdealRules.named_const.Statement Cert.KernelIdeal.κ "slope24" .f32 0x3C5744FD#32 (((64 * (Real.sqrt (Real.sqrt 2)))⁻¹ : ℝ) : EReal)
  ∧ IdealRules.named_const.Statement Cert.KernelIdeal.κ "slope30" .f32 0x3B9837F0#32 (((128 * ((Real.sqrt 2) * (Real.sqrt (Real.sqrt 2))))⁻¹ : ℝ) : EReal)
  ∧ IdealRules.named_const.Statement Cert.KernelIdeal.κ "slope29" .f32 0x3BB504F3#32 (((128 * (Real.sqrt 2))⁻¹ : ℝ) : EReal)
  ∧ IdealRules.named_const.Statement Cert.KernelIdeal.κ "slope28" .f32 0x3BD744FD#32 (((128 * (Real.sqrt (Real.sqrt 2)))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v57) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v66) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v43) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_decay_above [hKernel13Ideal : Cert.Kernel13Ideal.Facts] [hReference13Ideal : Cert.Reference13Ideal.Facts] [hPre_decay_above : Cert.Pre_decay_above.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_decay_above m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v13_0)) (v1 : (c : Dev Cert.Kernel13Ideal.nD) → Buf (Elt Ideal) ((c.tc : Thread Cert.Kernel13Ideal.nD Cert.Kernel13Ideal.τ).loc Cert.Kernel13Ideal.main_v13_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v13_0) = v0 c
          ∧ r.2.mem ((c.tc : Thread Cert.Kernel13Ideal.nD Cert.Kernel13Ideal.τ).loc Cert.Kernel13Ideal.main_v13_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v86) = v0 c
          ∧ r.2.mem ((c.tc : Thread Cert.Reference13Ideal.nD Cert.Reference13Ideal.τ).loc Cert.Reference13Ideal.main_v89) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  IdealRules.bf16_pair.BufferStatement Cert.Kernel14Ideal.S32768x2x2048 Cert.Kernel14Ideal.S32768x1x2048
  ∧ IdealRules.bf16_pair.BufferStatement Cert.Kernel14Ideal.S512x2x2048 Cert.Kernel14Ideal.S512x1x2048
  ∧ IdealRules.bf16_pair.Statement Cert.Kernel14Ideal.S512x2x2048 Cert.Kernel14Ideal.S512x1x2048
  ∧ IdealRules.bf16_pack.Statement Cert.Kernel14Ideal.S512x2048

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v6_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v54) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_decay_above : Cert.Pre_decay_above.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_decay_above (hKernel13Ideal := hKernel13Ideal) (hPre_decay_above := hPre_decay_above)
    ∧ quiescent_Reference13Ideal (hReference13Ideal := hReference13Ideal)
    ∧ quiescent_Reference13Ideal_pre_decay_above (hReference13Ideal := hReference13Ideal) (hPre_decay_above := hPre_decay_above)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_decay_above (hKernel13Ideal := hKernel13Ideal) (hReference13Ideal := hReference13Ideal) (hPre_decay_above := hPre_decay_above)
    ∧ preserves_Kernel14_Kernel14Ideal
    ∧ algebraic_Kernel14Ideal_Reference14Ideal (hKernel14Ideal := hKernel14Ideal) (hReference14Ideal := hReference14Ideal)
-- ==== Pre_decay_above.lean ====
abbrev S8x2048x4096 : Shape := ⟨3, ![8, 2048, 4096]⟩
abbrev S4x4096x4096 : Shape := ⟨3, ![4, 4096, 4096]⟩
abbrev S2x16x256x256 : Shape := ⟨4, ![2, 16, 256, 256]⟩
abbrev S2x4096 : Shape := ⟨2, ![2, 4096]⟩
abbrev S_ : Shape := ⟨0, ![]⟩

class Facts : Prop where
  bcast_S_S2x4096 : S_.BroadcastsInDim S2x4096 (![] : Fin 0 → Fin S2x4096.rank)

variable [Facts]

def fn {F : FTy → Type} [FloatOps F] (main_arg0 : FVec F S8x2048x4096 .f32) (main_arg1 : FVec F S4x4096x4096 .f32) (main_arg2 : FVec F S2x16x256x256 .f32) (main_arg3 : FVec F S2x4096 .f32) (main_arg4 : FVec F S2x16x256x256 .f32) (main_arg5 : FVec F S2x4096 .f32) (main_arg6 : FVec F S2x4096 .f32) : IVec S2x4096 1 :=
  let main_cst : FVec F S_ .f32 := constant S_ .f32 0xFF800000#32
  let main_v0 : FVec F S2x4096 .f32 := broadcastInDim S2x4096 ![] bcast_S_S2x4096 main_cst
  let main_v1 : IVec S2x4096 1 := cmpf .ogt main_arg6 main_v0
  main_v1
-- ==== Kernel.lean ====
abbrev S8x2048x6144 : Shape := ⟨3, ![8, 2048, 6144]⟩
abbrev S4x4096x6144 : Shape := ⟨3, ![4, 4096, 6144]⟩
abbrev S32 : Shape := ⟨1, ![32]⟩
abbrev S16384x6144 : Shape := ⟨2, ![16384, 6144]⟩
abbrev S32768x6144 : Shape := ⟨2, ![32768, 6144]⟩
abbrev S32768x4096 : Shape := ⟨2, ![32768, 4096]⟩
abbrev S128x4096 : Shape := ⟨2, ![128, 4096]⟩
abbrev S128x1024 : Shape := ⟨2, ![128, 1024]⟩
abbrev S512x384 : Shape := ⟨2, ![512, 384]⟩
abbrev S512x1 : Shape := ⟨2, ![512, 1]⟩
abbrev S128x128 : Shape := ⟨2, ![128, 128]⟩
abbrev S384x128 : Shape := ⟨2, ![384, 128]⟩
abbrev S512x128 : Shape := ⟨2, ![512, 128]⟩
abbrev S1 : Shape := ⟨1, ![1]⟩
abbrev S512 : Shape := ⟨1, ![512]⟩

abbrev nBuf : Space → Nat
  | .hbm => 8
  | .vmem => 16
  | .smem => 1
  | _ => 0

abbrev bufTy : (tb : Table) → Fin (tcTables nBuf tb) → BufTy
  | .hbm, ⟨0, _⟩ => ⟨S8x2048x6144, .f32⟩
  | .hbm, ⟨1, _⟩ => ⟨S4x4096x6144, .f32⟩
  | .hbm, ⟨2, _⟩ => ⟨S32, .f32⟩
  | .hbm, ⟨3, _⟩ => ⟨S16384x6144, .f32⟩
  | .hbm, ⟨4, _⟩ => ⟨S16384x6144, .f32⟩
  | .hbm, ⟨5, _⟩ => ⟨S32768x6144, .f32⟩
  | .hbm, ⟨6, _⟩ => ⟨S32768x6144, .bf16⟩
  | .hbm, ⟨7, _⟩ => ⟨S32768x4096, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x4096, .bf16⟩
  | .local _ .vmem, ⟨15, _⟩ => ⟨S128x4096, .bf16⟩
  | .local _ .smem, ⟨0, _⟩ => ⟨S32, .f32⟩
  | _, _ => ⟨S8x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c255_i32 : BitVec 32 := 255#32
  let v1 : BitVec 32 := Scalar.minsi v0 c255_i32
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c255_i32 : BitVec 32 := 255#32
  let v1 : BitVec 32 := Scalar.minsi v0 c255_i32
  let c5_i32 : BitVec 32 := 5#32
  let c0_i32 : BitVec 32 := 0#32
  ![v1.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | "scale" => some (((Real.sqrt 128)⁻¹ : ℝ) : EReal)
  | "slope0" => some (((1 * (Real.sqrt (Real.sqrt 2)))⁻¹ : ℝ) : EReal)
  | "slope1" => some (((1 * (Real.sqrt 2))⁻¹ : ℝ) : EReal)
  | "slope10" => some (((4 * ((Real.sqrt 2) * (Real.sqrt (Real.sqrt 2))))⁻¹ : ℝ) : EReal)
  | "slope12" => some (((8 * (Real.sqrt (Real.sqrt 2)))⁻¹ : ℝ) : EReal)
  | "slope14" => some (((8 * ((Real.sqrt 2) * (Real.sqrt (Real.sqrt 2))))⁻¹ : ℝ) : EReal)
  | "slope16" => some (((16 * (Real.sqrt (Real.sqrt 2)))⁻¹ : ℝ) : EReal)
  | "slope17" => some (((16 * (Real.sqrt 2))⁻¹ : ℝ) : EReal)
  | "slope18" => some (((16 * ((Real.sqrt 2) * (Real.sqrt (Real.sqrt 2))))⁻¹ : ℝ) : EReal)
  | "slope2" => some (((1 * ((Real.sqrt 2) * (Real.sqrt (Real.sqrt 2))))⁻¹ : ℝ) : EReal)
  | "slope20" => some (((32 * (Real.sqrt (Real.sqrt 2)))⁻¹ : ℝ) : EReal)
  | "slope21" => some (((32 * (Real.sqrt 2))⁻¹ : ℝ) : EReal)
  | "slope22" => some (((32 * ((Real.sqrt 2) * (Real.sqrt (Real.sqrt 2))))⁻¹ : ℝ) : EReal)
  | "slope24" => some (((64 * (Real.sqrt (Real.sqrt 2)))⁻¹ : ℝ) : EReal)
  | "slope25" => some (((64 * (Real.sqrt 2))⁻¹ : ℝ) : EReal)
  | "slope26" => some (((64 * ((Real.sqrt 2) * (Real.sqrt (Real.sqrt 2))))⁻¹ : ℝ) : EReal)
  | "slope28" => some (((128 * (Real.sqrt (Real.sqrt 2)))⁻¹ : ℝ) : EReal)
  | "slope29" => some (((128 * (Real.sqrt 2))⁻¹ : ℝ) : EReal)
  | "slope30" => some (((128 * ((Real.sqrt 2) * (Real.sqrt (Real.sqrt 2))))⁻¹ : ℝ) : EReal)
  | "slope4" => some (((2 * (Real.sqrt (Real.sqrt 2)))⁻¹ : ℝ) : EReal)
  | "slope5" => some (((2 * (Real.sqrt 2))⁻¹ : ℝ) : EReal)
  | "slope6" => some (((2 * ((Real.sqrt 2) * (Real.sqrt (Real.sqrt 2))))⁻¹ : ℝ) : EReal)
  | "slope8" => some (((4 * (Real.sqrt (Real.sqrt 2)))⁻¹ : ℝ) : EReal)
  | "slope9" => some (((4 * (Real.sqrt 2))⁻¹ : ℝ) : EReal)
  | _ => none
-- ==== ReferenceIdeal.lean ====
abbrev S8x2048x6144 : Shape := ⟨3, ![8, 2048, 6144]⟩
abbrev S4x4096x6144 : Shape := ⟨3, ![4, 4096, 6144]⟩
abbrev S32 : Shape := ⟨1, ![32]⟩
abbrev S8x2048x4096 : Shape := ⟨3, ![8, 2048, 4096]⟩
abbrev S8x2048x1024 : Shape := ⟨3, ![8, 2048, 1024]⟩
abbrev S8x16x128x8x4x128 : Shape := ⟨6, ![8, 16, 128, 8, 4, 128]⟩
abbrev S_ : Shape := ⟨0, ![]⟩
abbrev S8x2304x1024 : Shape := ⟨3, ![8, 2304, 1024]⟩
abbrev S8x18x128x8x128 : Shape := ⟨5, ![8, 18, 128, 8, 128]⟩
abbrev S8x16x128x8x128 : Shape := ⟨5, ![8, 16, 128, 8, 128]⟩
abbrev S8x16x384x8x128 : Shape := ⟨5, ![8, 16, 384, 8, 128]⟩
abbrev S8x16x8x384x128x4 : Shape := ⟨6, ![8, 16, 8, 384, 128, 4]⟩
abbrev S8x16x8x4x128x384 : Shape := ⟨6, ![8, 16, 8, 4, 128, 384]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S8x4 : Shape := ⟨2, ![8, 4]⟩
abbrev S1x8x4x1x1 : Shape := ⟨5, ![1, 8, 4, 1, 1]⟩
abbrev S16x1x1x128x384 : Shape := ⟨5, ![16, 1, 1, 128, 384]⟩
abbrev S16x8x4x128x384 : Shape := ⟨5, ![16, 8, 4, 128, 384]⟩
abbrev S1x16x1x1x128x384 : Shape := ⟨6, ![1, 16, 1, 1, 128, 384]⟩
abbrev S1x16x8x4x128x384 : Shape := ⟨6, ![1, 16, 8, 4, 128, 384]⟩
abbrev S1x1x8x4x1x1 : Shape := ⟨6, ![1, 1, 8, 4, 1, 1]⟩
abbrev S8x16x8x4x128 : Shape := ⟨5, ![8, 16, 8, 4, 128]⟩
abbrev S8x16x8x4x128x1 : Shape := ⟨6, ![8, 16, 8, 4, 128, 1]⟩
abbrev S8x16x8x128x4x128 : Shape := ⟨6, ![8, 16, 8, 128, 4, 128]⟩
abbrev S4x4096x4096 : Shape := ⟨3, ![4, 4096, 4096]⟩
abbrev S4x4096x1024 : Shape := ⟨3, ![4, 4096, 1024]⟩
abbrev S4x32x128x8x4x128 : Shape := ⟨6, ![4, 32, 128, 8, 4, 128]⟩
abbrev S4x4352x1024 : Shape := ⟨3, ![4, 4352, 1024]⟩
abbrev S4x34x128x8x128 : Shape := ⟨5, ![4, 34, 128, 8, 128]⟩
abbrev S4x32x128x8x128 : Shape := ⟨5, ![4, 32, 128, 8, 128]⟩
abbrev S4x32x384x8x128 : Shape := ⟨5, ![4, 32, 384, 8, 128]⟩
abbrev S4x32x8x384x128x4 : Shape := ⟨6, ![4, 32, 8, 384, 128, 4]⟩
abbrev S4x32x8x4x128x384 : Shape := ⟨6, ![4, 32, 8, 4, 128, 384]⟩
abbrev S32x1 : Shape := ⟨2, ![32, 1]⟩
abbrev S32x128 : Shape := ⟨2, ![32, 128]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S32x1x1x128x384 : Shape := ⟨5, ![32, 1, 1, 128, 384]⟩
abbrev S32x8x4x128x384 : Shape := ⟨5, ![32, 8, 4, 128, 384]⟩
abbrev S1x32x1x1x128x384 : Shape := ⟨6, ![1, 32, 1, 1, 128, 384]⟩
abbrev S1x32x8x4x128x384 : Shape := ⟨6, ![1, 32, 8, 4, 128, 384]⟩
abbrev S4x32x8x4x128 : Shape := ⟨5, ![4, 32, 8, 4, 128]⟩
abbrev S4x32x8x4x128x1 : Shape := ⟨6, ![4, 32, 8, 4, 128, 1]⟩
abbrev S4x32x8x128x4x128 : Shape := ⟨6, ![4, 32, 8, 128, 4, 128]⟩
abbrev S16384x4096 : Shape := ⟨2, ![16384, 4096]⟩
abbrev S32768x4096 : Shape := ⟨2, ![32768, 4096]⟩

abbrev nBuf : Space → Nat
  | .hbm => 251
  | .vmem => 0
  | .smem => 0
  | _ => 0

abbrev hbmTy0_0 (i : Nat) : BufTy := match i % 128 with
  | 0 => ⟨S8x2048x6144, .f32⟩
  | 1 => ⟨S4x4096x6144, .f32⟩
  | 2 => ⟨S32, .f32⟩
  | 3 => ⟨S8x2048x4096, .f32⟩
  | 4 => ⟨S8x2048x1024, .f32⟩
  | 5 => ⟨S8x2048x1024, .f32⟩
  | 6 => ⟨S8x16x128x8x4x128, .f32⟩
  | 7 => ⟨S_, .i32⟩
  | 8 => ⟨S_, .f32⟩
  | 9 => ⟨S8x2304x1024, .f32⟩
  | 10 => ⟨S8x18x128x8x128, .f32⟩
  | 11 => ⟨S_, .i32⟩
  | 12 => ⟨S_, .f32⟩
  | 13 => ⟨S8x2304x1024, .f32⟩
  | 14 => ⟨S8x18x128x8x128, .f32⟩
  | 15 => ⟨S8x16x128x8x128, .f32⟩
  | 16 => ⟨S8x16x128x8x128, .f32⟩
  | 17 => ⟨S8x16x128x8x128, .f32⟩
  | 18 => ⟨S8x16x384x8x128, .f32⟩
  | 19 => ⟨S8x16x128x8x128, .f32⟩
  | 20 => ⟨S8x16x128x8x128, .f32⟩
  | 21 => ⟨S8x16x128x8x128, .f32⟩
  | 22 => ⟨S8x16x384x8x128, .f32⟩
  | 23 => ⟨S8x16x8x384x128x4, .f32⟩
  | 24 => ⟨S8x16x8x4x128x384, .f32⟩
  | 25 => ⟨S_, .f32⟩
  | 26 => ⟨S_, .f32⟩
  | 27 => ⟨S8x16x8x4x128x384, .f32⟩
  | 28 => ⟨S8x16x8x4x128x384, .f32⟩
  | 29 => ⟨S16, .i32⟩
  | 30 => ⟨S16x1, .i32⟩
  | 31 => ⟨S_, .i32⟩
  | 32 => ⟨S16x1, .i32⟩
  | 33 => ⟨S16x1, .i32⟩
  | 34 => ⟨S128, .i32⟩
  | 35 => ⟨S1x128, .i32⟩
  | 36 => ⟨S16x128, .i32⟩
  | 37 => ⟨S16x128, .i32⟩
  | 38 => ⟨S16x128, .i32⟩
  | 39 => ⟨S_, .i32⟩
  | 40 => ⟨S16x1, .i32⟩
  | 41 => ⟨S16x1, .i32⟩
  | 42 => ⟨S_, .i32⟩
  | 43 => ⟨S16x1, .i32⟩
  | 44 => ⟨S16x1, .i32⟩
  | 45 => ⟨S384, .i32⟩
  | 46 => ⟨S1x384, .i32⟩
  | 47 => ⟨S16x384, .i32⟩
  | 48 => ⟨S16x384, .i32⟩
  | 49 => ⟨S16x384, .i32⟩
  | 50 => ⟨S16x128x1, .i32⟩
  | 51 => ⟨S16x1x384, .i32⟩
  | 52 => ⟨S16x128x384, .i32⟩
  | 53 => ⟨S16x128x384, .i32⟩
  | 54 => ⟨S16x128x384, .i32⟩
  | 55 => ⟨S16x128x384, .i32⟩
  | 56 => ⟨S_, .i32⟩
  | 57 => ⟨S16x128x384, .i32⟩
  | 58 => ⟨S16x128x384, .i1⟩
  | 59 => ⟨S_, .i32⟩
  | 60 => ⟨S16x384, .i32⟩
  | 61 => ⟨S16x384, .i1⟩
  | 62 => ⟨S_, .i32⟩
  | 63 => ⟨S16x384, .i32⟩
  | 64 => ⟨S16x384, .i1⟩
  | 65 => ⟨S16x384, .i1⟩
  | 66 => ⟨S16x1x384, .i1⟩
  | 67 => ⟨S16x128x384, .i1⟩
  | 68 => ⟨S16x128x384, .i1⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S32, .f32⟩
  | 82 => ⟨S32, .f32⟩
  | 83 => ⟨S8x4, .f32⟩
  | 84 => ⟨S1x8x4x1x1, .f32⟩
  | 85 => ⟨S1x8x4x1x1, .f32⟩
  | 86 => ⟨S16x1x1x128x384, .i32⟩
  | 87 => ⟨S16x1x1x128x384, .f32⟩
  | 88 => ⟨S16x8x4x128x384, .f32⟩
  | 89 => ⟨S16x8x4x128x384, .f32⟩
  | 90 => ⟨S16x8x4x128x384, .f32⟩
  | 91 => ⟨S1x16x1x1x128x384, .i1⟩
  | 92 => ⟨S1x16x8x4x128x384, .f32⟩
  | 93 => ⟨S8x16x8x4x128x384, .f32⟩
  | 94 => ⟨S8x16x8x4x128x384, .f32⟩
  | 95 => ⟨S_, .f32⟩
  | 96 => ⟨S_, .f32⟩
  | 97 => ⟨S8x16x8x4x128x384, .i1⟩
  | 98 => ⟨S8x16x8x4x128x384, .f32⟩
  | 99 => ⟨S8x16x8x4x128x384, .f32⟩
  | 100 => ⟨S8x4, .f32⟩
  | 101 => ⟨S1x1x8x4x1x1, .f32⟩
  | 102 => ⟨S_, .f32⟩
  | 103 => ⟨S8x16x8x4x128, .f32⟩
  | 104 => ⟨S8x16x8x4x128x1, .f32⟩
  | 105 => ⟨S8x16x8x4x128x1, .f32⟩
  | 106 => ⟨S8x16x8x4x128x1, .f32⟩
  | 107 => ⟨S8x16x8x4x128x384, .f32⟩
  | 108 => ⟨S8x16x8x4x128x384, .f32⟩
  | 109 => ⟨S8x16x8x4x128x384, .f32⟩
  | 110 => ⟨S_, .f32⟩
  | 111 => ⟨S8x16x8x4x128, .f32⟩
  | 112 => ⟨S8x16x8x4x128x1, .f32⟩
  | 113 => ⟨S8x16x8x4x128x1, .f32⟩
  | 114 => ⟨S8x16x8x4x128x1, .f32⟩
  | 115 => ⟨S8x16x8x4x128x1, .f32⟩
  | 116 => ⟨S8x16x8x4x128x1, .f32⟩
  | 117 => ⟨S_, .f32⟩
  | 118 => ⟨S8x16x8x4x128x1, .f32⟩
  | 119 => ⟨S8x16x8x4x128x1, .f32⟩
  | 120 => ⟨S8x16x8x4x128x384, .f32⟩
  | 121 => ⟨S8x16x8x4x128x384, .f32⟩
  | 122 => ⟨S8x16x8x128x4x128, .f32⟩
  | 123 => ⟨S8x16x128x8x4x128, .f32⟩
  | 124 => ⟨S8x2048x4096, .f32⟩
  | 125 => ⟨S4x4096x4096, .f32⟩
  | 126 => ⟨S4x4096x1024, .f32⟩
  | 127 => ⟨S4x4096x1024, .f32⟩
  | _ => ⟨S8x2048x6144, .f32⟩

abbrev hbmTy0_1 (i : Nat) : BufTy := match i % 128 with
  | 0 => ⟨S4x32x128x8x4x128, .f32⟩
  | 1 => ⟨S_, .i32⟩
  | 2 => ⟨S_, .f32⟩
  | 3 => ⟨S4x4352x1024, .f32⟩
  | 4 => ⟨S4x34x128x8x128, .f32⟩
  | 5 => ⟨S_, .i32⟩
  | 6 => ⟨S_, .f32⟩
  | 7 => ⟨S4x4352x1024, .f32⟩
  | 8 => ⟨S4x34x128x8x128, .f32⟩
  | 9 => ⟨S4x32x128x8x128, .f32⟩
  | 10 => ⟨S4x32x128x8x128, .f32⟩
  | 11 => ⟨S4x32x128x8x128, .f32⟩
  | 12 => ⟨S4x32x384x8x128, .f32⟩
  | 13 => ⟨S4x32x128x8x128, .f32⟩
  | 14 => ⟨S4x32x128x8x128, .f32⟩
  | 15 => ⟨S4x32x128x8x128, .f32⟩
  | 16 => ⟨S4x32x384x8x128, .f32⟩
  | 17 => ⟨S4x32x8x384x128x4, .f32⟩
  | 18 => ⟨S4x32x8x4x128x384, .f32⟩
  | 19 => ⟨S_, .f32⟩
  | 20 => ⟨S_, .f32⟩
  | 21 => ⟨S4x32x8x4x128x384, .f32⟩
  | 22 => ⟨S4x32x8x4x128x384, .f32⟩
  | 23 => ⟨S32, .i32⟩
  | 24 => ⟨S32x1, .i32⟩
  | 25 => ⟨S_, .i32⟩
  | 26 => ⟨S32x1, .i32⟩
  | 27 => ⟨S32x1, .i32⟩
  | 28 => ⟨S128, .i32⟩
  | 29 => ⟨S1x128, .i32⟩
  | 30 => ⟨S32x128, .i32⟩
  | 31 => ⟨S32x128, .i32⟩
  | 32 => ⟨S32x128, .i32⟩
  | 33 => ⟨S_, .i32⟩
  | 34 => ⟨S32x1, .i32⟩
  | 35 => ⟨S32x1, .i32⟩
  | 36 => ⟨S_, .i32⟩
  | 37 => ⟨S32x1, .i32⟩
  | 38 => ⟨S32x1, .i32⟩
  | 39 => ⟨S384, .i32⟩
  | 40 => ⟨S1x384, .i32⟩
  | 41 => ⟨S32x384, .i32⟩
  | 42 => ⟨S32x384, .i32⟩
  | 43 => ⟨S32x384, .i32⟩
  | 44 => ⟨S32x128x1, .i32⟩
  | 45 => ⟨S32x1x384, .i32⟩
  | 46 => ⟨S32x128x384, .i32⟩
  | 47 => ⟨S32x128x384, .i32⟩
  | 48 => ⟨S32x128x384, .i32⟩
  | 49 => ⟨S32x128x384, .i32⟩
  | 50 => ⟨S_, .i32⟩
  | 51 => ⟨S32x128x384, .i32⟩
  | 52 => ⟨S32x128x384, .i1⟩
  | 53 => ⟨S_, .i32⟩
  | 54 => ⟨S32x384, .i32⟩
  | 55 => ⟨S32x384, .i1⟩
  | 56 => ⟨S_, .i32⟩
  | 57 => ⟨S32x384, .i32⟩
  | 58 => ⟨S32x384, .i1⟩
  | 59 => ⟨S32x384, .i1⟩
  | 60 => ⟨S32x1x384, .i1⟩
  | 61 => ⟨S32x128x384, .i1⟩
  | 62 => ⟨S32x128x384, .i1⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S32, .f32⟩
  | 76 => ⟨S32, .f32⟩
  | 77 => ⟨S8x4, .f32⟩
  | 78 => ⟨S1x8x4x1x1, .f32⟩
  | 79 => ⟨S1x8x4x1x1, .f32⟩
  | 80 => ⟨S32x1x1x128x384, .i32⟩
  | 81 => ⟨S32x1x1x128x384, .f32⟩
  | 82 => ⟨S32x8x4x128x384, .f32⟩
  | 83 => ⟨S32x8x4x128x384, .f32⟩
  | 84 => ⟨S32x8x4x128x384, .f32⟩
  | 85 => ⟨S1x32x1x1x128x384, .i1⟩
  | 86 => ⟨S1x32x8x4x128x384, .f32⟩
  | 87 => ⟨S4x32x8x4x128x384, .f32⟩
  | 88 => ⟨S4x32x8x4x128x384, .f32⟩
  | 89 => ⟨S_, .f32⟩
  | 90 => ⟨S_, .f32⟩
  | 91 => ⟨S4x32x8x4x128x384, .i1⟩
  | 92 => ⟨S4x32x8x4x128x384, .f32⟩
  | 93 => ⟨S4x32x8x4x128x384, .f32⟩
  | 94 => ⟨S8x4, .f32⟩
  | 95 => ⟨S1x1x8x4x1x1, .f32⟩
  | 96 => ⟨S_, .f32⟩
  | 97 => ⟨S4x32x8x4x128, .f32⟩
  | 98 => ⟨S4x32x8x4x128x1, .f32⟩
  | 99 => ⟨S4x32x8x4x128x1, .f32⟩
  | 100 => ⟨S4x32x8x4x128x1, .f32⟩
  | 101 => ⟨S4x32x8x4x128x384, .f32⟩
  | 102 => ⟨S4x32x8x4x128x384, .f32⟩
  | 103 => ⟨S4x32x8x4x128x384, .f32⟩
  | 104 => ⟨S_, .f32⟩
  | 105 => ⟨S4x32x8x4x128, .f32⟩
  | 106 => ⟨S4x32x8x4x128x1, .f32⟩
  | 107 => ⟨S4x32x8x4x128x1, .f32⟩
  | 108 => ⟨S4x32x8x4x128x1, .f32⟩
  | 109 => ⟨S4x32x8x4x128x1, .f32⟩
  | 110 => ⟨S4x32x8x4x128x1, .f32⟩
  | 111 => ⟨S_, .f32⟩
  | 112 => ⟨S4x32x8x4x128x1, .f32⟩
  | 113 => ⟨S4x32x8x4x128x1, .f32⟩
  | 114 => ⟨S4x32x8x4x128x384, .f32⟩
  | 115 => ⟨S4x32x8x4x128x384, .f32⟩
  | 116 => ⟨S4x32x8x128x4x128, .f32⟩
  | 117 => ⟨S4x32x128x8x4x128, .f32⟩
  | 118 => ⟨S4x4096x4096, .f32⟩
  | 119 => ⟨S16384x4096, .f32⟩
  | 120 => ⟨S16384x4096, .f32⟩
  | 121 => ⟨S32768x4096, .f32⟩
  | 122 => ⟨S32768x4096, .bf16⟩
  | _ => ⟨S8x2048x6144, .f32⟩

abbrev hbmTy (i : Nat) : BufTy := match i / 128 with
  | 0 => hbmTy0_0 i
  | 1 => hbmTy0_1 i
  | _ => ⟨S8x2048x6144, .f32⟩

abbrev bufTy : (tb : Table) → Fin (tcTables nBuf tb) → BufTy
  | .hbm, ⟨i, _⟩ => hbmTy i
  | _, _ => ⟨S8x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_c_5 : Ref sig .tc := ⟨.hbm, 59, rfl⟩
abbrev main_v47 : Ref sig .tc := ⟨.hbm, 60, rfl⟩
abbrev main_v48 : Ref sig .tc := ⟨.hbm, 61, rfl⟩
abbrev main_c_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_13 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_14 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_15 : Ref sig .tc := ⟨.hbm, 129, rfl⟩
abbrev main_call3_v0 : Ref sig .tc := ⟨.hbm, 130, rfl⟩
abbrev main_v104 : Ref sig .tc := ⟨.hbm, 131, rfl⟩
abbrev main_v105 : Ref sig .tc := ⟨.hbm, 132, rfl⟩
abbrev main_c_16 : Ref sig .tc := ⟨.hbm, 133, rfl⟩
abbrev main_call4_v0 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_17 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_c_18 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_c_19 : Ref sig .tc := ⟨.hbm, 161, rfl⟩
abbrev main_v130 : Ref sig .tc := ⟨.hbm, 162, rfl⟩
abbrev main_v131 : Ref sig .tc := ⟨.hbm, 163, rfl⟩
abbrev main_c_20 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_c_21 : Ref sig .tc := ⟨.hbm, 178, rfl⟩
abbrev main_v145 : Ref sig .tc := ⟨.hbm, 179, rfl⟩
abbrev main_v146 : Ref sig .tc := ⟨.hbm, 180, rfl⟩
abbrev main_c_22 : Ref sig .tc := ⟨.hbm, 181, rfl⟩
abbrev main_v147 : Ref sig .tc := ⟨.hbm, 182, rfl⟩
abbrev main_v148 : Ref sig .tc := ⟨.hbm, 183, rfl⟩
abbrev main_c_23 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_24 : Ref sig .tc := ⟨.hbm, 191, rfl⟩
abbrev main_v155 : Ref sig .tc := ⟨.hbm, 192, rfl⟩
abbrev main_v156 : Ref sig .tc := ⟨.hbm, 193, rfl⟩
abbrev main_cst_25 : Ref sig .tc := ⟨.hbm, 194, rfl⟩
abbrev main_v157 : Ref sig .tc := ⟨.hbm, 195, rfl⟩
abbrev main_v158 : Ref sig .tc := ⟨.hbm, 196, rfl⟩
abbrev main_cst_26 : Ref sig .tc := ⟨.hbm, 197, rfl⟩
abbrev main_v159 : Ref sig .tc := ⟨.hbm, 198, rfl⟩
abbrev main_v160 : Ref sig .tc := ⟨.hbm, 199, rfl⟩
abbrev main_cst_27 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_cst_28 : Ref sig .tc := ⟨.hbm, 217, rfl⟩
abbrev main_call5_v0 : Ref sig .tc := ⟨.hbm, 218, rfl⟩
abbrev main_call5_v1 : Ref sig .tc := ⟨.hbm, 219, rfl⟩
abbrev main_call5_v2 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_cst_29 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_cst_30 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_31 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩

abbrev nD : Nat := 1
abbrev τ : Topo := Topo.v7x

variable {F : FTy → Type} [FloatOps F]
-- ==== Kernel2.lean ====
abbrev S16x2048x4096 : Shape := ⟨3, ![16, 2048, 4096]⟩
abbrev S2x16x4096x2048 : Shape := ⟨4, ![2, 16, 4096, 2048]⟩
abbrev S16x4096x4096 : Shape := ⟨3, ![16, 4096, 4096]⟩
abbrev S65536x4096 : Shape := ⟨2, ![65536, 4096]⟩
abbrev S65536x2048 : Shape := ⟨2, ![65536, 2048]⟩
abbrev S1024x4096 : Shape := ⟨2, ![1024, 4096]⟩
abbrev S1x1x4096x256 : Shape := ⟨4, ![1, 1, 4096, 256]⟩
abbrev S1024x256 : Shape := ⟨2, ![1024, 256]⟩
abbrev S4096x256 : Shape := ⟨2, ![4096, 256]⟩

abbrev nBuf : Space → Nat
  | .hbm => 8
  | .vmem => 10
  | .smem => 0
  | _ => 0

abbrev bufTy : (tb : Table) → Fin (tcTables nBuf tb) → BufTy
  | .hbm, ⟨0, _⟩ => ⟨S16x2048x4096, .f32⟩
  | .hbm, ⟨1, _⟩ => ⟨S16x2048x4096, .f32⟩
  | .hbm, ⟨2, _⟩ => ⟨S2x16x4096x2048, .f32⟩
  | .hbm, ⟨3, _⟩ => ⟨S2x16x4096x2048, .f32⟩
  | .hbm, ⟨4, _⟩ => ⟨S16x4096x4096, .f32⟩
  | .hbm, ⟨5, _⟩ => ⟨S65536x4096, .f32⟩
  | .hbm, ⟨6, _⟩ => ⟨S65536x4096, .bf16⟩
  | .hbm, ⟨7, _⟩ => ⟨S65536x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S16x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S16x2048x4096 : Shape := ⟨3, ![16, 2048, 4096]⟩
abbrev S2x16x4096x2048 : Shape := ⟨4, ![2, 16, 4096, 2048]⟩
abbrev S1x16x4096x2048 : Shape := ⟨4, ![1, 16, 4096, 2048]⟩
abbrev S16x4096x2048 : Shape := ⟨3, ![16, 4096, 2048]⟩
abbrev S16x2048x2048 : Shape := ⟨3, ![16, 2048, 2048]⟩
abbrev S_ : Shape := ⟨0, ![]⟩
abbrev S65536x2048 : Shape := ⟨2, ![65536, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x4096, .f32⟩
  | .hbm, ⟨1, _⟩ => ⟨S16x2048x4096, .f32⟩
  | .hbm, ⟨2, _⟩ => ⟨S2x16x4096x2048, .f32⟩
  | .hbm, ⟨3, _⟩ => ⟨S2x16x4096x2048, .f32⟩
  | .hbm, ⟨4, _⟩ => ⟨S1x16x4096x2048, .f32⟩
  | .hbm, ⟨5, _⟩ => ⟨S16x4096x2048, .f32⟩
  | .hbm, ⟨6, _⟩ => ⟨S1x16x4096x2048, .f32⟩
  | .hbm, ⟨7, _⟩ => ⟨S16x4096x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S1x16x4096x2048, .f32⟩
  | .hbm, ⟨21, _⟩ => ⟨S16x4096x2048, .f32⟩
  | .hbm, ⟨22, _⟩ => ⟨S1x16x4096x2048, .f32⟩
  | .hbm, ⟨23, _⟩ => ⟨S16x4096x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x4096x2048, .f32⟩
  | .hbm, ⟨37, _⟩ => ⟨S65536x2048, .f32⟩
  | .hbm, ⟨38, _⟩ => ⟨S65536x2048, .bf16⟩
  | _, _ => ⟨S16x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel3.lean ====
abbrev S16x2048x2048 : Shape := ⟨3, ![16, 2048, 2048]⟩
abbrev S2x16x2048x4096 : Shape := ⟨4, ![2, 16, 2048, 4096]⟩
abbrev S16x2048 : Shape := ⟨2, ![16, 2048]⟩
abbrev S16x4096x2048 : Shape := ⟨3, ![16, 4096, 2048]⟩
abbrev S65536x2048 : Shape := ⟨2, ![65536, 2048]⟩
abbrev S16x4096 : Shape := ⟨2, ![16, 4096]⟩
abbrev S65536x1 : Shape := ⟨2, ![65536, 1]⟩
abbrev S65536x128 : Shape := ⟨2, ![65536, 128]⟩
abbrev S65536x4096 : Shape := ⟨2, ![65536, 4096]⟩
abbrev S1024x2048 : Shape := ⟨2, ![1024, 2048]⟩
abbrev S1x1x2048x1024 : Shape := ⟨4, ![1, 1, 2048, 1024]⟩
abbrev S1024x128 : Shape := ⟨2, ![1024, 128]⟩
abbrev S1024x1024 : Shape := ⟨2, ![1024, 1024]⟩
abbrev S2048x1024 : Shape := ⟨2, ![2048, 1024]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S2x16x2048x4096, .f32⟩
  | .hbm, ⟨3, _⟩ => ⟨S16x2048, .f32⟩
  | .hbm, ⟨4, _⟩ => ⟨S16x2048, .f32⟩
  | .hbm, ⟨5, _⟩ => ⟨S16x4096x2048, .f32⟩
  | .hbm, ⟨6, _⟩ => ⟨S65536x2048, .f32⟩
  | .hbm, ⟨7, _⟩ => ⟨S65536x2048, .bf16⟩
  | .hbm, ⟨8, _⟩ => ⟨S16x4096, .f32⟩
  | .hbm, ⟨9, _⟩ => ⟨S65536x1, .f32⟩
  | .hbm, ⟨10, _⟩ => ⟨S65536x128, .f32⟩
  | .hbm, ⟨11, _⟩ => ⟨S65536x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S16x2048x2048 : Shape := ⟨3, ![16, 2048, 2048]⟩
abbrev S2x16x2048x4096 : Shape := ⟨4, ![2, 16, 2048, 4096]⟩
abbrev S16x2048 : Shape := ⟨2, ![16, 2048]⟩
abbrev S1x16x2048x4096 : Shape := ⟨4, ![1, 16, 2048, 4096]⟩
abbrev S16x2048x4096 : Shape := ⟨3, ![16, 2048, 4096]⟩
abbrev S16x2048x1 : Shape := ⟨3, ![16, 2048, 1]⟩
abbrev S16x4096x4096 : Shape := ⟨3, ![16, 4096, 4096]⟩
abbrev S65536x4096 : Shape := ⟨2, ![65536, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S2x16x2048x4096, .f32⟩
  | .hbm, ⟨3, _⟩ => ⟨S16x2048, .f32⟩
  | .hbm, ⟨4, _⟩ => ⟨S16x2048, .f32⟩
  | .hbm, ⟨5, _⟩ => ⟨S1x16x2048x4096, .f32⟩
  | .hbm, ⟨6, _⟩ => ⟨S16x2048x4096, .f32⟩
  | .hbm, ⟨7, _⟩ => ⟨S16x2048x4096, .f32⟩
  | .hbm, ⟨8, _⟩ => ⟨S16x2048x1, .f32⟩
  | .hbm, ⟨9, _⟩ => ⟨S16x2048x4096, .f32⟩
  | .hbm, ⟨10, _⟩ => ⟨S16x2048x4096, .f32⟩
  | .hbm, ⟨11, _⟩ => ⟨S1x16x2048x4096, .f32⟩
  | .hbm, ⟨12, _⟩ => ⟨S16x2048x4096, .f32⟩
  | .hbm, ⟨13, _⟩ => ⟨S16x2048x4096, .f32⟩
  | .hbm, ⟨14, _⟩ => ⟨S16x2048x1, .f32⟩
  | .hbm, ⟨15, _⟩ => ⟨S16x2048x4096, .f32⟩
  | .hbm, ⟨16, _⟩ => ⟨S16x2048x4096, .f32⟩
  | .hbm, ⟨17, _⟩ => ⟨S16x4096x4096, .f32⟩
  | .hbm, ⟨18, _⟩ => ⟨S65536x4096, .f32⟩
  | .hbm, ⟨19, _⟩ => ⟨S65536x4096, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel4.lean ====
abbrev S8x2048x4096 : Shape := ⟨3, ![8, 2048, 4096]⟩
abbrev S4x4096x4096 : Shape := ⟨3, ![4, 4096, 4096]⟩
abbrev S4096x14336 : Shape := ⟨2, ![4096, 14336]⟩
abbrev S16384x4096 : Shape := ⟨2, ![16384, 4096]⟩
abbrev S32768x4096 : Shape := ⟨2, ![32768, 4096]⟩
abbrev S32768x14336 : Shape := ⟨2, ![32768, 14336]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096x14336, .f32⟩
  | .hbm, ⟨3, _⟩ => ⟨S16384x4096, .f32⟩
  | .hbm, ⟨4, _⟩ => ⟨S16384x4096, .f32⟩
  | .hbm, ⟨5, _⟩ => ⟨S32768x4096, .f32⟩
  | .hbm, ⟨6, _⟩ => ⟨S32768x4096, .bf16⟩
  | .hbm, ⟨7, _⟩ => ⟨S4096x14336, .bf16⟩
  | .hbm, ⟨8, _⟩ => ⟨S32768x14336, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8x2048x4096 : Shape := ⟨3, ![8, 2048, 4096]⟩
abbrev S4x4096x4096 : Shape := ⟨3, ![4, 4096, 4096]⟩
abbrev S4096x14336 : Shape := ⟨2, ![4096, 14336]⟩
abbrev S8x2048x14336 : Shape := ⟨3, ![8, 2048, 14336]⟩
abbrev S4x4096x14336 : Shape := ⟨3, ![4, 4096, 14336]⟩
abbrev S16384x14336 : Shape := ⟨2, ![16384, 14336]⟩
abbrev S32768x14336 : Shape := ⟨2, ![32768, 14336]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096x14336, .f32⟩
  | .hbm, ⟨3, _⟩ => ⟨S8x2048x14336, .f32⟩
  | .hbm, ⟨4, _⟩ => ⟨S4x4096x14336, .f32⟩
  | .hbm, ⟨5, _⟩ => ⟨S16384x14336, .f32⟩
  | .hbm, ⟨6, _⟩ => ⟨S16384x14336, .f32⟩
  | .hbm, ⟨7, _⟩ => ⟨S32768x14336, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8x2048x2048 : Shape := ⟨3, ![8, 2048, 2048]⟩
abbrev S4x4096x2048 : Shape := ⟨3, ![4, 4096, 2048]⟩
abbrev S8x2048x4096 : Shape := ⟨3, ![8, 2048, 4096]⟩
abbrev S4x4096x4096 : Shape := ⟨3, ![4, 4096, 4096]⟩
abbrev S6144x4096 : Shape := ⟨2, ![6144, 4096]⟩
abbrev S16384x2048 : Shape := ⟨2, ![16384, 2048]⟩
abbrev S32768x2048 : Shape := ⟨2, ![32768, 2048]⟩
abbrev S16384x4096 : Shape := ⟨2, ![16384, 4096]⟩
abbrev S32768x4096 : Shape := ⟨2, ![32768, 4096]⟩
abbrev S2048x4096 : Shape := ⟨2, ![2048, 4096]⟩
abbrev S4096x4096 : Shape := ⟨2, ![4096, 4096]⟩
abbrev S1024x2048 : Shape := ⟨2, ![1024, 2048]⟩
abbrev S1024x4096 : Shape := ⟨2, ![1024, 4096]⟩
abbrev S2048x512 : Shape := ⟨2, ![2048, 512]⟩
abbrev S4096x512 : Shape := ⟨2, ![4096, 512]⟩
abbrev S1024x512 : Shape := ⟨2, ![1024, 512]⟩

abbrev nBuf : Space → Nat
  | .hbm => 22
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S4x4096x2048, .f32⟩
  | .hbm, ⟨2, _⟩ => ⟨S8x2048x4096, .f32⟩
  | .hbm, ⟨3, _⟩ => ⟨S4x4096x4096, .f32⟩
  | .hbm, ⟨4, _⟩ => ⟨S8x2048x4096, .f32⟩
  | .hbm, ⟨5, _⟩ => ⟨S4x4096x4096, .f32⟩
  | .hbm, ⟨6, _⟩ => ⟨S6144x4096, .f32⟩
  | .hbm, ⟨7, _⟩ => ⟨S6144x4096, .bf16⟩
  | .hbm, ⟨8, _⟩ => ⟨S16384x2048, .f32⟩
  | .hbm, ⟨9, _⟩ => ⟨S16384x2048, .f32⟩
  | .hbm, ⟨10, _⟩ => ⟨S32768x2048, .f32⟩
  | .hbm, ⟨11, _⟩ => ⟨S32768x2048, .bf16⟩
  | .hbm, ⟨12, _⟩ => ⟨S16384x4096, .f32⟩
  | .hbm, ⟨13, _⟩ => ⟨S16384x4096, .f32⟩
  | .hbm, ⟨14, _⟩ => ⟨S32768x4096, .f32⟩
  | .hbm, ⟨15, _⟩ => ⟨S32768x4096, .bf16⟩
  | .hbm, ⟨16, _⟩ => ⟨S2048x4096, .bf16⟩
  | .hbm, ⟨17, _⟩ => ⟨S4096x4096, .bf16⟩
  | .hbm, ⟨18, _⟩ => ⟨S16384x4096, .f32⟩
  | .hbm, ⟨19, _⟩ => ⟨S16384x4096, .f32⟩
  | .hbm, ⟨20, _⟩ => ⟨S32768x4096, .f32⟩
  | .hbm, ⟨21, _⟩ => ⟨S32768x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x4096, .bf16⟩
  | .local _ .vmem, ⟨3, _⟩ => ⟨S1024x4096, .bf16⟩
  | .local _ .vmem, ⟨4, _⟩ => ⟨S2048x512, .bf16⟩
  | .local _ .vmem, ⟨5, _⟩ => ⟨S2048x512, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8x2048x2048 : Shape := ⟨3, ![8, 2048, 2048]⟩
abbrev S4x4096x2048 : Shape := ⟨3, ![4, 4096, 2048]⟩
abbrev S8x2048x4096 : Shape := ⟨3, ![8, 2048, 4096]⟩
abbrev S4x4096x4096 : Shape := ⟨3, ![4, 4096, 4096]⟩
abbrev S6144x4096 : Shape := ⟨2, ![6144, 4096]⟩
abbrev S8x2048x6144 : Shape := ⟨3, ![8, 2048, 6144]⟩
abbrev S4x4096x6144 : Shape := ⟨3, ![4, 4096, 6144]⟩
abbrev S16384x4096 : Shape := ⟨2, ![16384, 4096]⟩
abbrev S32768x4096 : Shape := ⟨2, ![32768, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S4x4096x2048, .f32⟩
  | .hbm, ⟨2, _⟩ => ⟨S8x2048x4096, .f32⟩
  | .hbm, ⟨3, _⟩ => ⟨S4x4096x4096, .f32⟩
  | .hbm, ⟨4, _⟩ => ⟨S8x2048x4096, .f32⟩
  | .hbm, ⟨5, _⟩ => ⟨S4x4096x4096, .f32⟩
  | .hbm, ⟨6, _⟩ => ⟨S6144x4096, .f32⟩
  | .hbm, ⟨7, _⟩ => ⟨S8x2048x6144, .f32⟩
  | .hbm, ⟨8, _⟩ => ⟨S8x2048x4096, .f32⟩
  | .hbm, ⟨9, _⟩ => ⟨S8x2048x4096, .f32⟩
  | .hbm, ⟨10, _⟩ => ⟨S4x4096x6144, .f32⟩
  | .hbm, ⟨11, _⟩ => ⟨S4x4096x4096, .f32⟩
  | .hbm, ⟨12, _⟩ => ⟨S4x4096x4096, .f32⟩
  | .hbm, ⟨13, _⟩ => ⟨S16384x4096, .f32⟩
  | .hbm, ⟨14, _⟩ => ⟨S16384x4096, .f32⟩
  | .hbm, ⟨15, _⟩ => ⟨S32768x4096, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel6.lean ====
abbrev S8x2048x4096 : Shape := ⟨3, ![8, 2048, 4096]⟩
abbrev S4x4096x4096 : Shape := ⟨3, ![4, 4096, 4096]⟩
abbrev S4096x6144 : Shape := ⟨2, ![4096, 6144]⟩
abbrev S16384x4096 : Shape := ⟨2, ![16384, 4096]⟩
abbrev S32768x4096 : Shape := ⟨2, ![32768, 4096]⟩
abbrev S32768x6144 : Shape := ⟨2, ![32768, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096x6144, .f32⟩
  | .hbm, ⟨3, _⟩ => ⟨S16384x4096, .f32⟩
  | .hbm, ⟨4, _⟩ => ⟨S16384x4096, .f32⟩
  | .hbm, ⟨5, _⟩ => ⟨S32768x4096, .f32⟩
  | .hbm, ⟨6, _⟩ => ⟨S32768x4096, .bf16⟩
  | .hbm, ⟨7, _⟩ => ⟨S4096x6144, .bf16⟩
  | .hbm, ⟨8, _⟩ => ⟨S32768x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x2048x4096 : Shape := ⟨3, ![8, 2048, 4096]⟩
abbrev S4x4096x4096 : Shape := ⟨3, ![4, 4096, 4096]⟩
abbrev S4096x6144 : Shape := ⟨2, ![4096, 6144]⟩
abbrev S8x2048x6144 : Shape := ⟨3, ![8, 2048, 6144]⟩
abbrev S4x4096x6144 : Shape := ⟨3, ![4, 4096, 6144]⟩
abbrev S16384x6144 : Shape := ⟨2, ![16384, 6144]⟩
abbrev S32768x6144 : Shape := ⟨2, ![32768, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096x6144, .f32⟩
  | .hbm, ⟨3, _⟩ => ⟨S8x2048x6144, .f32⟩
  | .hbm, ⟨4, _⟩ => ⟨S4x4096x6144, .f32⟩
  | .hbm, ⟨5, _⟩ => ⟨S16384x6144, .f32⟩
  | .hbm, ⟨6, _⟩ => ⟨S16384x6144, .f32⟩
  | .hbm, ⟨7, _⟩ => ⟨S32768x6144, .f32⟩
  | .hbm, ⟨8, _⟩ => ⟨S32768x6144, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8x2048x4096 : Shape := ⟨3, ![8, 2048, 4096]⟩
abbrev S4x4096x4096 : Shape := ⟨3, ![4, 4096, 4096]⟩
abbrev S4096x4096 : Shape := ⟨2, ![4096, 4096]⟩
abbrev S16384x4096 : Shape := ⟨2, ![16384, 4096]⟩
abbrev S32768x4096 : Shape := ⟨2, ![32768, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S8x2048x4096, .f32⟩
  | .hbm, ⟨3, _⟩ => ⟨S4x4096x4096, .f32⟩
  | .hbm, ⟨4, _⟩ => ⟨S4096x4096, .f32⟩
  | .hbm, ⟨5, _⟩ => ⟨S16384x4096, .f32⟩
  | .hbm, ⟨6, _⟩ => ⟨S16384x4096, .f32⟩
  | .hbm, ⟨7, _⟩ => ⟨S32768x4096, .f32⟩
  | .hbm, ⟨8, _⟩ => ⟨S32768x4096, .bf16⟩
  | .hbm, ⟨9, _⟩ => ⟨S4096x4096, .bf16⟩
  | .hbm, ⟨10, _⟩ => ⟨S16384x4096, .f32⟩
  | .hbm, ⟨11, _⟩ => ⟨S16384x4096, .f32⟩
  | .hbm, ⟨12, _⟩ => ⟨S32768x4096, .f32⟩
  | .hbm, ⟨13, _⟩ => ⟨S32768x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x2048x4096 : Shape := ⟨3, ![8, 2048, 4096]⟩
abbrev S4x4096x4096 : Shape := ⟨3, ![4, 4096, 4096]⟩
abbrev S4096x4096 : Shape := ⟨2, ![4096, 4096]⟩
abbrev S16384x4096 : Shape := ⟨2, ![16384, 4096]⟩
abbrev S32768x4096 : Shape := ⟨2, ![32768, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S8x2048x4096, .f32⟩
  | .hbm, ⟨3, _⟩ => ⟨S4x4096x4096, .f32⟩
  | .hbm, ⟨4, _⟩ => ⟨S4096x4096, .f32⟩
  | .hbm, ⟨5, _⟩ => ⟨S8x2048x4096, .f32⟩
  | .hbm, ⟨6, _⟩ => ⟨S8x2048x4096, .f32⟩
  | .hbm, ⟨7, _⟩ => ⟨S4x4096x4096, .f32⟩
  | .hbm, ⟨8, _⟩ => ⟨S4x4096x4096, .f32⟩
  | .hbm, ⟨9, _⟩ => ⟨S16384x4096, .f32⟩
  | .hbm, ⟨10, _⟩ => ⟨S16384x4096, .f32⟩
  | .hbm, ⟨11, _⟩ => ⟨S32768x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel8.lean ====
abbrev S8x2048x4096 : Shape := ⟨3, ![8, 2048, 4096]⟩
abbrev S4x4096x4096 : Shape := ⟨3, ![4, 4096, 4096]⟩
abbrev S4096 : Shape := ⟨1, ![4096]⟩
abbrev S16384x4096 : Shape := ⟨2, ![16384, 4096]⟩
abbrev S32768x4096 : Shape := ⟨2, ![32768, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 5
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S32768x4096, .f32⟩
  | .hbm, ⟨6, _⟩ => ⟨S1x4096, .f32⟩
  | .hbm, ⟨7, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8x2048x4096 : Shape := ⟨3, ![8, 2048, 4096]⟩
abbrev S4x4096x4096 : Shape := ⟨3, ![4, 4096, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S1x1x4096, .f32⟩
  | .hbm, ⟨17, _⟩ => ⟨S8x2048x4096, .f32⟩
  | .hbm, ⟨18, _⟩ => ⟨S8x2048x4096, .f32⟩
  | .hbm, ⟨19, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S8x2048x4096 : Shape := ⟨3, ![8, 2048, 4096]⟩
abbrev S4x4096x4096 : Shape := ⟨3, ![4, 4096, 4096]⟩
abbrev S4096 : Shape := ⟨1, ![4096]⟩
abbrev S16384x4096 : Shape := ⟨2, ![16384, 4096]⟩
abbrev S32768x4096 : Shape := ⟨2, ![32768, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 5
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S32768x4096, .f32⟩
  | .hbm, ⟨6, _⟩ => ⟨S1x4096, .f32⟩
  | .hbm, ⟨7, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8x2048x4096 : Shape := ⟨3, ![8, 2048, 4096]⟩
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096, .f32⟩
  | .hbm, ⟨3, _⟩ => ⟨S4x4096x4096, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S1x1x4096, .f32⟩
  | .hbm, ⟨17, _⟩ => ⟨S4x4096x4096, .f32⟩
  | .hbm, ⟨18, _⟩ => ⟨S4x4096x4096, .f32⟩
  | .hbm, ⟨19, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel10.lean ====
abbrev S8x2048x14336 : Shape := ⟨3, ![8, 2048, 14336]⟩
abbrev S4x4096x14336 : Shape := ⟨3, ![4, 4096, 14336]⟩
abbrev S3x2048 : Shape := ⟨2, ![3, 2048]⟩
abbrev S16384x14336 : Shape := ⟨2, ![16384, 14336]⟩
abbrev S32768x14336 : Shape := ⟨2, ![32768, 14336]⟩
abbrev S32768x2048 : Shape := ⟨2, ![32768, 2048]⟩
abbrev S8x512 : Shape := ⟨2, ![8, 512]⟩
abbrev S512x512 : Shape := ⟨2, ![512, 512]⟩
abbrev S3x512 : Shape := ⟨2, ![3, 512]⟩
abbrev S528x512 : Shape := ⟨2, ![528, 512]⟩
abbrev S1x512 : Shape := ⟨2, ![1, 512]⟩

abbrev nBuf : Space → Nat
  | .hbm => 7
  | .vmem => 18
  | .smem => 0
  | _ => 0

abbrev bufTy : (tb : Table) → Fin (tcTables nBuf tb) → BufTy
  | .hbm, ⟨0, _⟩ => ⟨S8x2048x14336, .f32⟩
  | .hbm, ⟨1, _⟩ => ⟨S4x4096x14336, .f32⟩
  | .hbm, ⟨2, _⟩ => ⟨S3x2048, .f32⟩
  | .hbm, ⟨3, _⟩ => ⟨S16384x14336, .f32⟩
  | .hbm, ⟨4, _⟩ => ⟨S16384x14336, .f32⟩
  | .hbm, ⟨5, _⟩ => ⟨S32768x14336, .f32⟩
  | .hbm, ⟨6, _⟩ => ⟨S32768x2048, .bf16⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S3x512, .f32⟩
  | .local _ .vmem, ⟨15, _⟩ => ⟨S3x512, .f32⟩
  | .local _ .vmem, ⟨16, _⟩ => ⟨S512x512, .bf16⟩
  | .local _ .vmem, ⟨17, _⟩ => ⟨S512x512, .bf16⟩
  | _, _ => ⟨S8x2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c4_i32 : BitVec 32 := 4#32
  let v3 : BitVec 32 := Scalar.addi c4_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c8_i32 : BitVec 32 := 8#32
  let v3 : BitVec 32 := Scalar.addi c8_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S8x2048x14336 : Shape := ⟨3, ![8, 2048, 14336]⟩
abbrev S4x4096x14336 : Shape := ⟨3, ![4, 4096, 14336]⟩
abbrev S3x2048 : Shape := ⟨2, ![3, 2048]⟩
abbrev S8x2048x6144 : Shape := ⟨3, ![8, 2048, 6144]⟩
abbrev S8x2048x2048 : Shape := ⟨3, ![8, 2048, 2048]⟩
abbrev S_ : Shape := ⟨0, ![]⟩
abbrev S8x2050x2048 : Shape := ⟨3, ![8, 2050, 2048]⟩
abbrev S1x2048 : Shape := ⟨2, ![1, 2048]⟩
abbrev S2048 : Shape := ⟨1, ![2048]⟩
abbrev S1x1x2048 : Shape := ⟨3, ![1, 1, 2048]⟩
abbrev S4x4096x6144 : Shape := ⟨3, ![4, 4096, 6144]⟩
abbrev S4x4096x2048 : Shape := ⟨3, ![4, 4096, 2048]⟩
abbrev S4x4098x2048 : Shape := ⟨3, ![4, 4098, 2048]⟩
abbrev S16384x2048 : Shape := ⟨2, ![16384, 2048]⟩
abbrev S32768x2048 : Shape := ⟨2, ![32768, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x14336, .f32⟩
  | .hbm, ⟨1, _⟩ => ⟨S4x4096x14336, .f32⟩
  | .hbm, ⟨2, _⟩ => ⟨S3x2048, .f32⟩
  | .hbm, ⟨3, _⟩ => ⟨S8x2048x6144, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S_, .i32⟩
  | .hbm, ⟨9, _⟩ => ⟨S_, .f32⟩
  | .hbm, ⟨10, _⟩ => ⟨S8x2050x2048, .f32⟩
  | .hbm, ⟨11, _⟩ => ⟨S8x2048x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S4x4096x6144, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .i32⟩
  | .hbm, ⟨38, _⟩ => ⟨S_, .f32⟩
  | .hbm, ⟨39, _⟩ => ⟨S4x4098x2048, .f32⟩
  | .hbm, ⟨40, _⟩ => ⟨S4x4096x2048, .f32⟩
  | .hbm, ⟨41, _⟩ => ⟨S1x2048, .f32⟩
  | .hbm, ⟨42, _⟩ => ⟨S2048, .f32⟩
  | .hbm, ⟨43, _⟩ => ⟨S1x1x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S1x2048, .f32⟩
  | .hbm, ⟨48, _⟩ => ⟨S2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S1x2048, .f32⟩
  | .hbm, ⟨55, _⟩ => ⟨S2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S16384x2048, .f32⟩
  | .hbm, ⟨62, _⟩ => ⟨S16384x2048, .f32⟩
  | .hbm, ⟨63, _⟩ => ⟨S32768x2048, .f32⟩
  | .hbm, ⟨64, _⟩ => ⟨S32768x2048, .bf16⟩
  | _, _ => ⟨S8x2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_0 : Ref sig .tc := ⟨.hbm, 37, rfl⟩
abbrev main_call1_v0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩

abbrev nD : Nat := 1
abbrev τ : Topo := Topo.v7x

variable {F : FTy → Type} [FloatOps F]
-- ==== Kernel11.lean ====
abbrev S8x2048x14336 : Shape := ⟨3, ![8, 2048, 14336]⟩
abbrev S4x4096x14336 : Shape := ⟨3, ![4, 4096, 14336]⟩
abbrev S4x4096 : Shape := ⟨2, ![4, 4096]⟩
abbrev S4096 : Shape := ⟨1, ![4096]⟩
abbrev S16384x14336 : Shape := ⟨2, ![16384, 14336]⟩
abbrev S32768x14336 : Shape := ⟨2, ![32768, 14336]⟩
abbrev S1x4096 : Shape := ⟨2, ![1, 4096]⟩
abbrev S32768x4096 : Shape := ⟨2, ![32768, 4096]⟩
abbrev S8x512 : Shape := ⟨2, ![8, 512]⟩
abbrev S512x512 : Shape := ⟨2, ![512, 512]⟩
abbrev S4x512 : Shape := ⟨2, ![4, 512]⟩
abbrev S1x512 : Shape := ⟨2, ![1, 512]⟩
abbrev S528x512 : Shape := ⟨2, ![528, 512]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x14336, .f32⟩
  | .hbm, ⟨1, _⟩ => ⟨S4x4096x14336, .f32⟩
  | .hbm, ⟨2, _⟩ => ⟨S4x4096, .f32⟩
  | .hbm, ⟨3, _⟩ => ⟨S4096, .f32⟩
  | .hbm, ⟨4, _⟩ => ⟨S16384x14336, .f32⟩
  | .hbm, ⟨5, _⟩ => ⟨S16384x14336, .f32⟩
  | .hbm, ⟨6, _⟩ => ⟨S32768x14336, .f32⟩
  | .hbm, ⟨7, _⟩ => ⟨S1x4096, .f32⟩
  | .hbm, ⟨8, _⟩ => ⟨S32768x4096, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S4x512, .f32⟩
  | .local _ .vmem, ⟨7, _⟩ => ⟨S4x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S8x2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c20_i32 : BitVec 32 := 20#32
  let v3 : BitVec 32 := Scalar.addi c20_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S8x2048x14336 : Shape := ⟨3, ![8, 2048, 14336]⟩
abbrev S4x4096x14336 : Shape := ⟨3, ![4, 4096, 14336]⟩
abbrev S4x4096 : Shape := ⟨2, ![4, 4096]⟩
abbrev S4096 : Shape := ⟨1, ![4096]⟩
abbrev S8x2048x4096 : Shape := ⟨3, ![8, 2048, 4096]⟩
abbrev S_ : Shape := ⟨0, ![]⟩
abbrev S8x2051x4096 : Shape := ⟨3, ![8, 2051, 4096]⟩
abbrev S1x4096 : Shape := ⟨2, ![1, 4096]⟩
abbrev S1x1x4096 : Shape := ⟨3, ![1, 1, 4096]⟩
abbrev S4x4096x4096 : Shape := ⟨3, ![4, 4096, 4096]⟩
abbrev S4x4099x4096 : Shape := ⟨3, ![4, 4099, 4096]⟩
abbrev S16384x4096 : Shape := ⟨2, ![16384, 4096]⟩
abbrev S32768x4096 : Shape := ⟨2, ![32768, 4096]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x14336, .f32⟩
  | .hbm, ⟨1, _⟩ => ⟨S4x4096x14336, .f32⟩
  | .hbm, ⟨2, _⟩ => ⟨S4x4096, .f32⟩
  | .hbm, ⟨3, _⟩ => ⟨S4096, .f32⟩
  | .hbm, ⟨4, _⟩ => ⟨S8x2048x4096, .f32⟩
  | .hbm, ⟨5, _⟩ => ⟨S_, .i32⟩
  | .hbm, ⟨6, _⟩ => ⟨S_, .f32⟩
  | .hbm, ⟨7, _⟩ => ⟨S8x2051x4096, .f32⟩
  | .hbm, ⟨8, _⟩ => ⟨S8x2048x4096, .f32⟩
  | .hbm, ⟨9, _⟩ => ⟨S1x4096, .f32⟩
  | .hbm, ⟨10, _⟩ => ⟨S4096, .f32⟩
  | .hbm, ⟨11, _⟩ => ⟨S1x1x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S1x4096, .f32⟩
  | .hbm, ⟨16, _⟩ => ⟨S4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S1x4096, .f32⟩
  | .hbm, ⟨23, _⟩ => ⟨S4096, .f32⟩
  | .hbm, ⟨24, _⟩ => ⟨S1x1x4096, .f32⟩
  | .hbm, ⟨25, _⟩ => ⟨S8x2048x4096, .f32⟩
  | .hbm, ⟨26, _⟩ => ⟨S8x2048x4096, .f32⟩
  | .hbm, ⟨27, _⟩ => ⟨S8x2048x4096, .f32⟩
  | .hbm, ⟨28, _⟩ => ⟨S8x2048x4096, .f32⟩
  | .hbm, ⟨29, _⟩ => ⟨S1x4096, .f32⟩
  | .hbm, ⟨30, _⟩ => ⟨S4096, .f32⟩
  | .hbm, ⟨31, _⟩ => ⟨S1x1x4096, .f32⟩
  | .hbm, ⟨32, _⟩ => ⟨S8x2048x4096, .f32⟩
  | .hbm, ⟨33, _⟩ => ⟨S8x2048x4096, .f32⟩
  | .hbm, ⟨34, _⟩ => ⟨S8x2048x4096, .f32⟩
  | .hbm, ⟨35, _⟩ => ⟨S1x1x4096, .f32⟩
  | .hbm, ⟨36, _⟩ => ⟨S8x2048x4096, .f32⟩
  | .hbm, ⟨37, _⟩ => ⟨S8x2048x4096, .f32⟩
  | .hbm, ⟨38, _⟩ => ⟨S4x4096x4096, .f32⟩
  | .hbm, ⟨39, _⟩ => ⟨S_, .i32⟩
  | .hbm, ⟨40, _⟩ => ⟨S_, .f32⟩
  | .hbm, ⟨41, _⟩ => ⟨S4x4099x4096, .f32⟩
  | .hbm, ⟨42, _⟩ => ⟨S4x4096x4096, .f32⟩
  | .hbm, ⟨43, _⟩ => ⟨S1x4096, .f32⟩
  | .hbm, ⟨44, _⟩ => ⟨S4096, .f32⟩
  | .hbm, ⟨45, _⟩ => ⟨S1x1x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S1x4096, .f32⟩
  | .hbm, ⟨50, _⟩ => ⟨S4096, .f32⟩
  | .hbm, ⟨51, _⟩ => ⟨S1x1x4096, .f32⟩
  | .hbm, ⟨52, _⟩ => ⟨S4x4096x4096, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S1x4096, .f32⟩
  | .hbm, ⟨57, _⟩ => ⟨S4096, .f32⟩
  | .hbm, ⟨58, _⟩ => ⟨S1x1x4096, .f32⟩
  | .hbm, ⟨59, _⟩ => ⟨S4x4096x4096, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S1x4096, .f32⟩
  | .hbm, ⟨64, _⟩ => ⟨S4096, .f32⟩
  | .hbm, ⟨65, _⟩ => ⟨S1x1x4096, .f32⟩
  | .hbm, ⟨66, _⟩ => ⟨S4x4096x4096, .f32⟩
  | .hbm, ⟨67, _⟩ => ⟨S4x4096x4096, .f32⟩
  | .hbm, ⟨68, _⟩ => ⟨S4x4096x4096, .f32⟩
  | .hbm, ⟨69, _⟩ => ⟨S1x1x4096, .f32⟩
  | .hbm, ⟨70, _⟩ => ⟨S4x4096x4096, .f32⟩
  | .hbm, ⟨71, _⟩ => ⟨S4x4096x4096, .f32⟩
  | .hbm, ⟨72, _⟩ => ⟨S16384x4096, .f32⟩
  | .hbm, ⟨73, _⟩ => ⟨S16384x4096, .f32⟩
  | .hbm, ⟨74, _⟩ => ⟨S32768x4096, .f32⟩
  | _, _ => ⟨S8x2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_0 : Ref sig .tc := ⟨.hbm, 39, rfl⟩
abbrev main_call1_v0 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩

abbrev nD : Nat := 1
abbrev τ : Topo := Topo.v7x

variable {F : FTy → Type} [FloatOps F]
-- ==== Kernel12.lean ====
abbrev S8x2048x14336 : Shape := ⟨3, ![8, 2048, 14336]⟩
abbrev S4x4096x14336 : Shape := ⟨3, ![4, 4096, 14336]⟩
abbrev S2x8x2048x4096 : Shape := ⟨4, ![2, 8, 2048, 4096]⟩
abbrev S2x4x4096x4096 : Shape := ⟨4, ![2, 4, 4096, 4096]⟩
abbrev S16384x14336 : Shape := ⟨2, ![16384, 14336]⟩
abbrev S32768x14336 : Shape := ⟨2, ![32768, 14336]⟩
abbrev S2x16384x4096 : Shape := ⟨3, ![2, 16384, 4096]⟩
abbrev S2x32768x4096 : Shape := ⟨3, ![2, 32768, 4096]⟩
abbrev S32768x4096 : Shape := ⟨2, ![32768, 4096]⟩
abbrev S512x1024 : Shape := ⟨2, ![512, 1024]⟩
abbrev S2x512x1024 : Shape := ⟨3, ![2, 512, 1024]⟩
abbrev S1x512x1024 : Shape := ⟨3, ![1, 512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8x2048x14336, .f32⟩
  | .hbm, ⟨1, _⟩ => ⟨S4x4096x14336, .f32⟩
  | .hbm, ⟨2, _⟩ => ⟨S2x8x2048x4096, .f32⟩
  | .hbm, ⟨3, _⟩ => ⟨S2x4x4096x4096, .f32⟩
  | .hbm, ⟨4, _⟩ => ⟨S16384x14336, .f32⟩
  | .hbm, ⟨5, _⟩ => ⟨S16384x14336, .f32⟩
  | .hbm, ⟨6, _⟩ => ⟨S32768x14336, .f32⟩
  | .hbm, ⟨7, _⟩ => ⟨S2x16384x4096, .f32⟩
  | .hbm, ⟨8, _⟩ => ⟨S2x16384x4096, .f32⟩
  | .hbm, ⟨9, _⟩ => ⟨S2x32768x4096, .f32⟩
  | .hbm, ⟨10, _⟩ => ⟨S32768x4096, .bf16⟩
  | .local _ .vmem, ⟨0, _⟩ => ⟨S512x1024, .f32⟩
  | .local _ .vmem, ⟨1, _⟩ => ⟨S512x1024, .f32⟩
  | .local _ .vmem, ⟨2, _⟩ => ⟨S2x512x1024, .f32⟩
  | .local _ .vmem, ⟨3, _⟩ => ⟨S2x512x1024, .f32⟩
  | .local _ .vmem, ⟨4, _⟩ => ⟨S512x1024, .bf16⟩
  | .local _ .vmem, ⟨5, _⟩ => ⟨S512x1024, .bf16⟩
  | _, _ => ⟨S8x2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8x2048x14336 : Shape := ⟨3, ![8, 2048, 14336]⟩
abbrev S4x4096x14336 : Shape := ⟨3, ![4, 4096, 14336]⟩
abbrev S2x8x2048x4096 : Shape := ⟨4, ![2, 8, 2048, 4096]⟩
abbrev S2x4x4096x4096 : Shape := ⟨4, ![2, 4, 4096, 4096]⟩
abbrev S8x2048x4096 : Shape := ⟨3, ![8, 2048, 4096]⟩
abbrev S_ : Shape := ⟨0, ![]⟩
abbrev S1x8x2048x4096 : Shape := ⟨4, ![1, 8, 2048, 4096]⟩
abbrev S4x4096x4096 : Shape := ⟨3, ![4, 4096, 4096]⟩
abbrev S1x4x4096x4096 : Shape := ⟨4, ![1, 4, 4096, 4096]⟩
abbrev S16384x4096 : Shape := ⟨2, ![16384, 4096]⟩
abbrev S32768x4096 : Shape := ⟨2, ![32768, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x14336, .f32⟩
  | .hbm, ⟨1, _⟩ => ⟨S4x4096x14336, .f32⟩
  | .hbm, ⟨2, _⟩ => ⟨S2x8x2048x4096, .f32⟩
  | .hbm, ⟨3, _⟩ => ⟨S2x4x4096x4096, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S_, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S_, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S1x8x2048x4096, .f32⟩
  | .hbm, ⟨23, _⟩ => ⟨S8x2048x4096, .f32⟩
  | .hbm, ⟨24, _⟩ => ⟨S1x8x2048x4096, .f32⟩
  | .hbm, ⟨25, _⟩ => ⟨S8x2048x4096, .f32⟩
  | .hbm, ⟨26, _⟩ => ⟨S8x2048x4096, .f32⟩
  | .hbm, ⟨27, _⟩ => ⟨S8x2048x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S1x4x4096x4096, .f32⟩
  | .hbm, ⟨47, _⟩ => ⟨S4x4096x4096, .f32⟩
  | .hbm, ⟨48, _⟩ => ⟨S1x4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S16384x4096, .f32⟩
  | .hbm, ⟨53, _⟩ => ⟨S16384x4096, .f32⟩
  | .hbm, ⟨54, _⟩ => ⟨S32768x4096, .f32⟩
  | .hbm, ⟨55, _⟩ => ⟨S32768x4096, .bf16⟩
  | _, _ => ⟨S8x2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel13.lean ====
abbrev S8x2048x4096 : Shape := ⟨3, ![8, 2048, 4096]⟩
abbrev S4x4096x4096 : Shape := ⟨3, ![4, 4096, 4096]⟩
abbrev S2x16x256x256 : Shape := ⟨4, ![2, 16, 256, 256]⟩
abbrev S2x4096 : Shape := ⟨2, ![2, 4096]⟩
abbrev S1x16x256x256 : Shape := ⟨4, ![1, 16, 256, 256]⟩
abbrev S16x256x256 : Shape := ⟨3, ![16, 256, 256]⟩
abbrev S16x256x1024 : Shape := ⟨3, ![16, 256, 1024]⟩
abbrev S16384x4096 : Shape := ⟨2, ![16384, 4096]⟩
abbrev S32768x4096 : Shape := ⟨2, ![32768, 4096]⟩
abbrev S2x32768x4096 : Shape := ⟨3, ![2, 32768, 4096]⟩
abbrev S1024x256 : Shape := ⟨2, ![1024, 256]⟩
abbrev S1x256x1024 : Shape := ⟨3, ![1, 256, 1024]⟩
abbrev S2x256 : Shape := ⟨2, ![2, 256]⟩
abbrev S2x1024x256 : Shape := ⟨3, ![2, 1024, 256]⟩
abbrev S256x1024 : Shape := ⟨2, ![256, 1024]⟩
abbrev S1024x1024 : Shape := ⟨2, ![1024, 1024]⟩
abbrev S1x256 : Shape := ⟨2, ![1, 256]⟩
abbrev S1x1024x256 : Shape := ⟨3, ![1, 1024, 256]⟩

abbrev nBuf : Space → Nat
  | .hbm => 22
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S2x16x256x256, .f32⟩
  | .hbm, ⟨3, _⟩ => ⟨S2x4096, .f32⟩
  | .hbm, ⟨4, _⟩ => ⟨S2x16x256x256, .f32⟩
  | .hbm, ⟨5, _⟩ => ⟨S2x4096, .f32⟩
  | .hbm, ⟨6, _⟩ => ⟨S2x4096, .f32⟩
  | .hbm, ⟨7, _⟩ => ⟨S1x16x256x256, .f32⟩
  | .hbm, ⟨8, _⟩ => ⟨S16x256x256, .f32⟩
  | .hbm, ⟨9, _⟩ => ⟨S1x16x256x256, .f32⟩
  | .hbm, ⟨10, _⟩ => ⟨S16x256x256, .f32⟩
  | .hbm, ⟨11, _⟩ => ⟨S1x16x256x256, .f32⟩
  | .hbm, ⟨12, _⟩ => ⟨S16x256x256, .f32⟩
  | .hbm, ⟨13, _⟩ => ⟨S1x16x256x256, .f32⟩
  | .hbm, ⟨14, _⟩ => ⟨S16x256x256, .f32⟩
  | .hbm, ⟨15, _⟩ => ⟨S16x256x1024, .f32⟩
  | .hbm, ⟨16, _⟩ => ⟨S16x256x1024, .bf16⟩
  | .hbm, ⟨17, _⟩ => ⟨S16384x4096, .f32⟩
  | .hbm, ⟨18, _⟩ => ⟨S16384x4096, .f32⟩
  | .hbm, ⟨19, _⟩ => ⟨S32768x4096, .f32⟩
  | .hbm, ⟨20, _⟩ => ⟨S2x32768x4096, .f32⟩
  | .hbm, ⟨21, _⟩ => ⟨S2x32768x4096, .f32⟩
  | .local _ .vmem, ⟨0, _⟩ => ⟨S1024x256, .f32⟩
  | .local _ .vmem, ⟨1, _⟩ => ⟨S1024x256, .f32⟩
  | .local _ .vmem, ⟨2, _⟩ => ⟨S1x256x1024, .bf16⟩
  | .local _ .vmem, ⟨3, _⟩ => ⟨S1x256x1024, .bf16⟩
  | .local _ .vmem, ⟨4, _⟩ => ⟨S2x256, .f32⟩
  | .local _ .vmem, ⟨5, _⟩ => ⟨S2x256, .f32⟩
  | .local _ .vmem, ⟨6, _⟩ => ⟨S2x256, .f32⟩
  | .local _ .vmem, ⟨7, _⟩ => ⟨S2x256, .f32⟩
  | .local _ .vmem, ⟨8, _⟩ => ⟨S2x256, .f32⟩
  | .local _ .vmem, ⟨9, _⟩ => ⟨S2x256, .f32⟩
  | .local _ .vmem, ⟨10, _⟩ => ⟨S2x1024x256, .f32⟩
  | .local _ .vmem, ⟨11, _⟩ => ⟨S2x1024x256, .f32⟩
  | .local _ .vmem, ⟨12, _⟩ => ⟨S2x1024x256, .f32⟩
  | .local _ .vmem, ⟨13, _⟩ => ⟨S2x1024x256, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S8x2048x4096 : Shape := ⟨3, ![8, 2048, 4096]⟩
abbrev S4x4096x4096 : Shape := ⟨3, ![4, 4096, 4096]⟩
abbrev S2x16x256x256 : Shape := ⟨4, ![2, 16, 256, 256]⟩
abbrev S2x4096 : Shape := ⟨2, ![2, 4096]⟩
abbrev S8x2048x16x256 : Shape := ⟨4, ![8, 2048, 16, 256]⟩
abbrev S16x2x256x8x2048 : Shape := ⟨5, ![16, 2, 256, 8, 2048]⟩
abbrev S2x8x2048x16x256 : Shape := ⟨5, ![2, 8, 2048, 16, 256]⟩
abbrev S2x8x2048x4096 : Shape := ⟨4, ![2, 8, 2048, 4096]⟩
abbrev S2x1x1x4096 : Shape := ⟨4, ![2, 1, 1, 4096]⟩
abbrev S_ : Shape := ⟨0, ![]⟩
abbrev S1x8x2048x4096 : Shape := ⟨4, ![1, 8, 2048, 4096]⟩
abbrev S4x4096x16x256 : Shape := ⟨4, ![4, 4096, 16, 256]⟩
abbrev S16x2x256x4x4096 : Shape := ⟨5, ![16, 2, 256, 4, 4096]⟩
abbrev S2x4x4096x16x256 : Shape := ⟨5, ![2, 4, 4096, 16, 256]⟩
abbrev S2x4x4096x4096 : Shape := ⟨4, ![2, 4, 4096, 4096]⟩
abbrev S1x4x4096x4096 : Shape := ⟨4, ![1, 4, 4096, 4096]⟩
abbrev S2x16384x4096 : Shape := ⟨3, ![2, 16384, 4096]⟩
abbrev S2x32768x4096 : Shape := ⟨3, ![2, 32768, 4096]⟩

abbrev nBuf : Space → Nat
  | .hbm => 135
  | .vmem => 0
  | .smem => 0
  | _ => 0

abbrev hbmTy0_0 (i : Nat) : BufTy := match i % 128 with
  | 0 => ⟨S8x2048x4096, .f32⟩
  | 1 => ⟨S4x4096x4096, .f32⟩
  | 2 => ⟨S2x16x256x256, .f32⟩
  | 3 => ⟨S2x4096, .f32⟩
  | 4 => ⟨S2x16x256x256, .f32⟩
  | 5 => ⟨S2x4096, .f32⟩
  | 6 => ⟨S2x4096, .f32⟩
  | 7 => ⟨S8x2048x16x256, .f32⟩
  | 8 => ⟨S16x2x256x8x2048, .f32⟩
  | 9 => ⟨S2x8x2048x16x256, .f32⟩
  | 10 => ⟨S2x8x2048x4096, .f32⟩
  | 11 => ⟨S2x1x1x4096, .f32⟩
  | 12 => ⟨S2x8x2048x4096, .f32⟩
  | 13 => ⟨S2x8x2048x4096, .f32⟩
  | 14 => ⟨S2x8x2048x4096, .f32⟩
  | 15 => ⟨S2x8x2048x4096, .f32⟩
  | 16 => ⟨S_, .f32⟩
  | 17 => ⟨S2x8x2048x4096, .f32⟩
  | 18 => ⟨S2x8x2048x4096, .f32⟩
  | 19 => ⟨S_, .f32⟩
  | 20 => ⟨S2x8x2048x4096, .f32⟩
  | 21 => ⟨S2x8x2048x4096, .f32⟩
  | 22 => ⟨S16x2x256x8x2048, .f32⟩
  | 23 => ⟨S2x8x2048x16x256, .f32⟩
  | 24 => ⟨S2x8x2048x4096, .f32⟩
  | 25 => ⟨S2x1x1x4096, .f32⟩
  | 26 => ⟨S2x8x2048x4096, .f32⟩
  | 27 => ⟨S2x8x2048x4096, .f32⟩
  | 28 => ⟨S2x8x2048x4096, .f32⟩
  | 29 => ⟨S2x8x2048x4096, .f32⟩
  | 30 => ⟨S_, .f32⟩
  | 31 => ⟨S2x8x2048x4096, .f32⟩
  | 32 => ⟨S2x8x2048x4096, .f32⟩
  | 33 => ⟨S_, .f32⟩
  | 34 => ⟨S2x8x2048x4096, .f32⟩
  | 35 => ⟨S2x8x2048x4096, .f32⟩
  | 36 => ⟨S_, .f32⟩
  | 37 => ⟨S2x8x2048x4096, .f32⟩
  | 38 => ⟨S2x8x2048x4096, .f32⟩
  | 39 => ⟨S2x4096, .f32⟩
  | 40 => ⟨S_, .f32⟩
  | 41 => ⟨S2x4096, .f32⟩
  | 42 => ⟨S2x4096, .f32⟩
  | 43 => ⟨S2x4096, .f32⟩
  | 44 => ⟨S2x4096, .f32⟩
  | 45 => ⟨S2x4096, .i1⟩
  | 46 => ⟨S2x4096, .f32⟩
  | 47 => ⟨S2x4096, .f32⟩
  | 48 => ⟨S2x4096, .f32⟩
  | 49 => ⟨S2x4096, .f32⟩
  | 50 => ⟨S2x4096, .f32⟩
  | 51 => ⟨S2x4096, .f32⟩
  | 52 => ⟨S2x4096, .f32⟩
  | 53 => ⟨S2x4096, .f32⟩
  | 54 => ⟨S2x1x1x4096, .f32⟩
  | 55 => ⟨S2x8x2048x4096, .f32⟩
  | 56 => ⟨S2x8x2048x4096, .f32⟩
  | 57 => ⟨S2x8x2048x4096, .f32⟩
  | 58 => ⟨S_, .f32⟩
  | 59 => ⟨S2x8x2048x4096, .f32⟩
  | 60 => ⟨S2x8x2048x4096, .f32⟩
  | 61 => ⟨S2x8x2048x4096, .f32⟩
  | 62 => ⟨S2x8x2048x4096, .f32⟩
  | 63 => ⟨S2x8x2048x4096, .f32⟩
  | 64 => ⟨S1x8x2048x4096, .f32⟩
  | 65 => ⟨S2x8x2048x4096, .f32⟩
  | 66 => ⟨S2x8x2048x4096, .f32⟩
  | 67 => ⟨S2x8x2048x4096, .f32⟩
  | 68 => ⟨S4x4096x16x256, .f32⟩
  | 69 => ⟨S16x2x256x4x4096, .f32⟩
  | 70 => ⟨S2x4x4096x16x256, .f32⟩
  | 71 => ⟨S2x4x4096x4096, .f32⟩
  | 72 => ⟨S2x1x1x4096, .f32⟩
  | 73 => ⟨S2x4x4096x4096, .f32⟩
  | 74 => ⟨S2x4x4096x4096, .f32⟩
  | 75 => ⟨S2x4x4096x4096, .f32⟩
  | 76 => ⟨S2x4x4096x4096, .f32⟩
  | 77 => ⟨S_, .f32⟩
  | 78 => ⟨S2x4x4096x4096, .f32⟩
  | 79 => ⟨S2x4x4096x4096, .f32⟩
  | 80 => ⟨S_, .f32⟩
  | 81 => ⟨S2x4x4096x4096, .f32⟩
  | 82 => ⟨S2x4x4096x4096, .f32⟩
  | 83 => ⟨S16x2x256x4x4096, .f32⟩
  | 84 => ⟨S2x4x4096x16x256, .f32⟩
  | 85 => ⟨S2x4x4096x4096, .f32⟩
  | 86 => ⟨S2x1x1x4096, .f32⟩
  | 87 => ⟨S2x4x4096x4096, .f32⟩
  | 88 => ⟨S2x4x4096x4096, .f32⟩
  | 89 => ⟨S2x4x4096x4096, .f32⟩
  | 90 => ⟨S2x4x4096x4096, .f32⟩
  | 91 => ⟨S_, .f32⟩
  | 92 => ⟨S2x4x4096x4096, .f32⟩
  | 93 => ⟨S2x4x4096x4096, .f32⟩
  | 94 => ⟨S_, .f32⟩
  | 95 => ⟨S2x4x4096x4096, .f32⟩
  | 96 => ⟨S2x4x4096x4096, .f32⟩
  | 97 => ⟨S_, .f32⟩
  | 98 => ⟨S2x4x4096x4096, .f32⟩
  | 99 => ⟨S2x4x4096x4096, .f32⟩
  | 100 => ⟨S2x4096, .f32⟩
  | 101 => ⟨S_, .f32⟩
  | 102 => ⟨S2x4096, .f32⟩
  | 103 => ⟨S2x4096, .f32⟩
  | 104 => ⟨S2x4096, .f32⟩
  | 105 => ⟨S2x4096, .f32⟩
  | 106 => ⟨S2x4096, .i1⟩
  | 107 => ⟨S2x4096, .f32⟩
  | 108 => ⟨S2x4096, .f32⟩
  | 109 => ⟨S2x4096, .f32⟩
  | 110 => ⟨S2x4096, .f32⟩
  | 111 => ⟨S2x4096, .f32⟩
  | 112 => ⟨S2x4096, .f32⟩
  | 113 => ⟨S2x4096, .f32⟩
  | 114 => ⟨S2x4096, .f32⟩
  | 115 => ⟨S2x1x1x4096, .f32⟩
  | 116 => ⟨S2x4x4096x4096, .f32⟩
  | 117 => ⟨S2x4x4096x4096, .f32⟩
  | 118 => ⟨S2x4x4096x4096, .f32⟩
  | 119 => ⟨S_, .f32⟩
  | 120 => ⟨S2x4x4096x4096, .f32⟩
  | 121 => ⟨S2x4x4096x4096, .f32⟩
  | 122 => ⟨S2x4x4096x4096, .f32⟩
  | 123 => ⟨S2x4x4096x4096, .f32⟩
  | 124 => ⟨S2x4x4096x4096, .f32⟩
  | 125 => ⟨S1x4x4096x4096, .f32⟩
  | 126 => ⟨S2x4x4096x4096, .f32⟩
  | 127 => ⟨S2x4x4096x4096, .f32⟩
  | _ => ⟨S8x2048x4096, .f32⟩

abbrev hbmTy0_1 (i : Nat) : BufTy := match i % 128 with
  | 0 => ⟨S2x4x4096x4096, .f32⟩
  | 1 => ⟨S2x16384x4096, .f32⟩
  | 2 => ⟨S2x16384x4096, .f32⟩
  | 3 => ⟨S2x32768x4096, .f32⟩
  | 4 => ⟨S2x16384x4096, .f32⟩
  | 5 => ⟨S2x16384x4096, .f32⟩
  | 6 => ⟨S2x32768x4096, .f32⟩
  | _ => ⟨S8x2048x4096, .f32⟩

abbrev hbmTy (i : Nat) : BufTy := match i / 128 with
  | 0 => hbmTy0_0 i
  | 1 => hbmTy0_1 i
  | _ => ⟨S8x2048x4096, .f32⟩

abbrev bufTy : (tb : Table) → Fin (tcTables nBuf tb) → BufTy
  | .hbm, ⟨i, _⟩ => hbmTy i
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_5 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_10 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩

abbrev nD : Nat := 1
abbrev τ : Topo := Topo.v7x

variable {F : FTy → Type} [FloatOps F]
-- ==== Kernel14.lean ====
abbrev S8x2048x4096 : Shape := ⟨3, ![8, 2048, 4096]⟩
abbrev S4x4096x4096 : Shape := ⟨3, ![4, 4096, 4096]⟩
abbrev S4096 : Shape := ⟨1, ![4096]⟩
abbrev S4096x16 : Shape := ⟨2, ![4096, 16]⟩
abbrev S16384x4096 : Shape := ⟨2, ![16384, 4096]⟩
abbrev S32768x4096 : Shape := ⟨2, ![32768, 4096]⟩
abbrev S16x4096 : Shape := ⟨2, ![16, 4096]⟩
abbrev S1x4096 : Shape := ⟨2, ![1, 4096]⟩
abbrev S32768x2048 : Shape := ⟨2, ![32768, 2048]⟩
abbrev S16x32768 : Shape := ⟨2, ![16, 32768]⟩
abbrev S512x4096 : Shape := ⟨2, ![512, 4096]⟩
abbrev S512x2048 : Shape := ⟨2, ![512, 2048]⟩
abbrev S16x512 : Shape := ⟨2, ![16, 512]⟩
abbrev S512 : Shape := ⟨1, ![512]⟩
abbrev S512x1 : Shape := ⟨2, ![512, 1]⟩
abbrev S1x512 : Shape := ⟨2, ![1, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096, .f32⟩
  | .hbm, ⟨3, _⟩ => ⟨S4096x16, .f32⟩
  | .hbm, ⟨4, _⟩ => ⟨S16384x4096, .f32⟩
  | .hbm, ⟨5, _⟩ => ⟨S16384x4096, .f32⟩
  | .hbm, ⟨6, _⟩ => ⟨S32768x4096, .f32⟩
  | .hbm, ⟨7, _⟩ => ⟨S16x4096, .f32⟩
  | .hbm, ⟨8, _⟩ => ⟨S16x4096, .bf16⟩
  | .hbm, ⟨9, _⟩ => ⟨S1x4096, .f32⟩
  | .hbm, ⟨10, _⟩ => ⟨S32768x2048, .i32⟩
  | .hbm, ⟨11, _⟩ => ⟨S16x32768, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S16x4096, .bf16⟩
  | .local _ .vmem, ⟨4, _⟩ => ⟨S512x2048, .i32⟩
  | .local _ .vmem, ⟨5, _⟩ => ⟨S512x2048, .i32⟩
  | .local _ .vmem, ⟨6, _⟩ => ⟨S16x512, .f32⟩
  | .local _ .vmem, ⟨7, _⟩ => ⟨S16x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel14Ideal.lean ====
abbrev S8x2048x4096 : Shape := ⟨3, ![8, 2048, 4096]⟩
abbrev S4x4096x4096 : Shape := ⟨3, ![4, 4096, 4096]⟩
abbrev S4096 : Shape := ⟨1, ![4096]⟩
abbrev S4096x16 : Shape := ⟨2, ![4096, 16]⟩
abbrev S16384x4096 : Shape := ⟨2, ![16384, 4096]⟩
abbrev S32768x4096 : Shape := ⟨2, ![32768, 4096]⟩
abbrev S16x4096 : Shape := ⟨2, ![16, 4096]⟩
abbrev S1x4096 : Shape := ⟨2, ![1, 4096]⟩
abbrev S32768x2x2048 : Shape := ⟨3, ![32768, 2, 2048]⟩
abbrev S16x32768 : Shape := ⟨2, ![16, 32768]⟩
abbrev S32768x1x2048 : Shape := ⟨3, ![32768, 1, 2048]⟩
abbrev S32768x2048 : Shape := ⟨2, ![32768, 2048]⟩
abbrev S512x4096 : Shape := ⟨2, ![512, 4096]⟩
abbrev S512x2048 : Shape := ⟨2, ![512, 2048]⟩
abbrev S512x2x2048 : Shape := ⟨3, ![512, 2, 2048]⟩
abbrev S512x1x2048 : Shape := ⟨3, ![512, 1, 2048]⟩
abbrev S16x512 : Shape := ⟨2, ![16, 512]⟩
abbrev S512 : Shape := ⟨1, ![512]⟩
abbrev S512x1 : Shape := ⟨2, ![512, 1]⟩
abbrev S1x512 : Shape := ⟨2, ![1, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096, .f32⟩
  | .hbm, ⟨3, _⟩ => ⟨S4096x16, .f32⟩
  | .hbm, ⟨4, _⟩ => ⟨S16384x4096, .f32⟩
  | .hbm, ⟨5, _⟩ => ⟨S16384x4096, .f32⟩
  | .hbm, ⟨6, _⟩ => ⟨S32768x4096, .f32⟩
  | .hbm, ⟨7, _⟩ => ⟨S16x4096, .f32⟩
  | .hbm, ⟨8, _⟩ => ⟨S16x4096, .bf16⟩
  | .hbm, ⟨9, _⟩ => ⟨S1x4096, .f32⟩
  | .hbm, ⟨10, _⟩ => ⟨S32768x2x2048, .bf16⟩
  | .hbm, ⟨11, _⟩ => ⟨S16x32768, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S16x4096, .bf16⟩
  | .local _ .vmem, ⟨4, _⟩ => ⟨S512x2x2048, .bf16⟩
  | .local _ .vmem, ⟨5, _⟩ => ⟨S512x2x2048, .bf16⟩
  | .local _ .vmem, ⟨6, _⟩ => ⟨S16x512, .f32⟩
  | .local _ .vmem, ⟨7, _⟩ => ⟨S16x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S8x2048x4096 : Shape := ⟨3, ![8, 2048, 4096]⟩
abbrev S4x4096x4096 : Shape := ⟨3, ![4, 4096, 4096]⟩
abbrev S4096 : Shape := ⟨1, ![4096]⟩
abbrev S4096x16 : Shape := ⟨2, ![4096, 16]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S16384x4096 : Shape := ⟨2, ![16384, 4096]⟩
abbrev S16384x16 : Shape := ⟨2, ![16384, 16]⟩
abbrev S16384 : Shape := ⟨1, ![16384]⟩
abbrev S16384x1 : Shape := ⟨2, ![16384, 1]⟩
abbrev S16x16384 : Shape := ⟨2, ![16, 16384]⟩
abbrev S4x4096 : Shape := ⟨2, ![4, 4096]⟩
abbrev S4x4096x1 : Shape := ⟨3, ![4, 4096, 1]⟩
abbrev S16x32768 : Shape := ⟨2, ![16, 32768]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4x4096x4096, .f32⟩
  | .hbm, ⟨2, _⟩ => ⟨S4096, .f32⟩
  | .hbm, ⟨3, _⟩ => ⟨S4096x16, .f32⟩
  | .hbm, ⟨4, _⟩ => ⟨S8x2048x4096, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x4096, .f32⟩
  | .hbm, ⟨16, _⟩ => ⟨S8x2048x4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | .hbm, ⟨20, _⟩ => ⟨S16384x4096, .f32⟩
  | .hbm, ⟨21, _⟩ => ⟨S16384x16, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x16, .f32⟩
  | .hbm, ⟨35, _⟩ => ⟨S16384x16, .f32⟩
  | .hbm, ⟨36, _⟩ => ⟨S16x16384, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x4096, .f32⟩
  | .hbm, ⟨49, _⟩ => ⟨S4x4096x4096, .f32⟩
  | .hbm, ⟨50, _⟩ => ⟨S1x1x4096, .f32⟩
  | .hbm, ⟨51, _⟩ => ⟨S4x4096x4096, .f32⟩
  | .hbm, ⟨52, _⟩ => ⟨S4x4096x4096, .f32⟩
  | .hbm, ⟨53, _⟩ => ⟨S16384x4096, .f32⟩
  | .hbm, ⟨54, _⟩ => ⟨S16384x16, .f32⟩
  | .hbm, ⟨55, _⟩ => ⟨S_, .f32⟩
  | .hbm, ⟨56, _⟩ => ⟨S16384, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S16384x1, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S16384x16, .f32⟩
  | .hbm, ⟨68, _⟩ => ⟨S16384x16, .f32⟩
  | .hbm, ⟨69, _⟩ => ⟨S16x16384, .f32⟩
  | .hbm, ⟨70, _⟩ => ⟨S16x32768, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Proof.Spec.lean ====
module
public import Idealize.ShloMosaic.Lib.Pointwise
@[expose] public section
noncomputable section
namespace Cert.Proof
open Idealize.ShloMosaic Idealize.ShloMosaic.TcCoe

/-! What both programs compute: for every block of 128 tokens and every query head, a softmax over the
    384 keys around the block, with a sink in its denominator, applied to the values. -/

/-- The softmax of a row of scores with one more logit in its denominator (the sink), applied to a
    column of values. -/
def attnRow (s : Fin 384 → EReal) (sink : EReal) (v : Fin 384 → EReal) : EReal :=
  ∑ j, Ideal.exp (s j - max (Finset.univ.fold max ⊥ s) sink)
      * Ideal.div 1 ((∑ k, Ideal.exp (s k - max (Finset.univ.fold max ⊥ s) sink))
          + Ideal.exp (sink - max (Finset.univ.fold max ⊥ s) sink)) * v j

/-- A key whose score is `⊥` weighs nothing, so its value does not matter. -/
theorem attnRow_congr {s s' : Fin 384 → EReal} {sink sink' : EReal} {v v' : Fin 384 → EReal} (hs : s = s')
    (hk : sink = sink') (hv : ∀ j, s j ≠ ⊥ → v j = v' j) : attnRow s sink v = attnRow s' sink' v' := by
  subst hs hk
  refine Finset.sum_congr rfl fun j _ => ?_
  by_cases h : s j = ⊥
  · rw [h, EReal.bot_sub, Ideal.exp_bot, zero_mul, zero_mul, zero_mul]
  · rw [hv j h]

/-- A head's slope: `2 ^ (-(h + 1) / 4)`. -/
def slope (h : Nat) : EReal := (((2 : ℝ) ^ (-((h : ℝ) + 1) / 4) : ℝ) : EReal)

/-- The scale of the scores: one over the root of the head's width. -/
def scl : EReal := (((Real.sqrt 128)⁻¹ : ℝ) : EReal)

/-- The distance of the query at row `r` of a block from key `j` of the three blocks around it. -/
def gap (r j : Nat) : Int := |(r : Int) - ((j : Int) - 128)|

/-- Whether block `n` is the first of its sequence (the first group's sequences have 16 blocks, the
    second's 32). -/
def isFirst (n : Nat) : Prop := if n < 128 then n % 16 = 0 else n % 32 = 0

/-- Whether block `n` is the last of its sequence. -/
def isLast (n : Nat) : Prop := if n < 128 then n % 16 = 15 else n % 32 = 31

instance (n : Nat) : Decidable (isFirst n) := by unfold isFirst; infer_instance
instance (n : Nat) : Decidable (isLast n) := by unfold isLast; infer_instance

/-- Whether the query at row `r` of block `n` sees key `j` of the three blocks around it. -/
def sees (n r j : Nat) : Prop := gap r j ≤ 128 ∧ (isFirst n → 128 ≤ j) ∧ (isLast n → j < 256)

instance (n r j : Nat) : Decidable (sees n r j) := by unfold sees; infer_instance

/-- The scores of one query against the 384 keys around its block. -/
def scores (n r h : Nat) (q : Fin 128 → EReal) (k : Fin 384 → Fin 128 → EReal) (j : Fin 384) : EReal :=
  if sees n r j.val then (∑ e, q e * k j e) * scl - slope h * ((gap r j.val : ℝ) : EReal) else ⊥

theorem scores_congr {n r h : Nat} {q q' : Fin 128 → EReal} {k k' : Fin 384 → Fin 128 → EReal} (hq : q = q')
    (hk : ∀ j e, sees n r j.val → k j e = k' j e) : scores n r h q k = scores n r h q' k' := by
  subst hq
  funext j
  unfold scores
  split
  · rename_i hj
    rw [Finset.sum_congr rfl fun e _ => by rw [hk j e hj]]
  · rfl

/-- A key with a score other than `⊥` is one the query sees. -/
theorem sees_of_scores {n r h : Nat} {q : Fin 128 → EReal} {k : Fin 384 → Fin 128 → EReal} {j : Fin 384}
    (hj : scores n r h q k j ≠ ⊥) : sees n r j.val := by
  by_contra hn
  exact hj (if_neg hn)

/-- A vector read at a natural, zero outside it. -/
def rd1 {a : Nat} (v : (⟨1, ![a]⟩ : Shape).Idx → EReal) (r : Nat) : EReal :=
  if h : r < a then v (ix1 ⟨r, h⟩) else 0

/-- A matrix read at two naturals, zero outside it. -/
def rd {a b : Nat} (v : (⟨2, ![a, b]⟩ : Shape).Idx → EReal) (r c : Nat) : EReal :=
  if h : r < a ∧ c < b then v (ix2 ⟨r, h.1⟩ ⟨c, h.2⟩) else 0

theorem rd_eq {a b : Nat} (v : (⟨2, ![a, b]⟩ : Shape).Idx → EReal) (r : Fin a) (c : Fin b) : rd v r.val c.val = v (ix2 r c) := by
  unfold rd
  rw [dif_pos ⟨r.isLt, c.isLt⟩]

/-- Three blocks of 128 rows, one above the other, read at two naturals. -/
def rd3 {b : Nat} (x y z : (⟨2, ![128, b]⟩ : Shape).Idx → EReal) (j c : Nat) : EReal :=
  if j < 128 then rd x j c else if j < 256 then rd y (j - 128) c else rd z (j - 256) c

/-- What one block leaves at row `r` of head `h`, column `d`: from the block's queries, the three blocks of keys and
    of values around it and the sinks. -/
def blockOut (n : Nat) (q : (⟨2, ![128, 4096]⟩ : Shape).Idx → EReal)
    (kp kc kn vp vc vn : (⟨2, ![128, 1024]⟩ : Shape).Idx → EReal) (sk : Nat → EReal) (r h d : Nat) : EReal :=
  attnRow (scores n r h (fun e => rd q r (128 * h + e.val)) (fun j e => rd3 kp kc kn j.val (128 * (h / 4) + e.val)))
    (sk h) (fun j => rd3 vp vc vn j.val (128 * (h / 4) + d))

end Cert.Proof
-- ==== Proof.Words.lean ====
module
public import Idealize.ShloMosaic.Lib.Pointwise
public import Idealize.ShloMosaic.Lib.WordCmp
@[expose] public section
noncomputable section
namespace Cert.Proof
open Idealize.ShloMosaic Idealize.ShloMosaic.TcCoe Idealize.ShloMosaic.WordCmp

/-! The 32-bit words of positions and distances, read as integers. -/

theorem ofNat_eq_ofInt (n : Nat) : BitVec.ofNat 32 n = BitVec.ofInt 32 (n : Int) := rfl

theorem toInt_small {z : Int} (h : -2 ^ 31 ≤ z ∧ z < 2 ^ 31) : (BitVec.ofInt 32 z).toInt = z := by
  rw [BitVec.toInt_ofInt, Int.bmod_eq_of_le] <;> omega

theorem subi_ofInt (a b : Int) : IntOp.subi (BitVec.ofInt 32 a) (BitVec.ofInt 32 b) = BitVec.ofInt 32 (a - b) := by
  apply BitVec.eq_of_toInt_eq
  show (BitVec.ofInt 32 a - BitVec.ofInt 32 b).toInt = _
  simp [BitVec.toInt_sub]

theorem addi_ofInt (a b : Int) : IntOp.addi (BitVec.ofInt 32 a) (BitVec.ofInt 32 b) = BitVec.ofInt 32 (a + b) := by
  apply BitVec.eq_of_toInt_eq
  show (BitVec.ofInt 32 a + BitVec.ofInt 32 b).toInt = _
  simp [BitVec.toInt_add]

theorem muli_ofInt (a b : Int) : IntOp.muli (BitVec.ofInt 32 a) (BitVec.ofInt 32 b) = BitVec.ofInt 32 (a * b) := by
  apply BitVec.eq_of_toInt_eq
  show (BitVec.ofInt 32 a * BitVec.ofInt 32 b).toInt = _
  simp [BitVec.toInt_mul]

theorem absi_ofInt {z : Int} (h : -2 ^ 31 < z ∧ z < 2 ^ 31) : IntOp.absi (BitVec.ofInt 32 z) = BitVec.ofInt 32 |z| := by
  unfold IntOp.absi
  rw [BitVec.msb_eq_toInt, toInt_small ⟨by omega, h.2⟩]
  by_cases hz : z < 0
  · rw [if_pos (by simpa using hz), abs_of_neg hz, BitVec.ofInt_neg]
  · rw [if_neg (by simpa using hz), abs_of_nonneg (by omega)]

theorem ofBool_decide (p : Prop) [Decidable p] : BitVec.ofBool (decide p) = 1#1 ↔ p := by
  by_cases h : p <;> simp [h]

theorem sle_ofInt {a b : Int} (ha : -2 ^ 31 ≤ a ∧ a < 2 ^ 31) (hb : -2 ^ 31 ≤ b ∧ b < 2 ^ 31) :
    IntOp.cmpi .sle (BitVec.ofInt 32 a) (BitVec.ofInt 32 b) = 1#1 ↔ a ≤ b := by
  rw [cmpi_sle_eq, toInt_small ha, toInt_small hb]; exact ofBool_decide _

theorem sge_ofInt {a b : Int} (ha : -2 ^ 31 ≤ a ∧ a < 2 ^ 31) (hb : -2 ^ 31 ≤ b ∧ b < 2 ^ 31) :
    IntOp.cmpi .sge (BitVec.ofInt 32 a) (BitVec.ofInt 32 b) = 1#1 ↔ b ≤ a := by
  rw [cmpi_sge_eq, toInt_small ha, toInt_small hb]; exact ofBool_decide _

theorem slt_ofInt {a b : Int} (ha : -2 ^ 31 ≤ a ∧ a < 2 ^ 31) (hb : -2 ^ 31 ≤ b ∧ b < 2 ^ 31) :
    IntOp.cmpi .slt (BitVec.ofInt 32 a) (BitVec.ofInt 32 b) = 1#1 ↔ a < b := by
  rw [cmpi_slt_eq, toInt_small ha, toInt_small hb]; exact ofBool_decide _

theorem andi_bits (a b : BitVec 1) : IntOp.andi a b = 1#1 ↔ a = 1#1 ∧ b = 1#1 := by
  revert a b; decide

/-- The low seven bits of a row's number. -/
theorem low_bits {n : Nat} (h : n < 512) : IntOp.andi (BitVec.ofNat 32 n) 127#32 = BitVec.ofInt 32 ((n % 128 : Nat) : Int) := by
  rw [← ofNat_eq_ofInt]
  apply BitVec.eq_of_toNat_eq
  show (BitVec.ofNat 32 n &&& 127#32).toNat = _
  rw [BitVec.toNat_and, BitVec.toNat_ofNat, BitVec.toNat_ofNat, BitVec.toNat_ofNat]
  have := Nat.and_two_pow_sub_one_eq_mod n 7
  norm_num at this
  rw [Nat.mod_eq_of_lt (by omega : n < 2 ^ 32)]
  norm_num
  omega

/-- The high bits of a row's number, compared with a head's place in its group. -/
theorem high_bits {n k : Nat} (h : n < 512) (hk : k < 4) :
    IntOp.cmpi .eq (IntOp.shrui .vector (BitVec.ofNat 32 n) 7#32) (BitVec.ofNat 32 k) = 1#1 ↔ n / 128 = k := by
  have e : IntOp.shrui .vector (BitVec.ofNat 32 n) 7#32 = BitVec.ofNat 32 (n / 128) := by
    unfold IntOp.shrui
    rw [if_pos (by decide)]
    apply BitVec.eq_of_toNat_eq
    simp [Nat.shiftRight_eq_div_pow]
    omega
  rw [e]
  exact cmpi_eq_ofNat_eq_one_iff (by omega) (by omega)

theorem select_iff {α : Type} {c : BitVec 1} {p : Prop} [Decidable p] (h : c = 1#1 ↔ p) (a b : α) :
    Scalar.select c a b = if p then a else b := by
  unfold Scalar.select
  exact if_congr h rfl rfl

end Cert.Proof
-- ==== Proof.Head.lean ====
module
public import proofs.«01_k».proof.Proof.Gen.KernelIdeal.Skeleton
public import proofs.«01_k».proof.Proof.Spec
public import proofs.«01_k».proof.Proof.Words
@[expose] public section
set_option maxRecDepth 16384
noncomputable section
namespace Cert.Proof
open Idealize.ShloMosaic Idealize.ShloMosaic.TcCoe Idealize.SL.Sem
open Cert.KernelIdeal Cert.KernelIdeal.Gen

/-- One value for each of the four heads of a group, down the 512 rows (four heads of 128 queries). -/
def perRow (a b c d : EReal) : FVec Ideal S512x1 .f32 :=
  select (cmpi .eq k0_pay10 (broadcast S512x1 0#32)) (broadcast S512x1 a)
    (select (cmpi .eq k0_pay10 (broadcast S512x1 1#32)) (broadcast S512x1 b)
      (select (cmpi .eq k0_pay10 (broadcast S512x1 2#32)) (broadcast S512x1 c) (broadcast S512x1 d)))

/-- The scores of one group of four heads. -/
def groupScores (w : IVec S512x384 1) (q : FVec Ideal S512x128 .bf16) (k : FVec Ideal S384x128 .bf16)
    (slope : FVec Ideal S512x1 .f32) : FVec Ideal S512x384 .f32 :=
  select w (subf (mulf (matmul dot_S512x128_S384x128_S512x384_1_1_0_0_n_n none q k (constant S512x384 .f32 0x00000000#32))
      (broadcast S512x384 (Named.named κ "scale" 0x3DB504F3#32)))
    (mulf (broadcastTo S512x384 slope broadcasts_S512x1_S512x384) k0_pay9))
    (broadcast S512x384 (Named.named κ "mask" 0xF149F2CA#32))

/-- The larger of each row's greatest score and its sink. -/
def groupMax (s : FVec Ideal S512x384 .f32) (sink : FVec Ideal S512x1 .f32) : FVec Ideal S512x1 .f32 :=
  maximumf (shapeCast S512x1 (multiReduction .maximumf [1] S512 s 0xFF800000#32 reduces_S512x384_S512 (.inl rfl) rfl)
    shapeCasts_S512_S512x1) sink

/-- The exponentials of the scores less the row's maximum. -/
def groupExp (s : FVec Ideal S512x384 .f32) (m : FVec Ideal S512x1 .f32) : FVec Ideal S512x384 .f32 :=
  exp (subf s (broadcastTo S512x384 m broadcasts_S512x1_S512x384))

/-- What one group of four heads leaves: the softmax with a sink, times the values. -/
def groupSoftmax (p : FVec Ideal S512x384 .f32) (m sink : FVec Ideal S512x1 .f32) (v : FVec Ideal S384x128 .bf16) :
    FVec Ideal S512x128 .bf16 :=
  truncf .bf16 (matmul dot_S512x384_S384x128_S512x128_1_0_0_1_n_n none
    (truncf .bf16 (mulf p (broadcastTo S512x384
      (divf (broadcast S512x1 (Scalar.ofBits .f32 0x3F800000#32))
        (addf (shapeCast S512x1 (multiReduction .add [1] S512 p 0x00000000#32 reduces_S512x384_S512 (.inl rfl) rfl)
          shapeCasts_S512_S512x1) (exp (subf sink m)))) broadcasts_S512x1_S512x384)) bitsLt_bf16_f32)
    v (constant S512x128 .f32 0x00000000#32)) bitsLt_bf16_f32

/-- A group of four heads, from its scores. -/
def groupOut (s : FVec Ideal S512x384 .f32) (sink : FVec Ideal S512x1 .f32) (v : FVec Ideal S384x128 .bf16) :
    FVec Ideal S512x128 .bf16 :=
  groupSoftmax (groupExp s (groupMax s sink)) (groupMax s sink) sink v

theorem neg_inf_word : Ideal.ofBits .f32 0xFF800000#32 = ⊥ := by
  simp [Ideal.ofBits, Ideal.ieee]

theorem groupMax_apply (s : FVec Ideal S512x384 .f32) (sink : FVec Ideal S512x1 .f32) (r : Fin 512) :
    groupMax s sink (ix2 r 0) = max (Finset.univ.fold max ⊥ fun j => s (ix2 r j)) (sink (ix2 r 0)) := by
  pointwise [groupMax]
  rw [neg_inf_word]

theorem group_apply (s : FVec Ideal S512x384 .f32) (sink : FVec Ideal S512x1 .f32) (v : FVec Ideal S384x128 .bf16)
    (r : Fin 512) (d : Fin 128) :
    groupOut s sink v (ix2 r d)
      = attnRow (fun j => s (ix2 r j)) (sink (ix2 r 0)) (fun j => v (ix2 j d)) := by
  pointwise [groupOut, groupSoftmax, groupExp, attnRow]
  simp only [groupMax_apply]

theorem perRow_apply (a b c d : EReal) (r : Fin 512) : perRow a b c d (ix2 r 0)
    = if r.val / 128 = 0 then a else if r.val / 128 = 1 then b else if r.val / 128 = 2 then c else d := by
  pointwise [perRow, k0_pay10]
  rw [select_iff (high_bits r.isLt (by decide : 0 < 4)), select_iff (high_bits r.isLt (by decide : 1 < 4)),
    select_iff (high_bits r.isLt (by decide : 2 < 4))]

theorem key_word (r : Fin 512) (j : Fin 384) : k0_pay6 (ix2 r j) = BitVec.ofInt 32 ((j.val : Int) - 128) := by
  pointwise [k0_pay6]
  exact subi_ofInt (j.val : Int) 128

theorem gap_nonneg (r j : Nat) : 0 ≤ gap r j := abs_nonneg _

theorem gap_lt {r j : Nat} (hr : r < 512) (hj : j < 384) : gap r j < 1024 := by
  unfold gap
  rw [abs_lt]
  omega

theorem dist_word (r : Fin 512) (j : Fin 384) : k0_pay7 (ix2 r j) = BitVec.ofInt 32 (gap (r.val % 128) j.val) := by
  have h := key_word r j
  pointwise [k0_pay7]
  rw [h, low_bits r.isLt, subi_ofInt, absi_ofInt]
  · rfl
  · have := j.isLt
    omega

theorem dist_apply (r : Fin 512) (j : Fin 384) : k0_pay9 (F := Ideal) (ix2 r j) = ((gap (r.val % 128) j.val : ℝ) : EReal) := by
  have h := dist_word r j
  pointwise [k0_pay9]
  rw [h]
  show (((BitVec.ofInt 32 _).toInt : ℝ) : EReal) = _
  rw [toInt_small]
  have := gap_nonneg (r.val % 128) j.val
  have := gap_lt (Nat.mod_lt r.val (by decide : 128 > 0) |>.trans (by decide : 128 < 512)) j.isLt
  omega

theorem mask_value : (Named.named (F := Ideal) κ "mask" (φ := .f32) 0xF149F2CA#32 : EReal) = ⊥ := rfl
theorem scale_value : (Named.named (F := Ideal) κ "scale" (φ := .f32) 0x3DB504F3#32 : EReal) = scl := rfl

theorem groupScores_apply (w : IVec S512x384 1) (q : FVec Ideal S512x128 .bf16) (k : FVec Ideal S384x128 .bf16)
    (sl : FVec Ideal S512x1 .f32) (r : Fin 512) (j : Fin 384) :
    groupScores w q k sl (ix2 r j) = if w (ix2 r j) = 1#1 then
      (∑ e : Fin 128, q (ix2 r e) * k (ix2 j e)) * scl - sl (ix2 r 0) * ((gap (r.val % 128) j.val : ℝ) : EReal) else ⊥ := by
  have h := dist_apply r j
  pointwise [groupScores]
  rw [h, scale_value, mask_value, select_iff Iff.rfl]

/-- Three blocks of rows stacked. -/
def stack3 (a b c : FVec Ideal S128x128 .bf16) (j : Fin 384) (e : Fin 128) : EReal :=
  if h : j.val < 128 then a (ix2 ⟨j.val, h⟩ e) else
    if h' : j.val - 128 < 128 then b (ix2 ⟨j.val - 128, h'⟩ e) else c (ix2 ⟨j.val - 128 - 128, by omega⟩ e)

/-- The keys (or the values) of a group's head: the three blocks stacked. -/
def stacked3 (a b c : FVec Ideal S128x128 .bf16) : FVec Ideal S384x128 .bf16 :=
  concatenate S384x128 0 [⟨S128x128, shapeCast S128x128 a shapeCasts_S128x128_S128x128⟩,
    ⟨S128x128, shapeCast S128x128 b shapeCasts_S128x128_S128x128⟩,
    ⟨S128x128, shapeCast S128x128 c shapeCasts_S128x128_S128x128⟩]
    concatenates_S128x128_S128x128_S128x128_S384x128_d0

/-- The queries of a group's four heads, stacked. -/
def stacked4 (a b c d : FVec Ideal S128x128 .bf16) : FVec Ideal S512x128 .bf16 :=
  concatenate S512x128 0 [⟨S128x128, shapeCast S128x128 a shapeCasts_S128x128_S128x128⟩,
    ⟨S128x128, shapeCast S128x128 b shapeCasts_S128x128_S128x128⟩,
    ⟨S128x128, shapeCast S128x128 c shapeCasts_S128x128_S128x128⟩,
    ⟨S128x128, shapeCast S128x128 d shapeCasts_S128x128_S128x128⟩]
    concatenates_S128x128_S128x128_S128x128_S128x128_S512x128_d0

theorem stacked3_apply (a b c : FVec Ideal S128x128 .bf16) (j : Fin 384) (e : Fin 128) :
    stacked3 a b c (ix2 j e) = stack3 a b c j e := by
  pointwise [stacked3, stack3]

theorem stacked4_apply (a b c d : FVec Ideal S128x128 .bf16) (j : Fin 512) (e : Fin 128) (r : Fin 128) :
    (j.val = 0 + r.val → stacked4 a b c d (ix2 j e) = a (ix2 r e))
    ∧ (j.val = 128 + r.val → stacked4 a b c d (ix2 j e) = b (ix2 r e))
    ∧ (j.val = 256 + r.val → stacked4 a b c d (ix2 j e) = c (ix2 r e))
    ∧ (j.val = 384 + r.val → stacked4 a b c d (ix2 j e) = d (ix2 r e)) := by
  have hr := r.isLt
  pointwise [stacked4]
  refine ⟨fun h => ?_, fun h => ?_, fun h => ?_, fun h => ?_⟩
  · rw [dif_pos (by omega)]; congr <;> omega
  · rw [dif_neg (by omega), dif_pos (by omega)]; congr <;> omega
  · rw [dif_neg (by omega), dif_neg (by omega), dif_pos (by omega)]; congr <;> omega
  · rw [dif_neg (by omega), dif_neg (by omega), dif_neg (by omega)]; congr <;> omega

/-- A group's result at a row of one of its heads. -/
theorem row_apply (w : IVec S512x384 1) (q : FVec Ideal S512x128 .bf16) (kp kc kn vp vc vn : FVec Ideal S128x128 .bf16)
    (sl sk : FVec Ideal S512x1 .f32) (o : Nat) (hs : S512x128.Slices ![o, 0] S128x128) (x : S128x128.Idx) (r d : Fin 128) (hx : x = ix2 r d)
    (R : Fin 512) (hR : R.val = o + r.val) (qh : FVec Ideal S128x128 .bf16) (slh skh : EReal)
    (hq : ∀ e, q (ix2 R e) = qh (ix2 r e)) (hsl : sl (ix2 R 0) = slh) (hsk : sk (ix2 R 0) = skh)
    (ho : o % 128 = 0) :
    extractStridedSlice S128x128 ![o, 0] (groupOut (groupScores w q (stacked3 kp kc kn) sl) sk (stacked3 vp vc vn)) hs x
      = attnRow (fun j => if w (ix2 R j) = 1#1 then (∑ e : Fin 128, qh (ix2 r e) * stack3 kp kc kn j e) * scl
            - slh * ((gap r.val j.val : ℝ) : EReal) else ⊥) skh (fun j => stack3 vp vc vn j d) := by
  subst hx
  have hr := r.isLt
  have hm : R.val % 128 = r.val := by omega
  trans groupOut (groupScores w q (stacked3 kp kc kn) sl) sk (stacked3 vp vc vn) (ix2 R d)
  · unfold extractStridedSlice
    congr 1
    funext a
    match a with
    | 0 => exact Fin.ext hR.symm
    | 1 => exact Fin.ext (Nat.zero_add _)
  rw [group_apply, hsk]
  simp only [groupScores_apply, stacked3_apply, hq, hsl, hm]

end Cert.Proof
-- ==== Proof.Pieces.lean ====
module
public import proofs.«01_k».proof.Proof.Head
public import Idealize.ShloMosaic.Lib.Pipeline.ValueKit
@[expose] public section
set_option maxRecDepth 16384
noncomputable section
namespace Cert.Proof
open Idealize.ShloMosaic Idealize.ShloMosaic.TcCoe Idealize.SL.Sem
open Cert.KernelIdeal Cert.KernelIdeal.Gen

/-! One head's slice of a group's result, over the blocks the kernel reads. -/

theorem ix2_eta (x : S128x128.Idx) : x = ix2 (x 0) (x 1) := by
  funext a
  match a with
  | 0 => rfl
  | 1 => rfl

theorem ld_rd {b : Nat} {Q : (⟨2, ![128, b]⟩ : Shape).Idx → EReal} {o : Nat}
    {hb : ∀ a, (![0, o] : Fin 2 → Nat) a + (![128, 128] : Fin 2 → Nat) a ≤ (⟨2, ![128, b]⟩ : Shape).size a} (r c : Fin 128) :
    View.ld (Val := Elt Ideal) (e' := .bf16) (S := ⟨2, ![128, b]⟩) Q (Rect.unit ![0, o] ![128, 128] hb) (ix2 r c)
      = rd Q r.val (o + c.val) := by
  have h1 : o + 128 ≤ b := hb 1
  have hc := c.isLt
  unfold rd
  rw [dif_pos ⟨r.isLt, by omega⟩]
  refine View.ld_unit_apply_of _ _ _ _ _ _ fun a => ?_
  match a with
  | 0 => exact (Nat.zero_add _).symm
  | 1 => rfl

theorem ld_rd3 {kp kc kn : Vec Ideal S128x1024 .bf16} {o : Nat}
    {hb : ∀ a, (![0, o] : Fin 2 → Nat) a + (![128, 128] : Fin 2 → Nat) a ≤ S128x1024.size a} (j : Fin 384) (c : Fin 128) :
    stack3 (View.ld kp (Rect.unit ![0, o] ![128, 128] hb)) (View.ld kc (Rect.unit ![0, o] ![128, 128] hb))
      (View.ld kn (Rect.unit ![0, o] ![128, 128] hb)) j c = rd3 kp kc kn j.val (o + c.val) := by
  unfold stack3 rd3
  by_cases h : j.val < 128
  · rw [dif_pos h, if_pos h]; exact ld_rd _ _
  · by_cases h' : j.val - 128 < 128
    · rw [dif_neg h, if_neg h, dif_pos h', if_pos (by omega)]; exact ld_rd _ _
    · rw [dif_neg h, if_neg h, dif_neg h', if_neg (by omega)]; exact ld_rd _ _

/-- A head's row, its queries, keys and values read from the blocks. -/
theorem core {n h : Nat} {w : IVec S512x384 1}
    (hw : ∀ (R : Fin 512) (j : Fin 384), w (ix2 R j) = 1#1 ↔ sees n (R.val % 128) j.val)
    {Q : Vec Ideal S128x4096 .bf16} {kp kc kn vp vc vn : Vec Ideal S128x1024 .bf16} {SK : Nat → EReal}
    {oq : Nat} {hq : ∀ a, (![0, oq] : Fin 2 → Nat) a + (![128, 128] : Fin 2 → Nat) a ≤ S128x4096.size a} {ok : Nat}
    {hk : ∀ a, (![0, ok] : Fin 2 → Nat) a + (![128, 128] : Fin 2 → Nat) a ≤ S128x1024.size a} {sl sk : EReal}
    (hoq : oq = 128 * h) (hok : ok = 128 * (h / 4)) (hsl : sl = slope h) (hsk : sk = SK h) {R : Fin 512} {r' d : Fin 128}
    (hR : R.val % 128 = r'.val) {r c : Nat} (h0 : r = r'.val) (h1 : c = 128 * h + d.val) :
    attnRow (fun j => if w (ix2 R j) = 1#1 then (∑ e : Fin 128, View.ld Q (Rect.unit ![0, oq] ![128, 128] hq) (ix2 r' e)
          * stack3 (View.ld kp (Rect.unit ![0, ok] ![128, 128] hk)) (View.ld kc (Rect.unit ![0, ok] ![128, 128] hk))
          (View.ld kn (Rect.unit ![0, ok] ![128, 128] hk)) j e) * scl - sl * ((gap r'.val j.val : ℝ) : EReal) else ⊥) sk
        (fun j => stack3 (View.ld vp (Rect.unit ![0, ok] ![128, 128] hk)) (View.ld vc (Rect.unit ![0, ok] ![128, 128] hk))
          (View.ld vn (Rect.unit ![0, ok] ![128, 128] hk)) j d)
      = blockOut n Q kp kc kn vp vc vn SK r (c / 128) (c % 128) := by
  subst h0 hsl hsk hoq hok
  have hd := d.isLt
  rw [show c / 128 = h by omega, show c % 128 = d.val by omega]
  have e : ∀ x, View.ld Q (Rect.unit ![0, 128 * h] ![128, 128] hq) (ix2 r' x) = rd Q r'.val (128 * h + x.val) :=
    fun x => ld_rd r' x
  unfold blockOut scores
  simp only [hw, hR, e, ld_rd3]

/-- Head 0 of a group: the slice of the group's result that holds it. -/
theorem piece0 {n h : Nat} {w : IVec S512x384 1}
    (hw : ∀ (R : Fin 512) (j : Fin 384), w (ix2 R j) = 1#1 ↔ sees n (R.val % 128) j.val)
    {Q : Vec Ideal S128x4096 .bf16} {kp kc kn vp vc vn : Vec Ideal S128x1024 .bf16} {SK : Nat → EReal}
    {oq : Nat} {hq : ∀ a, (![0, oq] : Fin 2 → Nat) a + (![128, 128] : Fin 2 → Nat) a ≤ S128x4096.size a} {ok : Nat}
    {hk : ∀ a, (![0, ok] : Fin 2 → Nat) a + (![128, 128] : Fin 2 → Nat) a ≤ S128x1024.size a}
    {qa qb qc qd : FVec Ideal S128x128 .bf16} {sa sb sc sd ka kb kc' kd : EReal}
    (qa_eq : qa = View.ld Q (Rect.unit ![0, oq] ![128, 128] hq)) (hoq : oq = 128 * h) (hok : ok = 128 * (h / 4))
    (hsl : sa = slope h) (hsk : ka = SK h) {hs : S512x128.Slices ![0, 0] S128x128}
    {x : S128x128.Idx} {r c : Nat} (h0 : r = (x 0).val) (h1 : c = 128 * h + (x 1).val) :
    extractStridedSlice S128x128 ![0, 0] (groupOut (groupScores w (stacked4 qa qb qc qd)
        (stacked3 (View.ld kp (Rect.unit ![0, ok] ![128, 128] hk)) (View.ld kc (Rect.unit ![0, ok] ![128, 128] hk))
          (View.ld kn (Rect.unit ![0, ok] ![128, 128] hk))) (perRow sa sb sc sd)) (perRow ka kb kc' kd)
        (stacked3 (View.ld vp (Rect.unit ![0, ok] ![128, 128] hk)) (View.ld vc (Rect.unit ![0, ok] ![128, 128] hk))
          (View.ld vn (Rect.unit ![0, ok] ![128, 128] hk)))) hs x
      = blockOut n Q kp kc kn vp vc vn SK r (c / 128) (c % 128) := by
  obtain ⟨r', d, rfl⟩ : ∃ (r' d : Fin 128), x = ix2 r' d := ⟨x 0, x 1, ix2_eta x⟩
  have hr := r'.isLt
  refine (row_apply w _ _ _ _ _ _ _ _ _ 0 hs _ r' d rfl ⟨0 + r'.val, by omega⟩ rfl qa sa ka
    (fun e => (stacked4_apply qa qb qc qd _ e r').1 rfl) ?_ ?_ rfl).trans ?_
  · rw [perRow_apply]; simp only [show (0 + r'.val) / 128 = 0 by omega]; rfl
  · rw [perRow_apply]; simp only [show (0 + r'.val) / 128 = 0 by omega]; rfl
  · subst qa_eq
    exact core hw hoq hok hsl hsk (by show (0 + r'.val) % 128 = _; omega) h0 h1

/-- Head 1 of a group: the slice of the group's result that holds it. -/
theorem piece1 {n h : Nat} {w : IVec S512x384 1}
    (hw : ∀ (R : Fin 512) (j : Fin 384), w (ix2 R j) = 1#1 ↔ sees n (R.val % 128) j.val)
    {Q : Vec Ideal S128x4096 .bf16} {kp kc kn vp vc vn : Vec Ideal S128x1024 .bf16} {SK : Nat → EReal}
    {oq : Nat} {hq : ∀ a, (![0, oq] : Fin 2 → Nat) a + (![128, 128] : Fin 2 → Nat) a ≤ S128x4096.size a} {ok : Nat}
    {hk : ∀ a, (![0, ok] : Fin 2 → Nat) a + (![128, 128] : Fin 2 → Nat) a ≤ S128x1024.size a}
    {qa qb qc qd : FVec Ideal S128x128 .bf16} {sa sb sc sd ka kb kc' kd : EReal}
    (qb_eq : qb = View.ld Q (Rect.unit ![0, oq] ![128, 128] hq)) (hoq : oq = 128 * h) (hok : ok = 128 * (h / 4))
    (hsl : sb = slope h) (hsk : kb = SK h) {hs : S512x128.Slices ![128, 0] S128x128}
    {x : S128x128.Idx} {r c : Nat} (h0 : r = (x 0).val) (h1 : c = 128 * h + (x 1).val) :
    extractStridedSlice S128x128 ![128, 0] (groupOut (groupScores w (stacked4 qa qb qc qd)
        (stacked3 (View.ld kp (Rect.unit ![0, ok] ![128, 128] hk)) (View.ld kc (Rect.unit ![0, ok] ![128, 128] hk))
          (View.ld kn (Rect.unit ![0, ok] ![128, 128] hk))) (perRow sa sb sc sd)) (perRow ka kb kc' kd)
        (stacked3 (View.ld vp (Rect.unit ![0, ok] ![128, 128] hk)) (View.ld vc (Rect.unit ![0, ok] ![128, 128] hk))
          (View.ld vn (Rect.unit ![0, ok] ![128, 128] hk)))) hs x
      = blockOut n Q kp kc kn vp vc vn SK r (c / 128) (c % 128) := by
  obtain ⟨r', d, rfl⟩ : ∃ (r' d : Fin 128), x = ix2 r' d := ⟨x 0, x 1, ix2_eta x⟩
  have hr := r'.isLt
  refine (row_apply w _ _ _ _ _ _ _ _ _ 128 hs _ r' d rfl ⟨128 + r'.val, by omega⟩ rfl qb sb kb
    (fun e => (stacked4_apply qa qb qc qd _ e r').2.1 rfl) ?_ ?_ rfl).trans ?_
  · rw [perRow_apply]; simp only [show (128 + r'.val) / 128 = 1 by omega]; rfl
  · rw [perRow_apply]; simp only [show (128 + r'.val) / 128 = 1 by omega]; rfl
  · subst qb_eq
    exact core hw hoq hok hsl hsk (by show (128 + r'.val) % 128 = _; omega) h0 h1

/-- Head 2 of a group: the slice of the group's result that holds it. -/
theorem piece2 {n h : Nat} {w : IVec S512x384 1}
    (hw : ∀ (R : Fin 512) (j : Fin 384), w (ix2 R j) = 1#1 ↔ sees n (R.val % 128) j.val)
    {Q : Vec Ideal S128x4096 .bf16} {kp kc kn vp vc vn : Vec Ideal S128x1024 .bf16} {SK : Nat → EReal}
    {oq : Nat} {hq : ∀ a, (![0, oq] : Fin 2 → Nat) a + (![128, 128] : Fin 2 → Nat) a ≤ S128x4096.size a} {ok : Nat}
    {hk : ∀ a, (![0, ok] : Fin 2 → Nat) a + (![128, 128] : Fin 2 → Nat) a ≤ S128x1024.size a}
    {qa qb qc qd : FVec Ideal S128x128 .bf16} {sa sb sc sd ka kb kc' kd : EReal}
    (qc_eq : qc = View.ld Q (Rect.unit ![0, oq] ![128, 128] hq)) (hoq : oq = 128 * h) (hok : ok = 128 * (h / 4))
    (hsl : sc = slope h) (hsk : kc' = SK h) {hs : S512x128.Slices ![256, 0] S128x128}
    {x : S128x128.Idx} {r c : Nat} (h0 : r = (x 0).val) (h1 : c = 128 * h + (x 1).val) :
    extractStridedSlice S128x128 ![256, 0] (groupOut (groupScores w (stacked4 qa qb qc qd)
        (stacked3 (View.ld kp (Rect.unit ![0, ok] ![128, 128] hk)) (View.ld kc (Rect.unit ![0, ok] ![128, 128] hk))
          (View.ld kn (Rect.unit ![0, ok] ![128, 128] hk))) (perRow sa sb sc sd)) (perRow ka kb kc' kd)
        (stacked3 (View.ld vp (Rect.unit ![0, ok] ![128, 128] hk)) (View.ld vc (Rect.unit ![0, ok] ![128, 128] hk))
          (View.ld vn (Rect.unit ![0, ok] ![128, 128] hk)))) hs x
      = blockOut n Q kp kc kn vp vc vn SK r (c / 128) (c % 128) := by
  obtain ⟨r', d, rfl⟩ : ∃ (r' d : Fin 128), x = ix2 r' d := ⟨x 0, x 1, ix2_eta x⟩
  have hr := r'.isLt
  refine (row_apply w _ _ _ _ _ _ _ _ _ 256 hs _ r' d rfl ⟨256 + r'.val, by omega⟩ rfl qc sc kc'
    (fun e => (stacked4_apply qa qb qc qd _ e r').2.2.1 rfl) ?_ ?_ rfl).trans ?_
  · rw [perRow_apply]; simp only [show (256 + r'.val) / 128 = 2 by omega]; rfl
  · rw [perRow_apply]; simp only [show (256 + r'.val) / 128 = 2 by omega]; rfl
  · subst qc_eq
    exact core hw hoq hok hsl hsk (by show (256 + r'.val) % 128 = _; omega) h0 h1

/-- Head 3 of a group: the slice of the group's result that holds it. -/
theorem piece3 {n h : Nat} {w : IVec S512x384 1}
    (hw : ∀ (R : Fin 512) (j : Fin 384), w (ix2 R j) = 1#1 ↔ sees n (R.val % 128) j.val)
    {Q : Vec Ideal S128x4096 .bf16} {kp kc kn vp vc vn : Vec Ideal S128x1024 .bf16} {SK : Nat → EReal}
    {oq : Nat} {hq : ∀ a, (![0, oq] : Fin 2 → Nat) a + (![128, 128] : Fin 2 → Nat) a ≤ S128x4096.size a} {ok : Nat}
    {hk : ∀ a, (![0, ok] : Fin 2 → Nat) a + (![128, 128] : Fin 2 → Nat) a ≤ S128x1024.size a}
    {qa qb qc qd : FVec Ideal S128x128 .bf16} {sa sb sc sd ka kb kc' kd : EReal}
    (qd_eq : qd = View.ld Q (Rect.unit ![0, oq] ![128, 128] hq)) (hoq : oq = 128 * h) (hok : ok = 128 * (h / 4))
    (hsl : sd = slope h) (hsk : kd = SK h) {hs : S512x128.Slices ![384, 0] S128x128}
    {x : S128x128.Idx} {r c : Nat} (h0 : r = (x 0).val) (h1 : c = 128 * h + (x 1).val) :
    extractStridedSlice S128x128 ![384, 0] (groupOut (groupScores w (stacked4 qa qb qc qd)
        (stacked3 (View.ld kp (Rect.unit ![0, ok] ![128, 128] hk)) (View.ld kc (Rect.unit ![0, ok] ![128, 128] hk))
          (View.ld kn (Rect.unit ![0, ok] ![128, 128] hk))) (perRow sa sb sc sd)) (perRow ka kb kc' kd)
        (stacked3 (View.ld vp (Rect.unit ![0, ok] ![128, 128] hk)) (View.ld vc (Rect.unit ![0, ok] ![128, 128] hk))
          (View.ld vn (Rect.unit ![0, ok] ![128, 128] hk)))) hs x
      = blockOut n Q kp kc kn vp vc vn SK r (c / 128) (c % 128) := by
  obtain ⟨r', d, rfl⟩ : ∃ (r' d : Fin 128), x = ix2 r' d := ⟨x 0, x 1, ix2_eta x⟩
  have hr := r'.isLt
  refine (row_apply w _ _ _ _ _ _ _ _ _ 384 hs _ r' d rfl ⟨384 + r'.val, by omega⟩ rfl qd sd kd
    (fun e => (stacked4_apply qa qb qc qd _ e r').2.2.2 rfl) ?_ ?_ rfl).trans ?_
  · rw [perRow_apply]; simp only [show (384 + r'.val) / 128 = 3 by omega]; rfl
  · rw [perRow_apply]; simp only [show (384 + r'.val) / 128 = 3 by omega]; rfl
  · subst qd_eq
    exact core hw hoq hok hsl hsk (by show (384 + r'.val) % 128 = _; omega) h0 h1

end Cert.Proof
-- ==== Proof.Slopes.lean ====
module
public import proofs.«01_k».proof.Proof.Gen.KernelIdeal.Skeleton
public import proofs.«01_k».proof.Proof.Spec
@[expose] public section
set_option maxRecDepth 16384
noncomputable section
namespace Cert.Proof
open Idealize.ShloMosaic Idealize.ShloMosaic.TcCoe Idealize.SL.Sem
open Cert.KernelIdeal Cert.KernelIdeal.Gen

/-! The slopes the kernel multiplies distances by: a fourth root of a power of two each. -/

/-- A positive number whose fourth power is `2 ^ (h + 1)` has head `h`'s slope as its inverse. -/
theorem slope_of_pow {x : ℝ} (h : Nat) (hx : 0 ≤ x) (e : x ^ 4 = 2 ^ (h + 1)) : ((x⁻¹ : ℝ) : EReal) = slope h := by
  unfold slope
  congr 1
  have : x = (2 : ℝ) ^ (((h : ℝ) + 1) / 4) := by
    have h4 : x = (x ^ (4 : ℕ)) ^ ((4 : ℝ)⁻¹) := by
      rw [← Real.rpow_natCast, ← Real.rpow_mul hx]; norm_num
    rw [h4, e, ← Real.rpow_natCast, ← Real.rpow_mul (by norm_num)]
    congr 1
    push_cast
    ring
  rw [this, neg_div, Real.rpow_neg (by norm_num)]

theorem sqrt_two_pow : Real.sqrt 2 ^ 4 = 4 := by
  rw [show (4 : ℕ) = 2 * 2 from rfl, pow_mul, Real.sq_sqrt (by norm_num)]; norm_num

theorem root_two_pow : Real.sqrt (Real.sqrt 2) ^ 4 = 2 := by
  rw [show (4 : ℕ) = 2 * 2 from rfl, pow_mul, Real.sq_sqrt (Real.sqrt_nonneg _), Real.sq_sqrt (by norm_num)]

theorem sqrt_128_pow : Real.sqrt 128 ^ 4 = 16384 := by
  rw [show (4 : ℕ) = 2 * 2 from rfl, pow_mul, Real.sq_sqrt (by norm_num)]; norm_num

theorem slope0_value : (Named.named (F := Ideal) κ "slope0" (φ := .f32) 0x3F5744FD#32 : EReal) = slope 0 :=
  slope_of_pow 0 (by positivity) (by simp only [mul_pow, sqrt_two_pow, root_two_pow]; norm_num)

theorem slope1_value : (Named.named (F := Ideal) κ "slope1" (φ := .f32) 0x3F3504F3#32 : EReal) = slope 1 :=
  slope_of_pow 1 (by positivity) (by simp only [mul_pow, sqrt_two_pow, root_two_pow]; norm_num)

theorem slope2_value : (Named.named (F := Ideal) κ "slope2" (φ := .f32) 0x3F1837F0#32 : EReal) = slope 2 :=
  slope_of_pow 2 (by positivity) (by simp only [mul_pow, sqrt_two_pow, root_two_pow]; norm_num)

theorem slope3_value : (Scalar.ofBits .f32 0x3F000000#32 : Ideal .f32) = slope 3 := by
  rw [← slope_of_pow (x := 2 ^ 1) 3 (by positivity) (by norm_num)]
  show Ideal.ofBits .f32 0x3F000000#32 = _
  simp [Ideal.ofBits, Ideal.ieee, -EReal.coe_mul]
  norm_num

theorem slope4_value : (Named.named (F := Ideal) κ "slope4" (φ := .f32) 0x3ED744FD#32 : EReal) = slope 4 :=
  slope_of_pow 4 (by positivity) (by simp only [mul_pow, sqrt_two_pow, root_two_pow]; norm_num)

theorem slope5_value : (Named.named (F := Ideal) κ "slope5" (φ := .f32) 0x3EB504F3#32 : EReal) = slope 5 :=
  slope_of_pow 5 (by positivity) (by simp only [mul_pow, sqrt_two_pow, root_two_pow]; norm_num)

theorem slope6_value : (Named.named (F := Ideal) κ "slope6" (φ := .f32) 0x3E9837F0#32 : EReal) = slope 6 :=
  slope_of_pow 6 (by positivity) (by simp only [mul_pow, sqrt_two_pow, root_two_pow]; norm_num)

theorem slope7_value : (Scalar.ofBits .f32 0x3E800000#32 : Ideal .f32) = slope 7 := by
  rw [← slope_of_pow (x := 2 ^ 2) 7 (by positivity) (by norm_num)]
  show Ideal.ofBits .f32 0x3E800000#32 = _
  simp [Ideal.ofBits, Ideal.ieee, -EReal.coe_mul]
  norm_num

theorem slope8_value : (Named.named (F := Ideal) κ "slope8" (φ := .f32) 0x3E5744FD#32 : EReal) = slope 8 :=
  slope_of_pow 8 (by positivity) (by simp only [mul_pow, sqrt_two_pow, root_two_pow]; norm_num)

theorem slope9_value : (Named.named (F := Ideal) κ "slope9" (φ := .f32) 0x3E3504F3#32 : EReal) = slope 9 :=
  slope_of_pow 9 (by positivity) (by simp only [mul_pow, sqrt_two_pow, root_two_pow]; norm_num)

theorem slope10_value : (Named.named (F := Ideal) κ "slope10" (φ := .f32) 0x3E1837F0#32 : EReal) = slope 10 :=
  slope_of_pow 10 (by positivity) (by simp only [mul_pow, sqrt_two_pow, root_two_pow]; norm_num)

theorem slope11_value : (Scalar.ofBits .f32 0x3E000000#32 : Ideal .f32) = slope 11 := by
  rw [← slope_of_pow (x := 2 ^ 3) 11 (by positivity) (by norm_num)]
  show Ideal.ofBits .f32 0x3E000000#32 = _
  simp [Ideal.ofBits, Ideal.ieee, -EReal.coe_mul]
  norm_num

theorem slope12_value : (Named.named (F := Ideal) κ "slope12" (φ := .f32) 0x3DD744FD#32 : EReal) = slope 12 :=
  slope_of_pow 12 (by positivity) (by simp only [mul_pow, sqrt_two_pow, root_two_pow]; norm_num)

theorem slope13_value : (Named.named (F := Ideal) κ "scale" (φ := .f32) 0x3DB504F3#32 : EReal) = slope 13 :=
  slope_of_pow 13 (by positivity) (by rw [sqrt_128_pow]; norm_num)

theorem slope14_value : (Named.named (F := Ideal) κ "slope14" (φ := .f32) 0x3D9837F0#32 : EReal) = slope 14 :=
  slope_of_pow 14 (by positivity) (by simp only [mul_pow, sqrt_two_pow, root_two_pow]; norm_num)

theorem slope15_value : (Scalar.ofBits .f32 0x3D800000#32 : Ideal .f32) = slope 15 := by
  rw [← slope_of_pow (x := 2 ^ 4) 15 (by positivity) (by norm_num)]
  show Ideal.ofBits .f32 0x3D800000#32 = _
  simp [Ideal.ofBits, Ideal.ieee, -EReal.coe_mul]
  norm_num

theorem slope16_value : (Named.named (F := Ideal) κ "slope16" (φ := .f32) 0x3D5744FD#32 : EReal) = slope 16 :=
  slope_of_pow 16 (by positivity) (by simp only [mul_pow, sqrt_two_pow, root_two_pow]; norm_num)

theorem slope17_value : (Named.named (F := Ideal) κ "slope17" (φ := .f32) 0x3D3504F3#32 : EReal) = slope 17 :=
  slope_of_pow 17 (by positivity) (by simp only [mul_pow, sqrt_two_pow, root_two_pow]; norm_num)

theorem slope18_value : (Named.named (F := Ideal) κ "slope18" (φ := .f32) 0x3D1837F0#32 : EReal) = slope 18 :=
  slope_of_pow 18 (by positivity) (by simp only [mul_pow, sqrt_two_pow, root_two_pow]; norm_num)

theorem slope19_value : (Scalar.ofBits .f32 0x3D000000#32 : Ideal .f32) = slope 19 := by
  rw [← slope_of_pow (x := 2 ^ 5) 19 (by positivity) (by norm_num)]
  show Ideal.ofBits .f32 0x3D000000#32 = _
  simp [Ideal.ofBits, Ideal.ieee, -EReal.coe_mul]
  norm_num

theorem slope20_value : (Named.named (F := Ideal) κ "slope20" (φ := .f32) 0x3CD744FD#32 : EReal) = slope 20 :=
  slope_of_pow 20 (by positivity) (by simp only [mul_pow, sqrt_two_pow, root_two_pow]; norm_num)

theorem slope21_value : (Named.named (F := Ideal) κ "slope21" (φ := .f32) 0x3CB504F3#32 : EReal) = slope 21 :=
  slope_of_pow 21 (by positivity) (by simp only [mul_pow, sqrt_two_pow, root_two_pow]; norm_num)

theorem slope22_value : (Named.named (F := Ideal) κ "slope22" (φ := .f32) 0x3C9837F0#32 : EReal) = slope 22 :=
  slope_of_pow 22 (by positivity) (by simp only [mul_pow, sqrt_two_pow, root_two_pow]; norm_num)

theorem slope23_value : (Scalar.ofBits .f32 0x3C800000#32 : Ideal .f32) = slope 23 := by
  rw [← slope_of_pow (x := 2 ^ 6) 23 (by positivity) (by norm_num)]
  show Ideal.ofBits .f32 0x3C800000#32 = _
  simp [Ideal.ofBits, Ideal.ieee, -EReal.coe_mul]
  norm_num

theorem slope24_value : (Named.named (F := Ideal) κ "slope24" (φ := .f32) 0x3C5744FD#32 : EReal) = slope 24 :=
  slope_of_pow 24 (by positivity) (by simp only [mul_pow, sqrt_two_pow, root_two_pow]; norm_num)

theorem slope25_value : (Named.named (F := Ideal) κ "slope25" (φ := .f32) 0x3C3504F3#32 : EReal) = slope 25 :=
  slope_of_pow 25 (by positivity) (by simp only [mul_pow, sqrt_two_pow, root_two_pow]; norm_num)

theorem slope26_value : (Named.named (F := Ideal) κ "slope26" (φ := .f32) 0x3C1837F0#32 : EReal) = slope 26 :=
  slope_of_pow 26 (by positivity) (by simp only [mul_pow, sqrt_two_pow, root_two_pow]; norm_num)

theorem slope27_value : (Scalar.ofBits .f32 0x3C000000#32 : Ideal .f32) = slope 27 := by
  rw [← slope_of_pow (x := 2 ^ 7) 27 (by positivity) (by norm_num)]
  show Ideal.ofBits .f32 0x3C000000#32 = _
  simp [Ideal.ofBits, Ideal.ieee, -EReal.coe_mul]
  norm_num

theorem slope28_value : (Named.named (F := Ideal) κ "slope28" (φ := .f32) 0x3BD744FD#32 : EReal) = slope 28 :=
  slope_of_pow 28 (by positivity) (by simp only [mul_pow, sqrt_two_pow, root_two_pow]; norm_num)

theorem slope29_value : (Named.named (F := Ideal) κ "slope29" (φ := .f32) 0x3BB504F3#32 : EReal) = slope 29 :=
  slope_of_pow 29 (by positivity) (by simp only [mul_pow, sqrt_two_pow, root_two_pow]; norm_num)

theorem slope30_value : (Named.named (F := Ideal) κ "slope30" (φ := .f32) 0x3B9837F0#32 : EReal) = slope 30 :=
  slope_of_pow 30 (by positivity) (by simp only [mul_pow, sqrt_two_pow, root_two_pow]; norm_num)

theorem slope31_value : (Scalar.ofBits .f32 0x3B800000#32 : Ideal .f32) = slope 31 := by
  rw [← slope_of_pow (x := 2 ^ 8) 31 (by positivity) (by norm_num)]
  show Ideal.ofBits .f32 0x3B800000#32 = _
  simp [Ideal.ofBits, Ideal.ieee, -EReal.coe_mul]
  norm_num

end Cert.Proof
-- ==== Proof.HeadsLow.lean ====
module
public import proofs.«01_k».proof.Proof.Head
public import proofs.«01_k».proof.Proof.Slopes
@[expose] public section
set_option maxRecDepth 16384
noncomputable section
namespace Cert.Proof
open Idealize.ShloMosaic Idealize.ShloMosaic.TcCoe Idealize.SL.Sem
open Cert.KernelIdeal Cert.KernelIdeal.Gen

/-! The vectors the kernel's body stores for heads 0 to 15: each is a slice of its group's result. -/

variable (w : IVec S512x384 1) (W2 W3 W4 W5 W6 W7 Q0 Q1 Q2 Q3 : FVec Ideal S128x128 .bf16) (S0 S1 S2 S3 : EReal)

theorem head0 : k0_pay17 (F := Ideal) w k0_pay9 k0_pay10 (k0_pay12 (k0_pay11 W2) W3 W4) (k0_pay13 W5 W6 W7) (k0_pay14 Q0 Q1 Q2 Q3) (k0_pay15 k0_pay10) S0 S1 S2 S3
    = extractStridedSlice S128x128 ![0, 0] (groupOut (groupScores w (stacked4 Q0 Q1 Q2 Q3) (stacked3 W2 W3 W4)
        (perRow (slope 0) (slope 1) (slope 2) (slope 3))) (perRow S0 S1 S2 S3) (stacked3 W5 W6 W7))
        slices_S512x128_o0_0_S128x128 := by
  rw [← slope0_value, ← slope1_value, ← slope2_value, ← slope3_value]; rfl

theorem head1 : k0_pay18 (F := Ideal) w k0_pay9 k0_pay10 (k0_pay12 (k0_pay11 W2) W3 W4) (k0_pay13 W5 W6 W7) (k0_pay14 Q0 Q1 Q2 Q3) (k0_pay15 k0_pay10) S0 S1 S2 S3
    = extractStridedSlice S128x128 ![128, 0] (groupOut (groupScores w (stacked4 Q0 Q1 Q2 Q3) (stacked3 W2 W3 W4)
        (perRow (slope 0) (slope 1) (slope 2) (slope 3))) (perRow S0 S1 S2 S3) (stacked3 W5 W6 W7))
        slices_S512x128_o128_0_S128x128 := by
  rw [← slope0_value, ← slope1_value, ← slope2_value, ← slope3_value]; rfl

theorem head2 : k0_pay19 (F := Ideal) (k0_pay16 w k0_pay9 k0_pay10 (k0_pay12 (k0_pay11 W2) W3 W4) (k0_pay13 W5 W6 W7) (k0_pay14 Q0 Q1 Q2 Q3) (k0_pay15 k0_pay10) S0 S1 S2 S3)
    = extractStridedSlice S128x128 ![256, 0] (groupOut (groupScores w (stacked4 Q0 Q1 Q2 Q3) (stacked3 W2 W3 W4)
        (perRow (slope 0) (slope 1) (slope 2) (slope 3))) (perRow S0 S1 S2 S3) (stacked3 W5 W6 W7))
        slices_S512x128_o256_0_S128x128 := by
  rw [← slope0_value, ← slope1_value, ← slope2_value, ← slope3_value]; rfl

theorem head3 : k0_pay20 (F := Ideal) (k0_pay16 w k0_pay9 k0_pay10 (k0_pay12 (k0_pay11 W2) W3 W4) (k0_pay13 W5 W6 W7) (k0_pay14 Q0 Q1 Q2 Q3) (k0_pay15 k0_pay10) S0 S1 S2 S3)
    = extractStridedSlice S128x128 ![384, 0] (groupOut (groupScores w (stacked4 Q0 Q1 Q2 Q3) (stacked3 W2 W3 W4)
        (perRow (slope 0) (slope 1) (slope 2) (slope 3))) (perRow S0 S1 S2 S3) (stacked3 W5 W6 W7))
        slices_S512x128_o384_0_S128x128 := by
  rw [← slope0_value, ← slope1_value, ← slope2_value, ← slope3_value]; rfl

theorem head4 : k0_pay32 (F := Ideal) (k0_pay22 W5 W6 W7) (k0_pay26 k0_pay10 S0 S1 S2 S3) (k0_pay28 w k0_pay9 k0_pay10 (k0_pay21 W2 W3 W4) (k0_pay23 Q0 Q1 Q2 Q3) k0_pay24 k0_pay25 S0 S1 S2 S3) (k0_pay29 w k0_pay9 k0_pay10 (k0_pay21 W2 W3 W4) (k0_pay23 Q0 Q1 Q2 Q3) k0_pay24 k0_pay25 S0 S1 S2 S3) (k0_pay30 w k0_pay9 k0_pay10 (k0_pay21 W2 W3 W4) (k0_pay23 Q0 Q1 Q2 Q3) k0_pay24 k0_pay25 S0 S1 S2 S3)
    = extractStridedSlice S128x128 ![0, 0] (groupOut (groupScores w (stacked4 Q0 Q1 Q2 Q3) (stacked3 W2 W3 W4)
        (perRow (slope 4) (slope 5) (slope 6) (slope 7))) (perRow S0 S1 S2 S3) (stacked3 W5 W6 W7))
        slices_S512x128_o0_0_S128x128 := by
  rw [← slope4_value, ← slope5_value, ← slope6_value, ← slope7_value]; rfl

theorem head5 : k0_pay33 (F := Ideal) (k0_pay22 W5 W6 W7) (k0_pay26 k0_pay10 S0 S1 S2 S3) (k0_pay28 w k0_pay9 k0_pay10 (k0_pay21 W2 W3 W4) (k0_pay23 Q0 Q1 Q2 Q3) k0_pay24 k0_pay25 S0 S1 S2 S3) (k0_pay29 w k0_pay9 k0_pay10 (k0_pay21 W2 W3 W4) (k0_pay23 Q0 Q1 Q2 Q3) k0_pay24 k0_pay25 S0 S1 S2 S3) (k0_pay30 w k0_pay9 k0_pay10 (k0_pay21 W2 W3 W4) (k0_pay23 Q0 Q1 Q2 Q3) k0_pay24 k0_pay25 S0 S1 S2 S3)
    = extractStridedSlice S128x128 ![128, 0] (groupOut (groupScores w (stacked4 Q0 Q1 Q2 Q3) (stacked3 W2 W3 W4)
        (perRow (slope 4) (slope 5) (slope 6) (slope 7))) (perRow S0 S1 S2 S3) (stacked3 W5 W6 W7))
        slices_S512x128_o128_0_S128x128 := by
  rw [← slope4_value, ← slope5_value, ← slope6_value, ← slope7_value]; rfl

theorem head6 : k0_pay34 (F := Ideal) (k0_pay22 W5 W6 W7) (k0_pay26 k0_pay10 S0 S1 S2 S3) (k0_pay28 w k0_pay9 k0_pay10 (k0_pay21 W2 W3 W4) (k0_pay23 Q0 Q1 Q2 Q3) k0_pay24 k0_pay25 S0 S1 S2 S3) (k0_pay29 w k0_pay9 k0_pay10 (k0_pay21 W2 W3 W4) (k0_pay23 Q0 Q1 Q2 Q3) k0_pay24 k0_pay25 S0 S1 S2 S3) (k0_pay30 w k0_pay9 k0_pay10 (k0_pay21 W2 W3 W4) (k0_pay23 Q0 Q1 Q2 Q3) k0_pay24 k0_pay25 S0 S1 S2 S3)
    = extractStridedSlice S128x128 ![256, 0] (groupOut (groupScores w (stacked4 Q0 Q1 Q2 Q3) (stacked3 W2 W3 W4)
        (perRow (slope 4) (slope 5) (slope 6) (slope 7))) (perRow S0 S1 S2 S3) (stacked3 W5 W6 W7))
        slices_S512x128_o256_0_S128x128 := by
  rw [← slope4_value, ← slope5_value, ← slope6_value, ← slope7_value]; rfl

theorem head7 : k0_pay35 (F := Ideal) (k0_pay22 W5 W6 W7) (k0_pay26 k0_pay10 S0 S1 S2 S3) (k0_pay28 w k0_pay9 k0_pay10 (k0_pay21 W2 W3 W4) (k0_pay23 Q0 Q1 Q2 Q3) k0_pay24 k0_pay25 S0 S1 S2 S3) (k0_pay29 w k0_pay9 k0_pay10 (k0_pay21 W2 W3 W4) (k0_pay23 Q0 Q1 Q2 Q3) k0_pay24 k0_pay25 S0 S1 S2 S3) (k0_pay30 w k0_pay9 k0_pay10 (k0_pay21 W2 W3 W4) (k0_pay23 Q0 Q1 Q2 Q3) k0_pay24 k0_pay25 S0 S1 S2 S3)
    = extractStridedSlice S128x128 ![384, 0] (groupOut (groupScores w (stacked4 Q0 Q1 Q2 Q3) (stacked3 W2 W3 W4)
        (perRow (slope 4) (slope 5) (slope 6) (slope 7))) (perRow S0 S1 S2 S3) (stacked3 W5 W6 W7))
        slices_S512x128_o384_0_S128x128 := by
  rw [← slope4_value, ← slope5_value, ← slope6_value, ← slope7_value]; rfl

theorem head8 : k0_pay42 (F := Ideal) w k0_pay9 (k0_pay36 W2 W3 W4) (k0_pay37 W5 W6 W7) (k0_pay38 Q0 Q1 Q2 Q3) (k0_pay39 k0_pay10) (k0_pay40 k0_pay10 S0 S1 S2 S3)
    = extractStridedSlice S128x128 ![0, 0] (groupOut (groupScores w (stacked4 Q0 Q1 Q2 Q3) (stacked3 W2 W3 W4)
        (perRow (slope 8) (slope 9) (slope 10) (slope 11))) (perRow S0 S1 S2 S3) (stacked3 W5 W6 W7))
        slices_S512x128_o0_0_S128x128 := by
  rw [← slope8_value, ← slope9_value, ← slope10_value, ← slope11_value]; rfl

theorem head9 : k0_pay43 (F := Ideal) w k0_pay9 (k0_pay36 W2 W3 W4) (k0_pay37 W5 W6 W7) (k0_pay38 Q0 Q1 Q2 Q3) (k0_pay39 k0_pay10) (k0_pay40 k0_pay10 S0 S1 S2 S3)
    = extractStridedSlice S128x128 ![128, 0] (groupOut (groupScores w (stacked4 Q0 Q1 Q2 Q3) (stacked3 W2 W3 W4)
        (perRow (slope 8) (slope 9) (slope 10) (slope 11))) (perRow S0 S1 S2 S3) (stacked3 W5 W6 W7))
        slices_S512x128_o128_0_S128x128 := by
  rw [← slope8_value, ← slope9_value, ← slope10_value, ← slope11_value]; rfl

theorem head10 : k0_pay44 (F := Ideal) w k0_pay9 (k0_pay36 W2 W3 W4) (k0_pay37 W5 W6 W7) (k0_pay38 Q0 Q1 Q2 Q3) (k0_pay39 k0_pay10) (k0_pay40 k0_pay10 S0 S1 S2 S3)
    = extractStridedSlice S128x128 ![256, 0] (groupOut (groupScores w (stacked4 Q0 Q1 Q2 Q3) (stacked3 W2 W3 W4)
        (perRow (slope 8) (slope 9) (slope 10) (slope 11))) (perRow S0 S1 S2 S3) (stacked3 W5 W6 W7))
        slices_S512x128_o256_0_S128x128 := by
  rw [← slope8_value, ← slope9_value, ← slope10_value, ← slope11_value]; rfl

theorem head11 : k0_pay45 (F := Ideal) w k0_pay9 (k0_pay36 W2 W3 W4) (k0_pay37 W5 W6 W7) (k0_pay38 Q0 Q1 Q2 Q3) (k0_pay39 k0_pay10) (k0_pay40 k0_pay10 S0 S1 S2 S3)
    = extractStridedSlice S128x128 ![384, 0] (groupOut (groupScores w (stacked4 Q0 Q1 Q2 Q3) (stacked3 W2 W3 W4)
        (perRow (slope 8) (slope 9) (slope 10) (slope 11))) (perRow S0 S1 S2 S3) (stacked3 W5 W6 W7))
        slices_S512x128_o384_0_S128x128 := by
  rw [← slope8_value, ← slope9_value, ← slope10_value, ← slope11_value]; rfl

theorem head12 : k0_pay52 (F := Ideal) w k0_pay9 k0_pay10 (k0_pay47 (k0_pay46 W2) W3 W4) (k0_pay48 W5 W6 W7) (k0_pay49 Q0 Q1 Q2 Q3) (k0_pay50 k0_pay10) S0 S1 S2 S3
    = extractStridedSlice S128x128 ![0, 0] (groupOut (groupScores w (stacked4 Q0 Q1 Q2 Q3) (stacked3 W2 W3 W4)
        (perRow (slope 12) (slope 13) (slope 14) (slope 15))) (perRow S0 S1 S2 S3) (stacked3 W5 W6 W7))
        slices_S512x128_o0_0_S128x128 := by
  rw [← slope12_value, ← slope13_value, ← slope14_value, ← slope15_value]; rfl

theorem head13 : k0_pay53 (F := Ideal) w k0_pay9 k0_pay10 (k0_pay47 (k0_pay46 W2) W3 W4) (k0_pay48 W5 W6 W7) (k0_pay49 Q0 Q1 Q2 Q3) (k0_pay50 k0_pay10) S0 S1 S2 S3
    = extractStridedSlice S128x128 ![128, 0] (groupOut (groupScores w (stacked4 Q0 Q1 Q2 Q3) (stacked3 W2 W3 W4)
        (perRow (slope 12) (slope 13) (slope 14) (slope 15))) (perRow S0 S1 S2 S3) (stacked3 W5 W6 W7))
        slices_S512x128_o128_0_S128x128 := by
  rw [← slope12_value, ← slope13_value, ← slope14_value, ← slope15_value]; rfl

theorem head14 : k0_pay54 (F := Ideal) (k0_pay51 w k0_pay9 k0_pay10 (k0_pay47 (k0_pay46 W2) W3 W4) (k0_pay48 W5 W6 W7) (k0_pay49 Q0 Q1 Q2 Q3) (k0_pay50 k0_pay10) S0 S1 S2 S3)
    = extractStridedSlice S128x128 ![256, 0] (groupOut (groupScores w (stacked4 Q0 Q1 Q2 Q3) (stacked3 W2 W3 W4)
        (perRow (slope 12) (slope 13) (slope 14) (slope 15))) (perRow S0 S1 S2 S3) (stacked3 W5 W6 W7))
        slices_S512x128_o256_0_S128x128 := by
  rw [← slope12_value, ← slope13_value, ← slope14_value, ← slope15_value]; rfl

theorem head15 : k0_pay55 (F := Ideal) (k0_pay51 w k0_pay9 k0_pay10 (k0_pay47 (k0_pay46 W2) W3 W4) (k0_pay48 W5 W6 W7) (k0_pay49 Q0 Q1 Q2 Q3) (k0_pay50 k0_pay10) S0 S1 S2 S3)
    = extractStridedSlice S128x128 ![384, 0] (groupOut (groupScores w (stacked4 Q0 Q1 Q2 Q3) (stacked3 W2 W3 W4)
        (perRow (slope 12) (slope 13) (slope 14) (slope 15))) (perRow S0 S1 S2 S3) (stacked3 W5 W6 W7))
        slices_S512x128_o384_0_S128x128 := by
  rw [← slope12_value, ← slope13_value, ← slope14_value, ← slope15_value]; rfl

end Cert.Proof
-- ==== Proof.HeadsHigh.lean ====
module
public import proofs.«01_k».proof.Proof.Head
public import proofs.«01_k».proof.Proof.Slopes
@[expose] public section
set_option maxRecDepth 16384
noncomputable section
namespace Cert.Proof
open Idealize.ShloMosaic Idealize.ShloMosaic.TcCoe Idealize.SL.Sem
open Cert.KernelIdeal Cert.KernelIdeal.Gen

/-! The vectors the kernel's body stores for heads 16 to 31: each is a slice of its group's result. -/

variable (w : IVec S512x384 1) (W2 W3 W4 W5 W6 W7 Q0 Q1 Q2 Q3 : FVec Ideal S128x128 .bf16) (S0 S1 S2 S3 : EReal)

theorem head16 : k0_pay67 (F := Ideal) (k0_pay57 W5 W6 W7) (k0_pay61 k0_pay10 S0 S1 S2 S3) (k0_pay63 w k0_pay9 k0_pay10 (k0_pay56 W2 W3 W4) (k0_pay58 Q0 Q1 Q2 Q3) k0_pay59 k0_pay60 S0 S1 S2 S3) (k0_pay64 w k0_pay9 k0_pay10 (k0_pay56 W2 W3 W4) (k0_pay58 Q0 Q1 Q2 Q3) k0_pay59 k0_pay60 S0 S1 S2 S3) (k0_pay65 w k0_pay9 k0_pay10 (k0_pay56 W2 W3 W4) (k0_pay58 Q0 Q1 Q2 Q3) k0_pay59 k0_pay60 S0 S1 S2 S3)
    = extractStridedSlice S128x128 ![0, 0] (groupOut (groupScores w (stacked4 Q0 Q1 Q2 Q3) (stacked3 W2 W3 W4)
        (perRow (slope 16) (slope 17) (slope 18) (slope 19))) (perRow S0 S1 S2 S3) (stacked3 W5 W6 W7))
        slices_S512x128_o0_0_S128x128 := by
  rw [← slope16_value, ← slope17_value, ← slope18_value, ← slope19_value]; rfl

theorem head17 : k0_pay68 (F := Ideal) (k0_pay57 W5 W6 W7) (k0_pay61 k0_pay10 S0 S1 S2 S3) (k0_pay63 w k0_pay9 k0_pay10 (k0_pay56 W2 W3 W4) (k0_pay58 Q0 Q1 Q2 Q3) k0_pay59 k0_pay60 S0 S1 S2 S3) (k0_pay64 w k0_pay9 k0_pay10 (k0_pay56 W2 W3 W4) (k0_pay58 Q0 Q1 Q2 Q3) k0_pay59 k0_pay60 S0 S1 S2 S3) (k0_pay65 w k0_pay9 k0_pay10 (k0_pay56 W2 W3 W4) (k0_pay58 Q0 Q1 Q2 Q3) k0_pay59 k0_pay60 S0 S1 S2 S3)
    = extractStridedSlice S128x128 ![128, 0] (groupOut (groupScores w (stacked4 Q0 Q1 Q2 Q3) (stacked3 W2 W3 W4)
        (perRow (slope 16) (slope 17) (slope 18) (slope 19))) (perRow S0 S1 S2 S3) (stacked3 W5 W6 W7))
        slices_S512x128_o128_0_S128x128 := by
  rw [← slope16_value, ← slope17_value, ← slope18_value, ← slope19_value]; rfl

theorem head18 : k0_pay69 (F := Ideal) (k0_pay57 W5 W6 W7) (k0_pay61 k0_pay10 S0 S1 S2 S3) (k0_pay63 w k0_pay9 k0_pay10 (k0_pay56 W2 W3 W4) (k0_pay58 Q0 Q1 Q2 Q3) k0_pay59 k0_pay60 S0 S1 S2 S3) (k0_pay64 w k0_pay9 k0_pay10 (k0_pay56 W2 W3 W4) (k0_pay58 Q0 Q1 Q2 Q3) k0_pay59 k0_pay60 S0 S1 S2 S3) (k0_pay65 w k0_pay9 k0_pay10 (k0_pay56 W2 W3 W4) (k0_pay58 Q0 Q1 Q2 Q3) k0_pay59 k0_pay60 S0 S1 S2 S3)
    = extractStridedSlice S128x128 ![256, 0] (groupOut (groupScores w (stacked4 Q0 Q1 Q2 Q3) (stacked3 W2 W3 W4)
        (perRow (slope 16) (slope 17) (slope 18) (slope 19))) (perRow S0 S1 S2 S3) (stacked3 W5 W6 W7))
        slices_S512x128_o256_0_S128x128 := by
  rw [← slope16_value, ← slope17_value, ← slope18_value, ← slope19_value]; rfl

theorem head19 : k0_pay70 (F := Ideal) (k0_pay57 W5 W6 W7) (k0_pay61 k0_pay10 S0 S1 S2 S3) (k0_pay63 w k0_pay9 k0_pay10 (k0_pay56 W2 W3 W4) (k0_pay58 Q0 Q1 Q2 Q3) k0_pay59 k0_pay60 S0 S1 S2 S3) (k0_pay64 w k0_pay9 k0_pay10 (k0_pay56 W2 W3 W4) (k0_pay58 Q0 Q1 Q2 Q3) k0_pay59 k0_pay60 S0 S1 S2 S3) (k0_pay65 w k0_pay9 k0_pay10 (k0_pay56 W2 W3 W4) (k0_pay58 Q0 Q1 Q2 Q3) k0_pay59 k0_pay60 S0 S1 S2 S3)
    = extractStridedSlice S128x128 ![384, 0] (groupOut (groupScores w (stacked4 Q0 Q1 Q2 Q3) (stacked3 W2 W3 W4)
        (perRow (slope 16) (slope 17) (slope 18) (slope 19))) (perRow S0 S1 S2 S3) (stacked3 W5 W6 W7))
        slices_S512x128_o384_0_S128x128 := by
  rw [← slope16_value, ← slope17_value, ← slope18_value, ← slope19_value]; rfl

theorem head20 : k0_pay77 (F := Ideal) w k0_pay9 (k0_pay71 W2 W3 W4) (k0_pay72 W5 W6 W7) (k0_pay73 Q0 Q1 Q2 Q3) (k0_pay74 k0_pay10) (k0_pay75 k0_pay10 S0 S1 S2 S3)
    = extractStridedSlice S128x128 ![0, 0] (groupOut (groupScores w (stacked4 Q0 Q1 Q2 Q3) (stacked3 W2 W3 W4)
        (perRow (slope 20) (slope 21) (slope 22) (slope 23))) (perRow S0 S1 S2 S3) (stacked3 W5 W6 W7))
        slices_S512x128_o0_0_S128x128 := by
  rw [← slope20_value, ← slope21_value, ← slope22_value, ← slope23_value]; rfl

theorem head21 : k0_pay78 (F := Ideal) w k0_pay9 (k0_pay71 W2 W3 W4) (k0_pay72 W5 W6 W7) (k0_pay73 Q0 Q1 Q2 Q3) (k0_pay74 k0_pay10) (k0_pay75 k0_pay10 S0 S1 S2 S3)
    = extractStridedSlice S128x128 ![128, 0] (groupOut (groupScores w (stacked4 Q0 Q1 Q2 Q3) (stacked3 W2 W3 W4)
        (perRow (slope 20) (slope 21) (slope 22) (slope 23))) (perRow S0 S1 S2 S3) (stacked3 W5 W6 W7))
        slices_S512x128_o128_0_S128x128 := by
  rw [← slope20_value, ← slope21_value, ← slope22_value, ← slope23_value]; rfl

theorem head22 : k0_pay79 (F := Ideal) w k0_pay9 (k0_pay71 W2 W3 W4) (k0_pay72 W5 W6 W7) (k0_pay73 Q0 Q1 Q2 Q3) (k0_pay74 k0_pay10) (k0_pay75 k0_pay10 S0 S1 S2 S3)
    = extractStridedSlice S128x128 ![256, 0] (groupOut (groupScores w (stacked4 Q0 Q1 Q2 Q3) (stacked3 W2 W3 W4)
        (perRow (slope 20) (slope 21) (slope 22) (slope 23))) (perRow S0 S1 S2 S3) (stacked3 W5 W6 W7))
        slices_S512x128_o256_0_S128x128 := by
  rw [← slope20_value, ← slope21_value, ← slope22_value, ← slope23_value]; rfl

theorem head23 : k0_pay80 (F := Ideal) w k0_pay9 (k0_pay71 W2 W3 W4) (k0_pay72 W5 W6 W7) (k0_pay73 Q0 Q1 Q2 Q3) (k0_pay74 k0_pay10) (k0_pay75 k0_pay10 S0 S1 S2 S3)
    = extractStridedSlice S128x128 ![384, 0] (groupOut (groupScores w (stacked4 Q0 Q1 Q2 Q3) (stacked3 W2 W3 W4)
        (perRow (slope 20) (slope 21) (slope 22) (slope 23))) (perRow S0 S1 S2 S3) (stacked3 W5 W6 W7))
        slices_S512x128_o384_0_S128x128 := by
  rw [← slope20_value, ← slope21_value, ← slope22_value, ← slope23_value]; rfl

theorem head24 : k0_pay87 (F := Ideal) w k0_pay9 k0_pay10 (k0_pay82 (k0_pay81 W2) W3 W4) (k0_pay83 W5 W6 W7) (k0_pay84 Q0 Q1 Q2 Q3) (k0_pay85 k0_pay10) S0 S1 S2 S3
    = extractStridedSlice S128x128 ![0, 0] (groupOut (groupScores w (stacked4 Q0 Q1 Q2 Q3) (stacked3 W2 W3 W4)
        (perRow (slope 24) (slope 25) (slope 26) (slope 27))) (perRow S0 S1 S2 S3) (stacked3 W5 W6 W7))
        slices_S512x128_o0_0_S128x128 := by
  rw [← slope24_value, ← slope25_value, ← slope26_value, ← slope27_value]; rfl

theorem head25 : k0_pay88 (F := Ideal) w k0_pay9 k0_pay10 (k0_pay82 (k0_pay81 W2) W3 W4) (k0_pay83 W5 W6 W7) (k0_pay84 Q0 Q1 Q2 Q3) (k0_pay85 k0_pay10) S0 S1 S2 S3
    = extractStridedSlice S128x128 ![128, 0] (groupOut (groupScores w (stacked4 Q0 Q1 Q2 Q3) (stacked3 W2 W3 W4)
        (perRow (slope 24) (slope 25) (slope 26) (slope 27))) (perRow S0 S1 S2 S3) (stacked3 W5 W6 W7))
        slices_S512x128_o128_0_S128x128 := by
  rw [← slope24_value, ← slope25_value, ← slope26_value, ← slope27_value]; rfl

theorem head26 : k0_pay89 (F := Ideal) (k0_pay86 w k0_pay9 k0_pay10 (k0_pay82 (k0_pay81 W2) W3 W4) (k0_pay83 W5 W6 W7) (k0_pay84 Q0 Q1 Q2 Q3) (k0_pay85 k0_pay10) S0 S1 S2 S3)
    = extractStridedSlice S128x128 ![256, 0] (groupOut (groupScores w (stacked4 Q0 Q1 Q2 Q3) (stacked3 W2 W3 W4)
        (perRow (slope 24) (slope 25) (slope 26) (slope 27))) (perRow S0 S1 S2 S3) (stacked3 W5 W6 W7))
        slices_S512x128_o256_0_S128x128 := by
  rw [← slope24_value, ← slope25_value, ← slope26_value, ← slope27_value]; rfl

theorem head27 : k0_pay90 (F := Ideal) (k0_pay86 w k0_pay9 k0_pay10 (k0_pay82 (k0_pay81 W2) W3 W4) (k0_pay83 W5 W6 W7) (k0_pay84 Q0 Q1 Q2 Q3) (k0_pay85 k0_pay10) S0 S1 S2 S3)
    = extractStridedSlice S128x128 ![384, 0] (groupOut (groupScores w (stacked4 Q0 Q1 Q2 Q3) (stacked3 W2 W3 W4)
        (perRow (slope 24) (slope 25) (slope 26) (slope 27))) (perRow S0 S1 S2 S3) (stacked3 W5 W6 W7))
        slices_S512x128_o384_0_S128x128 := by
  rw [← slope24_value, ← slope25_value, ← slope26_value, ← slope27_value]; rfl

theorem head28 : k0_pay2 (F := Ideal) (k0_pay92 W5 W6 W7) (k0_pay96 k0_pay10 S0 S1 S2 S3) (k0_pay98 w k0_pay9 k0_pay10 (k0_pay91 W2 W3 W4) (k0_pay93 Q0 Q1 Q2 Q3) k0_pay94 k0_pay95 S0 S1 S2 S3) (k0_pay99 w k0_pay9 k0_pay10 (k0_pay91 W2 W3 W4) (k0_pay93 Q0 Q1 Q2 Q3) k0_pay94 k0_pay95 S0 S1 S2 S3) (k0_pay100 w k0_pay9 k0_pay10 (k0_pay91 W2 W3 W4) (k0_pay93 Q0 Q1 Q2 Q3) k0_pay94 k0_pay95 S0 S1 S2 S3)
    = extractStridedSlice S128x128 ![0, 0] (groupOut (groupScores w (stacked4 Q0 Q1 Q2 Q3) (stacked3 W2 W3 W4)
        (perRow (slope 28) (slope 29) (slope 30) (slope 31))) (perRow S0 S1 S2 S3) (stacked3 W5 W6 W7))
        slices_S512x128_o0_0_S128x128 := by
  rw [← slope28_value, ← slope29_value, ← slope30_value, ← slope31_value]; rfl

theorem head29 : k0_pay3 (F := Ideal) (k0_pay92 W5 W6 W7) (k0_pay96 k0_pay10 S0 S1 S2 S3) (k0_pay98 w k0_pay9 k0_pay10 (k0_pay91 W2 W3 W4) (k0_pay93 Q0 Q1 Q2 Q3) k0_pay94 k0_pay95 S0 S1 S2 S3) (k0_pay99 w k0_pay9 k0_pay10 (k0_pay91 W2 W3 W4) (k0_pay93 Q0 Q1 Q2 Q3) k0_pay94 k0_pay95 S0 S1 S2 S3) (k0_pay100 w k0_pay9 k0_pay10 (k0_pay91 W2 W3 W4) (k0_pay93 Q0 Q1 Q2 Q3) k0_pay94 k0_pay95 S0 S1 S2 S3)
    = extractStridedSlice S128x128 ![128, 0] (groupOut (groupScores w (stacked4 Q0 Q1 Q2 Q3) (stacked3 W2 W3 W4)
        (perRow (slope 28) (slope 29) (slope 30) (slope 31))) (perRow S0 S1 S2 S3) (stacked3 W5 W6 W7))
        slices_S512x128_o128_0_S128x128 := by
  rw [← slope28_value, ← slope29_value, ← slope30_value, ← slope31_value]; rfl

theorem head30 : k0_pay4 (F := Ideal) (k0_pay92 W5 W6 W7) (k0_pay96 k0_pay10 S0 S1 S2 S3) (k0_pay98 w k0_pay9 k0_pay10 (k0_pay91 W2 W3 W4) (k0_pay93 Q0 Q1 Q2 Q3) k0_pay94 k0_pay95 S0 S1 S2 S3) (k0_pay99 w k0_pay9 k0_pay10 (k0_pay91 W2 W3 W4) (k0_pay93 Q0 Q1 Q2 Q3) k0_pay94 k0_pay95 S0 S1 S2 S3) (k0_pay100 w k0_pay9 k0_pay10 (k0_pay91 W2 W3 W4) (k0_pay93 Q0 Q1 Q2 Q3) k0_pay94 k0_pay95 S0 S1 S2 S3)
    = extractStridedSlice S128x128 ![256, 0] (groupOut (groupScores w (stacked4 Q0 Q1 Q2 Q3) (stacked3 W2 W3 W4)
        (perRow (slope 28) (slope 29) (slope 30) (slope 31))) (perRow S0 S1 S2 S3) (stacked3 W5 W6 W7))
        slices_S512x128_o256_0_S128x128 := by
  rw [← slope28_value, ← slope29_value, ← slope30_value, ← slope31_value]; rfl

theorem head31 : k0_pay5 (F := Ideal) (k0_pay92 W5 W6 W7) (k0_pay96 k0_pay10 S0 S1 S2 S3) (k0_pay98 w k0_pay9 k0_pay10 (k0_pay91 W2 W3 W4) (k0_pay93 Q0 Q1 Q2 Q3) k0_pay94 k0_pay95 S0 S1 S2 S3) (k0_pay99 w k0_pay9 k0_pay10 (k0_pay91 W2 W3 W4) (k0_pay93 Q0 Q1 Q2 Q3) k0_pay94 k0_pay95 S0 S1 S2 S3) (k0_pay100 w k0_pay9 k0_pay10 (k0_pay91 W2 W3 W4) (k0_pay93 Q0 Q1 Q2 Q3) k0_pay94 k0_pay95 S0 S1 S2 S3)
    = extractStridedSlice S128x128 ![384, 0] (groupOut (groupScores w (stacked4 Q0 Q1 Q2 Q3) (stacked3 W2 W3 W4)
        (perRow (slope 28) (slope 29) (slope 30) (slope 31))) (perRow S0 S1 S2 S3) (stacked3 W5 W6 W7))
        slices_S512x128_o384_0_S128x128 := by
  rw [← slope28_value, ← slope29_value, ← slope30_value, ← slope31_value]; rfl

end Cert.Proof
-- ==== Proof.Block.lean ====
module
public import proofs.«01_k».proof.Proof.Gen.KernelIdeal.Value
public import proofs.«01_k».proof.Proof.Pieces
public import proofs.«01_k».proof.Proof.HeadsLow
public import proofs.«01_k».proof.Proof.HeadsHigh
@[expose] public section
set_option maxRecDepth 16384
noncomputable section
namespace Cert.Proof
open Idealize.ShloMosaic Idealize.ShloMosaic.TcCoe Idealize.SL.Sem
open Cert.KernelIdeal Cert.KernelIdeal.Gen

/-! The block a step of the grid leaves: thirty-two heads, each one slice of its group's result. -/

theorem ld_first {S : Vec Ideal S32 .f32} (o : Nat)
    {hb : ∀ a, (![o] : Fin 1 → Nat) a + (![1] : Fin 1 → Nat) a ≤ S32.size a} {hn} :
    View.ld S (Rect.unit ![o] ![1] hb) (Shape.Idx.first hn) = rd1 S o := by
  have h1 : o + 1 ≤ 32 := hb 0
  unfold rd1
  rw [dif_pos (by omega)]
  refine View.ld_unit_apply_of _ _ _ _ _ _ fun a => ?_
  match a with
  | 0 => rfl

/-- Whether a word leaves a remainder of zero by `k` (the remainder taken with the divisor's sign). -/
def wrapRem (a k : BitVec 32) : BitVec 32 :=
  Scalar.select (Scalar.andi (Scalar.xori (Scalar.cmpi .slt (Scalar.remsi a k) 0#32) 0#1) (Scalar.cmpi .ne (Scalar.remsi a k) 0#32))
    (Scalar.addi (Scalar.remsi a k) k) (Scalar.remsi a k)

/-- The first key a block may see, counted from the block's own first token. -/
def loWord (a : BitVec 32) : BitVec 32 :=
  Scalar.select (Scalar.select (Scalar.cmpi .slt a 128#32) (Scalar.cmpi .eq (wrapRem a 16#32) 0#32)
    (Scalar.cmpi .eq (wrapRem (Scalar.subi a 128#32) 32#32) 0#32)) 0#32 4294967168#32

/-- One past the last key a block may see, counted likewise. -/
def hiWord (a : BitVec 32) : BitVec 32 :=
  Scalar.select (Scalar.select (Scalar.cmpi .slt a 128#32) (Scalar.cmpi .eq (wrapRem a 16#32) 15#32)
    (Scalar.cmpi .eq (wrapRem (Scalar.subi a 128#32) 32#32) 31#32)) 128#32 256#32

/-- The keys each row of block `a` sees, as the kernel computes them. -/
def seenWord (a : BitVec 32) : IVec S512x384 1 :=
  k0_pay8 a (loWord a) (Scalar.cmpi .slt a 128#32) 16#32 (Scalar.remsi a 16#32) (Scalar.cmpi .ne (Scalar.remsi a 16#32) 0#32)
    (Scalar.xori (Scalar.cmpi .slt (Scalar.remsi a 16#32) 0#32) 0#1)

theorem loWord_eq : ∀ n : Fin 256, loWord (BitVec.ofNat 32 n.val) = BitVec.ofInt 32 (if isFirst n.val then 0 else -128) := by
  decide +kernel

theorem hiWord_eq : ∀ n : Fin 256, hiWord (BitVec.ofNat 32 n.val) = BitVec.ofInt 32 (if isLast n.val then 128 else 256) := by
  decide +kernel

theorem seenWord_apply (n : Fin 256) (R : Fin 512) (j : Fin 384) :
    seenWord (BitVec.ofNat 32 n.val) (ix2 R j) = 1#1 ↔ sees n.val (R.val % 128) j.val := by
  have hj := j.isLt
  have hg := gap_nonneg (R.val % 128) j.val
  have hg' := gap_lt (Nat.mod_lt R.val (by decide : 128 > 0) |>.trans (by decide : 128 < 512)) hj
  change IntOp.andi (IntOp.cmpi .sle (k0_pay7 (ix2 R j)) 128#32)
    (IntOp.andi (IntOp.cmpi .sge (k0_pay6 (ix2 R j)) (loWord (BitVec.ofNat 32 n.val)))
      (IntOp.cmpi .slt (k0_pay6 (ix2 R j)) (hiWord (BitVec.ofNat 32 n.val)))) = 1#1 ↔ _
  rw [dist_word, key_word, loWord_eq, hiWord_eq, andi_bits, andi_bits]
  unfold sees
  refine and_congr ?_ (and_congr ?_ ?_)
  · exact sle_ofInt (b := 128) (by omega) (by omega)
  · rw [sge_ofInt (by omega) (by constructor <;> (split <;> norm_num))]
    split <;> rename_i h
    · exact ⟨fun a _ => by omega, fun a => by have := a h; omega⟩
    · exact ⟨fun _ a => absurd a h, fun _ => by omega⟩
  · rw [slt_ofInt (by omega) (by constructor <;> (split <;> norm_num))]
    split <;> rename_i h
    · exact ⟨fun a _ => by omega, fun a => by have := a h; omega⟩
    · exact ⟨fun _ a => absurd a h, fun _ => by omega⟩

theorem coords_val : ∀ t : Fin 256, (grid0.coords t 0).val = t.val := by decide +kernel

theorem block_apply (m : (ℓ : Loc nD τ sig) → Buf (Elt Ideal) ℓ) (c : Dev nD) (t : Fin cfg0.N) (y : S128x4096.Idx) :
    outsAt0 m c t y = blockOut t.val (X0_1 m c t) (iblk m c 2 t) (iblk m c 3 t) (iblk m c 4 t) (iblk m c 5 t) (iblk m c 6 t)
      (iblk m c 7 t) (rd1 (iblk m c 0 t)) (y 0).val ((y 1).val / 128) ((y 1).val % 128) := by
  have hw := seenWord_apply t
  rw [← coords_val t] at hw ⊢
  unfold outsAt0
  frame_out
  canon_tiles x h
  · exact (congrFun (head31 (seenWord (BitVec.ofNat 32 (grid0.coords t 0).val)) _ _ _ _ _ _ _ _ _ _ _ _ _ _) x).trans
      (piece3 (h := 31) hw (Q := X0_1 m c t) (SK := rd1 (iblk m c 0 t)) rfl rfl rfl rfl (ld_first 31) h0 h1)
  · exact (congrFun (head30 (seenWord (BitVec.ofNat 32 (grid0.coords t 0).val)) _ _ _ _ _ _ _ _ _ _ _ _ _ _) x).trans
      (piece2 (h := 30) hw (Q := X0_1 m c t) (SK := rd1 (iblk m c 0 t)) rfl rfl rfl rfl (ld_first 30) h0 h1)
  · exact (congrFun (head29 (seenWord (BitVec.ofNat 32 (grid0.coords t 0).val)) _ _ _ _ _ _ _ _ _ _ _ _ _ _) x).trans
      (piece1 (h := 29) hw (Q := X0_1 m c t) (SK := rd1 (iblk m c 0 t)) rfl rfl rfl rfl (ld_first 29) h0 h1)
  · exact (congrFun (head28 (seenWord (BitVec.ofNat 32 (grid0.coords t 0).val)) _ _ _ _ _ _ _ _ _ _ _ _ _ _) x).trans
      (piece0 (h := 28) hw (Q := X0_1 m c t) (SK := rd1 (iblk m c 0 t)) rfl rfl rfl rfl (ld_first 28) h0 h1)
  · exact (congrFun (head27 (seenWord (BitVec.ofNat 32 (grid0.coords t 0).val)) _ _ _ _ _ _ _ _ _ _ _ _ _ _) x).trans
      (piece3 (h := 27) hw (Q := X0_1 m c t) (SK := rd1 (iblk m c 0 t)) rfl rfl rfl rfl (ld_first 27) h0 h1)
  · exact (congrFun (head26 (seenWord (BitVec.ofNat 32 (grid0.coords t 0).val)) _ _ _ _ _ _ _ _ _ _ _ _ _ _) x).trans
      (piece2 (h := 26) hw (Q := X0_1 m c t) (SK := rd1 (iblk m c 0 t)) rfl rfl rfl rfl (ld_first 26) h0 h1)
  · exact (congrFun (head25 (seenWord (BitVec.ofNat 32 (grid0.coords t 0).val)) _ _ _ _ _ _ _ _ _ _ _ _ _ _) x).trans
      (piece1 (h := 25) hw (Q := X0_1 m c t) (SK := rd1 (iblk m c 0 t)) rfl rfl rfl rfl (ld_first 25) h0 h1)
  · exact (congrFun (head24 (seenWord (BitVec.ofNat 32 (grid0.coords t 0).val)) _ _ _ _ _ _ _ _ _ _ _ _ _ _) x).trans
      (piece0 (h := 24) hw (Q := X0_1 m c t) (SK := rd1 (iblk m c 0 t)) rfl rfl rfl rfl (ld_first 24) h0 h1)
  · exact (congrFun (head23 (seenWord (BitVec.ofNat 32 (grid0.coords t 0).val)) _ _ _ _ _ _ _ _ _ _ _ _ _ _) x).trans
      (piece3 (h := 23) hw (Q := X0_1 m c t) (SK := rd1 (iblk m c 0 t)) rfl rfl rfl rfl (ld_first 23) h0 h1)
  · exact (congrFun (head22 (seenWord (BitVec.ofNat 32 (grid0.coords t 0).val)) _ _ _ _ _ _ _ _ _ _ _ _ _ _) x).trans
      (piece2 (h := 22) hw (Q := X0_1 m c t) (SK := rd1 (iblk m c 0 t)) rfl rfl rfl rfl (ld_first 22) h0 h1)
  · exact (congrFun (head21 (seenWord (BitVec.ofNat 32 (grid0.coords t 0).val)) _ _ _ _ _ _ _ _ _ _ _ _ _ _) x).trans
      (piece1 (h := 21) hw (Q := X0_1 m c t) (SK := rd1 (iblk m c 0 t)) rfl rfl rfl rfl (ld_first 21) h0 h1)
  · exact (congrFun (head20 (seenWord (BitVec.ofNat 32 (grid0.coords t 0).val)) _ _ _ _ _ _ _ _ _ _ _ _ _ _) x).trans
      (piece0 (h := 20) hw (Q := X0_1 m c t) (SK := rd1 (iblk m c 0 t)) rfl rfl rfl rfl (ld_first 20) h0 h1)
  · exact (congrFun (head19 (seenWord (BitVec.ofNat 32 (grid0.coords t 0).val)) _ _ _ _ _ _ _ _ _ _ _ _ _ _) x).trans
      (piece3 (h := 19) hw (Q := X0_1 m c t) (SK := rd1 (iblk m c 0 t)) rfl rfl rfl rfl (ld_first 19) h0 h1)
  · exact (congrFun (head18 (seenWord (BitVec.ofNat 32 (grid0.coords t 0).val)) _ _ _ _ _ _ _ _ _ _ _ _ _ _) x).trans
      (piece2 (h := 18) hw (Q := X0_1 m c t) (SK := rd1 (iblk m c 0 t)) rfl rfl rfl rfl (ld_first 18) h0 h1)
  · exact (congrFun (head17 (seenWord (BitVec.ofNat 32 (grid0.coords t 0).val)) _ _ _ _ _ _ _ _ _ _ _ _ _ _) x).trans
      (piece1 (h := 17) hw (Q := X0_1 m c t) (SK := rd1 (iblk m c 0 t)) rfl rfl rfl rfl (ld_first 17) h0 h1)
  · exact (congrFun (head16 (seenWord (BitVec.ofNat 32 (grid0.coords t 0).val)) _ _ _ _ _ _ _ _ _ _ _ _ _ _) x).trans
      (piece0 (h := 16) hw (Q := X0_1 m c t) (SK := rd1 (iblk m c 0 t)) rfl rfl rfl rfl (ld_first 16) h0 h1)
  · exact (congrFun (head15 (seenWord (BitVec.ofNat 32 (grid0.coords t 0).val)) _ _ _ _ _ _ _ _ _ _ _ _ _ _) x).trans
      (piece3 (h := 15) hw (Q := X0_1 m c t) (SK := rd1 (iblk m c 0 t)) rfl rfl rfl rfl (ld_first 15) h0 h1)
  · exact (congrFun (head14 (seenWord (BitVec.ofNat 32 (grid0.coords t 0).val)) _ _ _ _ _ _ _ _ _ _ _ _ _ _) x).trans
      (piece2 (h := 14) hw (Q := X0_1 m c t) (SK := rd1 (iblk m c 0 t)) rfl rfl rfl rfl (ld_first 14) h0 h1)
  · exact (congrFun (head13 (seenWord (BitVec.ofNat 32 (grid0.coords t 0).val)) _ _ _ _ _ _ _ _ _ _ _ _ _ _) x).trans
      (piece1 (h := 13) hw (Q := X0_1 m c t) (SK := rd1 (iblk m c 0 t)) rfl rfl rfl rfl (ld_first 13) h0 h1)
  · exact (congrFun (head12 (seenWord (BitVec.ofNat 32 (grid0.coords t 0).val)) _ _ _ _ _ _ _ _ _ _ _ _ _ _) x).trans
      (piece0 (h := 12) hw (Q := X0_1 m c t) (SK := rd1 (iblk m c 0 t)) rfl rfl rfl rfl (ld_first 12) h0 h1)
  · exact (congrFun (head11 (seenWord (BitVec.ofNat 32 (grid0.coords t 0).val)) _ _ _ _ _ _ _ _ _ _ _ _ _ _) x).trans
      (piece3 (h := 11) hw (Q := X0_1 m c t) (SK := rd1 (iblk m c 0 t)) rfl rfl rfl rfl (ld_first 11) h0 h1)
  · exact (congrFun (head10 (seenWord (BitVec.ofNat 32 (grid0.coords t 0).val)) _ _ _ _ _ _ _ _ _ _ _ _ _ _) x).trans
      (piece2 (h := 10) hw (Q := X0_1 m c t) (SK := rd1 (iblk m c 0 t)) rfl rfl rfl rfl (ld_first 10) h0 h1)
  · exact (congrFun (head9 (seenWord (BitVec.ofNat 32 (grid0.coords t 0).val)) _ _ _ _ _ _ _ _ _ _ _ _ _ _) x).trans
      (piece1 (h := 9) hw (Q := X0_1 m c t) (SK := rd1 (iblk m c 0 t)) rfl rfl rfl rfl (ld_first 9) h0 h1)
  · exact (congrFun (head8 (seenWord (BitVec.ofNat 32 (grid0.coords t 0).val)) _ _ _ _ _ _ _ _ _ _ _ _ _ _) x).trans
      (piece0 (h := 8) hw (Q := X0_1 m c t) (SK := rd1 (iblk m c 0 t)) rfl rfl rfl rfl (ld_first 8) h0 h1)
  · exact (congrFun (head7 (seenWord (BitVec.ofNat 32 (grid0.coords t 0).val)) _ _ _ _ _ _ _ _ _ _ _ _ _ _) x).trans
      (piece3 (h := 7) hw (Q := X0_1 m c t) (SK := rd1 (iblk m c 0 t)) rfl rfl rfl rfl (ld_first 7) h0 h1)
  · exact (congrFun (head6 (seenWord (BitVec.ofNat 32 (grid0.coords t 0).val)) _ _ _ _ _ _ _ _ _ _ _ _ _ _) x).trans
      (piece2 (h := 6) hw (Q := X0_1 m c t) (SK := rd1 (iblk m c 0 t)) rfl rfl rfl rfl (ld_first 6) h0 h1)
  · exact (congrFun (head5 (seenWord (BitVec.ofNat 32 (grid0.coords t 0).val)) _ _ _ _ _ _ _ _ _ _ _ _ _ _) x).trans
      (piece1 (h := 5) hw (Q := X0_1 m c t) (SK := rd1 (iblk m c 0 t)) rfl rfl rfl rfl (ld_first 5) h0 h1)
  · exact (congrFun (head4 (seenWord (BitVec.ofNat 32 (grid0.coords t 0).val)) _ _ _ _ _ _ _ _ _ _ _ _ _ _) x).trans
      (piece0 (h := 4) hw (Q := X0_1 m c t) (SK := rd1 (iblk m c 0 t)) rfl rfl rfl rfl (ld_first 4) h0 h1)
  · exact (congrFun (head3 (seenWord (BitVec.ofNat 32 (grid0.coords t 0).val)) _ _ _ _ _ _ _ _ _ _ _ _ _ _) x).trans
      (piece3 (h := 3) hw (Q := X0_1 m c t) (SK := rd1 (iblk m c 0 t)) rfl rfl rfl rfl (ld_first 3) h0 h1)
  · exact (congrFun (head2 (seenWord (BitVec.ofNat 32 (grid0.coords t 0).val)) _ _ _ _ _ _ _ _ _ _ _ _ _ _) x).trans
      (piece2 (h := 2) hw (Q := X0_1 m c t) (SK := rd1 (iblk m c 0 t)) rfl rfl rfl rfl (ld_first 2) h0 h1)
  · exact (congrFun (head1 (seenWord (BitVec.ofNat 32 (grid0.coords t 0).val)) _ _ _ _ _ _ _ _ _ _ _ _ _ _) x).trans
      (piece1 (h := 1) hw (Q := X0_1 m c t) (SK := rd1 (iblk m c 0 t)) rfl rfl rfl rfl (ld_first 1) h0 h1)
  · exact (congrFun (head0 (seenWord (BitVec.ofNat 32 (grid0.coords t 0).val)) _ _ _ _ _ _ _ _ _ _ _ _ _ _) x).trans
      (piece0 (h := 0) hw (Q := X0_1 m c t) (SK := rd1 (iblk m c 0 t)) rfl rfl rfl rfl (ld_first 0) h0 (h1.trans (Nat.zero_add _).symm))

end Cert.Proof
-- ==== Proof.Tokens.lean ====
module
public import proofs.«01_k».proof.Proof.Spec
@[expose] public section
noncomputable section
namespace Cert.Proof
open Idealize.ShloMosaic Idealize.ShloMosaic.TcCoe

/-! The attention of every token over the two groups of sequences, laid out one after the other. -/

/-- Entry `c` of token `n`: the first group's 8 sequences of 2048 tokens, then the second's 4 of 4096. -/
def tok {w : Nat} (A : (⟨3, ![8, 2048, w]⟩ : Shape).Idx → EReal) (B : (⟨3, ![4, 4096, w]⟩ : Shape).Idx → EReal) (n c : Nat) : EReal :=
  if h : n < 16384 ∧ c < w then A (ix3 ⟨n / 2048, by omega⟩ ⟨n % 2048, by omega⟩ ⟨c, h.2⟩)
  else if h : 16384 ≤ n ∧ n < 32768 ∧ c < w then
    B (ix3 ⟨(n - 16384) / 4096, by omega⟩ ⟨(n - 16384) % 4096, by omega⟩ ⟨c, h.2.2⟩)
  else 0

theorem tok_first {w : Nat} {A : (⟨3, ![8, 2048, w]⟩ : Shape).Idx → EReal} {B : (⟨3, ![4, 4096, w]⟩ : Shape).Idx → EReal} {n c : Nat}
    (b : Fin 8) (s : Fin 2048) (k : Fin w) (hn : n = 2048 * b.val + s.val) (hc : c = k.val) : A (ix3 b s k) = tok A B n c := by
  have hb := b.isLt
  have hs := s.isLt
  have hk := k.isLt
  subst hn hc
  unfold tok
  rw [dif_pos ⟨by omega, hk⟩]
  refine congrArg A (funext fun a => ?_)
  match a with
  | 0 => exact Fin.ext (by show b.val = (2048 * b.val + s.val) / 2048; omega)
  | 1 => exact Fin.ext (by show s.val = (2048 * b.val + s.val) % 2048; omega)
  | 2 => rfl

theorem tok_second {w : Nat} {A : (⟨3, ![8, 2048, w]⟩ : Shape).Idx → EReal} {B : (⟨3, ![4, 4096, w]⟩ : Shape).Idx → EReal} {n c : Nat}
    (b : Fin 4) (s : Fin 4096) (k : Fin w) (hn : n = 16384 + 4096 * b.val + s.val) (hc : c = k.val) :
    B (ix3 b s k) = tok A B n c := by
  have hb := b.isLt
  have hs := s.isLt
  have hk := k.isLt
  subst hn hc
  unfold tok
  rw [dif_neg (by omega), dif_pos ⟨by omega, by omega, hk⟩]
  refine congrArg B (funext fun a => ?_)
  match a with
  | 0 => exact Fin.ext (by show b.val = (16384 + 4096 * b.val + s.val - 16384) / 4096; omega)
  | 1 => exact Fin.ext (by show s.val = (16384 + 4096 * b.val + s.val - 16384) % 4096; omega)
  | 2 => rfl

/-- The attention of the token at row `r` of block `n`, head `h`, column `d`: queries lie in the first 4096 entries of a
    token, keys in the next 1024, values in the last 1024; four query heads share a key head. -/
def attnAt (X : Nat → Nat → EReal) (sk : Nat → EReal) (n r h d : Nat) : EReal :=
  attnRow (scores n r h (fun e => X (128 * n + r) (128 * h + e.val))
      (fun j e => X (128 * n + j.val - 128) (4096 + (128 * (h / 4) + e.val))))
    (sk h) (fun j => X (128 * n + j.val - 128) (5120 + (128 * (h / 4) + d)))

theorem rd3_of_sees {n r j : Nat} (hs : sees n r j) (hj : j < 384) {x y z : (⟨2, ![128, 1024]⟩ : Shape).Idx → EReal}
    {X : Nat → Nat → EReal} {o c : Nat} (hc : c < 1024)
    (hx : ¬ isFirst n → ∀ r < 128, ∀ c < 1024, rd x r c = X (128 * n + r - 128) (o + c))
    (hy : ∀ r < 128, ∀ c < 1024, rd y r c = X (128 * n + r) (o + c))
    (hz : ¬ isLast n → ∀ r < 128, ∀ c < 1024, rd z r c = X (128 * n + r + 128) (o + c)) :
    rd3 x y z j c = X (128 * n + j - 128) (o + c) := by
  unfold rd3
  split
  · rename_i h
    exact hx (fun hf => by have := hs.2.1 hf; omega) _ h _ hc
  · split
    · rw [hy _ (by omega) _ hc]; congr 1; omega
    · rename_i h h'
      rw [hz (fun hl => h' (hs.2.2 hl)) _ (by omega) _ hc]; congr 1; omega

theorem blockOut_eq_attnAt {n r h d : Nat} (hh : h < 32) (hr : r < 128) (hd : d < 128)
    {q : (⟨2, ![128, 4096]⟩ : Shape).Idx → EReal} {kp kc kn vp vc vn : (⟨2, ![128, 1024]⟩ : Shape).Idx → EReal}
    {X : Nat → Nat → EReal} {sk : Nat → EReal}
    (hq : ∀ r < 128, ∀ c < 4096, rd q r c = X (128 * n + r) c)
    (hkp : ¬ isFirst n → ∀ r < 128, ∀ c < 1024, rd kp r c = X (128 * n + r - 128) (4096 + c))
    (hkc : ∀ r < 128, ∀ c < 1024, rd kc r c = X (128 * n + r) (4096 + c))
    (hkn : ¬ isLast n → ∀ r < 128, ∀ c < 1024, rd kn r c = X (128 * n + r + 128) (4096 + c))
    (hvp : ¬ isFirst n → ∀ r < 128, ∀ c < 1024, rd vp r c = X (128 * n + r - 128) (5120 + c))
    (hvc : ∀ r < 128, ∀ c < 1024, rd vc r c = X (128 * n + r) (5120 + c))
    (hvn : ¬ isLast n → ∀ r < 128, ∀ c < 1024, rd vn r c = X (128 * n + r + 128) (5120 + c)) :
    blockOut n q kp kc kn vp vc vn sk r h d = attnAt X sk n r h d := by
  unfold blockOut attnAt
  refine attnRow_congr (scores_congr (funext fun e => ?_) fun j e hj => ?_) rfl fun j hj => ?_
  · exact hq _ hr _ (by have := e.isLt; omega)
  · exact rd3_of_sees hj j.isLt (by have := e.isLt; omega) hkp hkc hkn
  · exact rd3_of_sees (sees_of_scores hj) j.isLt (by omega) hvp hvc hvn

end Cert.Proof
-- ==== Proof.Rows.lean ====
module
public import proofs.«01_k».proof.Proof.Tokens
@[expose] public section
set_option maxRecDepth 16384
noncomputable section
namespace Cert.Proof
open Idealize.ShloMosaic Idealize.ShloMosaic.TcCoe

/-! Two groups of sequences laid out one after the other, token by token. -/

/-- The two groups, reshaped to rows and put one after the other, hold token `n` at row `n`. -/
theorem rows_apply {w : Nat} (A : (⟨3, ![8, 2048, w]⟩ : Shape).Idx → EReal) (B : (⟨3, ![4, 4096, w]⟩ : Shape).Idx → EReal)
    (hA : Shape.ShapeCasts ⟨3, ![8, 2048, w]⟩ ⟨2, ![16384, w]⟩) (hB : Shape.ShapeCasts ⟨3, ![4, 4096, w]⟩ ⟨2, ![16384, w]⟩)
    (hc : Shape.Concatenates [⟨2, ![16384, w]⟩, ⟨2, ![16384, w]⟩] ⟨2, ![32768, w]⟩ 0) (n : Fin 32768) (k : Fin w) :
    concatenate ⟨2, ![32768, w]⟩ 0 [⟨⟨2, ![16384, w]⟩, shapeCast ⟨2, ![16384, w]⟩ A hA⟩, ⟨⟨2, ![16384, w]⟩, shapeCast ⟨2, ![16384, w]⟩ B hB⟩]
      hc (ix2 n k) = tok A B n.val k.val := by
  have hn := n.isLt
  have hk := k.isLt
  unfold tok
  by_cases h : n.val < 16384
  · rw [dif_pos ⟨h, hk⟩]
    refine (concatenate_pair_apply_left 0 _ _ hc (ix2 n k) hc.rank_fst (ix2 ⟨n.val, h⟩ k) fun b => ?_).trans ?_
    · match b with
      | 0 => rfl
      | 1 => rfl
    · refine shapeCast_apply _ _ _ _ ?_
      refine (Shape.rowMajor_val_three (d := ![8, 2048, w]) _).trans (Eq.trans ?_ (Shape.rowMajor_val_two (d := ![16384, w]) _).symm)
      change (n.val / 2048 * 2048 + n.val % 2048) * w + k.val = n.val * w + k.val
      rw [Nat.div_add_mod']
  · rw [dif_neg (by omega), dif_pos ⟨by omega, hn, hk⟩]
    refine (concatenate_pair_apply_right 0 _ _ hc (ix2 n k) hc.rank_fst hc.rank_snd (ix2 ⟨n.val - 16384, by omega⟩ k)
      (fun b hb => ?_) ?_).trans ?_
    · match b with
      | 0 => exact absurd rfl hb
      | 1 => rfl
    · show n.val - 16384 + 16384 = n.val
      omega
    · refine shapeCast_apply _ _ _ _ ?_
      refine (Shape.rowMajor_val_three (d := ![4, 4096, w]) _).trans (Eq.trans ?_ (Shape.rowMajor_val_two (d := ![16384, w]) _).symm)
      change ((n.val - 16384) / 4096 * 4096 + (n.val - 16384) % 4096) * w + k.val = (n.val - 16384) * w + k.val
      rw [Nat.div_add_mod']

/-- What holds of every token of the first group and of every token of the second holds of all. -/
theorem tok_eq {w : Nat} {A : (⟨3, ![8, 2048, w]⟩ : Shape).Idx → EReal} {B : (⟨3, ![4, 4096, w]⟩ : Shape).Idx → EReal} {f : Nat → Nat → EReal}
    (hA : ∀ b s k, A (ix3 b s k) = f (2048 * b.val + s.val) k.val) (hB : ∀ b s k, B (ix3 b s k) = f (16384 + 4096 * b.val + s.val) k.val)
    {n k : Nat} (hn : n < 32768) (hk : k < w) : tok A B n k = f n k := by
  unfold tok
  by_cases h : n < 16384
  · rw [dif_pos ⟨h, hk⟩, hA]
    exact congrArg (fun n => f n k) (show 2048 * (n / 2048) + n % 2048 = n by omega)
  · rw [dif_neg (by omega), dif_pos ⟨by omega, hn, hk⟩, hB]
    exact congrArg (fun n => f n k) (show 16384 + 4096 * ((n - 16384) / 4096) + (n - 16384) % 4096 = n by omega)

/-- Entry `(n, e)` of a product of two arrays over `K` terms. -/
def prodAt (K : Nat) (X W : Nat → Nat → EReal) (n e : Nat) : EReal := ∑ d : Fin K, X n d.val * W d.val e

theorem rd_at {a b : Nat} (x : (⟨2, ![a, b]⟩ : Shape).Idx → EReal) (i : (⟨2, ![a, b]⟩ : Shape).Idx) {r k : Nat} (h0 : (i 0).val = r)
    (h1 : (i 1).val = k) : x i = rd x r k := by
  subst h0 h1
  exact (congrArg x (eq_ix2 i)).trans (rd_eq x (i 0) (i 1)).symm

theorem rows_at {w : Nat} (A : (⟨3, ![8, 2048, w]⟩ : Shape).Idx → EReal) (B : (⟨3, ![4, 4096, w]⟩ : Shape).Idx → EReal)
    (hsA : Shape.ShapeCasts ⟨3, ![8, 2048, w]⟩ ⟨2, ![16384, w]⟩) (hsB : Shape.ShapeCasts ⟨3, ![4, 4096, w]⟩ ⟨2, ![16384, w]⟩)
    (hc : Shape.Concatenates [⟨2, ![16384, w]⟩, ⟨2, ![16384, w]⟩] ⟨2, ![32768, w]⟩ 0) (i : (⟨2, ![32768, w]⟩ : Shape).Idx) {n k : Nat}
    (h0 : (i 0).val = n) (h1 : (i 1).val = k) :
    concatenate ⟨2, ![32768, w]⟩ 0 [⟨⟨2, ![16384, w]⟩, shapeCast ⟨2, ![16384, w]⟩ A hsA⟩, ⟨⟨2, ![16384, w]⟩, shapeCast ⟨2, ![16384, w]⟩ B hsB⟩]
      hc i = tok A B n k := by
  subst h0 h1
  exact (congrArg _ (eq_ix2 i)).trans (rows_apply A B hsA hsB hc (i 0) (i 1))

/-- Two groups of which every entry is known, reshaped to rows and put one after the other. -/
theorem rows_of {w : Nat} {A : (⟨3, ![8, 2048, w]⟩ : Shape).Idx → EReal} {B : (⟨3, ![4, 4096, w]⟩ : Shape).Idx → EReal}
    (hsA : Shape.ShapeCasts ⟨3, ![8, 2048, w]⟩ ⟨2, ![16384, w]⟩) (hsB : Shape.ShapeCasts ⟨3, ![4, 4096, w]⟩ ⟨2, ![16384, w]⟩)
    (hc : Shape.Concatenates [⟨2, ![16384, w]⟩, ⟨2, ![16384, w]⟩] ⟨2, ![32768, w]⟩ 0) (f : Nat → Nat → EReal)
    (hA : ∀ (b : Fin 8) (s : Fin 2048) (k : Fin w), A (ix3 b s k) = f (2048 * b.val + s.val) k.val)
    (hB : ∀ (b : Fin 4) (s : Fin 4096) (k : Fin w), B (ix3 b s k) = f (16384 + 4096 * b.val + s.val) k.val)
    (i : (⟨2, ![32768, w]⟩ : Shape).Idx) :
    concatenate ⟨2, ![32768, w]⟩ 0 [⟨⟨2, ![16384, w]⟩, shapeCast ⟨2, ![16384, w]⟩ A hsA⟩, ⟨⟨2, ![16384, w]⟩, shapeCast ⟨2, ![16384, w]⟩ B hsB⟩]
      hc i = f (i 0).val (i 1).val :=
  ((congrArg _ (eq_ix2 i)).trans (rows_apply A B hsA hsB hc (i 0) (i 1))).trans (tok_eq hA hB (i 0).isLt (i 1).isLt)

/-- A product of the first group's sequences with weights, as an entry of the tokens' product. -/
theorem prod_first {K w : Nat} {A : (⟨3, ![8, 2048, K]⟩ : Shape).Idx → EReal} {B : (⟨3, ![4, 4096, K]⟩ : Shape).Idx → EReal}
    {W : (⟨2, ![K, w]⟩ : Shape).Idx → EReal} (b : Fin 8) (s : Fin 2048) (e : Fin w) :
    ∑ d : Fin K, A (ix3 b s d) * W (ix2 d e) = prodAt K (tok A B) (rd W) (2048 * b.val + s.val) e.val :=
  Finset.sum_congr rfl fun d _ => congrArg₂ (· * ·) (tok_first b s d rfl rfl) (rd_eq W d e).symm

/-- The same for the second group's. -/
theorem prod_second {K w : Nat} {A : (⟨3, ![8, 2048, K]⟩ : Shape).Idx → EReal} {B : (⟨3, ![4, 4096, K]⟩ : Shape).Idx → EReal}
    {W : (⟨2, ![K, w]⟩ : Shape).Idx → EReal} (b : Fin 4) (s : Fin 4096) (e : Fin w) :
    ∑ d : Fin K, B (ix3 b s d) * W (ix2 d e) = prodAt K (tok A B) (rd W) (16384 + 4096 * b.val + s.val) e.val :=
  Finset.sum_congr rfl fun d _ => congrArg₂ (· * ·) (tok_second b s d rfl rfl) (rd_eq W d e).symm

/-- A product over two arrays put side by side is the sum of the two products. -/
theorem prod_beside {a b w : Nat} {A : (⟨3, ![a, b, 2048]⟩ : Shape).Idx → EReal} {Y : (⟨3, ![a, b, 4096]⟩ : Shape).Idx → EReal}
    {W : (⟨2, ![6144, w]⟩ : Shape).Idx → EReal}
    (hc : Shape.Concatenates [⟨3, ![a, b, 2048]⟩, ⟨3, ![a, b, 4096]⟩] ⟨3, ![a, b, 6144]⟩ 2) (p : Fin a) (s : Fin b) (e : Fin w) :
    ∑ d : Fin 6144, concatenate ⟨3, ![a, b, 6144]⟩ 2 [⟨⟨3, ![a, b, 2048]⟩, A⟩, ⟨⟨3, ![a, b, 4096]⟩, Y⟩] hc (ix3 p s d) * W (ix2 d e)
      = (∑ d : Fin 2048, A (ix3 p s d) * rd W d.val e.val) + ∑ d : Fin 4096, Y (ix3 p s d) * rd W (2048 + d.val) e.val := by
  refine (Fin.sum_univ_add (a := 2048) (b := 4096) (fun d => concatenate ⟨3, ![a, b, 6144]⟩ 2 [⟨⟨3, ![a, b, 2048]⟩, A⟩, ⟨⟨3, ![a, b, 4096]⟩, Y⟩] hc
    (ix3 p s d) * W (ix2 d e))).trans ?_
  refine congrArg₂ (· + ·) (Finset.sum_congr rfl fun d _ => congrArg₂ (· * ·) ?_ ?_) (Finset.sum_congr rfl fun d _ => congrArg₂ (· * ·) ?_ ?_)
  · refine concatenate_pair_apply_left 2 _ _ hc _ hc.rank_fst (ix3 p s d) fun q => ?_
    match q with
    | 0 => rfl
    | 1 => rfl
    | 2 => rfl
  · exact (rd_eq W (Fin.castAdd 4096 d) e).symm
  · refine concatenate_pair_apply_right 2 _ _ hc _ hc.rank_fst hc.rank_snd (ix3 p s d) (fun q hq => ?_) ?_
    · match q with
      | 0 => rfl
      | 1 => rfl
      | 2 => exact absurd rfl hq
    · show d.val + 2048 = 2048 + d.val
      omega
  · exact (rd_eq W (Fin.natAdd 2048 d) e).symm

end Cert.Proof
end
end
-- ==== Proof.Array.lean ====
module
public import proofs.«01_k».proof.Proof.Block
public import proofs.«01_k».proof.Proof.Rows
@[expose] public section
set_option maxRecDepth 16384
noncomputable section
namespace Cert.Proof
open Idealize.ShloMosaic Idealize.ShloMosaic.TcCoe Idealize.SL.Sem
open Cert.KernelIdeal Cert.KernelIdeal.Gen

/-! The kernel's array: every block of 128 tokens is written once, by the step of the grid it belongs to. -/

variable (m : (ℓ : Loc nD τ sig) → Buf (Elt Ideal) ℓ)

/-- The tokens the program is launched with. -/
abbrev launched (c : Dev nD) : Nat → Nat → EReal :=
  tok (m ((c : Thread nD τ).loc main_arg0)) (m ((c : Thread nD τ).loc main_arg1))

theorem entry_tokens (c : Dev nD) (n : Fin 32768) (k : Fin 6144) : V m c main_v3 (ix2 n k) = launched m c n.val k.val := by
  entry_read
  change (concatenate S32768x6144 0
        [⟨S16384x6144, shapeCast S16384x6144 (m ((c : Thread nD τ).loc main_arg0)) shapeCasts_S8x2048x6144_S16384x6144⟩,
          ⟨S16384x6144, shapeCast S16384x6144 (m ((c : Thread nD τ).loc main_arg1)) shapeCasts_S4x4096x6144_S16384x6144⟩]
        concatenates_S16384x6144_S16384x6144_S32768x6144_d0 (ix2 n k) : EReal) = _
  exact rows_apply _ _ _ _ _ n k

theorem idx0 : ∀ t : Fin grid0.N, win0_0.index t = ![0] := by decide +kernel
theorem idx1 : ∀ t : Fin grid0.N, win0_1.index t = ![t.val, 0] := by decide +kernel
theorem idx2 : ∀ t : Fin grid0.N, win0_2.index t = ![t.val - 1, 4] := by decide +kernel
theorem idx3 : ∀ t : Fin grid0.N, win0_3.index t = ![t.val, 4] := by decide +kernel
theorem idx4 : ∀ t : Fin grid0.N, win0_4.index t = ![min (t.val + 1) 255, 4] := by decide +kernel
theorem idx5 : ∀ t : Fin grid0.N, win0_5.index t = ![t.val - 1, 5] := by decide +kernel
theorem idx6 : ∀ t : Fin grid0.N, win0_6.index t = ![t.val, 5] := by decide +kernel
theorem idx7 : ∀ t : Fin grid0.N, win0_7.index t = ![min (t.val + 1) 255, 5] := by decide +kernel
theorem idx8 : ∀ t : Fin grid0.N, win0_8.index t = ![t.val, 0] := by decide +kernel

theorem entry_at (c : Dev nD) (i : S32768x6144.Idx) {a b : Nat} (h0 : (i 0).val = a) (h1 : (i 1).val = b) :
    V m c main_v3 i = launched m c a b := by
  subst h0 h1
  refine (congrArg (V m c main_v3) (funext fun a => ?_)).trans (entry_tokens m c (i 0) (i 1))
  match a with
  | 0 => rfl
  | 1 => rfl

theorem block2 (c : Dev nD) (t : Fin cfg0.N) (r : Nat) (hr : r < 128) (k : Nat) (hk : k < 1024) :
    rd (a := 128) (b := 1024) (iblk m c 2 t) r k = launched m c (128 * (t.val - 1) + r) (4096 + k) := by
  unfold rd
  rw [dif_pos ⟨hr, hk⟩]
  blk_simp [iblk, idx2]
  refine entry_at m c _ ?_ ?_ <;> blk_simp [idx2]
  show (t.val - 1) * 128 + r = _; omega

theorem block3 (c : Dev nD) (t : Fin cfg0.N) (r : Nat) (hr : r < 128) (k : Nat) (hk : k < 1024) :
    rd (a := 128) (b := 1024) (iblk m c 3 t) r k = launched m c (128 * t.val + r) (4096 + k) := by
  unfold rd
  rw [dif_pos ⟨hr, hk⟩]
  blk_simp [iblk, idx3]
  refine entry_at m c _ ?_ ?_ <;> blk_simp [idx3]
  show t.val * 128 + r = _; omega

theorem block4 (c : Dev nD) (t : Fin cfg0.N) (r : Nat) (hr : r < 128) (k : Nat) (hk : k < 1024) :
    rd (a := 128) (b := 1024) (iblk m c 4 t) r k = launched m c (128 * min (t.val + 1) 255 + r) (4096 + k) := by
  unfold rd
  rw [dif_pos ⟨hr, hk⟩]
  blk_simp [iblk, idx4]
  refine entry_at m c _ ?_ ?_ <;> blk_simp [idx4]
  show min (t.val + 1) 255 * 128 + r = _; omega

theorem block5 (c : Dev nD) (t : Fin cfg0.N) (r : Nat) (hr : r < 128) (k : Nat) (hk : k < 1024) :
    rd (a := 128) (b := 1024) (iblk m c 5 t) r k = launched m c (128 * (t.val - 1) + r) (5120 + k) := by
  unfold rd
  rw [dif_pos ⟨hr, hk⟩]
  blk_simp [iblk, idx5]
  refine entry_at m c _ ?_ ?_ <;> blk_simp [idx5]
  show (t.val - 1) * 128 + r = _; omega

theorem block6 (c : Dev nD) (t : Fin cfg0.N) (r : Nat) (hr : r < 128) (k : Nat) (hk : k < 1024) :
    rd (a := 128) (b := 1024) (iblk m c 6 t) r k = launched m c (128 * t.val + r) (5120 + k) := by
  unfold rd
  rw [dif_pos ⟨hr, hk⟩]
  blk_simp [iblk, idx6]
  refine entry_at m c _ ?_ ?_ <;> blk_simp [idx6]
  show t.val * 128 + r = _; omega

theorem block7 (c : Dev nD) (t : Fin cfg0.N) (r : Nat) (hr : r < 128) (k : Nat) (hk : k < 1024) :
    rd (a := 128) (b := 1024) (iblk m c 7 t) r k = launched m c (128 * min (t.val + 1) 255 + r) (5120 + k) := by
  unfold rd
  rw [dif_pos ⟨hr, hk⟩]
  blk_simp [iblk, idx7]
  refine entry_at m c _ ?_ ?_ <;> blk_simp [idx7]
  show min (t.val + 1) 255 * 128 + r = _; omega

theorem block1 (c : Dev nD) (t : Fin cfg0.N) (r : Nat) (hr : r < 128) (k : Nat) (hk : k < 4096) :
    rd (a := 128) (b := 4096) (X0_1 m c t) r k = launched m c (128 * t.val + r) k := by
  unfold rd
  rw [dif_pos ⟨hr, hk⟩]
  unfold X0_1 Pipeline.Window.fill
  rw [dif_pos (moved0_1 t _)]
  blk_simp [iblk, idx1]
  refine entry_at m c _ ?_ ?_ <;> blk_simp [idx1]
  show t.val * 128 + r = _; omega

/-- The sinks are staged whole. -/
theorem block0 (c : Dev nD) (t : Fin cfg0.N) (h : Nat) :
    rd1 (a := 32) (iblk m c 0 t) h = rd1 (a := 32) (m ((c : Thread nD τ).loc main_arg2)) h := by
  unfold rd1
  split
  · blk_ext [iblk, V_main_arg2, idx0]
  · rfl

theorem first_pos {n : Nat} (h : ¬ isFirst n) : 0 < n := by
  by_contra hn
  obtain rfl : n = 0 := by omega
  exact h (by decide)

theorem last_lt {n : Nat} (h : ¬ isLast n) : n ≠ 255 := by
  rintro rfl
  exact h (by decide)

/-- The kernel's array, entry by entry. -/
theorem array_apply (c : Dev nD) (i : S32768x4096.Idx) :
    (dats m 0 c).arrAt 8 cfg0.N i = attnAt (launched m c) (rd1 (a := 32) (m ((c : Thread nD τ).loc main_arg2)))
      ((i 0).val / 128) ((i 0).val % 128) ((i 1).val / 128) ((i 1).val % 128) := by
  refine congrFun ((dats m 0 c).arrAt_eq_of_covers 8 (fun i : S32768x4096.Idx =>
    attnAt (launched m c) (rd1 (a := 32) (m ((c : Thread nD τ).loc main_arg2)))
      ((i 0).val / 128) ((i 0).val % 128) ((i 1).val / 128) ((i 1).val % 128)) (by decide +kernel) fun t hf y => ?_) i
  blk_simp [idx8]
  rw [after0_8]
  have hr : (y 0).val < 128 := (y 0).isLt
  have hk : (y 1).val < 4096 := (y 1).isLt
  have ht : t.val < 256 := t.isLt
  rw [show (t.val * 128 + (y 0).val) / 128 = t.val by omega, show (t.val * 128 + (y 0).val) % 128 = (y 0).val by omega]
  refine (block_apply m c t y).trans (Eq.trans ?_ (blockOut_eq_attnAt (n := t.val) (by omega) hr (by omega) (block1 m c t)
    (fun hf r hr k hk => (block2 m c t r hr k hk).trans ?_) (block3 m c t) (fun hl r hr k hk => (block4 m c t r hr k hk).trans ?_)
    (fun hf r hr k hk => (block5 m c t r hr k hk).trans ?_) (block6 m c t) (fun hl r hr k hk => (block7 m c t r hr k hk).trans ?_)))
  · rw [show rd1 (a := 32) (iblk m c 0 t) = rd1 (a := 32) (m ((c : Thread nD τ).loc main_arg2)) from funext (block0 m c t)]
  all_goals first | (have := first_pos hf; congr 1; omega) | (have := last_lt hl; congr 1; omega)

end Cert.Proof
-- ==== Proof.RefCommon.lean ====
module
public import proofs.«01_k».proof.Proof.Tokens
public import proofs.«01_k».proof.Proof.Words
public import Idealize.ShloMosaic.Lib.Pipeline.ValueKit
public import Idealize.ShloMosaic.PureOps.Ideal.Laws
@[expose] public section
set_option maxRecDepth 16384
noncomputable section
namespace Cert.Proof
open Idealize.ShloMosaic Idealize.ShloMosaic.TcCoe

/-! Steps of the reference that its two groups of sequences share. -/

theorem bits_two : Ideal.ofBits .f32 0x40000000#32 = ((2 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_32 : Ideal.ofBits .f32 0x42000000#32 = ((32 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_neg_inf : Ideal.ofBits .f32 0xFF800000#32 = ⊥ := by
  simp [Ideal.ofBits, Ideal.ieee]

theorem sitofp_ofInt {z : Int} (h : -2 ^ 31 ≤ z ∧ z < 2 ^ 31) :
    (FloatOps.sitofp (F := Ideal) .f32 (BitVec.ofInt 32 z) : EReal) = ((z : ℝ) : EReal) := by
  show (((BitVec.ofInt 32 z).toInt : ℝ) : EReal) = _
  rw [toInt_small h]

/-- The reference's slopes. -/
theorem host_slope {h : Nat} (hh : h < 32) :
    Ideal.pow (Ideal.ofBits .f32 0x40000000#32) (-Ideal.div
      (Ideal.ofBits .f32 0x41000000#32 * (FloatOps.sitofp (F := Ideal) .f32 (BitVec.ofNat 32 h) + 1 : EReal))
      (Ideal.ofBits .f32 0x42000000#32)) = slope h := by
  rw [bits_two, bits_eight, bits_32, ofNat_eq_ofInt, sitofp_ofInt (by omega), Ideal.div_coe (by norm_num)]
  unfold slope
  rw [show (((8 : ℝ) : EReal) * ((((h : Int) : ℝ) : EReal) + 1) * ((1 / 32 : ℝ) : EReal)) = (((8 * ((h : ℝ) + 1)) * (1 / 32) : ℝ) : EReal) by
    push_cast; rfl]
  rw [← EReal.coe_neg, Ideal.pow_coe_coe]
  congr 2
  ring

/-- Dividing by the root of 128 is scaling. -/
theorem host_scale (x : EReal) : Ideal.div x (Ideal.sqrt (Ideal.ofBits .f32 0x43000000#32)) = x * scl := by
  rw [bits_128, show Ideal.sqrt ((128 : ℝ) : EReal) = ((Real.sqrt 128 : ℝ) : EReal) from if_neg (by norm_num), Ideal.div_coe (by positivity)]
  unfold scl
  rw [one_div]

theorem host_pos (n j : Nat) : IntOp.addi (IntOp.muli (IntOp.subi (BitVec.ofNat 32 n) 1#32) 128#32) (BitVec.ofNat 32 j)
    = BitVec.ofInt 32 (((n : Int) - 1) * 128 + j) := by
  exact (congrArg₂ _ ((congrArg₂ _ (subi_ofInt (n : Int) 1) rfl).trans (muli_ofInt _ 128)) rfl).trans (addi_ofInt _ (j : Int))

theorem host_gap {n r j : Nat} (hr : r < 128) (hj : j < 384) :
    IntOp.absi (IntOp.subi (IntOp.addi (IntOp.muli (BitVec.ofNat 32 n) 128#32) (BitVec.ofNat 32 r))
      (IntOp.addi (IntOp.muli (IntOp.subi (BitVec.ofNat 32 n) 1#32) 128#32) (BitVec.ofNat 32 j))) = BitVec.ofInt 32 (gap r j) := by
  rw [host_pos, show IntOp.addi (IntOp.muli (BitVec.ofNat 32 n) 128#32) (BitVec.ofNat 32 r) = BitVec.ofInt 32 ((n : Int) * 128 + r) from
    (congrArg₂ _ (muli_ofInt (n : Int) 128) rfl).trans (addi_ofInt _ (r : Int)), subi_ofInt, absi_ofInt (by omega)]
  unfold gap
  congr 2
  ring

/-- The reference's mask: `n` the block's place in its sequence of `nb` blocks, `N` its place among all. -/
theorem host_sees {n nb N r j : Nat} {t : BitVec 32} (hn : n < nb) (hnb : nb ≤ 32) (ht : t = BitVec.ofInt 32 (128 * nb))
    (hf : isFirst N ↔ n = 0) (hl : isLast N ↔ n + 1 = nb) (hr : r < 128) (hj : j < 384) :
    IntOp.andi (IntOp.cmpi .sle (BitVec.ofInt 32 (gap r j)) 128#32)
      (IntOp.andi (IntOp.cmpi .sge (BitVec.ofInt 32 (((n : Int) - 1) * 128 + j)) 0#32)
        (IntOp.cmpi .slt (BitVec.ofInt 32 (((n : Int) - 1) * 128 + j)) t)) = 1#1 ↔ sees N r j := by
  have hg : 0 ≤ gap r j := abs_nonneg _
  have hg' : gap r j < 1024 := by unfold gap; rw [abs_lt]; omega
  subst ht
  rw [andi_bits, andi_bits]
  unfold sees
  rw [hf, hl]
  refine and_congr ?_ (and_congr ?_ ?_)
  · exact sle_ofInt (b := 128) (by omega) (by omega)
  · exact (sge_ofInt (b := 0) (by omega) (by omega)).trans (by omega)
  · exact (slt_ofInt (by omega) (by omega)).trans (by omega)

variable {B NB : Nat}

/-- The greatest of a row of scores. -/
theorem row_max (x : FVec Ideal ⟨6, ![B, NB, 8, 4, 128, 384]⟩ .f32) (init : FVec Ideal ⟨0, ![]⟩ .f32)
    (hi : init = constant ⟨0, ![]⟩ .f32 0xFF800000#32)
    (h' : (⟨6, ![B, NB, 8, 4, 128, 384]⟩ : Shape).ReducesTo [5] ⟨5, ![B, NB, 8, 4, 128]⟩)
    (h : (⟨6, ![B, NB, 8, 4, 128, 384]⟩ : Shape).Reduces [5] ⟨5, ![B, NB, 8, 4, 128]⟩) (hu : 0 < (⟨0, ![]⟩ : Shape).numel)
    (b : Fin B) (n : Fin NB) (kv : Fin 8) (g : Fin 4) (r : Fin 128) :
    Host.reduce (FloatOps.maximumf (F := Ideal) (φ := .f32)) x init h' hu (ix5 b n kv g r)
      = (Finset.univ.fold max ⊥ fun k : Fin 384 => x (ix6 b n kv g r k) : EReal) := by
  subst hi
  refine (Host.reduce_eq_fold_single _ x _ h' h hu _).trans ?_
  show Finset.univ.fold max (Ideal.ofBits .f32 0xFF800000#32) _ = _
  rw [bits_neg_inf]
  congr 1
  funext k
  refine congrArg x (funext fun c => ?_)
  match c with
  | 0 => rfl
  | 1 => rfl
  | 2 => rfl
  | 3 => rfl
  | 4 => rfl
  | 5 => rfl

/-- The sum of a row. -/
theorem row_sum (x : FVec Ideal ⟨6, ![B, NB, 8, 4, 128, 384]⟩ .f32) (init : FVec Ideal ⟨0, ![]⟩ .f32)
    (hi : init = constant ⟨0, ![]⟩ .f32 0x00000000#32)
    (h' : (⟨6, ![B, NB, 8, 4, 128, 384]⟩ : Shape).ReducesTo [5] ⟨5, ![B, NB, 8, 4, 128]⟩)
    (h : (⟨6, ![B, NB, 8, 4, 128, 384]⟩ : Shape).Reduces [5] ⟨5, ![B, NB, 8, 4, 128]⟩) (hu : 0 < (⟨0, ![]⟩ : Shape).numel)
    (b : Fin B) (n : Fin NB) (kv : Fin 8) (g : Fin 4) (r : Fin 128) :
    Host.reduceAdd x init h' hu (ix5 b n kv g r) = (∑ k : Fin 384, x (ix6 b n kv g r k) : EReal) := by
  subst hi
  refine (Ideal.hostReduceAdd_single h' h x _ _).trans ?_
  show Ideal.ofBits .f32 0x00000000#32 + _ = _
  rw [Ideal.ofBits_zero_f32, zero_add]
  refine Finset.sum_congr rfl fun k _ => congrArg x (funext fun c => ?_)
  match c with
  | 0 => rfl
  | 1 => rfl
  | 2 => rfl
  | 3 => rfl
  | 4 => rfl
  | 5 => rfl

end Cert.Proof
-- ==== Proof.RefA.lean ====
module
public import proofs.«01_k».proof.Proof.Gen.ReferenceIdeal.Run
public import proofs.«01_k».proof.Proof.RefCommon
@[expose] public section
set_option maxRecDepth 16384
noncomputable section
namespace Cert.Proof
open Idealize.ShloMosaic Idealize.ShloMosaic.TcCoe Idealize.SL.Sem Idealize.ShloMosaic.StableHlo
open Cert.ReferenceIdeal Cert.ReferenceIdeal.Gen Cert.ReferenceIdeal.Value

/-! The reference over the first group of sequences. -/

namespace GroupA

variable (V0 : Valuation τ sig (Elt Ideal))

/-- The tokens of both groups. -/
abbrev X : Nat → Nat → EReal := tok (V0 (Proc.devRef .tc main_arg0)) (V0 (Proc.devRef .tc main_arg1))

/-- The padded keys (values), every block with the two around it. -/
def win (P : FVec Ideal S8x18x128x8x128 .f32) : FVec Ideal S8x16x384x8x128 .f32 :=
  concatenate S8x16x384x8x128 2 [⟨S8x16x128x8x128, ((extractStridedSlice S8x16x128x8x128 ![0, 0, 0, 0, 0] P slices_S8x18x128x8x128_S8x16x128x8x128_0_0_0_0_0) : (⟨S8x16x128x8x128, .f32⟩ : BufTy).Contents (Elt Ideal))⟩, ⟨S8x16x128x8x128, ((extractStridedSlice S8x16x128x8x128 ![0, 1, 0, 0, 0] P slices_S8x18x128x8x128_S8x16x128x8x128_0_1_0_0_0) : (⟨S8x16x128x8x128, .f32⟩ : BufTy).Contents (Elt Ideal))⟩, ⟨S8x16x128x8x128, ((extractStridedSlice S8x16x128x8x128 ![0, 2, 0, 0, 0] P slices_S8x18x128x8x128_S8x16x128x8x128_0_2_0_0_0) : (⟨S8x16x128x8x128, .f32⟩ : BufTy).Contents (Elt Ideal))⟩] concatenates_S8x16x128x8x128_S8x16x128x8x128_S8x16x128x8x128_S8x16x384x8x128_d2

theorem keys_apply (b : Fin 8) (n : Fin 16) (j : Fin 384) (kv : Fin 8) (e : Fin 128)
    (h : 128 ≤ 128 * n.val + j.val ∧ 128 * n.val + j.val < 2048 + 128) :
    win (res_main_v5 V0) (ix5 b n j kv e) = X V0 (128 * (16 * b.val + n.val) + j.val - 128) (4096 + (128 * kv.val + e.val)) := by
  have hk := kv.isLt
  have he := e.isLt
  unfold win res_main_v5
  pointwise
  split
  · rw [dif_pos (by omega)]
    exact tok_first _ _ _ (by simp only []; omega) (by simp only []; omega)
  · split
    · rw [dif_pos (by omega)]
      exact tok_first _ _ _ (by simp only []; omega) (by simp only []; omega)
    · rw [dif_pos (by omega)]
      exact tok_first _ _ _ (by simp only []; omega) (by simp only []; omega)

theorem vals_apply (b : Fin 8) (n : Fin 16) (j : Fin 384) (kv : Fin 8) (e : Fin 128)
    (h : 128 ≤ 128 * n.val + j.val ∧ 128 * n.val + j.val < 2048 + 128) :
    win (res_main_v7 V0) (ix5 b n j kv e) = X V0 (128 * (16 * b.val + n.val) + j.val - 128) (5120 + (128 * kv.val + e.val)) := by
  have hk := kv.isLt
  have he := e.isLt
  unfold win res_main_v7
  pointwise
  split
  · rw [dif_pos (by omega)]
    exact tok_first _ _ _ (by simp only []; omega) (by simp only []; omega)
  · split
    · rw [dif_pos (by omega)]
      exact tok_first _ _ _ (by simp only []; omega) (by simp only []; omega)
    · rw [dif_pos (by omega)]
      exact tok_first _ _ _ (by simp only []; omega) (by simp only []; omega)

theorem pos_apply (n : Fin 16) (j : Fin 384) :
    (res_main_v38 V0 (ix2 n j) : BitVec 32) = BitVec.ofInt 32 (((n.val : Int) - 1) * 128 + j.val) := by
  unfold res_main_v38 res_main_v22
  pointwise
  exact host_pos _ _

theorem gap_apply (n : Fin 16) (r : Fin 128) (j : Fin 384) :
    (res_main_v44 V0 (ix3 n r j) : BitVec 32) = BitVec.ofInt 32 (gap r.val j.val) := by
  unfold res_main_v44 res_main_v38 res_main_v22
  pointwise
  exact host_gap r.isLt j.isLt

/-- The sink of a head. -/
theorem sink_apply (kv : Fin 8) (g : Fin 4) :
    (res_main_v79 V0 (ix6 0 0 kv g 0 0) : EReal) = rd1 (a := 32) (V0 (Proc.devRef .tc main_arg2)) (4 * kv.val + g.val) := by
  unfold res_main_v79
  pointwise
  unfold rd1
  rw [dif_pos (by omega)]
  congr 1
  congr 1
  apply Fin.ext
  simp only []
  omega

theorem max_step (R : FVec Ideal S8x16x8x4x128 .f32) (s : FVec Ideal S1x1x8x4x1x1 .f32) (b : Fin 8) (n : Fin 16) (kv : Fin 8)
    (g : Fin 4) (r : Fin 128) :
    maximumf (broadcastInDim S8x16x8x4x128x1 ![0, 1, 2, 3, 4] bcast_S8x16x8x4x128_S8x16x8x4x128x1_0_1_2_3_4 R)
      (broadcastInDim S8x16x8x4x128x1 ![0, 1, 2, 3, 4, 5] bcast_S1x1x8x4x1x1_S8x16x8x4x128x1_0_1_2_3_4_5 s) (ix6 b n kv g r 0)
      = max (R (ix5 b n kv g r)) (s (ix6 0 0 kv g 0 0)) := by
  pointwise

theorem exp_step (S : FVec Ideal S8x16x8x4x128x384 .f32) (M : FVec Ideal S8x16x8x4x128x1 .f32) (b : Fin 8) (n : Fin 16)
    (kv : Fin 8) (g : Fin 4) (r : Fin 128) (j : Fin 384) :
    Host.exp (subf S (broadcastInDim S8x16x8x4x128x384 ![0, 1, 2, 3, 4, 5] bcast_S8x16x8x4x128x1_S8x16x8x4x128x384_0_1_2_3_4_5 M))
      (ix6 b n kv g r j) = Ideal.exp (S (ix6 b n kv g r j) - M (ix6 b n kv g r 0)) := by
  pointwise

theorem probs_step (E : FVec Ideal S8x16x8x4x128x384 .f32) (R : FVec Ideal S8x16x8x4x128 .f32) (s : FVec Ideal S1x1x8x4x1x1 .f32)
    (M : FVec Ideal S8x16x8x4x128x1 .f32) (b : Fin 8) (n : Fin 16) (kv : Fin 8) (g : Fin 4) (r : Fin 128) (j : Fin 384) :
    mulf E (broadcastInDim S8x16x8x4x128x384 ![0, 1, 2, 3, 4, 5] bcast_S8x16x8x4x128x1_S8x16x8x4x128x384_0_1_2_3_4_5 (Host.divf (broadcastInDim S8x16x8x4x128x1 ![] bcast_S_S8x16x8x4x128x1 (constant S_ .f32 0x3F800000#32)) (addf (broadcastInDim S8x16x8x4x128x1 ![0, 1, 2, 3, 4] bcast_S8x16x8x4x128_S8x16x8x4x128x1_0_1_2_3_4 R) (Host.exp (subf (broadcastInDim S8x16x8x4x128x1 ![0, 1, 2, 3, 4, 5] bcast_S1x1x8x4x1x1_S8x16x8x4x128x1_0_1_2_3_4_5 s) M)))))
      (ix6 b n kv g r j) = E (ix6 b n kv g r j)
        * Ideal.div 1 (R (ix5 b n kv g r) + Ideal.exp (s (ix6 0 0 kv g 0 0) - M (ix6 b n kv g r 0))) := by
  pointwise

/-- The group's result from its windows of values and its probabilities. -/
theorem out_step (W : FVec Ideal S8x16x384x8x128 .f32) (P : FVec Ideal S8x16x8x4x128x384 .f32) (t : Fin 16384) (k : Fin 4096) :
    (shapeCast S16384x4096 (shapeCast S8x2048x4096 (transpose S8x16x128x8x4x128 [0, 1, 5, 2, 4, 3] (Host.dotGeneral dot_S8x16x384x8x128_S8x16x8x4x128x384_S8x16x8x128x4x128_2_5_4_34_013_012 none W P) transposes_S8x16x8x128x4x128_S8x16x128x8x4x128_0_1_5_2_4_3) shapeCasts_S8x16x128x8x4x128_S8x2048x4096) shapeCasts_S8x2048x4096_S16384x4096 : FVec Ideal S16384x4096 .f32) (ix2 t k)
      = ∑ j : Fin 384, W (ix5 ⟨t.val / 2048, by omega⟩ ⟨t.val / 128 % 16, by omega⟩ j ⟨k.val / 512, by omega⟩ ⟨k.val % 128, by omega⟩)
        * P (ix6 ⟨t.val / 2048, by omega⟩ ⟨t.val / 128 % 16, by omega⟩ ⟨k.val / 512, by omega⟩ ⟨k.val / 128 % 4, by omega⟩ ⟨t.val % 128, by omega⟩ j) := by
  pointwise

theorem scores_apply (b : Fin 8) (n : Fin 16) (kv : Fin 8) (g : Fin 4) (r : Fin 128) (j : Fin 384) :
    (res_main_v77 V0 (ix6 b n kv g r j) : EReal) = scores (16 * b.val + n.val) r.val (4 * kv.val + g.val)
      (fun e => X V0 (128 * (16 * b.val + n.val) + r.val) (128 * (4 * kv.val + g.val) + e.val))
      (fun j e => X V0 (128 * (16 * b.val + n.val) + j.val - 128) (4096 + (128 * ((4 * kv.val + g.val) / 4) + e.val))) j := by
  have hb := b.isLt
  have hn := n.isLt
  have hkv := kv.isLt
  have hg := g.isLt
  have hj := j.isLt
  have hr := r.isLt
  have hf : isFirst (16 * b.val + n.val) ↔ n.val = 0 := by unfold isFirst; split <;> omega
  have hl : isLast (16 * b.val + n.val) ↔ n.val + 1 = 16 := by unfold isLast; split <;> omega
  have hD' := gap_apply V0 n r j
  have hP' := pos_apply V0 n j
  have hK' := keys_apply V0 b n j kv
  unfold res_main_v77
  generalize hK : concatenate (α := EReal) S8x16x384x8x128 2 _ _ = K
  change win (res_main_v5 V0) = K at hK
  rw [hK] at hK'
  clear hK
  revert hD' hP'
  generalize res_main_v44 V0 = D
  generalize res_main_v38 V0 = P
  intro hD' hP'
  pointwise
  rw [hD', hP', sitofp_ofInt (by have : 0 ≤ gap r.val j.val := abs_nonneg _; have : gap r.val j.val < 1024 := by { unfold gap; rw [abs_lt]; omega }; omega)]
  have hS := host_sees (N := 16 * b.val + n.val) (nb := 16) (t := 2048#32) hn (by omega) rfl hf hl hr hj
  refine (select_iff hS _ _).trans ?_
  unfold scores
  split
  · rename_i hs
    have hs1 := hs.2.1
    have hs2 := hs.2.2
    rw [hf] at hs1
    rw [hl] at hs2
    rw [host_scale, host_slope (by omega), show kv.val * 4 + g.val = 4 * kv.val + g.val by omega, neg_mul, ← sub_eq_add_neg]
    congr 1
    congr 1
    refine Finset.sum_congr rfl fun e _ => ?_
    have he := e.isLt
    rw [hK' e (by omega), mul_comm, show (4 * kv.val + g.val) / 4 = kv.val by omega]
    congr 1
    exact tok_first _ _ _ (by simp only []; omega) (by simp only []; omega)
  · exact bits_neg_inf

theorem reduces : S8x16x8x4x128x384.Reduces [5] S8x16x8x4x128 := by decide

/-- One score. -/
def score (b : Fin 8) (n : Fin 16) (kv : Fin 8) (g : Fin 4) (r : Fin 128) (j : Fin 384) : EReal :=
  res_main_v77 V0 (ix6 b n kv g r j)

/-- One unnormalised weight. -/
def weight (b : Fin 8) (n : Fin 16) (kv : Fin 8) (g : Fin 4) (r : Fin 128) (j : Fin 384) : EReal :=
  res_main_v86 V0 (ix6 b n kv g r j)

/-- The maximum a row subtracts. -/
def top (b : Fin 8) (n : Fin 16) (kv : Fin 8) (g : Fin 4) (r : Fin 128) : EReal :=
  res_main_v83 V0 (ix6 b n kv g r 0)

theorem max_apply (b : Fin 8) (n : Fin 16) (kv : Fin 8) (g : Fin 4) (r : Fin 128) :
    top V0 b n kv g r
      = max (Finset.univ.fold max ⊥ fun k : Fin 384 => score V0 b n kv g r k)
        (rd1 (a := 32) (V0 (Proc.devRef .tc main_arg2)) (4 * kv.val + g.val)) := by
  unfold top res_main_v83
  refine (max_step _ (res_main_v79 V0) b n kv g r).trans ?_
  rw [sink_apply]
  refine congrArg₂ max ?_ rfl
  exact row_max (res_main_v77 V0) _ rfl _ reduces _ b n kv g r

theorem exp_apply (b : Fin 8) (n : Fin 16) (kv : Fin 8) (g : Fin 4) (r : Fin 128) (j : Fin 384) :
    weight V0 b n kv g r j = Ideal.exp (score V0 b n kv g r j
        - max (Finset.univ.fold max ⊥ fun k : Fin 384 => score V0 b n kv g r k)
        (rd1 (a := 32) (V0 (Proc.devRef .tc main_arg2)) (4 * kv.val + g.val))) := by
  unfold weight res_main_v86
  refine (exp_step (res_main_v77 V0) (res_main_v83 V0) b n kv g r j).trans ?_
  exact congrArg (fun M => Ideal.exp (score V0 b n kv g r j - M)) (max_apply V0 b n kv g r)

/-- The probabilities. -/
def probs : FVec Ideal S8x16x8x4x128x384 .f32 :=
  mulf (res_main_v86 V0) (broadcastInDim S8x16x8x4x128x384 ![0, 1, 2, 3, 4, 5] bcast_S8x16x8x4x128x1_S8x16x8x4x128x384_0_1_2_3_4_5 (Host.divf (broadcastInDim S8x16x8x4x128x1 ![] bcast_S_S8x16x8x4x128x1 (constant S_ .f32 0x3F800000#32)) (addf (broadcastInDim S8x16x8x4x128x1 ![0, 1, 2, 3, 4] bcast_S8x16x8x4x128_S8x16x8x4x128x1_0_1_2_3_4 (Host.reduceAdd (res_main_v86 V0) (constant S_ .f32 0x00000000#32) reducesTo_S8x16x8x4x128x384_S8x16x8x4x128_d5 h_S_)) (Host.exp (subf (broadcastInDim S8x16x8x4x128x1 ![0, 1, 2, 3, 4, 5] bcast_S1x1x8x4x1x1_S8x16x8x4x128x1_0_1_2_3_4_5 (res_main_v79 V0)) (res_main_v83 V0))))))

/-- The group's result. -/
def result : FVec Ideal S16384x4096 .f32 :=
  shapeCast S16384x4096 (shapeCast S8x2048x4096 (transpose S8x16x128x8x4x128 [0, 1, 5, 2, 4, 3] (Host.dotGeneral dot_S8x16x384x8x128_S8x16x8x4x128x384_S8x16x8x128x4x128_2_5_4_34_013_012 none (win (res_main_v7 V0)) (probs V0)) transposes_S8x16x8x128x4x128_S8x16x128x8x4x128_0_1_5_2_4_3) shapeCasts_S8x16x128x8x4x128_S8x2048x4096) shapeCasts_S8x2048x4096_S16384x4096

theorem probs_apply (b : Fin 8) (n : Fin 16) (kv : Fin 8) (g : Fin 4) (r : Fin 128) (j : Fin 384) :
    probs V0 (ix6 b n kv g r j) = weight V0 b n kv g r j
      * Ideal.div 1 ((∑ k : Fin 384, weight V0 b n kv g r k)
        + Ideal.exp (rd1 (a := 32) (V0 (Proc.devRef .tc main_arg2)) (4 * kv.val + g.val)
          - max (Finset.univ.fold max ⊥ fun k : Fin 384 => score V0 b n kv g r k)
            (rd1 (a := 32) (V0 (Proc.devRef .tc main_arg2)) (4 * kv.val + g.val)))) := by
  unfold probs
  refine (probs_step (res_main_v86 V0) _ (res_main_v79 V0) (res_main_v83 V0) b n kv g r j).trans ?_
  rw [sink_apply, row_sum (res_main_v86 V0) _ rfl _ reduces]
  exact congrArg (fun M => weight V0 b n kv g r j * Ideal.div 1 ((∑ k : Fin 384, weight V0 b n kv g r k)
    + Ideal.exp (rd1 (a := 32) (V0 (Proc.devRef .tc main_arg2)) (4 * kv.val + g.val) - M))) (max_apply V0 b n kv g r)

theorem row_eq (b : Fin 8) (n : Fin 16) (kv : Fin 8) (g : Fin 4) (r d : Fin 128) :
    ∑ j : Fin 384, win (res_main_v7 V0) (ix5 b n j kv d) * probs V0 (ix6 b n kv g r j)
      = attnAt (X V0) (rd1 (a := 32) (V0 (Proc.devRef .tc main_arg2))) (16 * b.val + n.val) r.val (4 * kv.val + g.val) d.val := by
  have hb := b.isLt
  have hn := n.isLt
  have hf : isFirst (16 * b.val + n.val) ↔ n.val = 0 := by unfold isFirst; split <;> omega
  have hl : isLast (16 * b.val + n.val) ↔ n.val + 1 = 16 := by unfold isLast; split <;> omega
  unfold attnAt
  have hs : score V0 b n kv g r = _ := funext (scores_apply V0 b n kv g r)
  rw [← hs]
  refine Eq.trans (Finset.sum_congr rfl fun j _ => ?_) (attnRow_congr rfl rfl
    (v := fun j : Fin 384 => win (res_main_v7 V0) (ix5 b n j kv d)) fun j hj => ?_)
  · rw [mul_comm, probs_apply, exp_apply, Finset.sum_congr rfl fun k _ => exp_apply V0 b n kv g r k]
  · rw [congrFun hs j] at hj
    have hj' := sees_of_scores hj
    have h1 := hj'.2.1
    have h2 := hj'.2.2
    rw [hf] at h1
    rw [hl] at h2
    have h3 := j.isLt
    show win (res_main_v7 V0) (ix5 b n j kv d) = _
    rw [vals_apply V0 b n j kv d (by omega), show (4 * kv.val + g.val) / 4 = kv.val by omega]

theorem result_apply (t : Fin 16384) (k : Fin 4096) :
    result V0 (ix2 t k) = attnAt (X V0) (rd1 (a := 32) (V0 (Proc.devRef .tc main_arg2))) (0 + t.val / 128) (t.val % 128)
      (k.val / 128) (k.val % 128) := by
  have ht := t.isLt
  have hk := k.isLt
  unfold result
  refine (out_step _ _ t k).trans ((row_eq V0 _ _ _ _ _ _).trans ?_)
  congr 1 <;> simp only [] <;> omega

end GroupA

end Cert.Proof
-- ==== Proof.RefB.lean ====
module
public import proofs.«01_k».proof.Proof.Gen.ReferenceIdeal.Run
public import proofs.«01_k».proof.Proof.RefCommon
@[expose] public section
set_option maxRecDepth 16384
noncomputable section
namespace Cert.Proof
open Idealize.ShloMosaic Idealize.ShloMosaic.TcCoe Idealize.SL.Sem Idealize.ShloMosaic.StableHlo
open Cert.ReferenceIdeal Cert.ReferenceIdeal.Gen Cert.ReferenceIdeal.Value

/-! The reference over the second group of sequences. -/

namespace GroupB

variable (V0 : Valuation τ sig (Elt Ideal))

/-- The tokens of both groups. -/
abbrev X : Nat → Nat → EReal := tok (V0 (Proc.devRef .tc main_arg0)) (V0 (Proc.devRef .tc main_arg1))

/-- The padded keys (values), every block with the two around it. -/
def win (P : FVec Ideal S4x34x128x8x128 .f32) : FVec Ideal S4x32x384x8x128 .f32 :=
  concatenate S4x32x384x8x128 2 [⟨S4x32x128x8x128, ((extractStridedSlice S4x32x128x8x128 ![0, 0, 0, 0, 0] P slices_S4x34x128x8x128_S4x32x128x8x128_0_0_0_0_0) : (⟨S4x32x128x8x128, .f32⟩ : BufTy).Contents (Elt Ideal))⟩, ⟨S4x32x128x8x128, ((extractStridedSlice S4x32x128x8x128 ![0, 1, 0, 0, 0] P slices_S4x34x128x8x128_S4x32x128x8x128_0_1_0_0_0) : (⟨S4x32x128x8x128, .f32⟩ : BufTy).Contents (Elt Ideal))⟩, ⟨S4x32x128x8x128, ((extractStridedSlice S4x32x128x8x128 ![0, 2, 0, 0, 0] P slices_S4x34x128x8x128_S4x32x128x8x128_0_2_0_0_0) : (⟨S4x32x128x8x128, .f32⟩ : BufTy).Contents (Elt Ideal))⟩] concatenates_S4x32x128x8x128_S4x32x128x8x128_S4x32x128x8x128_S4x32x384x8x128_d2

theorem keys_apply (b : Fin 4) (n : Fin 32) (j : Fin 384) (kv : Fin 8) (e : Fin 128)
    (h : 128 ≤ 128 * n.val + j.val ∧ 128 * n.val + j.val < 4096 + 128) :
    win (res_main_v105 V0) (ix5 b n j kv e) = X V0 (128 * (128 + 32 * b.val + n.val) + j.val - 128) (4096 + (128 * kv.val + e.val)) := by
  have hk := kv.isLt
  have he := e.isLt
  unfold win res_main_v105
  pointwise
  split
  · rw [dif_pos (by omega)]
    exact tok_second _ _ _ (by simp only []; omega) (by simp only []; omega)
  · split
    · rw [dif_pos (by omega)]
      exact tok_second _ _ _ (by simp only []; omega) (by simp only []; omega)
    · rw [dif_pos (by omega)]
      exact tok_second _ _ _ (by simp only []; omega) (by simp only []; omega)

theorem vals_apply (b : Fin 4) (n : Fin 32) (j : Fin 384) (kv : Fin 8) (e : Fin 128)
    (h : 128 ≤ 128 * n.val + j.val ∧ 128 * n.val + j.val < 4096 + 128) :
    win (res_main_v107 V0) (ix5 b n j kv e) = X V0 (128 * (128 + 32 * b.val + n.val) + j.val - 128) (5120 + (128 * kv.val + e.val)) := by
  have hk := kv.isLt
  have he := e.isLt
  unfold win res_main_v107
  pointwise
  split
  · rw [dif_pos (by omega)]
    exact tok_second _ _ _ (by simp only []; omega) (by simp only []; omega)
  · split
    · rw [dif_pos (by omega)]
      exact tok_second _ _ _ (by simp only []; omega) (by simp only []; omega)
    · rw [dif_pos (by omega)]
      exact tok_second _ _ _ (by simp only []; omega) (by simp only []; omega)

theorem pos_apply (n : Fin 32) (j : Fin 384) :
    (res_main_v138 V0 (ix2 n j) : BitVec 32) = BitVec.ofInt 32 (((n.val : Int) - 1) * 128 + j.val) := by
  unfold res_main_v138 res_main_v122
  pointwise
  exact host_pos _ _

theorem gap_apply (n : Fin 32) (r : Fin 128) (j : Fin 384) :
    (res_main_v144 V0 (ix3 n r j) : BitVec 32) = BitVec.ofInt 32 (gap r.val j.val) := by
  unfold res_main_v144 res_main_v138 res_main_v122
  pointwise
  exact host_gap r.isLt j.isLt

/-- The sink of a head. -/
theorem sink_apply (kv : Fin 8) (g : Fin 4) :
    (res_main_v179 V0 (ix6 0 0 kv g 0 0) : EReal) = rd1 (a := 32) (V0 (Proc.devRef .tc main_arg2)) (4 * kv.val + g.val) := by
  unfold res_main_v179
  pointwise
  unfold rd1
  rw [dif_pos (by omega)]
  congr 1
  congr 1
  apply Fin.ext
  simp only []
  omega

theorem max_step (R : FVec Ideal S4x32x8x4x128 .f32) (s : FVec Ideal S1x1x8x4x1x1 .f32) (b : Fin 4) (n : Fin 32) (kv : Fin 8)
    (g : Fin 4) (r : Fin 128) :
    maximumf (broadcastInDim S4x32x8x4x128x1 ![0, 1, 2, 3, 4] bcast_S4x32x8x4x128_S4x32x8x4x128x1_0_1_2_3_4 R)
      (broadcastInDim S4x32x8x4x128x1 ![0, 1, 2, 3, 4, 5] bcast_S1x1x8x4x1x1_S4x32x8x4x128x1_0_1_2_3_4_5 s) (ix6 b n kv g r 0)
      = max (R (ix5 b n kv g r)) (s (ix6 0 0 kv g 0 0)) := by
  pointwise

theorem exp_step (S : FVec Ideal S4x32x8x4x128x384 .f32) (M : FVec Ideal S4x32x8x4x128x1 .f32) (b : Fin 4) (n : Fin 32)
    (kv : Fin 8) (g : Fin 4) (r : Fin 128) (j : Fin 384) :
    Host.exp (subf S (broadcastInDim S4x32x8x4x128x384 ![0, 1, 2, 3, 4, 5] bcast_S4x32x8x4x128x1_S4x32x8x4x128x384_0_1_2_3_4_5 M))
      (ix6 b n kv g r j) = Ideal.exp (S (ix6 b n kv g r j) - M (ix6 b n kv g r 0)) := by
  pointwise

theorem probs_step (E : FVec Ideal S4x32x8x4x128x384 .f32) (R : FVec Ideal S4x32x8x4x128 .f32) (s : FVec Ideal S1x1x8x4x1x1 .f32)
    (M : FVec Ideal S4x32x8x4x128x1 .f32) (b : Fin 4) (n : Fin 32) (kv : Fin 8) (g : Fin 4) (r : Fin 128) (j : Fin 384) :
    mulf E (broadcastInDim S4x32x8x4x128x384 ![0, 1, 2, 3, 4, 5] bcast_S4x32x8x4x128x1_S4x32x8x4x128x384_0_1_2_3_4_5 (Host.divf (broadcastInDim S4x32x8x4x128x1 ![] bcast_S_S4x32x8x4x128x1 (constant S_ .f32 0x3F800000#32)) (addf (broadcastInDim S4x32x8x4x128x1 ![0, 1, 2, 3, 4] bcast_S4x32x8x4x128_S4x32x8x4x128x1_0_1_2_3_4 R) (Host.exp (subf (broadcastInDim S4x32x8x4x128x1 ![0, 1, 2, 3, 4, 5] bcast_S1x1x8x4x1x1_S4x32x8x4x128x1_0_1_2_3_4_5 s) M)))))
      (ix6 b n kv g r j) = E (ix6 b n kv g r j)
        * Ideal.div 1 (R (ix5 b n kv g r) + Ideal.exp (s (ix6 0 0 kv g 0 0) - M (ix6 b n kv g r 0))) := by
  pointwise

/-- The group's result from its windows of values and its probabilities. -/
theorem out_step (W : FVec Ideal S4x32x384x8x128 .f32) (P : FVec Ideal S4x32x8x4x128x384 .f32) (t : Fin 16384) (k : Fin 4096) :
    (shapeCast S16384x4096 (shapeCast S4x4096x4096 (transpose S4x32x128x8x4x128 [0, 1, 5, 2, 4, 3] (Host.dotGeneral dot_S4x32x384x8x128_S4x32x8x4x128x384_S4x32x8x128x4x128_2_5_4_34_013_012 none W P) transposes_S4x32x8x128x4x128_S4x32x128x8x4x128_0_1_5_2_4_3) shapeCasts_S4x32x128x8x4x128_S4x4096x4096) shapeCasts_S4x4096x4096_S16384x4096 : FVec Ideal S16384x4096 .f32) (ix2 t k)
      = ∑ j : Fin 384, W (ix5 ⟨t.val / 4096, by omega⟩ ⟨t.val / 128 % 32, by omega⟩ j ⟨k.val / 512, by omega⟩ ⟨k.val % 128, by omega⟩)
        * P (ix6 ⟨t.val / 4096, by omega⟩ ⟨t.val / 128 % 32, by omega⟩ ⟨k.val / 512, by omega⟩ ⟨k.val / 128 % 4, by omega⟩ ⟨t.val % 128, by omega⟩ j) := by
  pointwise

theorem scores_apply (b : Fin 4) (n : Fin 32) (kv : Fin 8) (g : Fin 4) (r : Fin 128) (j : Fin 384) :
    (res_main_v177 V0 (ix6 b n kv g r j) : EReal) = scores (128 + 32 * b.val + n.val) r.val (4 * kv.val + g.val)
      (fun e => X V0 (128 * (128 + 32 * b.val + n.val) + r.val) (128 * (4 * kv.val + g.val) + e.val))
      (fun j e => X V0 (128 * (128 + 32 * b.val + n.val) + j.val - 128) (4096 + (128 * ((4 * kv.val + g.val) / 4) + e.val))) j := by
  have hb := b.isLt
  have hn := n.isLt
  have hkv := kv.isLt
  have hg := g.isLt
  have hj := j.isLt
  have hr := r.isLt
  have hf : isFirst (128 + 32 * b.val + n.val) ↔ n.val = 0 := by unfold isFirst; split <;> omega
  have hl : isLast (128 + 32 * b.val + n.val) ↔ n.val + 1 = 32 := by unfold isLast; split <;> omega
  have hD' := gap_apply V0 n r j
  have hP' := pos_apply V0 n j
  have hK' := keys_apply V0 b n j kv
  unfold res_main_v177
  generalize hK : concatenate (α := EReal) S4x32x384x8x128 2 _ _ = K
  change win (res_main_v105 V0) = K at hK
  rw [hK] at hK'
  clear hK
  revert hD' hP'
  generalize res_main_v144 V0 = D
  generalize res_main_v138 V0 = P
  intro hD' hP'
  pointwise
  rw [hD', hP', sitofp_ofInt (by have : 0 ≤ gap r.val j.val := abs_nonneg _; have : gap r.val j.val < 1024 := by { unfold gap; rw [abs_lt]; omega }; omega)]
  have hS := host_sees (N := 128 + 32 * b.val + n.val) (nb := 32) (t := 4096#32) hn (by omega) rfl hf hl hr hj
  refine (select_iff hS _ _).trans ?_
  unfold scores
  split
  · rename_i hs
    have hs1 := hs.2.1
    have hs2 := hs.2.2
    rw [hf] at hs1
    rw [hl] at hs2
    rw [host_scale, host_slope (by omega), show kv.val * 4 + g.val = 4 * kv.val + g.val by omega, neg_mul, ← sub_eq_add_neg]
    congr 1
    congr 1
    refine Finset.sum_congr rfl fun e _ => ?_
    have he := e.isLt
    rw [hK' e (by omega), mul_comm, show (4 * kv.val + g.val) / 4 = kv.val by omega]
    congr 1
    exact tok_second _ _ _ (by simp only []; omega) (by simp only []; omega)
  · exact bits_neg_inf

theorem reduces : S4x32x8x4x128x384.Reduces [5] S4x32x8x4x128 := by decide

/-- One score. -/
def score (b : Fin 4) (n : Fin 32) (kv : Fin 8) (g : Fin 4) (r : Fin 128) (j : Fin 384) : EReal :=
  res_main_v177 V0 (ix6 b n kv g r j)

/-- One unnormalised weight. -/
def weight (b : Fin 4) (n : Fin 32) (kv : Fin 8) (g : Fin 4) (r : Fin 128) (j : Fin 384) : EReal :=
  res_main_v186 V0 (ix6 b n kv g r j)

/-- The maximum a row subtracts. -/
def top (b : Fin 4) (n : Fin 32) (kv : Fin 8) (g : Fin 4) (r : Fin 128) : EReal :=
  res_main_v183 V0 (ix6 b n kv g r 0)

theorem max_apply (b : Fin 4) (n : Fin 32) (kv : Fin 8) (g : Fin 4) (r : Fin 128) :
    top V0 b n kv g r
      = max (Finset.univ.fold max ⊥ fun k : Fin 384 => score V0 b n kv g r k)
        (rd1 (a := 32) (V0 (Proc.devRef .tc main_arg2)) (4 * kv.val + g.val)) := by
  unfold top res_main_v183
  refine (max_step _ (res_main_v179 V0) b n kv g r).trans ?_
  rw [sink_apply]
  refine congrArg₂ max ?_ rfl
  exact row_max (res_main_v177 V0) _ rfl _ reduces _ b n kv g r

theorem exp_apply (b : Fin 4) (n : Fin 32) (kv : Fin 8) (g : Fin 4) (r : Fin 128) (j : Fin 384) :
    weight V0 b n kv g r j = Ideal.exp (score V0 b n kv g r j
        - max (Finset.univ.fold max ⊥ fun k : Fin 384 => score V0 b n kv g r k)
        (rd1 (a := 32) (V0 (Proc.devRef .tc main_arg2)) (4 * kv.val + g.val))) := by
  unfold weight res_main_v186
  refine (exp_step (res_main_v177 V0) (res_main_v183 V0) b n kv g r j).trans ?_
  exact congrArg (fun M => Ideal.exp (score V0 b n kv g r j - M)) (max_apply V0 b n kv g r)

/-- The probabilities. -/
def probs : FVec Ideal S4x32x8x4x128x384 .f32 :=
  mulf (res_main_v186 V0) (broadcastInDim S4x32x8x4x128x384 ![0, 1, 2, 3, 4, 5] bcast_S4x32x8x4x128x1_S4x32x8x4x128x384_0_1_2_3_4_5 (Host.divf (broadcastInDim S4x32x8x4x128x1 ![] bcast_S_S4x32x8x4x128x1 (constant S_ .f32 0x3F800000#32)) (addf (broadcastInDim S4x32x8x4x128x1 ![0, 1, 2, 3, 4] bcast_S4x32x8x4x128_S4x32x8x4x128x1_0_1_2_3_4 (Host.reduceAdd (res_main_v186 V0) (constant S_ .f32 0x00000000#32) reducesTo_S4x32x8x4x128x384_S4x32x8x4x128_d5 h_S_)) (Host.exp (subf (broadcastInDim S4x32x8x4x128x1 ![0, 1, 2, 3, 4, 5] bcast_S1x1x8x4x1x1_S4x32x8x4x128x1_0_1_2_3_4_5 (res_main_v179 V0)) (res_main_v183 V0))))))

/-- The group's result. -/
def result : FVec Ideal S16384x4096 .f32 :=
  shapeCast S16384x4096 (shapeCast S4x4096x4096 (transpose S4x32x128x8x4x128 [0, 1, 5, 2, 4, 3] (Host.dotGeneral dot_S4x32x384x8x128_S4x32x8x4x128x384_S4x32x8x128x4x128_2_5_4_34_013_012 none (win (res_main_v107 V0)) (probs V0)) transposes_S4x32x8x128x4x128_S4x32x128x8x4x128_0_1_5_2_4_3) shapeCasts_S4x32x128x8x4x128_S4x4096x4096) shapeCasts_S4x4096x4096_S16384x4096

theorem probs_apply (b : Fin 4) (n : Fin 32) (kv : Fin 8) (g : Fin 4) (r : Fin 128) (j : Fin 384) :
    probs V0 (ix6 b n kv g r j) = weight V0 b n kv g r j
      * Ideal.div 1 ((∑ k : Fin 384, weight V0 b n kv g r k)
        + Ideal.exp (rd1 (a := 32) (V0 (Proc.devRef .tc main_arg2)) (4 * kv.val + g.val)
          - max (Finset.univ.fold max ⊥ fun k : Fin 384 => score V0 b n kv g r k)
            (rd1 (a := 32) (V0 (Proc.devRef .tc main_arg2)) (4 * kv.val + g.val)))) := by
  unfold probs
  refine (probs_step (res_main_v186 V0) _ (res_main_v179 V0) (res_main_v183 V0) b n kv g r j).trans ?_
  rw [sink_apply, row_sum (res_main_v186 V0) _ rfl _ reduces]
  exact congrArg (fun M => weight V0 b n kv g r j * Ideal.div 1 ((∑ k : Fin 384, weight V0 b n kv g r k)
    + Ideal.exp (rd1 (a := 32) (V0 (Proc.devRef .tc main_arg2)) (4 * kv.val + g.val) - M))) (max_apply V0 b n kv g r)

theorem row_eq (b : Fin 4) (n : Fin 32) (kv : Fin 8) (g : Fin 4) (r d : Fin 128) :
    ∑ j : Fin 384, win (res_main_v107 V0) (ix5 b n j kv d) * probs V0 (ix6 b n kv g r j)
      = attnAt (X V0) (rd1 (a := 32) (V0 (Proc.devRef .tc main_arg2))) (128 + 32 * b.val + n.val) r.val (4 * kv.val + g.val) d.val := by
  have hb := b.isLt
  have hn := n.isLt
  have hf : isFirst (128 + 32 * b.val + n.val) ↔ n.val = 0 := by unfold isFirst; split <;> omega
  have hl : isLast (128 + 32 * b.val + n.val) ↔ n.val + 1 = 32 := by unfold isLast; split <;> omega
  unfold attnAt
  have hs : score V0 b n kv g r = _ := funext (scores_apply V0 b n kv g r)
  rw [← hs]
  refine Eq.trans (Finset.sum_congr rfl fun j _ => ?_) (attnRow_congr rfl rfl
    (v := fun j : Fin 384 => win (res_main_v107 V0) (ix5 b n j kv d)) fun j hj => ?_)
  · rw [mul_comm, probs_apply, exp_apply, Finset.sum_congr rfl fun k _ => exp_apply V0 b n kv g r k]
  · rw [congrFun hs j] at hj
    have hj' := sees_of_scores hj
    have h1 := hj'.2.1
    have h2 := hj'.2.2
    rw [hf] at h1
    rw [hl] at h2
    have h3 := j.isLt
    show win (res_main_v107 V0) (ix5 b n j kv d) = _
    rw [vals_apply V0 b n j kv d (by omega), show (4 * kv.val + g.val) / 4 = kv.val by omega]

theorem result_apply (t : Fin 16384) (k : Fin 4096) :
    result V0 (ix2 t k) = attnAt (X V0) (rd1 (a := 32) (V0 (Proc.devRef .tc main_arg2))) (128 + t.val / 128) (t.val % 128)
      (k.val / 128) (k.val % 128) := by
  have ht := t.isLt
  have hk := k.isLt
  unfold result
  refine (out_step _ _ t k).trans ((row_eq V0 _ _ _ _ _ _).trans ?_)
  congr 1 <;> simp only [] <;> omega

end GroupB

end Cert.Proof
-- ==== Proof.RefArray.lean ====
module
public import proofs.«01_k».proof.Proof.RefA
public import proofs.«01_k».proof.Proof.RefB
@[expose] public section
set_option maxRecDepth 16384
noncomputable section
namespace Cert.Proof
open Idealize.ShloMosaic Idealize.ShloMosaic.TcCoe Idealize.SL.Sem Idealize.ShloMosaic.StableHlo
open Cert.ReferenceIdeal Cert.ReferenceIdeal.Gen Cert.ReferenceIdeal.Value

/-! The reference's array: the two groups' results, one after the other. -/

variable (V0 : Valuation τ sig (Elt Ideal))

/-- What the reference returns. -/
def refArray : FVec Ideal S32768x4096 .bf16 :=
  truncf .bf16 (concatenate S32768x4096 0 [⟨S16384x4096, GroupA.result V0⟩, ⟨S16384x4096, GroupB.result V0⟩]
    concatenates_S16384x4096_S16384x4096_S32768x4096_d0) bitsLt_bf16_f32

theorem refArray_entry (n : Fin 32768) (k : Fin 4096) : (refArray V0 (ix2 n k) : EReal)
    = attnAt (tok (V0 (Proc.devRef .tc main_arg0)) (V0 (Proc.devRef .tc main_arg1)))
      (rd1 (a := 32) (V0 (Proc.devRef .tc main_arg2))) (n.val / 128) (n.val % 128) (k.val / 128) (k.val % 128) := by
  have hn := n.isLt
  have hk := k.isLt
  unfold refArray
  change (concatenate S32768x4096 0 [⟨S16384x4096, GroupA.result V0⟩, ⟨S16384x4096, GroupB.result V0⟩]
    concatenates_S16384x4096_S16384x4096_S32768x4096_d0 (ix2 n k) : EReal) = _
  have hc := concatenates_S16384x4096_S16384x4096_S32768x4096_d0
  by_cases h : n.val < 16384
  · refine (concatenate_pair_apply_left 0 _ _ hc (ix2 n k) hc.rank_fst (ix2 ⟨n.val, h⟩ k) fun b => ?_).trans ?_
    · match b with
      | 0 => rfl
      | 1 => rfl
    · refine (GroupA.result_apply V0 ⟨n.val, h⟩ k).trans ?_
      rw [show 0 + (⟨n.val, h⟩ : Fin 16384).val / 128 = n.val / 128 from Nat.zero_add _]
  · refine (concatenate_pair_apply_right 0 _ _ hc (ix2 n k) hc.rank_fst hc.rank_snd (ix2 ⟨n.val - 16384, by omega⟩ k)
      (fun b hb => ?_) ?_).trans ?_
    · match b with
      | 0 => exact absurd rfl hb
      | 1 => rfl
    · show n.val - 16384 + 16384 = n.val
      omega
    · refine (GroupB.result_apply V0 ⟨n.val - 16384, by omega⟩ k).trans ?_
      rw [show 128 + (n.val - 16384) / 128 = n.val / 128 by omega, show (n.val - 16384) % 128 = n.val % 128 by omega]

theorem refArray_apply (i : S32768x4096.Idx) : (refArray V0 i : EReal)
    = attnAt (tok (V0 (Proc.devRef .tc main_arg0)) (V0 (Proc.devRef .tc main_arg1)))
      (rd1 (a := 32) (V0 (Proc.devRef .tc main_arg2))) ((i 0).val / 128) ((i 0).val % 128) ((i 1).val / 128) ((i 1).val % 128) := by
  refine Eq.trans ?_ (refArray_entry V0 (i 0) (i 1))
  exact congrArg (refArray V0) (eq_ix2 i)

end Cert.Proof
end
end
-- ==== Proof.Experts.lean ====
module
public import proofs.«01_k».proof.Proof.Spec
@[expose] public section
set_option maxRecDepth 16384
noncomputable section
namespace Cert.Proof
open Idealize.ShloMosaic Idealize.ShloMosaic.TcCoe

/-! The experts' slots and weights: expert `e` holds 4096 slots, the prompt's 2048 and then the sample's 2048. -/

/-- Entry `k` of slot `n`, the experts' slots one after the other. -/
def slot {w : Nat} (A B : (⟨3, ![16, 2048, w]⟩ : Shape).Idx → EReal) (n k : Nat) : EReal :=
  if h : n < 65536 ∧ k < w then
    if g : n % 4096 < 2048 then A (ix3 ⟨n / 4096, by omega⟩ ⟨n % 4096, g⟩ ⟨k, h.2⟩)
    else B (ix3 ⟨n / 4096, by omega⟩ ⟨n % 4096 - 2048, by omega⟩ ⟨k, h.2⟩)
  else 0

theorem slot_first {w : Nat} {A B : (⟨3, ![16, 2048, w]⟩ : Shape).Idx → EReal} {n k : Nat} (e : Fin 16) (s : Fin 2048) (d : Fin w)
    (hn : n = 4096 * e.val + s.val) (hk : k = d.val) : A (ix3 e s d) = slot A B n k := by
  have he := e.isLt
  have hs := s.isLt
  have hd := d.isLt
  subst hn hk
  unfold slot
  rw [dif_pos ⟨by omega, hd⟩, dif_pos (by omega)]
  refine congrArg A (funext fun a => ?_)
  match a with
  | 0 => exact Fin.ext (by show e.val = (4096 * e.val + s.val) / 4096; omega)
  | 1 => exact Fin.ext (by show s.val = (4096 * e.val + s.val) % 4096; omega)
  | 2 => rfl

theorem slot_second {w : Nat} {A B : (⟨3, ![16, 2048, w]⟩ : Shape).Idx → EReal} {n k : Nat} (e : Fin 16) (s : Fin 2048) (d : Fin w)
    (hn : n = 4096 * e.val + 2048 + s.val) (hk : k = d.val) : B (ix3 e s d) = slot A B n k := by
  have he := e.isLt
  have hs := s.isLt
  have hd := d.isLt
  subst hn hk
  unfold slot
  rw [dif_pos ⟨by omega, hd⟩, dif_neg (by omega)]
  refine congrArg B (funext fun a => ?_)
  match a with
  | 0 => exact Fin.ext (by show e.val = (4096 * e.val + 2048 + s.val) / 4096; omega)
  | 1 => exact Fin.ext (by show s.val = (4096 * e.val + 2048 + s.val) % 4096 - 2048; omega)
  | 2 => rfl

/-- Two groups of slots of which every entry is known, put one after the other expert by expert and reshaped to rows. -/
theorem slots_of {w : Nat} {A B : (⟨3, ![16, 2048, w]⟩ : Shape).Idx → EReal}
    (hc : Shape.Concatenates [⟨3, ![16, 2048, w]⟩, ⟨3, ![16, 2048, w]⟩] ⟨3, ![16, 4096, w]⟩ 1)
    (hs : Shape.ShapeCasts ⟨3, ![16, 4096, w]⟩ ⟨2, ![65536, w]⟩) (f : Nat → Nat → EReal)
    (hA : ∀ (e : Fin 16) (s : Fin 2048) (k : Fin w), A (ix3 e s k) = f (4096 * e.val + s.val) k.val)
    (hB : ∀ (e : Fin 16) (s : Fin 2048) (k : Fin w), B (ix3 e s k) = f (4096 * e.val + 2048 + s.val) k.val)
    (n : Fin 65536) (k : Fin w) :
    shapeCast ⟨2, ![65536, w]⟩ (concatenate ⟨3, ![16, 4096, w]⟩ 1 [⟨⟨3, ![16, 2048, w]⟩, A⟩, ⟨⟨3, ![16, 2048, w]⟩, B⟩] hc) hs (ix2 n k)
      = f n.val k.val := by
  have hn := n.isLt
  refine (shapeCast_apply _ _ _ (ix3 ⟨n.val / 4096, by omega⟩ ⟨n.val % 4096, by omega⟩ k) ?_).trans ?_
  · refine (Shape.rowMajor_val_three (d := ![16, 4096, w]) _).trans (Eq.trans ?_ (Shape.rowMajor_val_two (d := ![65536, w]) _).symm)
    change (n.val / 4096 * 4096 + n.val % 4096) * w + k.val = n.val * w + k.val
    rw [Nat.div_add_mod']
  by_cases g : n.val % 4096 < 2048
  · refine (concatenate_pair_apply_left 1 _ _ hc _ hc.rank_fst (ix3 ⟨n.val / 4096, by omega⟩ ⟨n.val % 4096, g⟩ k) fun q => ?_).trans ?_
    · match q with
      | 0 => rfl
      | 1 => rfl
      | 2 => rfl
    · exact (hA _ _ _).trans (congrArg (fun n => f n k.val) (show 4096 * (n.val / 4096) + n.val % 4096 = n.val by omega))
  · refine (concatenate_pair_apply_right 1 _ _ hc _ hc.rank_fst hc.rank_snd
      (ix3 ⟨n.val / 4096, by omega⟩ ⟨n.val % 4096 - 2048, by omega⟩ k) (fun q hq => ?_) ?_).trans ?_
    · match q with
      | 0 => rfl
      | 1 => exact absurd rfl hq
      | 2 => rfl
    · show n.val % 4096 - 2048 + 2048 = n.val % 4096
      omega
    · exact (hB _ _ _).trans
        (congrArg (fun n => f n k.val) (show 4096 * (n.val / 4096) + 2048 + (n.val % 4096 - 2048) = n.val by omega))

/-- The same for two groups as they are. -/
theorem slots_at {w : Nat} (A B : (⟨3, ![16, 2048, w]⟩ : Shape).Idx → EReal)
    (hc : Shape.Concatenates [⟨3, ![16, 2048, w]⟩, ⟨3, ![16, 2048, w]⟩] ⟨3, ![16, 4096, w]⟩ 1)
    (hs : Shape.ShapeCasts ⟨3, ![16, 4096, w]⟩ ⟨2, ![65536, w]⟩) (i : (⟨2, ![65536, w]⟩ : Shape).Idx) {n k : Nat}
    (h0 : (i 0).val = n) (h1 : (i 1).val = k) :
    shapeCast ⟨2, ![65536, w]⟩ (concatenate ⟨3, ![16, 4096, w]⟩ 1 [⟨⟨3, ![16, 2048, w]⟩, A⟩, ⟨⟨3, ![16, 2048, w]⟩, B⟩] hc) hs i
      = slot A B n k := by
  subst h0 h1
  exact (congrArg _ (eq_ix2 i)).trans (slots_of hc hs (slot A B) (fun e s k => slot_first e s k rfl rfl)
    (fun e s k => slot_second e s k rfl rfl) (i 0) (i 1))

/-- Entry `(d, f)` of expert `e`'s weights in the second layer. -/
def layer {a b : Nat} (W : (⟨4, ![2, 16, a, b]⟩ : Shape).Idx → EReal) (e d f : Nat) : EReal :=
  if h : e < 16 ∧ d < a ∧ f < b then W (ix4 1 ⟨e, h.1⟩ ⟨d, h.2.1⟩ ⟨f, h.2.2⟩) else 0

theorem layer_at {a b : Nat} (W : (⟨4, ![2, 16, a, b]⟩ : Shape).Idx → EReal) (i : (⟨4, ![2, 16, a, b]⟩ : Shape).Idx) {e d f : Nat}
    (hl : (i 0).val = 1) (he : (i 1).val = e) (hd : (i 2).val = d) (hf : (i 3).val = f) : W i = layer W e d f := by
  subst he hd hf
  unfold layer
  rw [dif_pos ⟨(i 1).isLt, (i 2).isLt, (i 3).isLt⟩]
  refine congrArg W (funext fun q => ?_)
  match q with
  | 0 => exact Fin.ext hl
  | 1 => rfl
  | 2 => rfl
  | 3 => rfl

/-- The second layer's weights cut out of the two layers' and read expert by expert. -/
theorem layer_apply {a b : Nat} (W : (⟨4, ![2, 16, a, b]⟩ : Shape).Idx → EReal)
    (hx : Shape.Slices ⟨4, ![2, 16, a, b]⟩ ![1, 0, 0, 0] ⟨4, ![1, 16, a, b]⟩)
    (hs : Shape.ShapeCasts ⟨4, ![1, 16, a, b]⟩ ⟨3, ![16, a, b]⟩) (e : Fin 16) (d : Fin a) (f : Fin b) :
    shapeCast ⟨3, ![16, a, b]⟩ (extractStridedSlice ⟨4, ![1, 16, a, b]⟩ ![1, 0, 0, 0] W hx) hs (ix3 e d f) = layer W e.val d.val f.val := by
  refine (shapeCast_apply _ _ _ (ix4 0 e d f) ?_).trans ?_
  · refine (Shape.rowMajor_val_four (d := ![1, 16, a, b]) _).trans (Eq.trans ?_ (Shape.rowMajor_val_three (d := ![16, a, b]) _).symm)
    change ((0 * 16 + e.val) * a + d.val) * b + f.val = (e.val * a + d.val) * b + f.val
    rw [Nat.zero_mul, Nat.zero_add]
  · exact layer_at W _ rfl (Nat.zero_add _) (Nat.zero_add _) (Nat.zero_add _)

/-- Entry `f` of slot `n`'s product with its expert's weights, over `K` terms. -/
def expertAt (K : Nat) (X : Nat → Nat → EReal) (W : Nat → Nat → Nat → EReal) (n f : Nat) : EReal :=
  ∑ d : Fin K, X n d.val * W (n / 4096) d.val f

/-- A product of the first group's slots with a layer's weights, as an entry of all the slots' products. -/
theorem expert_first {K w : Nat} {A B : (⟨3, ![16, 2048, K]⟩ : Shape).Idx → EReal} {U : (⟨3, ![16, K, w]⟩ : Shape).Idx → EReal}
    {W : (⟨4, ![2, 16, K, w]⟩ : Shape).Idx → EReal} (hU : ∀ (e : Fin 16) (d : Fin K) (f : Fin w), U (ix3 e d f) = layer W e.val d.val f.val)
    (e : Fin 16) (s : Fin 2048) (f : Fin w) :
    ∑ d : Fin K, A (ix3 e s d) * U (ix3 e d f) = expertAt K (slot A B) (layer W) (4096 * e.val + s.val) f.val := by
  have hs := s.isLt
  refine Finset.sum_congr rfl fun d _ => congrArg₂ (· * ·) (slot_first e s d rfl rfl) ?_
  rw [hU, show (4096 * e.val + s.val) / 4096 = e.val by omega]

/-- The same for the second group's. -/
theorem expert_second {K w : Nat} {A B : (⟨3, ![16, 2048, K]⟩ : Shape).Idx → EReal} {U : (⟨3, ![16, K, w]⟩ : Shape).Idx → EReal}
    {W : (⟨4, ![2, 16, K, w]⟩ : Shape).Idx → EReal} (hU : ∀ (e : Fin 16) (d : Fin K) (f : Fin w), U (ix3 e d f) = layer W e.val d.val f.val)
    (e : Fin 16) (s : Fin 2048) (f : Fin w) :
    ∑ d : Fin K, B (ix3 e s d) * U (ix3 e d f) = expertAt K (slot A B) (layer W) (4096 * e.val + 2048 + s.val) f.val := by
  have hs := s.isLt
  refine Finset.sum_congr rfl fun d _ => congrArg₂ (· * ·) (slot_second e s d rfl rfl) ?_
  rw [hU, show (4096 * e.val + 2048 + s.val) / 4096 = e.val by omega]

/-- The weight of slot `n`. -/
def share (A B : (⟨2, ![16, 2048]⟩ : Shape).Idx → EReal) (n : Nat) : EReal :=
  if h : n < 65536 then
    if g : n % 4096 < 2048 then A (ix2 ⟨n / 4096, by omega⟩ ⟨n % 4096, g⟩)
    else B (ix2 ⟨n / 4096, by omega⟩ ⟨n % 4096 - 2048, by omega⟩)
  else 0

theorem share_first {A B : (⟨2, ![16, 2048]⟩ : Shape).Idx → EReal} {n : Nat} (e : Fin 16) (s : Fin 2048) (hn : n = 4096 * e.val + s.val) :
    A (ix2 e s) = share A B n := by
  have he := e.isLt
  have hs := s.isLt
  subst hn
  unfold share
  rw [dif_pos (by omega), dif_pos (by omega)]
  refine congrArg A (funext fun a => ?_)
  match a with
  | 0 => exact Fin.ext (by show e.val = (4096 * e.val + s.val) / 4096; omega)
  | 1 => exact Fin.ext (by show s.val = (4096 * e.val + s.val) % 4096; omega)

theorem share_second {A B : (⟨2, ![16, 2048]⟩ : Shape).Idx → EReal} {n : Nat} (e : Fin 16) (s : Fin 2048) (hn : n = 4096 * e.val + 2048 + s.val) :
    B (ix2 e s) = share A B n := by
  have he := e.isLt
  have hs := s.isLt
  subst hn
  unfold share
  rw [dif_pos (by omega), dif_neg (by omega)]
  refine congrArg B (funext fun a => ?_)
  match a with
  | 0 => exact Fin.ext (by show e.val = (4096 * e.val + 2048 + s.val) / 4096; omega)
  | 1 => exact Fin.ext (by show s.val = (4096 * e.val + 2048 + s.val) % 4096 - 2048; omega)

/-- The two groups' weights put one after the other expert by expert, as one column. -/
theorem shares_apply (A B : (⟨2, ![16, 2048]⟩ : Shape).Idx → EReal)
    (hc : Shape.Concatenates [⟨2, ![16, 2048]⟩, ⟨2, ![16, 2048]⟩] ⟨2, ![16, 4096]⟩ 1) (hs : Shape.ShapeCasts ⟨2, ![16, 4096]⟩ ⟨2, ![65536, 1]⟩)
    (n : Fin 65536) (k : Fin 1) :
    shapeCast ⟨2, ![65536, 1]⟩ (concatenate ⟨2, ![16, 4096]⟩ 1 [⟨⟨2, ![16, 2048]⟩, A⟩, ⟨⟨2, ![16, 2048]⟩, B⟩] hc) hs (ix2 n k) = share A B n.val := by
  have hn := n.isLt
  have hk := k.isLt
  refine (shapeCast_apply _ _ _ (ix2 ⟨n.val / 4096, by omega⟩ ⟨n.val % 4096, by omega⟩) ?_).trans ?_
  · refine (Shape.rowMajor_val_two (d := ![16, 4096]) _).trans (Eq.trans ?_ (Shape.rowMajor_val_two (d := ![65536, 1]) _).symm)
    change n.val / 4096 * 4096 + n.val % 4096 = n.val * 1 + k.val
    omega
  by_cases g : n.val % 4096 < 2048
  · refine (concatenate_pair_apply_left 1 _ _ hc _ hc.rank_fst (ix2 ⟨n.val / 4096, by omega⟩ ⟨n.val % 4096, g⟩) fun q => ?_).trans ?_
    · match q with
      | 0 => rfl
      | 1 => rfl
    · exact share_first _ _ (show n.val = 4096 * (n.val / 4096) + n.val % 4096 by omega)
  · refine (concatenate_pair_apply_right 1 _ _ hc _ hc.rank_fst hc.rank_snd
      (ix2 ⟨n.val / 4096, by omega⟩ ⟨n.val % 4096 - 2048, by omega⟩) (fun q hq => ?_) ?_).trans ?_
    · match q with
      | 0 => rfl
      | 1 => exact absurd rfl hq
    · show n.val % 4096 - 2048 + 2048 = n.val % 4096
      omega
    · exact share_second _ _ (show n.val = 4096 * (n.val / 4096) + 2048 + (n.val % 4096 - 2048) by omega)

end Cert.Proof
end
end
-- ==== Proof.Up.lean ====
module
public import proofs.«01_k».proof.Proof.Gen.Kernel2Ideal.Value
public import proofs.«01_k».proof.Proof.Experts
public import Idealize.ShloMosaic.Lib.Pipeline.ValueKit
public import Idealize.ShloMosaic.Lib.Pipeline.ValueKit.Held
public import Idealize.ShloMosaic.Lib.Pipeline.ReadBack
public import Idealize.ShloMosaic.Lib.Pointwise
@[expose] public section
set_option maxRecDepth 16384
noncomputable section
namespace Cert.Proof.Up
open Idealize.ShloMosaic Idealize.ShloMosaic.TcCoe Idealize.SL.Sem
open Cert.Kernel2Ideal Cert.Kernel2Ideal.Gen

/-! The experts' first products, gated: the kernel's array, entry by entry. -/

variable (m : (ℓ : Loc nD τ sig) → Buf (Elt Ideal) ℓ)

/-- The slots the program is launched with. -/
abbrev launched (c : Dev nD) : Nat → Nat → EReal :=
  slot (w := 4096) (m ((c : Thread nD τ).loc main_arg0)) (m ((c : Thread nD τ).loc main_arg1))

/-- The gate's weights. -/
abbrev gate (c : Dev nD) : Nat → Nat → Nat → EReal := layer (a := 4096) (b := 2048) (m ((c : Thread nD τ).loc main_arg2))

/-- The other product's weights. -/
abbrev up (c : Dev nD) : Nat → Nat → Nat → EReal := layer (a := 4096) (b := 2048) (m ((c : Thread nD τ).loc main_arg3))

theorem launched_at (c : Dev nD) (i : S65536x4096.Idx) {a b : Nat} (h0 : (i 0).val = a) (h1 : (i 1).val = b) :
    V m c main_v2 i = launched m c a b := by
  entry_read
  exact slots_at (w := 4096) (m ((c : Thread nD τ).loc main_arg0)) (m ((c : Thread nD τ).loc main_arg1))
    concatenates_S16x2048x4096_S16x2048x4096_S16x4096x4096_d1 shapeCasts_S16x4096x4096_S65536x4096 i h0 h1

theorem gate_at (c : Dev nD) (i : S2x16x4096x2048.Idx) {e d f : Nat} (hl : (i 0).val = 1) (he : (i 1).val = e) (hd : (i 2).val = d)
    (hf : (i 3).val = f) : V m c main_arg2 i = gate m c e d f := by
  rw [V_main_arg2]
  exact layer_at (m ((c : Thread nD τ).loc main_arg2)) i hl he hd hf

theorem up_at (c : Dev nD) (i : S2x16x4096x2048.Idx) {e d f : Nat} (hl : (i 0).val = 1) (he : (i 1).val = e) (hd : (i 2).val = d)
    (hf : (i 3).val = f) : V m c main_arg3 i = up m c e d f := by
  rw [V_main_arg3]
  exact layer_at (m ((c : Thread nD τ).loc main_arg3)) i hl he hd hf

theorem idx0 : ∀ t : Fin grid0.N, win0_0.index t = ![t.val / 32 * 4 + t.val % 4, 0] := by decide +kernel
theorem idx1 : ∀ t : Fin grid0.N, win0_1.index t = ![1, t.val / 32, 0, t.val / 4 % 8] := by decide +kernel
theorem idx2 : ∀ t : Fin grid0.N, win0_2.index t = ![1, t.val / 32, 0, t.val / 4 % 8] := by decide +kernel
theorem idx3 : ∀ t : Fin grid0.N, win0_3.index t = ![t.val / 32 * 4 + t.val % 4, t.val / 4 % 8] := by decide +kernel

theorem block0 (c : Dev nD) (t : Fin cfg0.N) (r : Fin 1024) (k : Fin 4096) :
    iblk m c 0 t (ix2 r k) = launched m c ((t.val / 32 * 4 + t.val % 4) * 1024 + r.val) k.val := by
  blk_simp [iblk, idx0]
  refine launched_at m c _ ?_ ?_ <;> blk_simp [idx0]

theorem block1 (c : Dev nD) (t : Fin cfg0.N) (k : Fin 4096) (s : Fin 256) :
    iblk m c 1 t (ix4 0 0 k s) = gate m c (t.val / 32) k.val (t.val / 4 % 8 * 256 + s.val) := by
  blk_simp [iblk, idx1]
  refine gate_at m c _ ?_ ?_ ?_ ?_ <;> blk_simp [idx1] <;> exact Nat.add_zero _

theorem block2 (c : Dev nD) (t : Fin cfg0.N) (k : Fin 4096) (s : Fin 256) :
    iblk m c 2 t (ix4 0 0 k s) = up m c (t.val / 32) k.val (t.val / 4 % 8 * 256 + s.val) := by
  blk_simp [iblk, idx2]
  refine up_at m c _ ?_ ?_ ?_ ?_ <;> blk_simp [idx2] <;> exact Nat.add_zero _

theorem keep1_apply (w : Vec Ideal S1x1x4096x256 .f32) (k : Fin 4096) (s : Fin 256) : k0_pay1 w (ix2 k s) = w (ix4 0 0 k s) := by
  unfold k0_pay1
  pointwise

theorem keep2_apply (w : Vec Ideal S1x1x4096x256 .f32) (k : Fin 4096) (s : Fin 256) : k0_pay2 w (ix2 k s) = w (ix4 0 0 k s) := by
  unfold k0_pay2
  pointwise

/-- What a gate `g` and a product `u` give. -/
def gated (g u : EReal) : EReal := g * Ideal.logistic g * u

theorem pay_apply (x : Vec Ideal S1024x4096 .bf16) (w u : Vec Ideal S4096x256 .bf16) (r : Fin 1024) (s : Fin 256) :
    k0_pay3 x w u (ix2 r s) = gated (∑ d : Fin 4096, x (ix2 r d) * w (ix2 d s)) (∑ d : Fin 4096, x (ix2 r d) * u (ix2 d s)) := by
  unfold k0_pay3 gated
  pointwise

/-- What the first scratch holds after point `t`: the gate's weights of the point's expert and columns. -/
theorem held1 (c : Dev nD) (t : Fin cfg0.N) (k : Fin 4096) (s : Fin 256) :
    (outsAt0 m c t.val t.isLt).2.1 (ix2 k s) = gate m c (t.val / 32) k.val (t.val / 4 % 8 * 256 + s.val) := by
  refine (Pipeline.eq_of_write_hold_apply (fun n h => (outsAt0 m c n h).2.1) 4 (fun t => k0_pay1 (iblk m c 1 t)) (fun t h i => ?_)
    (fun t h i => ?_) t (ix2 k s)).trans ?_
  · rw [outsAt0_A m c t h]
    frame_out
  · rw [outsAt0_B m c t h]
    rfl
  · refine (keep1_apply _ k s).trans ((block1 m c _ k s).trans ?_)
    show gate m c (4 * (t.val / 4) / 32) k.val (4 * (t.val / 4) / 4 % 8 * 256 + s.val) = _
    rw [show 4 * (t.val / 4) / 32 = t.val / 32 by omega, show 4 * (t.val / 4) / 4 = t.val / 4 by omega]

/-- What the second scratch holds: the other product's weights. -/
theorem held2 (c : Dev nD) (t : Fin cfg0.N) (k : Fin 4096) (s : Fin 256) :
    (outsAt0 m c t.val t.isLt).2.2 (ix2 k s) = up m c (t.val / 32) k.val (t.val / 4 % 8 * 256 + s.val) := by
  refine (Pipeline.eq_of_write_hold_apply (fun n h => (outsAt0 m c n h).2.2) 4 (fun t => k0_pay2 (iblk m c 2 t)) (fun t h i => ?_)
    (fun t h i => ?_) t (ix2 k s)).trans ?_
  · rw [outsAt0_A m c t h]
    frame_out
  · rw [outsAt0_B m c t h]
    rfl
  · refine (keep2_apply _ k s).trans ((block2 m c _ k s).trans ?_)
    show up m c (4 * (t.val / 4) / 32) k.val (4 * (t.val / 4) / 4 % 8 * 256 + s.val) = _
    rw [show 4 * (t.val / 4) / 32 = t.val / 32 by omega, show 4 * (t.val / 4) / 4 = t.val / 4 by omega]

/-- A point's block: its slots against the two weights of its expert and columns. -/
theorem pay_at (c : Dev nD) (t : Fin cfg0.N) (w u : Vec Ideal S4096x256 .bf16)
    (hw : ∀ (k : Fin 4096) (s : Fin 256), w (ix2 k s) = gate m c (t.val / 32) k.val (t.val / 4 % 8 * 256 + s.val))
    (hu : ∀ (k : Fin 4096) (s : Fin 256), u (ix2 k s) = up m c (t.val / 32) k.val (t.val / 4 % 8 * 256 + s.val)) (r : Fin 1024) (s : Fin 256) :
    k0_pay3 (iblk m c 0 t) w u (ix2 r s)
      = gated (expertAt 4096 (launched m c) (gate m c) ((t.val / 32 * 4 + t.val % 4) * 1024 + r.val) (t.val / 4 % 8 * 256 + s.val))
        (expertAt 4096 (launched m c) (up m c) ((t.val / 32 * 4 + t.val % 4) * 1024 + r.val) (t.val / 4 % 8 * 256 + s.val)) := by
  have hr := r.isLt
  have he : ((t.val / 32 * 4 + t.val % 4) * 1024 + r.val) / 4096 = t.val / 32 := by omega
  refine (pay_apply _ _ _ r s).trans ?_
  unfold expertAt
  rw [he]
  exact congrArg₂ gated (Finset.sum_congr rfl fun d _ => congrArg₂ (· * ·) (block0 m c t r d) (hw d s))
    (Finset.sum_congr rfl fun d _ => congrArg₂ (· * ·) (block0 m c t r d) (hu d s))

theorem before1 (c : Dev nD) (t : Fin cfg0.N) (h : ¬t.val % 4 = 0) (ht : t.val - 1 < cfg0.N) (k : Fin 4096) (s : Fin 256) :
    (outsAt0 m c (t.val - 1) ht).2.1 (ix2 k s) = gate m c (t.val / 32) k.val (t.val / 4 % 8 * 256 + s.val) := by
  refine (held1 m c ⟨t.val - 1, ht⟩ k s).trans ?_
  show gate m c ((t.val - 1) / 32) k.val ((t.val - 1) / 4 % 8 * 256 + s.val) = _
  rw [show (t.val - 1) / 32 = t.val / 32 by omega, show (t.val - 1) / 4 = t.val / 4 by omega]

theorem before2 (c : Dev nD) (t : Fin cfg0.N) (h : ¬t.val % 4 = 0) (ht : t.val - 1 < cfg0.N) (k : Fin 4096) (s : Fin 256) :
    (outsAt0 m c (t.val - 1) ht).2.2 (ix2 k s) = up m c (t.val / 32) k.val (t.val / 4 % 8 * 256 + s.val) := by
  refine (held2 m c ⟨t.val - 1, ht⟩ k s).trans ?_
  show up m c ((t.val - 1) / 32) k.val ((t.val - 1) / 4 % 8 * 256 + s.val) = _
  rw [show (t.val - 1) / 32 = t.val / 32 by omega, show (t.val - 1) / 4 = t.val / 4 by omega]

theorem point_apply (c : Dev nD) (t : Fin cfg0.N) (r : Fin 1024) (s : Fin 256) :
    (outsAt0 m c t.val t.isLt).1 (ix2 r s)
      = gated (expertAt 4096 (launched m c) (gate m c) ((t.val / 32 * 4 + t.val % 4) * 1024 + r.val) (t.val / 4 % 8 * 256 + s.val))
        (expertAt 4096 (launched m c) (up m c) ((t.val / 32 * 4 + t.val % 4) * 1024 + r.val) (t.val / 4 % 8 * 256 + s.val)) := by
  by_cases h : t.val % 4 = 0
  · rw [outsAt0_A m c t h]
    frame_out
    exact pay_at m c t _ _ (fun k s => (keep1_apply _ k s).trans (block1 m c t k s)) (fun k s => (keep2_apply _ k s).trans (block2 m c t k s)) r s
  · rw [outsAt0_B m c t h]
    frame_out
    simp only [read_unread_whole]
    exact pay_at m c t _ _ (before1 m c t h _) (before2 m c t h _) r s

/-- An entry of the result. -/
def resultAt (X : Nat → Nat → EReal) (W U : Nat → Nat → Nat → EReal) (n f : Nat) : EReal :=
  gated (expertAt 4096 X W n f) (expertAt 4096 X U n f)

theorem array_apply (c : Dev nD) (i : S65536x2048.Idx) :
    (dats m 0 c).arrAt 3 cfg0.N i = resultAt (launched m c) (gate m c) (up m c) (i 0).val (i 1).val := by
  refine congrFun ((dats m 0 c).arrAt_eq_of_covers 3
    (fun i : S65536x2048.Idx => resultAt (launched m c) (gate m c) (up m c) (i 0).val (i 1).val) (by decide +kernel) fun t hf y => ?_) i
  blk_simp [idx3]
  rw [after0_3]
  exact (congrArg (outsAt0 m c t.val t.isLt).1 (eq_ix2 y)).trans (point_apply m c t _ _)

end Cert.Proof.Up
end
end
-- ==== Proof.UpRef.lean ====
module
public import proofs.«01_k».proof.Proof.Gen.Reference2Ideal.Run
public import proofs.«01_k».proof.Proof.Gen.Kernel2.Frame
public import proofs.«01_k».proof.Proof.Gen.Kernel2Ideal.Frame
public import proofs.«01_k».proof.Proof.Up
public import proofs.«01_k».proof.Defs
@[expose] public section
set_option maxRecDepth 16384
noncomputable section
namespace Cert.Proof.Up
open Idealize.ShloMosaic Idealize.ShloMosaic.TcCoe Idealize.SL.Sem

/-! The experts' first products, gated: the reference's array, and the claims of this call. -/

section
open Cert.Reference2Ideal Cert.Reference2Ideal.Gen

/-- The second layer's weights. -/
def cut (W : FVec Ideal S2x16x4096x2048 .f32) : FVec Ideal S16x4096x2048 .f32 :=
  shapeCast _ (extractStridedSlice S1x16x4096x2048 ![1, 0, 0, 0] W slices_S2x16x4096x2048_S1x16x4096x2048_1_0_0_0) shapeCasts_S1x16x4096x2048_S16x4096x2048

theorem cut_apply (W : FVec Ideal S2x16x4096x2048 .f32) (e : Fin 16) (d : Fin 4096) (f : Fin 2048) :
    cut W (ix3 e d f) = layer (a := 4096) (b := 2048) W e.val d.val f.val :=
  layer_apply (a := 4096) (b := 2048) W slices_S2x16x4096x2048_S1x16x4096x2048_1_0_0_0 shapeCasts_S1x16x4096x2048_S16x4096x2048 e d f

/-- One group's gated products. -/
def group (X : FVec Ideal S16x2048x4096 .f32) (W U : FVec Ideal S16x4096x2048 .f32) : FVec Ideal S16x2048x2048 .f32 :=
  mulf (mulf (Host.dotGeneral dot_S16x2048x4096_S16x4096x2048_S16x2048x2048_2_1_1_2_0_0 none X W)
    (Host.divf (broadcastInDim S16x2048x2048 ![] bcast_S_S16x2048x2048 (constant S_ .f32 0x3F800000#32))
      (addf (broadcastInDim S16x2048x2048 ![] bcast_S_S16x2048x2048 (constant S_ .f32 0x3F800000#32))
        (Host.exp (Host.negf (Host.dotGeneral dot_S16x2048x4096_S16x4096x2048_S16x2048x2048_2_1_1_2_0_0 none X W))))))
    (Host.dotGeneral dot_S16x2048x4096_S16x4096x2048_S16x2048x2048_2_1_1_2_0_0 none X U)

theorem group_apply (X : FVec Ideal S16x2048x4096 .f32) (W U : FVec Ideal S16x4096x2048 .f32) (e : Fin 16) (s f : Fin 2048) :
    group X W U (ix3 e s f) = gated (∑ d : Fin 4096, X (ix3 e s d) * W (ix3 e d f)) (∑ d : Fin 4096, X (ix3 e s d) * U (ix3 e d f)) := by
  unfold group gated Ideal.logistic
  pointwise

/-- What the reference returns. -/
def refArray (A B : FVec Ideal S16x2048x4096 .f32) (W U : FVec Ideal S2x16x4096x2048 .f32) : FVec Ideal S65536x2048 .bf16 :=
  truncf .bf16 (shapeCast _ (concatenate S16x4096x2048 1 [⟨S16x2048x2048, group A (cut W) (cut U)⟩, ⟨S16x2048x2048, group B (cut W) (cut U)⟩]
    concatenates_S16x2048x2048_S16x2048x2048_S16x4096x2048_d1) shapeCasts_S16x4096x2048_S65536x2048) bitsLt_bf16_f32

theorem refArray_apply (A B : FVec Ideal S16x2048x4096 .f32) (W U : FVec Ideal S2x16x4096x2048 .f32) (i : S65536x2048.Idx) :
    refArray A B W U i = resultAt (slot (w := 4096) A B) (layer (a := 4096) (b := 2048) W) (layer (a := 4096) (b := 2048) U) (i 0).val (i 1).val :=
  (congrArg (refArray A B W U) (eq_ix2 i)).trans (slots_of (w := 2048) concatenates_S16x2048x2048_S16x2048x2048_S16x4096x2048_d1
    shapeCasts_S16x4096x2048_S65536x2048
    (resultAt (slot (w := 4096) A B) (layer (a := 4096) (b := 2048) W) (layer (a := 4096) (b := 2048) U))
    (fun e s k => (group_apply A _ _ e s k).trans (congrArg₂ gated (expert_first (B := B) (cut_apply W) e s k) (expert_first (B := B) (cut_apply U) e s k)))
    (fun e s k => (group_apply B _ _ e s k).trans (congrArg₂ gated (expert_second (A := A) (cut_apply W) e s k) (expert_second (A := A) (cut_apply U) e s k)))
    (i 0) (i 1))

end

theorem frame_P : quiescent_Kernel2 (hKernel2 := Cert.Kernel2.Gen.facts) := fun m ρ _ => Cert.Kernel2.Gen.frame m ρ

theorem frame_PI : quiescent_Kernel2Ideal (hKernel2Ideal := Cert.Kernel2Ideal.Gen.facts) := fun m ρ _ => Cert.Kernel2Ideal.Gen.frame m ρ

theorem frame_RI : quiescent_Reference2Ideal (hReference2Ideal := Cert.Reference2Ideal.Gen.facts) := by
  intro m g _
  exact (θ_run _ _ _).mono (fun r h => ⟨fun c => (h c).2, sem_eq_zero_of_no_sems rfl r.2⟩) (Cert.Reference2Ideal.Value.run m g)

theorem algebraic_PI : algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 3 Cert.Kernel2Ideal.cfg0.N, Cert.Kernel2Ideal.Value.run_blocks m g, ?_⟩
  refine (θ_run _ _ _).mono (fun r h c => ?_) (Cert.Reference2Ideal.Value.run m' g')
  obtain ⟨h0, h1, h2, h3⟩ := hagree c
  refine ⟨(h c).1.trans ?_, (h c).2⟩
  rw [h0, h1, h2, h3]
  exact funext fun i => (refArray_apply _ _ _ _ i).trans (array_apply m c i).symm

end Cert.Proof.Up
end
end
-- ==== Proof.Down.lean ====
module
public import proofs.«01_k».proof.Proof.Gen.Kernel3Ideal.Value
public import proofs.«01_k».proof.Proof.Experts
public import Idealize.ShloMosaic.Lib.Pipeline.ValueKit
public import Idealize.ShloMosaic.Lib.Pipeline.ValueKit.Held
public import Idealize.ShloMosaic.Lib.Pipeline.ReadBack
public import Idealize.ShloMosaic.Lib.Pointwise
@[expose] public section
set_option maxRecDepth 16384
noncomputable section
namespace Cert.Proof.Down
open Idealize.ShloMosaic Idealize.ShloMosaic.TcCoe Idealize.SL.Sem
open Cert.Kernel3Ideal Cert.Kernel3Ideal.Gen

/-! The experts' second products, weighted: the kernel's array, entry by entry. -/

variable (m : (ℓ : Loc nD τ sig) → Buf (Elt Ideal) ℓ)

/-- The slots the program is launched with. -/
abbrev launched (c : Dev nD) : Nat → Nat → EReal :=
  slot (w := 2048) (m ((c : Thread nD τ).loc main_arg0)) (m ((c : Thread nD τ).loc main_arg1))

/-- The product's weights. -/
abbrev down (c : Dev nD) : Nat → Nat → Nat → EReal := layer (a := 2048) (b := 4096) (m ((c : Thread nD τ).loc main_arg2))

/-- The slots' weights. -/
abbrev shares (c : Dev nD) : Nat → EReal := share (m ((c : Thread nD τ).loc main_arg3)) (m ((c : Thread nD τ).loc main_arg4))

theorem launched_at (c : Dev nD) (i : S65536x2048.Idx) {a b : Nat} (h0 : (i 0).val = a) (h1 : (i 1).val = b) :
    V m c main_v2 i = launched m c a b := by
  entry_read
  exact slots_at (w := 2048) (m ((c : Thread nD τ).loc main_arg0)) (m ((c : Thread nD τ).loc main_arg1))
    concatenates_S16x2048x2048_S16x2048x2048_S16x4096x2048_d1 shapeCasts_S16x4096x2048_S65536x2048 i h0 h1

theorem down_at (c : Dev nD) (i : S2x16x2048x4096.Idx) {e d f : Nat} (hl : (i 0).val = 1) (he : (i 1).val = e) (hd : (i 2).val = d)
    (hf : (i 3).val = f) : V m c main_arg2 i = down m c e d f := by
  rw [V_main_arg2]
  exact layer_at (m ((c : Thread nD τ).loc main_arg2)) i hl he hd hf

/-- Every column of the weights' array holds the weights. -/
theorem shares_entry (c : Dev nD) (n : Fin 65536) (k : Fin 128) : V m c main_v5 (ix2 n k) = shares m c n.val := by
  entry_read
  refine Eq.trans ?_ (shares_apply (m ((c : Thread nD τ).loc main_arg3)) (m ((c : Thread nD τ).loc main_arg4))
    concatenates_S16x2048_S16x2048_S16x4096_d1 shapeCasts_S16x4096_S65536x1 n 0)
  pointwise

theorem shares_at (c : Dev nD) (i : S65536x128.Idx) {a : Nat} (h0 : (i 0).val = a) : V m c main_v5 i = shares m c a := by
  subst h0
  exact (congrArg (V m c main_v5) (eq_ix2 i)).trans (shares_entry m c (i 0) (i 1))

theorem idx0 : ∀ t : Fin grid0.N, win0_0.index t = ![t.val / 16 * 4 + t.val % 4, 0] := by decide +kernel
theorem idx1 : ∀ t : Fin grid0.N, win0_1.index t = ![1, t.val / 16, 0, t.val / 4 % 4] := by decide +kernel
theorem idx2 : ∀ t : Fin grid0.N, win0_2.index t = ![t.val / 16 * 4 + t.val % 4, 0] := by decide +kernel
theorem idx3 : ∀ t : Fin grid0.N, win0_3.index t = ![t.val / 16 * 4 + t.val % 4, t.val / 4 % 4] := by decide +kernel

theorem block0 (c : Dev nD) (t : Fin cfg0.N) (r : Fin 1024) (k : Fin 2048) :
    iblk m c 0 t (ix2 r k) = launched m c ((t.val / 16 * 4 + t.val % 4) * 1024 + r.val) k.val := by
  blk_simp [iblk, idx0]
  refine launched_at m c _ ?_ ?_ <;> blk_simp [idx0]

theorem block1 (c : Dev nD) (t : Fin cfg0.N) (k : Fin 2048) (s : Fin 1024) :
    iblk m c 1 t (ix4 0 0 k s) = down m c (t.val / 16) k.val (t.val / 4 % 4 * 1024 + s.val) := by
  blk_simp [iblk, idx1]
  refine down_at m c _ ?_ ?_ ?_ ?_ <;> blk_simp [idx1] <;> exact Nat.add_zero _

theorem block2 (c : Dev nD) (t : Fin cfg0.N) (r : Fin 1024) (k : Fin 128) :
    iblk m c 2 t (ix2 r k) = shares m c ((t.val / 16 * 4 + t.val % 4) * 1024 + r.val) := by
  blk_simp [iblk, idx2]
  refine shares_at m c _ ?_
  blk_simp [idx2]

/-- The weights a point multiplies by: the first column of its block. -/
theorem column (c : Dev nD) (t : Fin cfg0.N) (r : Fin 1024) :
    View.ld (iblk m c 2 t) (Rect.unit ![0, 0] ![1024, 1] inb_S1024x128_S1024x1_0_0) (ix2 r 0)
      = shares m c ((t.val / 16 * 4 + t.val % 4) * 1024 + r.val) := by
  refine (congrArg (iblk m c 2 t) (eq_ix2 _)).trans ((block2 m c t _ _).trans (congrArg (fun q => shares m c ((t.val / 16 * 4 + t.val % 4) * 1024 + q)) ?_))
  show 0 + 1 * r.val = r.val
  omega

theorem keep_apply (w : Vec Ideal S1x1x2048x1024 .f32) (k : Fin 2048) (s : Fin 1024) : k0_pay1 w (ix2 k s) = w (ix4 0 0 k s) := by
  unfold k0_pay1
  pointwise

theorem pay_apply (x : Vec Ideal S1024x2048 .bf16) (w : Vec Ideal S2048x1024 .bf16) (g : Vec Ideal S1024x1 .f32) (r : Fin 1024) (s : Fin 1024) :
    k0_pay2 x w g (ix2 r s) = (∑ d : Fin 2048, x (ix2 r d) * w (ix2 d s)) * g (ix2 r 0) := by
  unfold k0_pay2
  pointwise

/-- What the scratch holds after point `t`: the weights of the point's expert and columns. -/
theorem held (c : Dev nD) (t : Fin cfg0.N) (k : Fin 2048) (s : Fin 1024) :
    (outsAt0 m c t.val t.isLt).2 (ix2 k s) = down m c (t.val / 16) k.val (t.val / 4 % 4 * 1024 + s.val) := by
  refine (Pipeline.eq_of_write_hold_apply (fun n h => (outsAt0 m c n h).2) 4 (fun t => k0_pay1 (iblk m c 1 t)) (fun t h i => ?_)
    (fun t h i => ?_) t (ix2 k s)).trans ?_
  · rw [outsAt0_A m c t h]
    frame_out
  · rw [outsAt0_B m c t h]
    rfl
  · refine (keep_apply _ k s).trans ((block1 m c _ k s).trans ?_)
    show down m c (4 * (t.val / 4) / 16) k.val (4 * (t.val / 4) / 4 % 4 * 1024 + s.val) = _
    rw [show 4 * (t.val / 4) / 16 = t.val / 16 by omega, show 4 * (t.val / 4) / 4 = t.val / 4 by omega]

theorem before (c : Dev nD) (t : Fin cfg0.N) (h : ¬t.val % 4 = 0) (ht : t.val - 1 < cfg0.N) (k : Fin 2048) (s : Fin 1024) :
    (outsAt0 m c (t.val - 1) ht).2 (ix2 k s) = down m c (t.val / 16) k.val (t.val / 4 % 4 * 1024 + s.val) := by
  refine (held m c ⟨t.val - 1, ht⟩ k s).trans ?_
  show down m c ((t.val - 1) / 16) k.val ((t.val - 1) / 4 % 4 * 1024 + s.val) = _
  rw [show (t.val - 1) / 16 = t.val / 16 by omega, show (t.val - 1) / 4 = t.val / 4 by omega]

/-- An entry of the result. -/
def resultAt (X : Nat → Nat → EReal) (W : Nat → Nat → Nat → EReal) (g : Nat → EReal) (n f : Nat) : EReal := expertAt 2048 X W n f * g n

/-- A point's block: its slots against the weights of its expert and columns. -/
theorem pay_at (c : Dev nD) (t : Fin cfg0.N) (w : Vec Ideal S2048x1024 .bf16) (g : Vec Ideal S1024x1 .f32)
    (hw : ∀ (k : Fin 2048) (s : Fin 1024), w (ix2 k s) = down m c (t.val / 16) k.val (t.val / 4 % 4 * 1024 + s.val))
    (hg : ∀ r : Fin 1024, g (ix2 r 0) = shares m c ((t.val / 16 * 4 + t.val % 4) * 1024 + r.val)) (r s : Fin 1024) :
    k0_pay2 (iblk m c 0 t) w g (ix2 r s)
      = resultAt (launched m c) (down m c) (shares m c) ((t.val / 16 * 4 + t.val % 4) * 1024 + r.val) (t.val / 4 % 4 * 1024 + s.val) := by
  have hr := r.isLt
  have he : ((t.val / 16 * 4 + t.val % 4) * 1024 + r.val) / 4096 = t.val / 16 := by omega
  refine (pay_apply _ _ _ r s).trans ?_
  unfold resultAt expertAt
  rw [he]
  exact congrArg₂ (· * ·) (Finset.sum_congr rfl fun d _ => congrArg₂ (· * ·) (block0 m c t r d) (hw d s)) (hg r)

theorem point_apply (c : Dev nD) (t : Fin cfg0.N) (r s : Fin 1024) :
    (outsAt0 m c t.val t.isLt).1 (ix2 r s)
      = resultAt (launched m c) (down m c) (shares m c) ((t.val / 16 * 4 + t.val % 4) * 1024 + r.val) (t.val / 4 % 4 * 1024 + s.val) := by
  by_cases h : t.val % 4 = 0
  · rw [outsAt0_A m c t h]
    frame_out
    refine pay_at m c t _ _ (fun k s => (keep_apply _ k s).trans (block1 m c t k s)) (column m c t) r s
  · rw [outsAt0_B m c t h]
    frame_out
    simp only [read_unread_whole]
    exact pay_at m c t _ _ (before m c t h _) (column m c t) r s

theorem array_apply (c : Dev nD) (i : S65536x4096.Idx) :
    (dats m 0 c).arrAt 3 cfg0.N i = resultAt (launched m c) (down m c) (shares m c) (i 0).val (i 1).val := by
  refine congrFun ((dats m 0 c).arrAt_eq_of_covers 3
    (fun i : S65536x4096.Idx => resultAt (launched m c) (down m c) (shares m c) (i 0).val (i 1).val) (by decide +kernel) fun t hf y => ?_) i
  blk_simp [idx3]
  rw [after0_3]
  exact (congrArg (outsAt0 m c t.val t.isLt).1 (eq_ix2 y)).trans (point_apply m c t _ _)

end Cert.Proof.Down
end
end
-- ==== Proof.DownRef.lean ====
module
public import proofs.«01_k».proof.Proof.Gen.Reference3Ideal.Run
public import proofs.«01_k».proof.Proof.Gen.Kernel3.Frame
public import proofs.«01_k».proof.Proof.Gen.Kernel3Ideal.Frame
public import proofs.«01_k».proof.Proof.Down
public import proofs.«01_k».proof.Defs
@[expose] public section
set_option maxRecDepth 16384
noncomputable section
namespace Cert.Proof.Down
open Idealize.ShloMosaic Idealize.ShloMosaic.TcCoe Idealize.SL.Sem

/-! The experts' second products, weighted: the reference's array, and the claims of this call. -/

section
open Cert.Reference3Ideal Cert.Reference3Ideal.Gen

/-- The second layer's weights. -/
def cut (W : FVec Ideal S2x16x2048x4096 .f32) : FVec Ideal S16x2048x4096 .f32 :=
  shapeCast _ (extractStridedSlice S1x16x2048x4096 ![1, 0, 0, 0] W slices_S2x16x2048x4096_S1x16x2048x4096_1_0_0_0) shapeCasts_S1x16x2048x4096_S16x2048x4096

theorem cut_apply (W : FVec Ideal S2x16x2048x4096 .f32) (e : Fin 16) (d : Fin 2048) (f : Fin 4096) :
    cut W (ix3 e d f) = layer (a := 2048) (b := 4096) W e.val d.val f.val :=
  layer_apply (a := 2048) (b := 4096) W slices_S2x16x2048x4096_S1x16x2048x4096_1_0_0_0 shapeCasts_S1x16x2048x4096_S16x2048x4096 e d f

/-- One group's weighted products. -/
def group (X : FVec Ideal S16x2048x2048 .f32) (W : FVec Ideal S16x2048x4096 .f32) (g : FVec Ideal S16x2048 .f32) : FVec Ideal S16x2048x4096 .f32 :=
  mulf (Host.dotGeneral dot_S16x2048x2048_S16x2048x4096_S16x2048x4096_2_1_1_2_0_0 none X W)
    (broadcastInDim S16x2048x4096 ![0, 1, 2] bcast_S16x2048x1_S16x2048x4096_0_1_2
      (broadcastInDim S16x2048x1 ![0, 1] bcast_S16x2048_S16x2048x1_0_1 g))

theorem group_apply (X : FVec Ideal S16x2048x2048 .f32) (W : FVec Ideal S16x2048x4096 .f32) (g : FVec Ideal S16x2048 .f32)
    (e : Fin 16) (s : Fin 2048) (f : Fin 4096) :
    group X W g (ix3 e s f) = (∑ d : Fin 2048, X (ix3 e s d) * W (ix3 e d f)) * g (ix2 e s) := by
  unfold group
  pointwise

/-- What the reference returns. -/
def refArray (A B : FVec Ideal S16x2048x2048 .f32) (W : FVec Ideal S2x16x2048x4096 .f32) (g h : FVec Ideal S16x2048 .f32) :
    FVec Ideal S65536x4096 .bf16 :=
  truncf .bf16 (shapeCast _ (concatenate S16x4096x4096 1 [⟨S16x2048x4096, group A (cut W) g⟩, ⟨S16x2048x4096, group B (cut W) h⟩]
    concatenates_S16x2048x4096_S16x2048x4096_S16x4096x4096_d1) shapeCasts_S16x4096x4096_S65536x4096) bitsLt_bf16_f32

theorem refArray_apply (A B : FVec Ideal S16x2048x2048 .f32) (W : FVec Ideal S2x16x2048x4096 .f32) (g h : FVec Ideal S16x2048 .f32)
    (i : S65536x4096.Idx) :
    refArray A B W g h i = resultAt (slot (w := 2048) A B) (layer (a := 2048) (b := 4096) W) (share g h) (i 0).val (i 1).val :=
  (congrArg (refArray A B W g h) (eq_ix2 i)).trans (slots_of (w := 4096) concatenates_S16x2048x4096_S16x2048x4096_S16x4096x4096_d1
    shapeCasts_S16x4096x4096_S65536x4096
    (resultAt (slot (w := 2048) A B) (layer (a := 2048) (b := 4096) W) (share g h))
    (fun e s k => (group_apply A _ g e s k).trans
      (congrArg₂ (· * ·) (expert_first (B := B) (cut_apply W) e s k) (share_first e s rfl)))
    (fun e s k => (group_apply B _ h e s k).trans
      (congrArg₂ (· * ·) (expert_second (A := A) (cut_apply W) e s k) (share_second e s rfl)))
    (i 0) (i 1))

end

theorem frame_P : quiescent_Kernel3 (hKernel3 := Cert.Kernel3.Gen.facts) := fun m ρ _ => Cert.Kernel3.Gen.frame m ρ

theorem frame_PI : quiescent_Kernel3Ideal (hKernel3Ideal := Cert.Kernel3Ideal.Gen.facts) := fun m ρ _ => Cert.Kernel3Ideal.Gen.frame m ρ

theorem frame_RI : quiescent_Reference3Ideal (hReference3Ideal := Cert.Reference3Ideal.Gen.facts) := by
  intro m g _
  exact (θ_run _ _ _).mono (fun r h => ⟨fun c => (h c).2, sem_eq_zero_of_no_sems rfl r.2⟩) (Cert.Reference3Ideal.Value.run m g)

theorem algebraic_PI : algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 3 Cert.Kernel3Ideal.cfg0.N, Cert.Kernel3Ideal.Value.run_blocks m g, ?_⟩
  refine (θ_run _ _ _).mono (fun r h c => ?_) (Cert.Reference3Ideal.Value.run m' g')
  obtain ⟨h0, h1, h2, h3, h4⟩ := hagree c
  refine ⟨(h c).1.trans ?_, (h c).2⟩
  rw [h0, h1, h2, h3, h4]
  exact funext fun i => (refArray_apply _ _ _ _ _ i).trans (array_apply m c i).symm

end Cert.Proof.Down
end
end
-- ==== Proof.InProj.lean ====
module
public import proofs.«01_k».proof.Proof.Gen.Kernel4Ideal.Value
public import proofs.«01_k».proof.Proof.Rows
public import Idealize.ShloMosaic.Lib.Pipeline.ValueKit
public import Idealize.ShloMosaic.Lib.Pointwise
@[expose] public section
set_option maxRecDepth 16384
noncomputable section
namespace Cert.Proof.InProj
open Idealize.ShloMosaic Idealize.ShloMosaic.TcCoe Idealize.SL.Sem
open Cert.Kernel4Ideal Cert.Kernel4Ideal.Gen

/-! The projection into the recurrent layer's mixers: the kernel's array, entry by entry. -/

variable (m : (ℓ : Loc nD τ sig) → Buf (Elt Ideal) ℓ)

/-- The tokens the program is launched with. -/
abbrev launched (c : Dev nD) : Nat → Nat → EReal :=
  tok (w := 4096) (m ((c : Thread nD τ).loc main_arg0)) (m ((c : Thread nD τ).loc main_arg1))

/-- The weights the program is launched with. -/
abbrev weights (c : Dev nD) : Nat → Nat → EReal := rd (a := 4096) (b := 14336) (m ((c : Thread nD τ).loc main_arg2))

theorem tokens_at (c : Dev nD) (i : S32768x4096.Idx) {a b : Nat} (h0 : (i 0).val = a) (h1 : (i 1).val = b) :
    V m c main_v3 i = launched m c a b := by
  entry_read
  exact rows_at (w := 4096) (m ((c : Thread nD τ).loc main_arg0)) (m ((c : Thread nD τ).loc main_arg1)) shapeCasts_S8x2048x4096_S16384x4096
    shapeCasts_S4x4096x4096_S16384x4096 concatenates_S16384x4096_S16384x4096_S32768x4096_d0 i h0 h1

theorem weights_at (c : Dev nD) (i : S4096x14336.Idx) {a b : Nat} (h0 : (i 0).val = a) (h1 : (i 1).val = b) :
    V m c main_v4 i = weights m c a b := by
  entry_read
  exact rd_at (m ((c : Thread nD τ).loc main_arg2)) i h0 h1

theorem idx0 : ∀ t : Fin grid0.N, win0_0.index t = ![t.val / 14, 0] := by decide +kernel
theorem idx1 : ∀ t : Fin grid0.N, win0_1.index t = ![0, t.val % 14] := by decide +kernel
theorem idx2 : ∀ t : Fin grid0.N, win0_2.index t = ![t.val / 14, t.val % 14] := by decide +kernel

theorem block0 (c : Dev nD) (t : Fin cfg0.N) (r : Fin 1024) (k : Fin 4096) :
    iblk m c 0 t (ix2 r k) = launched m c (t.val / 14 * 1024 + r.val) k.val := by
  blk_simp [iblk, idx0]
  refine tokens_at m c _ ?_ ?_ <;> blk_simp [idx0]

theorem block1 (c : Dev nD) (t : Fin cfg0.N) (k : Fin 4096) (s : Fin 1024) :
    iblk m c 1 t (ix2 k s) = weights m c k.val (t.val % 14 * 1024 + s.val) := by
  blk_simp [iblk, idx1]
  refine weights_at m c _ ?_ ?_ <;> blk_simp [idx1]

theorem pay_apply (x : Vec Ideal S1024x4096 .bf16) (w : Vec Ideal S4096x1024 .bf16) (r s : Fin 1024) :
    k0_pay1 x w (ix2 r s) = ∑ d : Fin 4096, x (ix2 r d) * w (ix2 d s) := by
  unfold k0_pay1
  pointwise

theorem array_apply (c : Dev nD) (i : S32768x14336.Idx) :
    (dats m 0 c).arrAt 2 cfg0.N i = prodAt 4096 (launched m c) (weights m c) (i 0).val (i 1).val := by
  refine congrFun ((dats m 0 c).arrAt_eq_of_covers 2 (fun i : S32768x14336.Idx => prodAt 4096 (launched m c) (weights m c) (i 0).val (i 1).val)
    (by decide +kernel) fun t hf y => ?_) i
  blk_simp [idx2]
  rw [after0_2]
  frame_out
  refine (congrArg (k0_pay1 (iblk m c 0 t) (iblk m c 1 t)) (eq_ix2 y)).trans ((pay_apply _ _ _ _).trans ?_)
  exact Finset.sum_congr rfl fun d _ => congrArg₂ (· * ·) (block0 m c t _ d) (block1 m c t d _)

end Cert.Proof.InProj
end
end
-- ==== Proof.InRef.lean ====
module
public import proofs.«01_k».proof.Proof.Gen.Reference4Ideal.Run
public import proofs.«01_k».proof.Proof.Gen.Kernel4.Frame
public import proofs.«01_k».proof.Proof.Gen.Kernel4Ideal.Frame
public import proofs.«01_k».proof.Proof.InProj
public import proofs.«01_k».proof.Defs
@[expose] public section
set_option maxRecDepth 16384
noncomputable section
namespace Cert.Proof.InProj
open Idealize.ShloMosaic Idealize.ShloMosaic.TcCoe Idealize.SL.Sem

/-! The projection into the mixers: the reference's array, and the claims of this call. -/

section
open Cert.Reference4Ideal Cert.Reference4Ideal.Gen

/-- What the reference returns. -/
def refArray (A : FVec Ideal S8x2048x4096 .f32) (B : FVec Ideal S4x4096x4096 .f32) (W : FVec Ideal S4096x14336 .f32) : FVec Ideal S32768x14336 .f32 :=
  concatenate S32768x14336 0 [
    ⟨S16384x14336, shapeCast _ (Host.dotGeneral dot_S8x2048x4096_S4096x14336_S8x2048x14336_2_0_01_1_n_n none A W) shapeCasts_S8x2048x14336_S16384x14336⟩,
    ⟨S16384x14336, shapeCast _ (Host.dotGeneral dot_S4x4096x4096_S4096x14336_S4x4096x14336_2_0_01_1_n_n none B W) shapeCasts_S4x4096x14336_S16384x14336⟩]
    concatenates_S16384x14336_S16384x14336_S32768x14336_d0

theorem dot_first (A : FVec Ideal S8x2048x4096 .f32) (W : FVec Ideal S4096x14336 .f32) (b : Fin 8) (s : Fin 2048) (e : Fin 14336) :
    Host.dotGeneral dot_S8x2048x4096_S4096x14336_S8x2048x14336_2_0_01_1_n_n none A W (ix3 b s e) = ∑ d : Fin 4096, A (ix3 b s d) * W (ix2 d e) := by
  pointwise

theorem dot_second (B : FVec Ideal S4x4096x4096 .f32) (W : FVec Ideal S4096x14336 .f32) (b : Fin 4) (s : Fin 4096) (e : Fin 14336) :
    Host.dotGeneral dot_S4x4096x4096_S4096x14336_S4x4096x14336_2_0_01_1_n_n none B W (ix3 b s e) = ∑ d : Fin 4096, B (ix3 b s d) * W (ix2 d e) := by
  pointwise

theorem refArray_apply (A : FVec Ideal S8x2048x4096 .f32) (B : FVec Ideal S4x4096x4096 .f32) (W : FVec Ideal S4096x14336 .f32) (i : S32768x14336.Idx) :
    refArray A B W i = prodAt 4096 (tok (w := 4096) A B) (rd (a := 4096) (b := 14336) W) (i 0).val (i 1).val :=
  rows_of (w := 14336) shapeCasts_S8x2048x14336_S16384x14336 shapeCasts_S4x4096x14336_S16384x14336
    concatenates_S16384x14336_S16384x14336_S32768x14336_d0 (prodAt 4096 (tok (w := 4096) A B) (rd (a := 4096) (b := 14336) W))
    (fun b s k => (dot_first A W b s k).trans (prod_first b s k)) (fun b s k => (dot_second B W b s k).trans (prod_second b s k)) i

end

theorem frame_P : quiescent_Kernel4 (hKernel4 := Cert.Kernel4.Gen.facts) := fun m ρ _ => Cert.Kernel4.Gen.frame m ρ

theorem frame_PI : quiescent_Kernel4Ideal (hKernel4Ideal := Cert.Kernel4Ideal.Gen.facts) := fun m ρ _ => Cert.Kernel4Ideal.Gen.frame m ρ

theorem frame_RI : quiescent_Reference4Ideal (hReference4Ideal := Cert.Reference4Ideal.Gen.facts) := by
  intro m g _
  exact (θ_run _ _ _).mono (fun r h => ⟨fun c => (h c).2, sem_eq_zero_of_no_sems rfl r.2⟩) (Cert.Reference4Ideal.Value.run m g)

theorem algebraic_PI : algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 2 Cert.Kernel4Ideal.cfg0.N, Cert.Kernel4Ideal.Value.run_blocks m g, ?_⟩
  refine (θ_run _ _ _).mono (fun r h c => ?_) (Cert.Reference4Ideal.Value.run m' g')
  obtain ⟨h0, h1, h2⟩ := hagree c
  refine ⟨(h c).1.trans ?_, (h c).2⟩
  rw [h0, h1, h2]
  exact funext fun i => (refArray_apply _ _ _ i).trans (array_apply m c i).symm

end Cert.Proof.InProj
end
end
-- ==== Proof.Out.lean ====
module
public import proofs.«01_k».proof.Proof.Gen.Kernel5Ideal.Value
public import proofs.«01_k».proof.Proof.Rows
public import Idealize.ShloMosaic.Lib.Pipeline.ValueKit
public import Idealize.ShloMosaic.Lib.Pointwise
@[expose] public section
set_option maxRecDepth 16384
noncomputable section
namespace Cert.Proof.Out
open Idealize.ShloMosaic Idealize.ShloMosaic.TcCoe Idealize.SL.Sem
open Cert.Kernel5Ideal Cert.Kernel5Ideal.Gen

/-! The projection out of the mixers, added to the tokens: the kernel's array, entry by entry. -/

variable (m : (ℓ : Loc nD τ sig) → Buf (Elt Ideal) ℓ)

/-- The convolution's outputs the program is launched with. -/
abbrev conv (c : Dev nD) : Nat → Nat → EReal :=
  tok (w := 2048) (m ((c : Thread nD τ).loc main_arg0)) (m ((c : Thread nD τ).loc main_arg1))

/-- The recurrence's outputs. -/
abbrev rnn (c : Dev nD) : Nat → Nat → EReal :=
  tok (w := 4096) (m ((c : Thread nD τ).loc main_arg2)) (m ((c : Thread nD τ).loc main_arg3))

/-- The tokens the products are added to. -/
abbrev carried (c : Dev nD) : Nat → Nat → EReal :=
  tok (w := 4096) (m ((c : Thread nD τ).loc main_arg4)) (m ((c : Thread nD τ).loc main_arg5))

/-- The weights: 2048 rows for the convolution's outputs, then 4096 for the recurrence's. -/
abbrev weights (c : Dev nD) : Nat → Nat → EReal := rd (a := 6144) (b := 4096) (m ((c : Thread nD τ).loc main_arg6))

theorem conv_at (c : Dev nD) (i : S32768x2048.Idx) {a b : Nat} (h0 : (i 0).val = a) (h1 : (i 1).val = b) :
    V m c main_v4 i = conv m c a b := by
  entry_read
  exact rows_at (w := 2048) (m ((c : Thread nD τ).loc main_arg0)) (m ((c : Thread nD τ).loc main_arg1)) shapeCasts_S8x2048x2048_S16384x2048
    shapeCasts_S4x4096x2048_S16384x2048 concatenates_S16384x2048_S16384x2048_S32768x2048_d0 i h0 h1

theorem rnn_at (c : Dev nD) (i : S32768x4096.Idx) {a b : Nat} (h0 : (i 0).val = a) (h1 : (i 1).val = b) :
    V m c main_v8 i = rnn m c a b := by
  entry_read
  exact rows_at (w := 4096) (m ((c : Thread nD τ).loc main_arg2)) (m ((c : Thread nD τ).loc main_arg3)) shapeCasts_S8x2048x4096_S16384x4096
    shapeCasts_S4x4096x4096_S16384x4096 concatenates_S16384x4096_S16384x4096_S32768x4096_d0 i h0 h1

theorem carried_at (c : Dev nD) (i : S32768x4096.Idx) {a b : Nat} (h0 : (i 0).val = a) (h1 : (i 1).val = b) :
    V m c main_v13 i = carried m c a b := by
  entry_read
  exact rows_at (w := 4096) (m ((c : Thread nD τ).loc main_arg4)) (m ((c : Thread nD τ).loc main_arg5)) shapeCasts_S8x2048x4096_S16384x4096
    shapeCasts_S4x4096x4096_S16384x4096 concatenates_S16384x4096_S16384x4096_S32768x4096_d0 i h0 h1

theorem upper_at (c : Dev nD) (i : S2048x4096.Idx) {a b : Nat} (h0 : (i 0).val = a) (h1 : (i 1).val = b) :
    V m c main_v9 i = weights m c a b := by
  entry_read
  refine rd_at (m ((c : Thread nD τ).loc main_arg6)) _ ?_ ?_
  · show 0 + (i 0).val = a
    omega
  · show 0 + (i 1).val = b
    omega

theorem lower_at (c : Dev nD) (i : S4096x4096.Idx) {a b : Nat} (h0 : (i 0).val = a) (h1 : (i 1).val = b) :
    V m c main_v10 i = weights m c (2048 + a) b := by
  entry_read
  refine rd_at (m ((c : Thread nD τ).loc main_arg6)) _ ?_ ?_
  · show 2048 + (i 0).val = 2048 + a
    omega
  · show 0 + (i 1).val = b
    omega

theorem idx0 : ∀ t : Fin grid0.N, win0_0.index t = ![t.val / 8, 0] := by decide +kernel
theorem idx1 : ∀ t : Fin grid0.N, win0_1.index t = ![t.val / 8, 0] := by decide +kernel
theorem idx2 : ∀ t : Fin grid0.N, win0_2.index t = ![0, t.val % 8] := by decide +kernel
theorem idx3 : ∀ t : Fin grid0.N, win0_3.index t = ![0, t.val % 8] := by decide +kernel
theorem idx4 : ∀ t : Fin grid0.N, win0_4.index t = ![t.val / 8, t.val % 8] := by decide +kernel
theorem idx5 : ∀ t : Fin grid0.N, win0_5.index t = ![t.val / 8, t.val % 8] := by decide +kernel

theorem block0 (c : Dev nD) (t : Fin cfg0.N) (r : Fin 1024) (k : Fin 2048) :
    iblk m c 0 t (ix2 r k) = conv m c (t.val / 8 * 1024 + r.val) k.val := by
  blk_simp [iblk, idx0]
  refine conv_at m c _ ?_ ?_ <;> blk_simp [idx0]

theorem block1 (c : Dev nD) (t : Fin cfg0.N) (r : Fin 1024) (k : Fin 4096) :
    iblk m c 1 t (ix2 r k) = rnn m c (t.val / 8 * 1024 + r.val) k.val := by
  blk_simp [iblk, idx1]
  refine rnn_at m c _ ?_ ?_ <;> blk_simp [idx1]

theorem block2 (c : Dev nD) (t : Fin cfg0.N) (k : Fin 2048) (s : Fin 512) :
    iblk m c 2 t (ix2 k s) = weights m c k.val (t.val % 8 * 512 + s.val) := by
  blk_simp [iblk, idx2]
  refine upper_at m c _ ?_ ?_ <;> blk_simp [idx2]

theorem block3 (c : Dev nD) (t : Fin cfg0.N) (k : Fin 4096) (s : Fin 512) :
    iblk m c 3 t (ix2 k s) = weights m c (2048 + k.val) (t.val % 8 * 512 + s.val) := by
  blk_simp [iblk, idx3]
  refine lower_at m c _ ?_ ?_ <;> blk_simp [idx3]

theorem block4 (c : Dev nD) (t : Fin cfg0.N) (r : Fin 1024) (s : Fin 512) :
    iblk m c 4 t (ix2 r s) = carried m c (t.val / 8 * 1024 + r.val) (t.val % 8 * 512 + s.val) := by
  blk_simp [iblk, idx4]
  refine carried_at m c _ ?_ ?_ <;> blk_simp [idx4]

theorem pay_apply (x : Vec Ideal S1024x2048 .bf16) (w : Vec Ideal S2048x512 .bf16) (y : Vec Ideal S1024x4096 .bf16) (u : Vec Ideal S4096x512 .bf16)
    (z : Vec Ideal S1024x512 .f32) (r : Fin 1024) (s : Fin 512) :
    k0_pay1 x w y u z (ix2 r s)
      = ((∑ d : Fin 2048, x (ix2 r d) * w (ix2 d s)) + ∑ d : Fin 4096, y (ix2 r d) * u (ix2 d s)) + z (ix2 r s) := by
  unfold k0_pay1
  pointwise

/-- An entry of the result. -/
def resultAt (X Y Z W : Nat → Nat → EReal) (n e : Nat) : EReal :=
  (prodAt 2048 X W n e + prodAt 4096 Y (fun d => W (2048 + d)) n e) + Z n e

theorem array_apply (c : Dev nD) (i : S32768x4096.Idx) :
    (dats m 0 c).arrAt 5 cfg0.N i = resultAt (conv m c) (rnn m c) (carried m c) (weights m c) (i 0).val (i 1).val := by
  refine congrFun ((dats m 0 c).arrAt_eq_of_covers 5
    (fun i : S32768x4096.Idx => resultAt (conv m c) (rnn m c) (carried m c) (weights m c) (i 0).val (i 1).val)
    (by decide +kernel) fun t hf y => ?_) i
  blk_simp [idx5]
  rw [after0_5]
  frame_out
  refine (congrArg (k0_pay1 (iblk m c 0 t) (iblk m c 2 t) (iblk m c 1 t) (iblk m c 3 t) (iblk m c 4 t)) (eq_ix2 y)).trans
    ((pay_apply _ _ _ _ _ _ _).trans ?_)
  exact congrArg₂ (· + ·)
    (congrArg₂ (· + ·) (Finset.sum_congr rfl fun d _ => congrArg₂ (· * ·) (block0 m c t _ d) (block2 m c t d _))
      (Finset.sum_congr rfl fun d _ => congrArg₂ (· * ·) (block1 m c t _ d) (block3 m c t d _))) (block4 m c t _ _)

end Cert.Proof.Out
end
end
-- ==== Proof.OutRef.lean ====
module
public import proofs.«01_k».proof.Proof.Gen.Reference5Ideal.Run
public import proofs.«01_k».proof.Proof.Gen.Kernel5.Frame
public import proofs.«01_k».proof.Proof.Gen.Kernel5Ideal.Frame
public import proofs.«01_k».proof.Proof.Out
public import proofs.«01_k».proof.Defs
@[expose] public section
set_option maxRecDepth 16384
noncomputable section
namespace Cert.Proof.Out
open Idealize.ShloMosaic Idealize.ShloMosaic.TcCoe Idealize.SL.Sem

/-! The projection out of the mixers: the reference's array, and the claims of this call. -/

section
open Cert.Reference5Ideal Cert.Reference5Ideal.Gen

/-- The first group's sequences: the two mixers' outputs side by side, projected and added. -/
def groupA (A : FVec Ideal S8x2048x2048 .f32) (Y : FVec Ideal S8x2048x4096 .f32) (X : FVec Ideal S8x2048x4096 .f32) (W : FVec Ideal S6144x4096 .f32) :
    FVec Ideal S8x2048x4096 .f32 :=
  addf X (Host.dotGeneral dot_S8x2048x6144_S6144x4096_S8x2048x4096_2_0_01_1_n_n none
    (concatenate S8x2048x6144 2 [⟨S8x2048x2048, A⟩, ⟨S8x2048x4096, Y⟩] concatenates_S8x2048x2048_S8x2048x4096_S8x2048x6144_d2) W)

/-- The second group's. -/
def groupB (A : FVec Ideal S4x4096x2048 .f32) (Y : FVec Ideal S4x4096x4096 .f32) (X : FVec Ideal S4x4096x4096 .f32) (W : FVec Ideal S6144x4096 .f32) :
    FVec Ideal S4x4096x4096 .f32 :=
  addf X (Host.dotGeneral dot_S4x4096x6144_S6144x4096_S4x4096x4096_2_0_01_1_n_n none
    (concatenate S4x4096x6144 2 [⟨S4x4096x2048, A⟩, ⟨S4x4096x4096, Y⟩] concatenates_S4x4096x2048_S4x4096x4096_S4x4096x6144_d2) W)

/-- What the reference returns. -/
def refArray (A : FVec Ideal S8x2048x2048 .f32) (B : FVec Ideal S4x4096x2048 .f32) (Y : FVec Ideal S8x2048x4096 .f32) (Y' : FVec Ideal S4x4096x4096 .f32)
    (X : FVec Ideal S8x2048x4096 .f32) (X' : FVec Ideal S4x4096x4096 .f32) (W : FVec Ideal S6144x4096 .f32) : FVec Ideal S32768x4096 .f32 :=
  concatenate S32768x4096 0 [⟨S16384x4096, shapeCast _ (groupA A Y X W) shapeCasts_S8x2048x4096_S16384x4096⟩,
    ⟨S16384x4096, shapeCast _ (groupB B Y' X' W) shapeCasts_S4x4096x4096_S16384x4096⟩] concatenates_S16384x4096_S16384x4096_S32768x4096_d0

theorem dot_first (C : FVec Ideal S8x2048x6144 .f32) (X : FVec Ideal S8x2048x4096 .f32) (W : FVec Ideal S6144x4096 .f32) (b : Fin 8) (s : Fin 2048)
    (e : Fin 4096) : addf X (Host.dotGeneral dot_S8x2048x6144_S6144x4096_S8x2048x4096_2_0_01_1_n_n none C W) (ix3 b s e)
      = X (ix3 b s e) + ∑ d : Fin 6144, C (ix3 b s d) * W (ix2 d e) := by
  pointwise

theorem dot_second (C : FVec Ideal S4x4096x6144 .f32) (X : FVec Ideal S4x4096x4096 .f32) (W : FVec Ideal S6144x4096 .f32) (b : Fin 4) (s : Fin 4096)
    (e : Fin 4096) : addf X (Host.dotGeneral dot_S4x4096x6144_S6144x4096_S4x4096x4096_2_0_01_1_n_n none C W) (ix3 b s e)
      = X (ix3 b s e) + ∑ d : Fin 6144, C (ix3 b s d) * W (ix2 d e) := by
  pointwise

variable (A : FVec Ideal S8x2048x2048 .f32) (B : FVec Ideal S4x4096x2048 .f32) (Y : FVec Ideal S8x2048x4096 .f32) (Y' : FVec Ideal S4x4096x4096 .f32)
  (X : FVec Ideal S8x2048x4096 .f32) (X' : FVec Ideal S4x4096x4096 .f32) (W : FVec Ideal S6144x4096 .f32)

/-- What both arrays hold. -/
abbrev both : Nat → Nat → EReal :=
  resultAt (tok (w := 2048) A B) (tok (w := 4096) Y Y') (tok (w := 4096) X X') (rd (a := 6144) (b := 4096) W)

theorem groupA_apply (b : Fin 8) (s : Fin 2048) (e : Fin 4096) :
    groupA A Y X W (ix3 b s e) = both A B Y Y' X X' W (2048 * b.val + s.val) e.val := by
  refine (dot_first _ X W b s e).trans ((add_comm _ _).trans (congrArg₂ (· + ·) ?_ (tok_first (B := X') b s e rfl rfl)))
  refine (prod_beside concatenates_S8x2048x2048_S8x2048x4096_S8x2048x6144_d2 b s e).trans (congrArg₂ (· + ·) ?_ ?_)
  · exact Finset.sum_congr rfl fun d _ => congrArg (· * _) (tok_first (B := B) b s d rfl rfl)
  · exact Finset.sum_congr rfl fun d _ => congrArg (· * _) (tok_first (B := Y') b s d rfl rfl)

theorem groupB_apply (b : Fin 4) (s : Fin 4096) (e : Fin 4096) :
    groupB B Y' X' W (ix3 b s e) = both A B Y Y' X X' W (16384 + 4096 * b.val + s.val) e.val := by
  refine (dot_second _ X' W b s e).trans ((add_comm _ _).trans (congrArg₂ (· + ·) ?_ (tok_second (A := X) b s e rfl rfl)))
  refine (prod_beside concatenates_S4x4096x2048_S4x4096x4096_S4x4096x6144_d2 b s e).trans (congrArg₂ (· + ·) ?_ ?_)
  · exact Finset.sum_congr rfl fun d _ => congrArg (· * _) (tok_second (A := A) b s d rfl rfl)
  · exact Finset.sum_congr rfl fun d _ => congrArg (· * _) (tok_second (A := Y) b s d rfl rfl)

theorem refArray_apply (i : S32768x4096.Idx) : refArray A B Y Y' X X' W i = both A B Y Y' X X' W (i 0).val (i 1).val :=
  rows_of (w := 4096) shapeCasts_S8x2048x4096_S16384x4096 shapeCasts_S4x4096x4096_S16384x4096
    concatenates_S16384x4096_S16384x4096_S32768x4096_d0 (both A B Y Y' X X' W) (groupA_apply A B Y Y' X X' W) (groupB_apply A B Y Y' X X' W) i

end

theorem frame_P : quiescent_Kernel5 (hKernel5 := Cert.Kernel5.Gen.facts) := fun m ρ _ => Cert.Kernel5.Gen.frame m ρ

theorem frame_PI : quiescent_Kernel5Ideal (hKernel5Ideal := Cert.Kernel5Ideal.Gen.facts) := fun m ρ _ => Cert.Kernel5Ideal.Gen.frame m ρ

theorem frame_RI : quiescent_Reference5Ideal (hReference5Ideal := Cert.Reference5Ideal.Gen.facts) := by
  intro m g _
  exact (θ_run _ _ _).mono (fun r h => ⟨fun c => (h c).2, sem_eq_zero_of_no_sems rfl r.2⟩) (Cert.Reference5Ideal.Value.run m g)

theorem algebraic_PI : algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 5 Cert.Kernel5Ideal.cfg0.N, Cert.Kernel5Ideal.Value.run_blocks m g, ?_⟩
  refine (θ_run _ _ _).mono (fun r h c => ?_) (Cert.Reference5Ideal.Value.run m' g')
  obtain ⟨h0, h1, h2, h3, h4, h5, h6⟩ := hagree c
  refine ⟨(h c).1.trans ?_, (h c).2⟩
  rw [h0, h1, h2, h3, h4, h5, h6]
  exact funext fun i => (refArray_apply _ _ _ _ _ _ _ i).trans (array_apply m c i).symm

end Cert.Proof.Out
end
end
-- ==== Proof.Qkv.lean ====
module
public import proofs.«01_k».proof.Proof.Gen.Kernel6Ideal.Value
public import proofs.«01_k».proof.Proof.Rows
public import Idealize.ShloMosaic.Lib.Pipeline.ValueKit
public import Idealize.ShloMosaic.Lib.Pointwise
@[expose] public section
set_option maxRecDepth 16384
noncomputable section
namespace Cert.Proof.Qkv
open Idealize.ShloMosaic Idealize.ShloMosaic.TcCoe Idealize.SL.Sem
open Cert.Kernel6Ideal Cert.Kernel6Ideal.Gen

/-! The projection into queries, keys and values: the kernel's array, entry by entry. -/

variable (m : (ℓ : Loc nD τ sig) → Buf (Elt Ideal) ℓ)

/-- The tokens the program is launched with. -/
abbrev launched (c : Dev nD) : Nat → Nat → EReal :=
  tok (w := 4096) (m ((c : Thread nD τ).loc main_arg0)) (m ((c : Thread nD τ).loc main_arg1))

/-- The weights the program is launched with. -/
abbrev weights (c : Dev nD) : Nat → Nat → EReal := rd (a := 4096) (b := 6144) (m ((c : Thread nD τ).loc main_arg2))

theorem tokens_at (c : Dev nD) (i : S32768x4096.Idx) {a b : Nat} (h0 : (i 0).val = a) (h1 : (i 1).val = b) :
    V m c main_v3 i = launched m c a b := by
  entry_read
  exact rows_at (w := 4096) (m ((c : Thread nD τ).loc main_arg0)) (m ((c : Thread nD τ).loc main_arg1)) shapeCasts_S8x2048x4096_S16384x4096
    shapeCasts_S4x4096x4096_S16384x4096 concatenates_S16384x4096_S16384x4096_S32768x4096_d0 i h0 h1

theorem weights_at (c : Dev nD) (i : S4096x6144.Idx) {a b : Nat} (h0 : (i 0).val = a) (h1 : (i 1).val = b) :
    V m c main_v4 i = weights m c a b := by
  entry_read
  exact rd_at (m ((c : Thread nD τ).loc main_arg2)) i h0 h1

theorem idx0 : ∀ t : Fin grid0.N, win0_0.index t = ![t.val / 6, 0] := by decide +kernel
theorem idx1 : ∀ t : Fin grid0.N, win0_1.index t = ![0, t.val % 6] := by decide +kernel
theorem idx2 : ∀ t : Fin grid0.N, win0_2.index t = ![t.val / 6, t.val % 6] := by decide +kernel

theorem block0 (c : Dev nD) (t : Fin cfg0.N) (r : Fin 1024) (k : Fin 4096) :
    iblk m c 0 t (ix2 r k) = launched m c (t.val / 6 * 1024 + r.val) k.val := by
  blk_simp [iblk, idx0]
  refine tokens_at m c _ ?_ ?_ <;> blk_simp [idx0]

theorem block1 (c : Dev nD) (t : Fin cfg0.N) (k : Fin 4096) (s : Fin 1024) :
    iblk m c 1 t (ix2 k s) = weights m c k.val (t.val % 6 * 1024 + s.val) := by
  blk_simp [iblk, idx1]
  refine weights_at m c _ ?_ ?_ <;> blk_simp [idx1]

theorem pay_apply (x : Vec Ideal S1024x4096 .bf16) (w : Vec Ideal S4096x1024 .bf16) (r s : Fin 1024) :
    k0_pay1 x w (ix2 r s) = ∑ d : Fin 4096, x (ix2 r d) * w (ix2 d s) := by
  unfold k0_pay1
  pointwise

theorem array_apply (c : Dev nD) (i : S32768x6144.Idx) :
    (dats m 0 c).arrAt 2 cfg0.N i = prodAt 4096 (launched m c) (weights m c) (i 0).val (i 1).val := by
  refine congrFun ((dats m 0 c).arrAt_eq_of_covers 2 (fun i : S32768x6144.Idx => prodAt 4096 (launched m c) (weights m c) (i 0).val (i 1).val)
    (by decide +kernel) fun t hf y => ?_) i
  blk_simp [idx2]
  rw [after0_2]
  frame_out
  refine (congrArg (k0_pay1 (iblk m c 0 t) (iblk m c 1 t)) (eq_ix2 y)).trans ((pay_apply _ _ _ _).trans ?_)
  exact Finset.sum_congr rfl fun d _ => congrArg₂ (· * ·) (block0 m c t _ d) (block1 m c t d _)

end Cert.Proof.Qkv
end
end
-- ==== Proof.QkvRef.lean ====
module
public import proofs.«01_k».proof.Proof.Gen.Reference6Ideal.Run
public import proofs.«01_k».proof.Proof.Gen.Kernel6.Frame
public import proofs.«01_k».proof.Proof.Gen.Kernel6Ideal.Frame
public import proofs.«01_k».proof.Proof.Qkv
public import proofs.«01_k».proof.Defs
@[expose] public section
set_option maxRecDepth 16384
noncomputable section
namespace Cert.Proof.Qkv
open Idealize.ShloMosaic Idealize.ShloMosaic.TcCoe Idealize.SL.Sem

/-! The projection into queries, keys and values: the reference's array, and the claims of this call. -/

section
open Cert.Reference6Ideal Cert.Reference6Ideal.Gen

/-- What the reference returns. -/
def refArray (A : FVec Ideal S8x2048x4096 .f32) (B : FVec Ideal S4x4096x4096 .f32) (W : FVec Ideal S4096x6144 .f32) : FVec Ideal S32768x6144 .bf16 :=
  truncf .bf16 (concatenate S32768x6144 0 [
    ⟨S16384x6144, shapeCast _ (Host.dotGeneral dot_S8x2048x4096_S4096x6144_S8x2048x6144_2_0_01_1_n_n none A W) shapeCasts_S8x2048x6144_S16384x6144⟩,
    ⟨S16384x6144, shapeCast _ (Host.dotGeneral dot_S4x4096x4096_S4096x6144_S4x4096x6144_2_0_01_1_n_n none B W) shapeCasts_S4x4096x6144_S16384x6144⟩]
    concatenates_S16384x6144_S16384x6144_S32768x6144_d0) bitsLt_bf16_f32

theorem dot_first (A : FVec Ideal S8x2048x4096 .f32) (W : FVec Ideal S4096x6144 .f32) (b : Fin 8) (s : Fin 2048) (e : Fin 6144) :
    Host.dotGeneral dot_S8x2048x4096_S4096x6144_S8x2048x6144_2_0_01_1_n_n none A W (ix3 b s e) = ∑ d : Fin 4096, A (ix3 b s d) * W (ix2 d e) := by
  pointwise

theorem dot_second (B : FVec Ideal S4x4096x4096 .f32) (W : FVec Ideal S4096x6144 .f32) (b : Fin 4) (s : Fin 4096) (e : Fin 6144) :
    Host.dotGeneral dot_S4x4096x4096_S4096x6144_S4x4096x6144_2_0_01_1_n_n none B W (ix3 b s e) = ∑ d : Fin 4096, B (ix3 b s d) * W (ix2 d e) := by
  pointwise

theorem refArray_apply (A : FVec Ideal S8x2048x4096 .f32) (B : FVec Ideal S4x4096x4096 .f32) (W : FVec Ideal S4096x6144 .f32) (i : S32768x6144.Idx) :
    refArray A B W i = prodAt 4096 (tok (w := 4096) A B) (rd (a := 4096) (b := 6144) W) (i 0).val (i 1).val :=
  rows_of (w := 6144) shapeCasts_S8x2048x6144_S16384x6144 shapeCasts_S4x4096x6144_S16384x6144
    concatenates_S16384x6144_S16384x6144_S32768x6144_d0 (prodAt 4096 (tok (w := 4096) A B) (rd (a := 4096) (b := 6144) W))
    (fun b s k => (dot_first A W b s k).trans (prod_first b s k)) (fun b s k => (dot_second B W b s k).trans (prod_second b s k)) i

end

theorem frame_P : quiescent_Kernel6 (hKernel6 := Cert.Kernel6.Gen.facts) := fun m ρ _ => Cert.Kernel6.Gen.frame m ρ

theorem frame_PI : quiescent_Kernel6Ideal (hKernel6Ideal := Cert.Kernel6Ideal.Gen.facts) := fun m ρ _ => Cert.Kernel6Ideal.Gen.frame m ρ

theorem frame_RI : quiescent_Reference6Ideal (hReference6Ideal := Cert.Reference6Ideal.Gen.facts) := by
  intro m g _
  exact (θ_run _ _ _).mono (fun r h => ⟨fun c => (h c).2, sem_eq_zero_of_no_sems rfl r.2⟩) (Cert.Reference6Ideal.Value.run m g)

theorem algebraic_PI : algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 2 Cert.Kernel6Ideal.cfg0.N, Cert.Kernel6Ideal.Value.run_blocks m g, ?_⟩
  refine (θ_run _ _ _).mono (fun r h c => ?_) (Cert.Reference6Ideal.Value.run m' g')
  obtain ⟨h0, h1, h2⟩ := hagree c
  refine ⟨(h c).1.trans ?_, (h c).2⟩
  rw [h0, h1, h2]
  exact funext fun i => (refArray_apply _ _ _ i).trans (array_apply m c i).symm

end Cert.Proof.Qkv
end
end
-- ==== Proof.Wo.lean ====
module
public import proofs.«01_k».proof.Proof.Gen.Kernel7Ideal.Value
public import proofs.«01_k».proof.Proof.Rows
public import Idealize.ShloMosaic.Lib.Pipeline.ValueKit
public import Idealize.ShloMosaic.Lib.Pointwise
@[expose] public section
set_option maxRecDepth 16384
noncomputable section
namespace Cert.Proof.Wo
open Idealize.ShloMosaic Idealize.ShloMosaic.TcCoe Idealize.SL.Sem
open Cert.Kernel7Ideal Cert.Kernel7Ideal.Gen

/-! The projection out of the attention, added to the tokens: the kernel's array, entry by entry. -/

variable (m : (ℓ : Loc nD τ sig) → Buf (Elt Ideal) ℓ)

/-- The attention's outputs the program is launched with. -/
abbrev launched (c : Dev nD) : Nat → Nat → EReal :=
  tok (w := 4096) (m ((c : Thread nD τ).loc main_arg0)) (m ((c : Thread nD τ).loc main_arg1))

/-- The tokens the product is added to. -/
abbrev carried (c : Dev nD) : Nat → Nat → EReal :=
  tok (w := 4096) (m ((c : Thread nD τ).loc main_arg2)) (m ((c : Thread nD τ).loc main_arg3))

/-- The weights the program is launched with. -/
abbrev weights (c : Dev nD) : Nat → Nat → EReal := rd (a := 4096) (b := 4096) (m ((c : Thread nD τ).loc main_arg4))

theorem launched_at (c : Dev nD) (i : S32768x4096.Idx) {a b : Nat} (h0 : (i 0).val = a) (h1 : (i 1).val = b) :
    V m c main_v3 i = launched m c a b := by
  entry_read
  exact rows_at (w := 4096) (m ((c : Thread nD τ).loc main_arg0)) (m ((c : Thread nD τ).loc main_arg1)) shapeCasts_S8x2048x4096_S16384x4096
    shapeCasts_S4x4096x4096_S16384x4096 concatenates_S16384x4096_S16384x4096_S32768x4096_d0 i h0 h1

theorem weights_at (c : Dev nD) (i : S4096x4096.Idx) {a b : Nat} (h0 : (i 0).val = a) (h1 : (i 1).val = b) :
    V m c main_v4 i = weights m c a b := by
  entry_read
  exact rd_at (m ((c : Thread nD τ).loc main_arg4)) i h0 h1

theorem carried_at (c : Dev nD) (i : S32768x4096.Idx) {a b : Nat} (h0 : (i 0).val = a) (h1 : (i 1).val = b) :
    V m c main_v7 i = carried m c a b := by
  entry_read
  exact rows_at (w := 4096) (m ((c : Thread nD τ).loc main_arg2)) (m ((c : Thread nD τ).loc main_arg3)) shapeCasts_S8x2048x4096_S16384x4096
    shapeCasts_S4x4096x4096_S16384x4096 concatenates_S16384x4096_S16384x4096_S32768x4096_d0 i h0 h1

theorem idx0 : ∀ t : Fin grid0.N, win0_0.index t = ![t.val / 8, 0] := by decide +kernel
theorem idx1 : ∀ t : Fin grid0.N, win0_1.index t = ![0, t.val % 8] := by decide +kernel
theorem idx2 : ∀ t : Fin grid0.N, win0_2.index t = ![t.val / 8, t.val % 8] := by decide +kernel
theorem idx3 : ∀ t : Fin grid0.N, win0_3.index t = ![t.val / 8, t.val % 8] := by decide +kernel

theorem block0 (c : Dev nD) (t : Fin cfg0.N) (r : Fin 1024) (k : Fin 4096) :
    iblk m c 0 t (ix2 r k) = launched m c (t.val / 8 * 1024 + r.val) k.val := by
  blk_simp [iblk, idx0]
  refine launched_at m c _ ?_ ?_ <;> blk_simp [idx0]

theorem block1 (c : Dev nD) (t : Fin cfg0.N) (k : Fin 4096) (s : Fin 512) :
    iblk m c 1 t (ix2 k s) = weights m c k.val (t.val % 8 * 512 + s.val) := by
  blk_simp [iblk, idx1]
  refine weights_at m c _ ?_ ?_ <;> blk_simp [idx1]

theorem block2 (c : Dev nD) (t : Fin cfg0.N) (r : Fin 1024) (s : Fin 512) :
    iblk m c 2 t (ix2 r s) = carried m c (t.val / 8 * 1024 + r.val) (t.val % 8 * 512 + s.val) := by
  blk_simp [iblk, idx2]
  refine carried_at m c _ ?_ ?_ <;> blk_simp [idx2]

theorem pay_apply (x : Vec Ideal S1024x4096 .bf16) (w : Vec Ideal S4096x512 .bf16) (z : Vec Ideal S1024x512 .f32) (r : Fin 1024) (s : Fin 512) :
    k0_pay1 x w z (ix2 r s) = (∑ d : Fin 4096, x (ix2 r d) * w (ix2 d s)) + z (ix2 r s) := by
  unfold k0_pay1
  pointwise

/-- An entry of the result. -/
def resultAt (X Z W : Nat → Nat → EReal) (n e : Nat) : EReal := prodAt 4096 X W n e + Z n e

theorem array_apply (c : Dev nD) (i : S32768x4096.Idx) :
    (dats m 0 c).arrAt 3 cfg0.N i = resultAt (launched m c) (carried m c) (weights m c) (i 0).val (i 1).val := by
  refine congrFun ((dats m 0 c).arrAt_eq_of_covers 3
    (fun i : S32768x4096.Idx => resultAt (launched m c) (carried m c) (weights m c) (i 0).val (i 1).val)
    (by decide +kernel) fun t hf y => ?_) i
  blk_simp [idx3]
  rw [after0_3]
  frame_out
  refine (congrArg (k0_pay1 (iblk m c 0 t) (iblk m c 1 t) (iblk m c 2 t)) (eq_ix2 y)).trans ((pay_apply _ _ _ _ _).trans ?_)
  exact congrArg₂ (· + ·) (Finset.sum_congr rfl fun d _ => congrArg₂ (· * ·) (block0 m c t _ d) (block1 m c t d _)) (block2 m c t _ _)

end Cert.Proof.Wo
end
end
-- ==== Proof.WoRef.lean ====
module
public import proofs.«01_k».proof.Proof.Gen.Reference7Ideal.Run
public import proofs.«01_k».proof.Proof.Gen.Kernel7.Frame
public import proofs.«01_k».proof.Proof.Gen.Kernel7Ideal.Frame
public import proofs.«01_k».proof.Proof.Wo
public import proofs.«01_k».proof.Defs
@[expose] public section
set_option maxRecDepth 16384
noncomputable section
namespace Cert.Proof.Wo
open Idealize.ShloMosaic Idealize.ShloMosaic.TcCoe Idealize.SL.Sem

/-! The projection out of the attention: the reference's array, and the claims of this call. -/

section
open Cert.Reference7Ideal Cert.Reference7Ideal.Gen

/-- What the reference returns. -/
def refArray (A : FVec Ideal S8x2048x4096 .f32) (B : FVec Ideal S4x4096x4096 .f32) (X : FVec Ideal S8x2048x4096 .f32)
    (Y : FVec Ideal S4x4096x4096 .f32) (W : FVec Ideal S4096x4096 .f32) : FVec Ideal S32768x4096 .f32 :=
  concatenate S32768x4096 0 [
    ⟨S16384x4096, shapeCast _ (addf X (Host.dotGeneral dot_S8x2048x4096_S4096x4096_S8x2048x4096_2_0_01_1_n_n none A W)) shapeCasts_S8x2048x4096_S16384x4096⟩,
    ⟨S16384x4096, shapeCast _ (addf Y (Host.dotGeneral dot_S4x4096x4096_S4096x4096_S4x4096x4096_2_0_01_1_n_n none B W)) shapeCasts_S4x4096x4096_S16384x4096⟩]
    concatenates_S16384x4096_S16384x4096_S32768x4096_d0

theorem sum_first (A : FVec Ideal S8x2048x4096 .f32) (X : FVec Ideal S8x2048x4096 .f32) (W : FVec Ideal S4096x4096 .f32) (b : Fin 8) (s : Fin 2048) (e : Fin 4096) :
    addf X (Host.dotGeneral dot_S8x2048x4096_S4096x4096_S8x2048x4096_2_0_01_1_n_n none A W) (ix3 b s e)
      = X (ix3 b s e) + ∑ d : Fin 4096, A (ix3 b s d) * W (ix2 d e) := by
  pointwise

theorem sum_second (B : FVec Ideal S4x4096x4096 .f32) (Y : FVec Ideal S4x4096x4096 .f32) (W : FVec Ideal S4096x4096 .f32) (b : Fin 4) (s : Fin 4096) (e : Fin 4096) :
    addf Y (Host.dotGeneral dot_S4x4096x4096_S4096x4096_S4x4096x4096_2_0_01_1_n_n none B W) (ix3 b s e)
      = Y (ix3 b s e) + ∑ d : Fin 4096, B (ix3 b s d) * W (ix2 d e) := by
  pointwise

theorem refArray_apply (A : FVec Ideal S8x2048x4096 .f32) (B : FVec Ideal S4x4096x4096 .f32) (X : FVec Ideal S8x2048x4096 .f32)
    (Y : FVec Ideal S4x4096x4096 .f32) (W : FVec Ideal S4096x4096 .f32) (i : S32768x4096.Idx) :
    refArray A B X Y W i = resultAt (tok (w := 4096) A B) (tok (w := 4096) X Y) (rd (a := 4096) (b := 4096) W) (i 0).val (i 1).val :=
  rows_of (w := 4096) shapeCasts_S8x2048x4096_S16384x4096 shapeCasts_S4x4096x4096_S16384x4096
    concatenates_S16384x4096_S16384x4096_S32768x4096_d0 (resultAt (tok (w := 4096) A B) (tok (w := 4096) X Y) (rd (a := 4096) (b := 4096) W))
    (fun b s k => ((sum_first A X W b s k).trans (add_comm _ _)).trans
      (congrArg₂ (· + ·) (prod_first (B := B) b s k) (tok_first (B := Y) b s k rfl rfl)))
    (fun b s k => ((sum_second B Y W b s k).trans (add_comm _ _)).trans
      (congrArg₂ (· + ·) (prod_second (A := A) b s k) (tok_second (A := X) b s k rfl rfl))) i

end

theorem frame_P : quiescent_Kernel7 (hKernel7 := Cert.Kernel7.Gen.facts) := fun m ρ _ => Cert.Kernel7.Gen.frame m ρ

theorem frame_PI : quiescent_Kernel7Ideal (hKernel7Ideal := Cert.Kernel7Ideal.Gen.facts) := fun m ρ _ => Cert.Kernel7Ideal.Gen.frame m ρ

theorem frame_RI : quiescent_Reference7Ideal (hReference7Ideal := Cert.Reference7Ideal.Gen.facts) := by
  intro m g _
  exact (θ_run _ _ _).mono (fun r h => ⟨fun c => (h c).2, sem_eq_zero_of_no_sems rfl r.2⟩) (Cert.Reference7Ideal.Value.run m g)

theorem algebraic_PI : algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 3 Cert.Kernel7Ideal.cfg0.N, Cert.Kernel7Ideal.Value.run_blocks m g, ?_⟩
  refine (θ_run _ _ _).mono (fun r h c => ?_) (Cert.Reference7Ideal.Value.run m' g')
  obtain ⟨h0, h1, h2, h3, h4⟩ := hagree c
  refine ⟨(h c).1.trans ?_, (h c).2⟩
  rw [h0, h1, h2, h3, h4]
  exact funext fun i => (refArray_apply _ _ _ _ _ i).trans (array_apply m c i).symm

end Cert.Proof.Wo
end
end
-- ==== Proof.Norm.lean ====
module
public import proofs.«01_k».proof.Proof.Rows
@[expose] public section
set_option maxRecDepth 16384
noncomputable section
namespace Cert.Proof.Norm
open Idealize.ShloMosaic Idealize.ShloMosaic.TcCoe

/-! The final norm of one token, and the reshape of a group of sequences to rows. -/

/-- Entry `k` of the norm of token `n`. -/
def normAt (X : Nat → Nat → EReal) (g : Nat → EReal) (n k : Nat) : EReal :=
  X n k * Ideal.rsqrt (Ideal.div (∑ d : Fin 4096, X n d.val * X n d.val) (Ideal.ofBits .f32 0x45800000#32) + Ideal.ofBits .f32 0x358637BD#32) * g k

/-- The same over a row whose entries, and whose scale, are known. -/
theorem normAt_of {X : Nat → Nat → EReal} {g : Nat → EReal} {n : Nat} (x : Fin 4096 → EReal) (s : EReal) (k : Fin 4096)
    (hx : ∀ d : Fin 4096, x d = X n d.val) (hs : s = g k.val) :
    x k * Ideal.rsqrt (Ideal.div (∑ d : Fin 4096, x d * x d) (Ideal.ofBits .f32 0x45800000#32) + Ideal.ofBits .f32 0x358637BD#32) * s
      = normAt X g n k.val := by
  unfold normAt
  rw [hs, hx k, Finset.sum_congr rfl fun d _ => congrArg₂ (· * ·) (hx d) (hx d)]

theorem scale_eq (g : (⟨1, ![4096]⟩ : Shape).Idx → EReal) (k : Fin 4096) : g (ix1 k) = rd1 (a := 4096) g k.val := by
  unfold rd1
  rw [dif_pos k.isLt]

/-- A vector reshaped to one row. -/
theorem row_at (g : (⟨1, ![4096]⟩ : Shape).Idx → EReal) (hs : Shape.ShapeCasts ⟨1, ![4096]⟩ ⟨2, ![1, 4096]⟩) (i : (⟨2, ![1, 4096]⟩ : Shape).Idx)
    {k : Nat} (h1 : (i 1).val = k) : shapeCast ⟨2, ![1, 4096]⟩ g hs i = rd1 (a := 4096) g k := by
  subst h1
  refine Eq.trans (shapeCast_apply _ _ i (ix1 (i 1)) ?_) (scale_eq g (i 1))
  refine (Shape.rowMajor_val_one (d := ![4096]) _).trans (Eq.trans ?_ (Shape.rowMajor_val_two (d := ![1, 4096]) _).symm)
  have h0 : (i 0).val < 1 := (i 0).isLt
  change (i 1).val = (i 0).val * 4096 + (i 1).val
  omega

/-- A group of sequences, reshaped to rows. -/
theorem flat_apply {a b N w : Nat} (x : (⟨3, ![a, b, w]⟩ : Shape).Idx → EReal) (hs : Shape.ShapeCasts ⟨3, ![a, b, w]⟩ ⟨2, ![N, w]⟩)
    (i : (⟨2, ![N, w]⟩ : Shape).Idx) (p : Fin a) (s : Fin b) (h : (i 0).val = p.val * b + s.val) :
    shapeCast ⟨2, ![N, w]⟩ x hs i = x (ix3 p s (i 1)) := by
  refine shapeCast_apply _ _ i (ix3 p s (i 1)) ?_
  refine (Shape.rowMajor_val_three (d := ![a, b, w]) _).trans (Eq.trans ?_ (Shape.rowMajor_val_two (d := ![N, w]) _).symm)
  change (p.val * b + s.val) * w + (i 1).val = (i 0).val * w + (i 1).val
  rw [h]

end Cert.Proof.Norm
end
end
-- ==== Proof.NormPrompt.lean ====
module
public import proofs.«01_k».proof.Proof.Gen.Kernel8Ideal.Value
public import proofs.«01_k».proof.Proof.Gen.Reference8Ideal.Run
public import proofs.«01_k».proof.Proof.Gen.Kernel8.Frame
public import proofs.«01_k».proof.Proof.Gen.Kernel8Ideal.Frame
public import proofs.«01_k».proof.Proof.Norm
public import proofs.«01_k».proof.Defs
public import Idealize.ShloMosaic.Lib.Pipeline.ValueKit
public import Idealize.ShloMosaic.Lib.Pointwise
@[expose] public section
set_option maxRecDepth 16384
noncomputable section
namespace Cert.Proof.NormPrompt
open Idealize.ShloMosaic Idealize.ShloMosaic.TcCoe Idealize.SL.Sem Cert.Proof.Norm

/-! The final norm of the first group: both arrays entry by entry, and the claims of this call. -/

section
open Cert.Kernel8Ideal Cert.Kernel8Ideal.Gen

variable (m : (ℓ : Loc nD τ sig) → Buf (Elt Ideal) ℓ)

/-- The tokens the program is launched with. -/
abbrev launched (c : Dev nD) : Nat → Nat → EReal :=
  tok (w := 4096) (m ((c : Thread nD τ).loc main_arg0)) (m ((c : Thread nD τ).loc main_arg1))

/-- The scale the program is launched with. -/
abbrev scale (c : Dev nD) : Nat → EReal := rd1 (a := 4096) (m ((c : Thread nD τ).loc main_arg2))

theorem tokens_at (c : Dev nD) (i : S32768x4096.Idx) {a b : Nat} (h0 : (i 0).val = a) (h1 : (i 1).val = b) :
    V m c main_v2 i = launched m c a b := by
  entry_read
  exact rows_at (w := 4096) (m ((c : Thread nD τ).loc main_arg0)) (m ((c : Thread nD τ).loc main_arg1)) shapeCasts_S8x2048x4096_S16384x4096
    shapeCasts_S4x4096x4096_S16384x4096 concatenates_S16384x4096_S16384x4096_S32768x4096_d0 i h0 h1

theorem scale_at (c : Dev nD) (i : S1x4096.Idx) {k : Nat} (h1 : (i 1).val = k) : V m c main_v3 i = scale m c k := by
  entry_read
  exact row_at (m ((c : Thread nD τ).loc main_arg2)) shapeCasts_S4096_S1x4096 i h1

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

theorem block0 (c : Dev nD) (t : Fin cfg0.N) (r : Fin 512) (k : Fin 4096) :
    iblk m c 0 t (ix2 r k) = launched m c (t.val * 512 + r.val) k.val := by
  blk_simp [iblk, idx0]
  refine tokens_at m c _ ?_ ?_ <;> blk_simp [idx0]

theorem block1 (c : Dev nD) (t : Fin cfg0.N) (k : Fin 4096) : iblk m c 1 t (ix2 0 k) = scale m c k.val := by
  blk_simp [iblk, idx1]
  refine scale_at m c _ ?_
  blk_simp [idx1]

theorem pay_apply (x : Vec Ideal S512x4096 .f32) (g : Vec Ideal S1x4096 .f32) (r : Fin 512) (k : Fin 4096) :
    k0_pay1 x g (ix2 r k) = x (ix2 r k) * Ideal.rsqrt (Ideal.div (∑ d : Fin 4096, x (ix2 r d) * x (ix2 r d))
      (Ideal.ofBits .f32 0x45800000#32) + Ideal.ofBits .f32 0x358637BD#32) * g (ix2 0 k) := by
  unfold k0_pay1
  pointwise

theorem array_apply (c : Dev nD) (i : S16384x4096.Idx) :
    (dats m 0 c).arrAt 2 cfg0.N i = normAt (launched m c) (scale m c) ((i 0).val) (i 1).val := by
  refine congrFun ((dats m 0 c).arrAt_eq_of_covers 2
    (fun i : S16384x4096.Idx => normAt (launched m c) (scale m c) ((i 0).val) (i 1).val) (by decide +kernel) fun t hf y => ?_) i
  blk_simp [idx2]
  rw [after0_2]
  frame_out
  refine (congrArg (k0_pay1 (iblk m c 0 t) (iblk m c 1 t)) (eq_ix2 y)).trans ((pay_apply _ _ _ _).trans ?_)
  exact normAt_of (fun d => iblk m c 0 t (ix2 (y 0) d)) _ (y 1) (fun d => block0 m c t (y 0) d) (block1 m c t (y 1))

end

section
open Cert.Reference8Ideal Cert.Reference8Ideal.Gen

/-- The norm of every token of the group. -/
def normed (x : FVec Ideal S8x2048x4096 .f32) (g : FVec Ideal S4096 .f32) : FVec Ideal S8x2048x4096 .f32 :=
  mulf (mulf x (broadcastInDim S8x2048x4096 ![0, 1, 2] bcast_S8x2048x1_S8x2048x4096_0_1_2 (Host.rsqrt (addf (Host.divf
    (broadcastInDim S8x2048x1 ![0, 1] bcast_S8x2048_S8x2048x1_0_1 (Host.reduceAdd (mulf x x) (constant S_ .f32 0x00000000#32) reducesTo_S8x2048x4096_S8x2048_d2 h_S_))
    (broadcastInDim S8x2048x1 ![] bcast_S_S8x2048x1 (constant S_ .f32 0x45800000#32)))
    (broadcastInDim S8x2048x1 ![] bcast_S_S8x2048x1 (constant S_ .f32 0x358637BD#32))))))
    (broadcastInDim S8x2048x4096 ![0, 1, 2] bcast_S1x1x4096_S8x2048x4096_0_1_2 (broadcastInDim S1x1x4096 ![2] bcast_S4096_S1x1x4096_2 g))

theorem normed_apply (x : FVec Ideal S8x2048x4096 .f32) (g : FVec Ideal S4096 .f32) (b : Fin 8) (s : Fin 2048) (k : Fin 4096) :
    normed x g (ix3 b s k) = x (ix3 b s k) * Ideal.rsqrt (Ideal.div (∑ d : Fin 4096, x (ix3 b s d) * x (ix3 b s d))
      (Ideal.ofBits .f32 0x45800000#32) + Ideal.ofBits .f32 0x358637BD#32) * g (ix1 k) := by
  unfold normed
  pointwise

/-- What the reference returns. -/
def refArray (x : FVec Ideal S8x2048x4096 .f32) (g : FVec Ideal S4096 .f32) : FVec Ideal S16384x4096 .f32 :=
  shapeCast _ (normed x g) shapeCasts_S8x2048x4096_S16384x4096

theorem refArray_apply (A : FVec Ideal S8x2048x4096 .f32) (B : (⟨3, ![4, 4096, 4096]⟩ : Shape).Idx → EReal) (g : FVec Ideal S4096 .f32) (i : S16384x4096.Idx) :
    refArray A g i = normAt (tok (w := 4096) A B) (rd1 (a := 4096) g) ((i 0).val) (i 1).val := by
  have hi : (i 0).val < 16384 := (i 0).isLt
  refine (flat_apply (normed A g) shapeCasts_S8x2048x4096_S16384x4096 i ⟨(i 0).val / 2048, by omega⟩ ⟨(i 0).val % 2048, by omega⟩
    (Nat.div_add_mod' _ _).symm).trans ((normed_apply A g _ _ _).trans ?_)
  exact normAt_of (fun d => A (ix3 _ _ d)) _ (i 1)
    (fun d => tok_first _ _ d (show (i 0).val = 2048 * ((i 0).val / 2048) + (i 0).val % 2048 by omega) rfl) (scale_eq g (i 1))

end

theorem frame_P : quiescent_Kernel8 (hKernel8 := Cert.Kernel8.Gen.facts) := fun m ρ _ => Cert.Kernel8.Gen.frame m ρ

theorem frame_PI : quiescent_Kernel8Ideal (hKernel8Ideal := Cert.Kernel8Ideal.Gen.facts) := fun m ρ _ => Cert.Kernel8Ideal.Gen.frame m ρ

theorem frame_RI : quiescent_Reference8Ideal (hReference8Ideal := Cert.Reference8Ideal.Gen.facts) := by
  intro m g _
  exact (θ_run _ _ _).mono (fun r h => ⟨fun c => (h c).2, sem_eq_zero_of_no_sems rfl r.2⟩) (Cert.Reference8Ideal.Value.run m g)

theorem algebraic_PI : algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 2 Cert.Kernel8Ideal.cfg0.N, Cert.Kernel8Ideal.Value.run_blocks m g, ?_⟩
  refine (θ_run _ _ _).mono (fun r h c => ?_) (Cert.Reference8Ideal.Value.run m' g')
  obtain ⟨h0, _, h2⟩ := hagree c
  refine ⟨(h c).1.trans ?_, (h c).2⟩
  rw [h0, h2]
  exact funext fun i => (refArray_apply _ _ _ i).trans (array_apply m c i).symm

end Cert.Proof.NormPrompt
end
end
-- ==== Proof.NormSample.lean ====
module
public import proofs.«01_k».proof.Proof.Gen.Kernel9Ideal.Value
public import proofs.«01_k».proof.Proof.Gen.Reference9Ideal.Run
public import proofs.«01_k».proof.Proof.Gen.Kernel9.Frame
public import proofs.«01_k».proof.Proof.Gen.Kernel9Ideal.Frame
public import proofs.«01_k».proof.Proof.NormPrompt
public import proofs.«01_k».proof.Defs
public import Idealize.ShloMosaic.Lib.Pipeline.ValueKit
public import Idealize.ShloMosaic.Lib.Pointwise
@[expose] public section
set_option maxRecDepth 16384
noncomputable section
namespace Cert.Proof.NormSample
open Idealize.ShloMosaic Idealize.ShloMosaic.TcCoe Idealize.SL.Sem Cert.Proof.Norm

/-! The final norm of the second group: both arrays entry by entry, and the claims of this call. -/

section
open Cert.Kernel9Ideal Cert.Kernel9Ideal.Gen

variable (m : (ℓ : Loc nD τ sig) → Buf (Elt Ideal) ℓ)

/-- The tokens the program is launched with. -/
abbrev launched (c : Dev nD) : Nat → Nat → EReal :=
  tok (w := 4096) (m ((c : Thread nD τ).loc main_arg0)) (m ((c : Thread nD τ).loc main_arg1))

/-- The scale the program is launched with. -/
abbrev scale (c : Dev nD) : Nat → EReal := rd1 (a := 4096) (m ((c : Thread nD τ).loc main_arg2))

theorem tokens_at (c : Dev nD) (i : S32768x4096.Idx) {a b : Nat} (h0 : (i 0).val = a) (h1 : (i 1).val = b) :
    V m c main_v2 i = launched m c a b := by
  entry_read
  exact rows_at (w := 4096) (m ((c : Thread nD τ).loc main_arg0)) (m ((c : Thread nD τ).loc main_arg1)) shapeCasts_S8x2048x4096_S16384x4096
    shapeCasts_S4x4096x4096_S16384x4096 concatenates_S16384x4096_S16384x4096_S32768x4096_d0 i h0 h1

theorem scale_at (c : Dev nD) (i : S1x4096.Idx) {k : Nat} (h1 : (i 1).val = k) : V m c main_v3 i = scale m c k := by
  entry_read
  exact row_at (m ((c : Thread nD τ).loc main_arg2)) shapeCasts_S4096_S1x4096 i h1

theorem idx0 : ∀ t : Fin grid0.N, win0_0.index t = ![t.val + 32, 0] := by decide +kernel
theorem idx1 : ∀ t : Fin grid0.N, win0_1.index t = ![0, 0] := by decide +kernel
theorem idx2 : ∀ t : Fin grid0.N, win0_2.index t = ![t.val, 0] := by decide +kernel

theorem block0 (c : Dev nD) (t : Fin cfg0.N) (r : Fin 512) (k : Fin 4096) :
    iblk m c 0 t (ix2 r k) = launched m c (16384 + (t.val * 512 + r.val)) k.val := by
  blk_simp [iblk, idx0]
  refine tokens_at m c _ ?_ ?_ <;> blk_simp [idx0]
  omega

theorem block1 (c : Dev nD) (t : Fin cfg0.N) (k : Fin 4096) : iblk m c 1 t (ix2 0 k) = scale m c k.val := by
  blk_simp [iblk, idx1]
  refine scale_at m c _ ?_
  blk_simp [idx1]

theorem pay_apply (x : Vec Ideal S512x4096 .f32) (g : Vec Ideal S1x4096 .f32) (r : Fin 512) (k : Fin 4096) :
    k0_pay1 x g (ix2 r k) = x (ix2 r k) * Ideal.rsqrt (Ideal.div (∑ d : Fin 4096, x (ix2 r d) * x (ix2 r d))
      (Ideal.ofBits .f32 0x45800000#32) + Ideal.ofBits .f32 0x358637BD#32) * g (ix2 0 k) :=
  NormPrompt.pay_apply x g r k

theorem array_apply (c : Dev nD) (i : S16384x4096.Idx) :
    (dats m 0 c).arrAt 2 cfg0.N i = normAt (launched m c) (scale m c) (16384 + (i 0).val) (i 1).val := by
  refine congrFun ((dats m 0 c).arrAt_eq_of_covers 2
    (fun i : S16384x4096.Idx => normAt (launched m c) (scale m c) (16384 + (i 0).val) (i 1).val) (by decide +kernel) fun t hf y => ?_) i
  blk_simp [idx2]
  rw [after0_2]
  frame_out
  refine (congrArg (k0_pay1 (iblk m c 0 t) (iblk m c 1 t)) (eq_ix2 y)).trans ((pay_apply _ _ _ _).trans ?_)
  exact normAt_of (fun d => iblk m c 0 t (ix2 (y 0) d)) _ (y 1) (fun d => block0 m c t (y 0) d) (block1 m c t (y 1))

end

section
open Cert.Reference9Ideal Cert.Reference9Ideal.Gen

/-- The norm of every token of the group. -/
def normed (x : FVec Ideal S4x4096x4096 .f32) (g : FVec Ideal S4096 .f32) : FVec Ideal S4x4096x4096 .f32 :=
  mulf (mulf x (broadcastInDim S4x4096x4096 ![0, 1, 2] bcast_S4x4096x1_S4x4096x4096_0_1_2 (Host.rsqrt (addf (Host.divf
    (broadcastInDim S4x4096x1 ![0, 1] bcast_S4x4096_S4x4096x1_0_1 (Host.reduceAdd (mulf x x) (constant S_ .f32 0x00000000#32) reducesTo_S4x4096x4096_S4x4096_d2 h_S_))
    (broadcastInDim S4x4096x1 ![] bcast_S_S4x4096x1 (constant S_ .f32 0x45800000#32)))
    (broadcastInDim S4x4096x1 ![] bcast_S_S4x4096x1 (constant S_ .f32 0x358637BD#32))))))
    (broadcastInDim S4x4096x4096 ![0, 1, 2] bcast_S1x1x4096_S4x4096x4096_0_1_2 (broadcastInDim S1x1x4096 ![2] bcast_S4096_S1x1x4096_2 g))

theorem normed_apply (x : FVec Ideal S4x4096x4096 .f32) (g : FVec Ideal S4096 .f32) (b : Fin 4) (s : Fin 4096) (k : Fin 4096) :
    normed x g (ix3 b s k) = x (ix3 b s k) * Ideal.rsqrt (Ideal.div (∑ d : Fin 4096, x (ix3 b s d) * x (ix3 b s d))
      (Ideal.ofBits .f32 0x45800000#32) + Ideal.ofBits .f32 0x358637BD#32) * g (ix1 k) := by
  unfold normed
  pointwise

/-- What the reference returns. -/
def refArray (x : FVec Ideal S4x4096x4096 .f32) (g : FVec Ideal S4096 .f32) : FVec Ideal S16384x4096 .f32 :=
  shapeCast _ (normed x g) shapeCasts_S4x4096x4096_S16384x4096

theorem refArray_apply (A : (⟨3, ![8, 2048, 4096]⟩ : Shape).Idx → EReal) (B : FVec Ideal S4x4096x4096 .f32) (g : FVec Ideal S4096 .f32) (i : S16384x4096.Idx) :
    refArray B g i = normAt (tok (w := 4096) A B) (rd1 (a := 4096) g) (16384 + (i 0).val) (i 1).val := by
  have hi : (i 0).val < 16384 := (i 0).isLt
  refine (flat_apply (normed B g) shapeCasts_S4x4096x4096_S16384x4096 i ⟨(i 0).val / 4096, by omega⟩ ⟨(i 0).val % 4096, by omega⟩
    (Nat.div_add_mod' _ _).symm).trans ((normed_apply B g _ _ _).trans ?_)
  exact normAt_of (fun d => B (ix3 _ _ d)) _ (i 1)
    (fun d => tok_second _ _ d (show 16384 + (i 0).val = 16384 + 4096 * ((i 0).val / 4096) + (i 0).val % 4096 by omega) rfl) (scale_eq g (i 1))

end

theorem frame_P : quiescent_Kernel9 (hKernel9 := Cert.Kernel9.Gen.facts) := fun m ρ _ => Cert.Kernel9.Gen.frame m ρ

theorem frame_PI : quiescent_Kernel9Ideal (hKernel9Ideal := Cert.Kernel9Ideal.Gen.facts) := fun m ρ _ => Cert.Kernel9Ideal.Gen.frame m ρ

theorem frame_RI : quiescent_Reference9Ideal (hReference9Ideal := Cert.Reference9Ideal.Gen.facts) := by
  intro m g _
  exact (θ_run _ _ _).mono (fun r h => ⟨fun c => (h c).2, sem_eq_zero_of_no_sems rfl r.2⟩) (Cert.Reference9Ideal.Value.run m g)

theorem algebraic_PI : algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 2 Cert.Kernel9Ideal.cfg0.N, Cert.Kernel9Ideal.Value.run_blocks m g, ?_⟩
  refine (θ_run _ _ _).mono (fun r h c => ?_) (Cert.Reference9Ideal.Value.run m' g')
  obtain ⟨_, h1, h2⟩ := hagree c
  refine ⟨(h c).1.trans ?_, (h c).2⟩
  rw [h1, h2]
  exact funext fun i => (refArray_apply _ _ _ i).trans (array_apply m c i).symm

end Cert.Proof.NormSample
end
end
-- ==== Proof.Conv.lean ====
module
public import proofs.«01_k».proof.Proof.Rows
public import Idealize.ShloMosaic.Lib.Pipeline.Value
public import Idealize.ShloMosaic.Lib.KernelVsHost
@[expose] public section
set_option maxRecDepth 16384
noncomputable section
namespace Cert.Proof.Conv
open Idealize.ShloMosaic Idealize.ShloMosaic.TcCoe

/-! Short convolutions along the sequences. A grid step works on 512 tokens of one sequence, with the 8 tokens before and the
    8 after them; the two programs' neighbours of a token are the same, and zero past a sequence's ends. -/

/-- A token's place in its sequence. -/
def place (n : Nat) : Nat := if n < 16384 then n % 2048 else n % 4096

/-- The length of a token's sequence. -/
def length (n : Nat) : Nat := if n < 16384 then 2048 else 4096

/-- The value `d` tokens before token `n` of its sequence. -/
def back (Z : Nat → EReal) (d n : Nat) : EReal := if place n < d then 0 else Z (n - d)

theorem back_zero (Z : Nat → EReal) (n : Nat) : back Z 0 n = Z n := by
  unfold back
  rw [if_neg (by omega)]
  rfl

/-- The value one token after token `n` of its sequence. -/
def fore (Z : Nat → EReal) (n : Nat) : EReal := if place n + 1 = length n then 0 else Z (n + 1)

/-- Whether chunk `c` of 512 tokens is the first of its sequence. -/
def opens (c : Nat) : Prop := if c < 32 then c % 4 = 0 else c % 8 = 0

/-- Whether chunk `c` of 512 tokens is the last of its sequence. -/
def closes (c : Nat) : Prop := if c < 32 then c % 4 = 3 else c % 8 = 7

instance (c : Nat) : Decidable (opens c) := by unfold opens; infer_instance
instance (c : Nat) : Decidable (closes c) := by unfold closes; infer_instance

/-! ## The kernel's chunk with its neighbours -/

/-- The divisor the kernel's remainders use. -/
def divisor (n : BitVec 32) : BitVec 32 := Scalar.select (Scalar.cmpi .eq n 0#32) 1#32 n

/-- The remainder of `a` by `n`, brought to the sign of `n`, as the kernel computes it. -/
def rest (a n : BitVec 32) : BitVec 32 :=
  Scalar.select (Scalar.andi (Scalar.xori (Scalar.cmpi .slt (Scalar.remsi a (divisor n)) 0#32) (Scalar.cmpi .slt (divisor n) 0#32))
    (Scalar.cmpi .ne (Scalar.remsi a (divisor n)) 0#32)) (Scalar.addi (Scalar.remsi a (divisor n)) (divisor n)) (Scalar.remsi a (divisor n))

/-- The kernel's bit for the first chunk of a sequence. -/
def opensBit (a : BitVec 32) : BitVec 1 :=
  Scalar.select (Scalar.cmpi .slt a 32#32) (Scalar.cmpi .eq (rest a 4#32) 0#32) (Scalar.cmpi .eq (rest (Scalar.subi a 32#32) 8#32) 0#32)

/-- The kernel's bit for the last chunk of a sequence. -/
def closesBit (a : BitVec 32) : BitVec 1 :=
  Scalar.select (Scalar.cmpi .slt a 32#32) (Scalar.cmpi .eq (rest a 4#32) 3#32) (Scalar.cmpi .eq (rest (Scalar.subi a 32#32) 8#32) 7#32)

theorem opensBit_eq : ∀ c : Fin 64, opensBit (BitVec.ofNat 32 c.val) = if opens c.val then 1 else 0 := by decide +kernel

theorem closesBit_eq : ∀ c : Fin 64, closesBit (BitVec.ofNat 32 c.val) = if closes c.val then 1 else 0 := by decide +kernel

/-- Row `e` of a chunk that starts at token `n` with its 8 tokens on either side; a side past the sequence's end is zero. -/
def around (P Q : Prop) [Decidable P] [Decidable Q] (Z : Nat → EReal) (n e : Nat) : EReal :=
  if P ∧ e < 8 ∨ Q ∧ 520 ≤ e then 0 else Z (n + e - 8)

theorem around_back {c r d : Nat} (hc : c < 64) (hr : r < 512) (hd : d ≤ 8) (Z : Nat → EReal) :
    around (opens c) (closes c) Z (c * 512) (r + 8 - d) = back Z d (c * 512 + r) := by
  unfold around back
  have key : (opens c ∧ r + 8 - d < 8 ∨ closes c ∧ 520 ≤ r + 8 - d) ↔ place (c * 512 + r) < d := by
    unfold opens closes place
    by_cases h : c < 32
    · simp only [if_pos h, if_pos (show c * 512 + r < 16384 by omega)]; omega
    · simp only [if_neg h, if_neg (show ¬ c * 512 + r < 16384 by omega)]; omega
  by_cases h : place (c * 512 + r) < d
  · rw [if_pos (key.mpr h), if_pos h]
  · rw [if_neg fun k => h (key.mp k), if_neg h]
    exact congrArg Z (by omega)

theorem around_fore {c r : Nat} (hc : c < 64) (hr : r < 512) (Z : Nat → EReal) :
    around (opens c) (closes c) Z (c * 512) (r + 9) = fore Z (c * 512 + r) := by
  unfold around fore
  have key : (opens c ∧ r + 9 < 8 ∨ closes c ∧ 520 ≤ r + 9) ↔ place (c * 512 + r) + 1 = length (c * 512 + r) := by
    unfold opens closes place length
    by_cases h : c < 32
    · simp only [if_pos h, if_pos (show c * 512 + r < 16384 by omega)]; omega
    · simp only [if_neg h, if_neg (show ¬ c * 512 + r < 16384 by omega)]; omega
  by_cases h : place (c * 512 + r) + 1 = length (c * 512 + r)
  · rw [if_pos (key.mpr h), if_pos h]
  · rw [if_neg fun k => h (key.mp k), if_neg h]
    exact congrArg Z (by omega)

/-- A side the kernel zeroes by a bit, read at an entry. -/
theorem side_apply {s : Shape} (b : BitVec 1) (P : Prop) [Decidable P] (hb : b = if P then 1 else 0) (z p : s.Idx → EReal) (i : s.Idx) (hz : z i = 0) :
    Scalar.select b z p i = if P then 0 else p i := by
  by_cases h : P
  · rw [if_pos h, hb, if_pos h]; exact hz
  · rw [if_neg h, hb, if_neg h]; rfl

/-- The chunk and its two sides, in the order they are put together. -/
abbrev pieces (p : (⟨2, ![8, 512]⟩ : Shape).Idx → EReal) (x : (⟨2, ![512, 512]⟩ : Shape).Idx → EReal) (q : (⟨2, ![8, 512]⟩ : Shape).Idx → EReal) :
    List ((s : Shape) × (s.Idx → EReal)) :=
  [⟨⟨2, ![8, 512]⟩, p⟩, ⟨⟨2, ![512, 512]⟩, x⟩, ⟨⟨2, ![8, 512]⟩, q⟩]

/-- The chunk with its sides, read at an entry. -/
theorem around_apply (hc : Shape.Concatenates [⟨2, ![8, 512]⟩, ⟨2, ![512, 512]⟩, ⟨2, ![8, 512]⟩] ⟨2, ![528, 512]⟩ 0)
    (bp bq : BitVec 1) (P Q : Prop) [Decidable P] [Decidable Q] (hbp : bp = if P then 1 else 0) (hbq : bq = if Q then 1 else 0)
    (z p q : (⟨2, ![8, 512]⟩ : Shape).Idx → EReal) (x : (⟨2, ![512, 512]⟩ : Shape).Idx → EReal) (Z : Nat → Nat → EReal) (n : Nat)
    (hz : ∀ i, z i = 0) (hp : ¬ P → ∀ (e : Fin 8) (k : Fin 512), p (ix2 e k) = Z k.val (n + e.val - 8))
    (hx : ∀ e k : Fin 512, x (ix2 e k) = Z k.val (n + e.val))
    (hq : ¬ Q → ∀ (e : Fin 8) (k : Fin 512), q (ix2 e k) = Z k.val (n + 512 + e.val)) (e : Fin 528) (k : Fin 512) :
    concatenate ⟨2, ![528, 512]⟩ 0 [⟨⟨2, ![8, 512]⟩, Scalar.select bp z p⟩, ⟨⟨2, ![512, 512]⟩, x⟩, ⟨⟨2, ![8, 512]⟩, Scalar.select bq z q⟩] hc (ix2 e k)
      = around P Q (Z k.val) n e.val := by
  have he := e.isLt
  unfold around
  by_cases h : e.val < 8
  · refine Eq.trans (concatenate_apply_piece (t := ⟨2, ![528, 512]⟩) 0 (pieces (Scalar.select bp z p) x (Scalar.select bq z q)) hc (ix2 e k) 0 (by simp) ⟨2, ![8, 512]⟩ (Scalar.select bp z p) rfl rfl 0 rfl (ix2 ⟨e.val, h⟩ k) (fun b hb => ?_) (Nat.zero_add _)) ?_
    · match b with
      | 0 => exact absurd rfl hb
      | 1 => rfl
    · rw [side_apply bp P hbp z p _ (hz _)]
      by_cases hP : P
      · rw [if_pos hP, if_pos (.inl ⟨hP, h⟩)]
      · rw [if_neg hP, if_neg (by rintro (h | h) <;> [exact hP h.1; omega])]
        exact hp hP _ k
  · by_cases h' : e.val < 520
    · refine Eq.trans (concatenate_apply_piece (t := ⟨2, ![528, 512]⟩) 0 (pieces (Scalar.select bp z p) x (Scalar.select bq z q)) hc (ix2 e k) 1 (by simp) ⟨2, ![512, 512]⟩ x rfl rfl 8 rfl (ix2 ⟨e.val - 8, by omega⟩ k) (fun b hb => ?_)
        (show 8 + (e.val - 8) = e.val by omega)) ?_
      · match b with
        | 0 => exact absurd rfl hb
        | 1 => rfl
      · rw [if_neg (by omega)]
        exact (hx _ k).trans (congrArg (Z k.val) (show n + (e.val - 8) = n + e.val - 8 by omega))
    · refine Eq.trans (concatenate_apply_piece (t := ⟨2, ![528, 512]⟩) 0 (pieces (Scalar.select bp z p) x (Scalar.select bq z q)) hc (ix2 e k) 2 (by simp) ⟨2, ![8, 512]⟩ (Scalar.select bq z q) rfl rfl 520 rfl (ix2 ⟨e.val - 520, by omega⟩ k) (fun b hb => ?_)
        (show 520 + (e.val - 520) = e.val by omega)) ?_
      · match b with
        | 0 => exact absurd rfl hb
        | 1 => rfl
      · rw [side_apply bq Q hbq z q _ (hz _)]
        by_cases hQ : Q
        · rw [if_pos hQ, if_pos (.inr ⟨hQ, by omega⟩)]
        · rw [if_neg hQ, if_neg (by rintro (h | h) <;> [omega; exact hQ h.1])]
          exact (hq hQ _ k).trans (congrArg (Z k.val) (show n + 512 + (e.val - 520) = n + e.val - 8 by omega))

/-- The chunk's rows after the kernel has rotated the chunk and its sides. -/
theorem rolled_apply (E : (⟨2, ![528, 512]⟩ : Shape).Idx → EReal) (s : BitVec 32) (hr : Shape.Rotates ⟨2, ![528, 512]⟩ 0 none)
    (hs : Shape.Slices ⟨2, ![528, 512]⟩ ![8, 0] ⟨2, ![512, 512]⟩) (r k : Fin 512) (e : Fin 528)
    (he : e.val = (r.val + 8 + 528 - s.toNat % 528) % 528) :
    extractStridedSlice ⟨2, ![512, 512]⟩ ![8, 0] (dynamicRotate 0 s none E hr) hs (ix2 r k) = E (ix2 e k) := by
  refine Eq.trans (extractStridedSlice_apply (s := ⟨2, ![528, 512]⟩) ![8, 0] (dynamicRotate 0 s none E hr) hs (ix2 r k) (ix2 ⟨r.val + 8, by omega⟩ k) fun a => ?_)
    (dynamicRotate_apply 0 s E hr _ (ix2 e k) fun b => ?_)
  · match a with
    | 0 => show r.val + 8 = 8 + r.val; omega
    | 1 => show k.val = 0 + k.val; omega
  · match b with
    | 0 => exact he
    | 1 => rfl

theorem middle_apply (E : (⟨2, ![528, 512]⟩ : Shape).Idx → EReal) (hs : Shape.Slices ⟨2, ![528, 512]⟩ ![8, 0] ⟨2, ![512, 512]⟩) (r k : Fin 512) :
    extractStridedSlice ⟨2, ![512, 512]⟩ ![8, 0] E hs (ix2 r k) = E (ix2 ⟨r.val + 8, by omega⟩ k) := by
  refine extractStridedSlice_apply (s := ⟨2, ![528, 512]⟩) ![8, 0] E hs (ix2 r k) _ fun a => ?_
  match a with
  | 0 => show r.val + 8 = 8 + r.val; omega
  | 1 => show k.val = 0 + k.val; omega

/-! ## The reference's padded sequences -/

/-- A sequence padded by `L` zeros before and one after, read `i` places from its start. -/
theorem padded_apply {a T w L U : Nat} (x : (⟨3, ![a, T, w]⟩ : Shape).Idx → EReal) {u : Shape} (v : u.Idx → EReal) (hv : ∀ i, v i = 0)
    (h : Shape.Pads ⟨3, ![a, T, w]⟩ ![0, L, 0] ![0, 1, 0] ![0, 0, 0] ⟨3, ![a, U, w]⟩) (hu : 0 < u.numel) (i : Nat)
    (hs : Shape.Slices ⟨3, ![a, U, w]⟩ ![0, i, 0] ⟨3, ![a, T, w]⟩) (b : Fin a) (s : Fin T) (k : Fin w) :
    extractStridedSlice ⟨3, ![a, T, w]⟩ ![0, i, 0] (pad ⟨3, ![a, U, w]⟩ ![0, L, 0] ![0, 1, 0] ![0, 0, 0] x v h hu) hs (ix3 b s k)
      = if hin : L ≤ s.val + i ∧ s.val + i - L < T then x (ix3 b ⟨s.val + i - L, hin.2⟩ k) else 0 := by
  have hU : s.val + i < U := by
    have := hs.2 1
    have hs' := s.isLt
    change i + T ≤ U at this
    omega
  refine Eq.trans (extractStridedSlice_apply ![0, i, 0] _ hs (ix3 b s k) (ix3 b ⟨s.val + i, hU⟩ k) fun q => ?_) ?_
  · match q with
    | 0 => show b.val = 0 + b.val; omega
    | 1 => show s.val + i = i + s.val; omega
    | 2 => show k.val = 0 + k.val; omega
  · by_cases hin : L ≤ s.val + i ∧ s.val + i - L < T
    · rw [dif_pos hin]
      refine pad_apply_of_inside _ _ _ x v h hu _ (ix3 b ⟨s.val + i - L, hin.2⟩ k) fun q => ?_
      match q with
      | 0 => show b.val = 0 + b.val * 1; omega
      | 1 => show s.val + i = L + (s.val + i - L) * 1; omega
      | 2 => show k.val = 0 + k.val * 1; omega
    · rw [dif_neg hin]
      refine (pad_apply_of_not_inside _ _ _ x v h hu _ 1 fun q => hin ?_).trans (hv _)
      have h1 : L ≤ s.val + i := q.1
      have h2 : (s.val + i - L) / (0 + 1) < T := q.2.2
      rw [Nat.zero_add, Nat.div_one] at h2
      exact ⟨h1, h2⟩

/-- The first group's padded sequences hold the values before a token. -/
theorem back_first {w L U : Nat} (x : (⟨3, ![8, 2048, w]⟩ : Shape).Idx → EReal) {u : Shape} (v : u.Idx → EReal) (hv : ∀ i, v i = 0)
    (h : Shape.Pads ⟨3, ![8, 2048, w]⟩ ![0, L, 0] ![0, 1, 0] ![0, 0, 0] ⟨3, ![8, U, w]⟩) (hu : 0 < u.numel) (i : Nat)
    (hs : Shape.Slices ⟨3, ![8, U, w]⟩ ![0, i, 0] ⟨3, ![8, 2048, w]⟩) (hi : i ≤ L) (Z : Nat → EReal) (b : Fin 8) (s : Fin 2048) (k : Fin w)
    (hx : ∀ s : Fin 2048, x (ix3 b s k) = Z (2048 * b.val + s.val)) :
    extractStridedSlice ⟨3, ![8, 2048, w]⟩ ![0, i, 0] (pad ⟨3, ![8, U, w]⟩ ![0, L, 0] ![0, 1, 0] ![0, 0, 0] x v h hu) hs (ix3 b s k)
      = back Z (L - i) (2048 * b.val + s.val) := by
  rw [padded_apply x v hv h hu i hs b s k]
  have hb := b.isLt
  have hs' := s.isLt
  unfold back place
  rw [if_pos (show 2048 * b.val + s.val < 16384 by omega)]
  by_cases g : s.val + i < L
  · rw [dif_neg (by omega), if_pos (by omega)]
  · rw [dif_pos (by omega), if_neg (by omega), hx]
    exact congrArg Z (show 2048 * b.val + (s.val + i - L) = 2048 * b.val + s.val - (L - i) by omega)

/-- The first group's padded sequences hold the value after a token. -/
theorem fore_first {w L U : Nat} (x : (⟨3, ![8, 2048, w]⟩ : Shape).Idx → EReal) {u : Shape} (v : u.Idx → EReal) (hv : ∀ i, v i = 0)
    (h : Shape.Pads ⟨3, ![8, 2048, w]⟩ ![0, L, 0] ![0, 1, 0] ![0, 0, 0] ⟨3, ![8, U, w]⟩) (hu : 0 < u.numel) (i : Nat)
    (hs : Shape.Slices ⟨3, ![8, U, w]⟩ ![0, i, 0] ⟨3, ![8, 2048, w]⟩) (hi : i = L + 1) (Z : Nat → EReal) (b : Fin 8) (s : Fin 2048) (k : Fin w)
    (hx : ∀ s : Fin 2048, x (ix3 b s k) = Z (2048 * b.val + s.val)) :
    extractStridedSlice ⟨3, ![8, 2048, w]⟩ ![0, i, 0] (pad ⟨3, ![8, U, w]⟩ ![0, L, 0] ![0, 1, 0] ![0, 0, 0] x v h hu) hs (ix3 b s k)
      = fore Z (2048 * b.val + s.val) := by
  rw [padded_apply x v hv h hu i hs b s k]
  have hb := b.isLt
  have hs' := s.isLt
  unfold fore place length
  rw [if_pos (show 2048 * b.val + s.val < 16384 by omega), if_pos (show 2048 * b.val + s.val < 16384 by omega)]
  by_cases g : s.val + 1 < 2048
  · rw [dif_pos (by omega), if_neg (by omega), hx]
    exact congrArg Z (show 2048 * b.val + (s.val + i - L) = 2048 * b.val + s.val + 1 by omega)
  · rw [dif_neg (by omega), if_pos (by omega)]

/-- The second group's padded sequences hold the values before a token. -/
theorem back_second {w L U : Nat} (x : (⟨3, ![4, 4096, w]⟩ : Shape).Idx → EReal) {u : Shape} (v : u.Idx → EReal) (hv : ∀ i, v i = 0)
    (h : Shape.Pads ⟨3, ![4, 4096, w]⟩ ![0, L, 0] ![0, 1, 0] ![0, 0, 0] ⟨3, ![4, U, w]⟩) (hu : 0 < u.numel) (i : Nat)
    (hs : Shape.Slices ⟨3, ![4, U, w]⟩ ![0, i, 0] ⟨3, ![4, 4096, w]⟩) (hi : i ≤ L) (Z : Nat → EReal) (b : Fin 4) (s : Fin 4096) (k : Fin w)
    (hx : ∀ s : Fin 4096, x (ix3 b s k) = Z (16384 + 4096 * b.val + s.val)) :
    extractStridedSlice ⟨3, ![4, 4096, w]⟩ ![0, i, 0] (pad ⟨3, ![4, U, w]⟩ ![0, L, 0] ![0, 1, 0] ![0, 0, 0] x v h hu) hs (ix3 b s k)
      = back Z (L - i) (16384 + 4096 * b.val + s.val) := by
  rw [padded_apply x v hv h hu i hs b s k]
  have hb := b.isLt
  have hs' := s.isLt
  unfold back place
  rw [if_neg (show ¬ 16384 + 4096 * b.val + s.val < 16384 by omega)]
  by_cases g : s.val + i < L
  · rw [dif_neg (by omega), if_pos (by omega)]
  · rw [dif_pos (by omega), if_neg (by omega), hx]
    exact congrArg Z (show 16384 + 4096 * b.val + (s.val + i - L) = 16384 + 4096 * b.val + s.val - (L - i) by omega)

/-- The second group's padded sequences hold the value after a token. -/
theorem fore_second {w L U : Nat} (x : (⟨3, ![4, 4096, w]⟩ : Shape).Idx → EReal) {u : Shape} (v : u.Idx → EReal) (hv : ∀ i, v i = 0)
    (h : Shape.Pads ⟨3, ![4, 4096, w]⟩ ![0, L, 0] ![0, 1, 0] ![0, 0, 0] ⟨3, ![4, U, w]⟩) (hu : 0 < u.numel) (i : Nat)
    (hs : Shape.Slices ⟨3, ![4, U, w]⟩ ![0, i, 0] ⟨3, ![4, 4096, w]⟩) (hi : i = L + 1) (Z : Nat → EReal) (b : Fin 4) (s : Fin 4096) (k : Fin w)
    (hx : ∀ s : Fin 4096, x (ix3 b s k) = Z (16384 + 4096 * b.val + s.val)) :
    extractStridedSlice ⟨3, ![4, 4096, w]⟩ ![0, i, 0] (pad ⟨3, ![4, U, w]⟩ ![0, L, 0] ![0, 1, 0] ![0, 0, 0] x v h hu) hs (ix3 b s k)
      = fore Z (16384 + 4096 * b.val + s.val) := by
  rw [padded_apply x v hv h hu i hs b s k]
  have hb := b.isLt
  have hs' := s.isLt
  unfold fore place length
  rw [if_neg (show ¬ 16384 + 4096 * b.val + s.val < 16384 by omega), if_neg (show ¬ 16384 + 4096 * b.val + s.val < 16384 by omega)]
  by_cases g : s.val + 1 < 4096
  · rw [dif_pos (by omega), if_neg (by omega), hx]
    exact congrArg Z (show 16384 + 4096 * b.val + (s.val + i - L) = 16384 + 4096 * b.val + s.val + 1 by omega)
  · rw [dif_neg (by omega), if_pos (by omega)]

end Cert.Proof.Conv
end
end
-- ==== Proof.ConvA.lean ====
module
public import proofs.«01_k».proof.Proof.Gen.Kernel10Ideal.Value
public import proofs.«01_k».proof.Proof.Conv
public import Idealize.ShloMosaic.Lib.Pipeline.ValueKit
public import Idealize.ShloMosaic.Lib.Pointwise
@[expose] public section
set_option maxRecDepth 16384
noncomputable section
namespace Cert.Proof.ConvA
open Idealize.ShloMosaic Idealize.ShloMosaic.TcCoe Idealize.SL.Sem Cert.Proof.Conv

/-! The gated convolution of the recurrent layer: the kernel's array, entry by entry. -/

/-- What is convolved, at column `k`: the product of two of the projection's columns. -/
def inner (X : Nat → Nat → EReal) (k n : Nat) : EReal := X n (2048 + k) * X n (4096 + k)

/-- Three values weighed and added, then gated. -/
def weigh3 (g w0 w1 w2 z0 z1 z2 : EReal) : EReal := g * (w0 * z0 + w1 * z1 + w2 * z2)

/-- Entry `k` of token `n`. -/
def convAt (X W : Nat → Nat → EReal) (n k : Nat) : EReal :=
  weigh3 (X n k) (W 0 k) (W 1 k) (W 2 k) (back (inner X k) 1 n) (inner X k n) (fore (inner X k) n)

open Cert.Kernel10Ideal Cert.Kernel10Ideal.Gen

variable (m : (ℓ : Loc nD τ sig) → Buf (Elt Ideal) ℓ)

/-- The tokens' projections the program is launched with. -/
abbrev launched (c : Dev nD) : Nat → Nat → EReal :=
  tok (w := 14336) (m ((c : Thread nD τ).loc main_arg0)) (m ((c : Thread nD τ).loc main_arg1))

/-- The weights the program is launched with. -/
abbrev weights (c : Dev nD) : Nat → Nat → EReal := rd (a := 3) (b := 2048) (m ((c : Thread nD τ).loc main_arg2))

theorem tokens_at (c : Dev nD) (i : S32768x14336.Idx) {a b : Nat} (h0 : (i 0).val = a) (h1 : (i 1).val = b) :
    V m c main_v2 i = launched m c a b := by
  entry_read
  exact rows_at (w := 14336) (m ((c : Thread nD τ).loc main_arg0)) (m ((c : Thread nD τ).loc main_arg1)) shapeCasts_S8x2048x14336_S16384x14336
    shapeCasts_S4x4096x14336_S16384x14336 concatenates_S16384x14336_S16384x14336_S32768x14336_d0 i h0 h1

theorem weights_at (c : Dev nD) (i : S3x2048.Idx) {a b : Nat} (h0 : (i 0).val = a) (h1 : (i 1).val = b) :
    V m c main_arg2 i = weights m c a b := by
  entry_read
  exact rd_at (m ((c : Thread nD τ).loc main_arg2)) i h0 h1

theorem place0 : ∀ t : Fin grid0.N, (grid0.coords t 0).val = t.val / 4 := by decide +kernel

theorem idx0 : ∀ t : Fin grid0.N, win0_0.index t = ![t.val / 4 * 64 - 1, 4 + t.val % 4] := by decide +kernel
theorem idx1 : ∀ t : Fin grid0.N, win0_1.index t = ![t.val / 4, 4 + t.val % 4] := by decide +kernel
theorem idx2 : ∀ t : Fin grid0.N, win0_2.index t = ![min (t.val / 4 * 64 + 64) 4095, 4 + t.val % 4] := by decide +kernel
theorem idx3 : ∀ t : Fin grid0.N, win0_3.index t = ![t.val / 4 * 64 - 1, 8 + t.val % 4] := by decide +kernel
theorem idx4 : ∀ t : Fin grid0.N, win0_4.index t = ![t.val / 4, 8 + t.val % 4] := by decide +kernel
theorem idx5 : ∀ t : Fin grid0.N, win0_5.index t = ![min (t.val / 4 * 64 + 64) 4095, 8 + t.val % 4] := by decide +kernel
theorem idx6 : ∀ t : Fin grid0.N, win0_6.index t = ![t.val / 4, t.val % 4] := by decide +kernel
theorem idx7 : ∀ t : Fin grid0.N, win0_7.index t = ![0, t.val % 4] := by decide +kernel
theorem idx8 : ∀ t : Fin grid0.N, win0_8.index t = ![t.val / 4, t.val % 4] := by decide +kernel

theorem block0 (c : Dev nD) (t : Fin cfg0.N) (r : Fin 8) (k : Fin 512) :
    iblk m c 0 t (ix2 r k) = launched m c ((t.val / 4 * 64 - 1) * 8 + r.val) (2048 + (t.val % 4 * 512 + k.val)) := by
  blk_simp [iblk, idx0]
  refine tokens_at m c _ ?_ ?_ <;> blk_simp [idx0]
  omega

theorem block1 (c : Dev nD) (t : Fin cfg0.N) (r k : Fin 512) :
    iblk m c 1 t (ix2 r k) = launched m c (t.val / 4 * 512 + r.val) (2048 + (t.val % 4 * 512 + k.val)) := by
  blk_simp [iblk, idx1]
  refine tokens_at m c _ ?_ ?_ <;> blk_simp [idx1]
  omega

theorem block2 (c : Dev nD) (t : Fin cfg0.N) (r : Fin 8) (k : Fin 512) :
    iblk m c 2 t (ix2 r k) = launched m c (min (t.val / 4 * 64 + 64) 4095 * 8 + r.val) (2048 + (t.val % 4 * 512 + k.val)) := by
  blk_simp [iblk, idx2]
  refine tokens_at m c _ ?_ ?_ <;> blk_simp [idx2]
  omega

theorem block3 (c : Dev nD) (t : Fin cfg0.N) (r : Fin 8) (k : Fin 512) :
    iblk m c 3 t (ix2 r k) = launched m c ((t.val / 4 * 64 - 1) * 8 + r.val) (4096 + (t.val % 4 * 512 + k.val)) := by
  blk_simp [iblk, idx3]
  refine tokens_at m c _ ?_ ?_ <;> blk_simp [idx3]
  omega

theorem block4 (c : Dev nD) (t : Fin cfg0.N) (r k : Fin 512) :
    iblk m c 4 t (ix2 r k) = launched m c (t.val / 4 * 512 + r.val) (4096 + (t.val % 4 * 512 + k.val)) := by
  blk_simp [iblk, idx4]
  refine tokens_at m c _ ?_ ?_ <;> blk_simp [idx4]
  omega

theorem block5 (c : Dev nD) (t : Fin cfg0.N) (r : Fin 8) (k : Fin 512) :
    iblk m c 5 t (ix2 r k) = launched m c (min (t.val / 4 * 64 + 64) 4095 * 8 + r.val) (4096 + (t.val % 4 * 512 + k.val)) := by
  blk_simp [iblk, idx5]
  refine tokens_at m c _ ?_ ?_ <;> blk_simp [idx5]
  omega

theorem block6 (c : Dev nD) (t : Fin cfg0.N) (r k : Fin 512) :
    iblk m c 6 t (ix2 r k) = launched m c (t.val / 4 * 512 + r.val) (t.val % 4 * 512 + k.val) := by
  blk_simp [iblk, idx6]
  refine tokens_at m c _ ?_ ?_ <;> blk_simp [idx6]

theorem block7 (c : Dev nD) (t : Fin cfg0.N) (r : Fin 3) (k : Fin 512) :
    iblk m c 7 t (ix2 r k) = weights m c r.val (t.val % 4 * 512 + k.val) := by
  blk_simp [iblk, idx7]
  refine weights_at m c _ ?_ ?_ <;> blk_simp [idx7]

/-- The chunk with its sides, as the kernel puts it together. -/
abbrev chunk (a : BitVec 32) (p p' : Vec Ideal S8x512 .f32) (x x' : Vec Ideal S512x512 .f32) (q q' : Vec Ideal S8x512 .f32) : FVec Ideal S528x512 .f32 :=
  k0_pay2 a (opensBit a) (Scalar.cmpi .slt a 32#32) (Scalar.remsi a (divisor 4#32))
    (Scalar.andi (Scalar.xori (Scalar.cmpi .slt (Scalar.remsi a (divisor 4#32)) 0#32) (Scalar.cmpi .slt (divisor 4#32) 0#32))
      (Scalar.cmpi .ne (Scalar.remsi a (divisor 4#32)) 0#32))
    (Scalar.addi (Scalar.remsi a (divisor 4#32)) (divisor 4#32)) p p' x x' q q'

theorem chunk_eq (a : BitVec 32) (p p' : Vec Ideal S8x512 .f32) (x x' : Vec Ideal S512x512 .f32) (q q' : Vec Ideal S8x512 .f32) :
    chunk a p p' x x' q q' = concatenate S528x512 0 (pieces
      (Scalar.select (opensBit a) (broadcast S8x512 (Scalar.ofBits (F := Ideal) .f32 0x00000000#32))
        (mulf (F := Ideal) (φ := .f32) (shapeCast S8x512 p shapeCasts_S8x512_S8x512) (shapeCast S8x512 p' shapeCasts_S8x512_S8x512)))
      (mulf (F := Ideal) (φ := .f32) (shapeCast S512x512 x shapeCasts_S512x512_S512x512) (shapeCast S512x512 x' shapeCasts_S512x512_S512x512))
      (Scalar.select (closesBit a) (broadcast S8x512 (Scalar.ofBits (F := Ideal) .f32 0x00000000#32))
        (mulf (F := Ideal) (φ := .f32) (shapeCast S8x512 q shapeCasts_S8x512_S8x512) (shapeCast S8x512 q' shapeCasts_S8x512_S8x512))))
      concatenates_S8x512_S512x512_S8x512_S528x512_d0 := rfl

theorem side8 (p p' : Vec Ideal S8x512 .f32) (e : Fin 8) (k : Fin 512) :
    mulf (F := Ideal) (φ := .f32) (shapeCast S8x512 p shapeCasts_S8x512_S8x512) (shapeCast S8x512 p' shapeCasts_S8x512_S8x512) (ix2 e k)
      = p (ix2 e k) * p' (ix2 e k) := by
  pointwise

theorem side512 (p p' : Vec Ideal S512x512 .f32) (e k : Fin 512) :
    mulf (F := Ideal) (φ := .f32) (shapeCast S512x512 p shapeCasts_S512x512_S512x512) (shapeCast S512x512 p' shapeCasts_S512x512_S512x512) (ix2 e k)
      = p (ix2 e k) * p' (ix2 e k) := by
  pointwise

theorem zero_apply (i : S8x512.Idx) : broadcast S8x512 (Scalar.ofBits (F := Ideal) .f32 0x00000000#32) i = (0 : EReal) := by
  pointwise

theorem chunk_apply (c : Dev nD) (t : Fin cfg0.N) (e : Fin 528) (k : Fin 512) :
    chunk (BitVec.ofNat 32 (grid0.coords t 0).val) (iblk m c 0 t) (iblk m c 3 t) (iblk m c 1 t) (iblk m c 4 t) (iblk m c 2 t) (iblk m c 5 t) (ix2 e k)
      = around (opens (t.val / 4)) (closes (t.val / 4)) (inner (launched m c) (t.val % 4 * 512 + k.val)) (t.val / 4 * 512) e.val := by
  have ht : t.val < 256 := t.isLt
  rw [chunk_eq, place0]
  refine around_apply _ _ _ (opens (t.val / 4)) (closes (t.val / 4)) (opensBit_eq ⟨t.val / 4, by omega⟩) (closesBit_eq ⟨t.val / 4, by omega⟩) _ _ _ _
    (fun k n => inner (launched m c) (t.val % 4 * 512 + k) n) _ zero_apply (fun h e k => ?_) (fun e k => ?_) (fun h e k => ?_) e k
  · rw [side8, block0, block3]
    unfold inner
    have h0 : 0 < t.val / 4 := by
      by_contra g
      refine h ?_
      rw [show t.val / 4 = 0 by omega]
      decide
    rw [show (t.val / 4 * 64 - 1) * 8 + e.val = t.val / 4 * 512 + e.val - 8 by omega]
  · rw [side512, block1, block4]
    rfl
  · rw [side8, block2, block5]
    unfold inner
    have h0 : t.val / 4 < 63 := by
      by_contra g
      refine h ?_
      rw [show t.val / 4 = 63 by omega]
      decide
    rw [show min (t.val / 4 * 64 + 64) 4095 * 8 + e.val = t.val / 4 * 512 + 512 + e.val by omega]

theorem pay_apply (E : FVec Ideal S528x512 .f32) (w : Vec Ideal S3x512 .f32) (g : Vec Ideal S512x512 .f32) (r k : Fin 512) :
    k0_pay1 E w g (ix2 r k) = weigh3 (g (ix2 r k)) (w (ix2 0 k)) (w (ix2 1 k)) (w (ix2 2 k)) (E (ix2 ⟨r.val + 7, by omega⟩ k))
      (E (ix2 ⟨r.val + 8, by omega⟩ k)) (E (ix2 ⟨r.val + 9, by omega⟩ k)) := by
  have hr := r.isLt
  rw [← rolled_apply E 1#32 rotates_S528x512_d0 slices_S528x512_o8_0_S512x512 r k ⟨r.val + 7, by omega⟩
      (show r.val + 7 = (r.val + 8 + 528 - 1 % 528) % 528 by omega),
    ← middle_apply E slices_S528x512_o8_0_S512x512 r k,
    ← rolled_apply E 527#32 rotates_S528x512_d0 slices_S528x512_o8_0_S512x512 r k ⟨r.val + 9, by omega⟩
      (show r.val + 9 = (r.val + 8 + 528 - 527 % 528) % 528 by omega)]
  unfold k0_pay1 weigh3
  pointwise

theorem step_apply (c : Dev nD) (t : Fin cfg0.N) (r k : Fin 512) :
    k0_pay1 (chunk (BitVec.ofNat 32 (grid0.coords t 0).val) (iblk m c 0 t) (iblk m c 3 t) (iblk m c 1 t) (iblk m c 4 t)
      (iblk m c 2 t) (iblk m c 5 t)) (iblk m c 7 t) (iblk m c 6 t) (ix2 r k)
      = convAt (launched m c) (weights m c) (t.val / 4 * 512 + r.val) (t.val % 4 * 512 + k.val) := by
  have ht : t.val < 256 := t.isLt
  have hc : t.val / 4 < 64 := by omega
  refine (pay_apply _ _ _ r k).trans ?_
  rw [chunk_apply, chunk_apply, chunk_apply, block6, block7, block7, block7]
  exact congr (congr (congrArg (weigh3 _ _ _ _) (around_back (d := 1) hc r.isLt (by omega) _)) (around_back (d := 0) hc r.isLt (by omega) _))
    (around_fore hc r.isLt _)

theorem array_apply (c : Dev nD) (i : S32768x2048.Idx) :
    (dats m 0 c).arrAt 8 cfg0.N i = convAt (launched m c) (weights m c) (i 0).val (i 1).val := by
  refine congrFun ((dats m 0 c).arrAt_eq_of_covers 8 (fun i : S32768x2048.Idx => convAt (launched m c) (weights m c) (i 0).val (i 1).val)
    (by decide +kernel) fun t hf y => ?_) i
  blk_simp [idx8]
  rw [after0_8]
  frame_out
  exact (congrArg (k0_pay1 (chunk (BitVec.ofNat 32 (grid0.coords t 0).val) (iblk m c 0 t) (iblk m c 3 t) (iblk m c 1 t) (iblk m c 4 t)
    (iblk m c 2 t) (iblk m c 5 t)) (iblk m c 7 t) (iblk m c 6 t)) (eq_ix2 y)).trans (step_apply m c t (y 0) (y 1))

end Cert.Proof.ConvA
end
end
-- ==== Proof.ConvARef.lean ====
module
public import proofs.«01_k».proof.Proof.Gen.Reference10Ideal.Run
public import proofs.«01_k».proof.Proof.Gen.Kernel10.Frame
public import proofs.«01_k».proof.Proof.Gen.Kernel10Ideal.Frame
public import proofs.«01_k».proof.Proof.ConvA
public import proofs.«01_k».proof.Defs
public import Idealize.ShloMosaic.Lib.Pipeline.ValueKit
public import Idealize.ShloMosaic.Lib.Pointwise
@[expose] public section
set_option maxRecDepth 16384
noncomputable section
namespace Cert.Proof.ConvA
open Idealize.ShloMosaic Idealize.ShloMosaic.TcCoe Idealize.SL.Sem Cert.Proof.Conv

/-! The gated convolution of the recurrent layer: the reference entry by entry, and the claims of this call. -/

/-- Three values weighed, added and gated, entry by entry. -/
theorem weighed {s : Shape} (g p0 l0 p1 l1 p2 l2 : FVec Ideal s .f32) (i : s.Idx) :
    mulf g (addf (addf (mulf p0 l0) (mulf p1 l1)) (mulf p2 l2)) i = weigh3 (g i) (l0 i) (l1 i) (l2 i) (p0 i) (p1 i) (p2 i) := by
  unfold weigh3
  rw [mul_comm (l0 i), mul_comm (l1 i), mul_comm (l2 i)]
  rfl

section
open Cert.Reference10Ideal Cert.Reference10Ideal.Gen

/-- What the first group convolves. -/
def innerA (x : FVec Ideal S8x2048x14336 .f32) : FVec Ideal S8x2048x2048 .f32 :=
  mulf (extractStridedSlice S8x2048x2048 ![0, 0, 2048] (extractStridedSlice S8x2048x6144 ![0, 0, 0] x slices_S8x2048x14336_S8x2048x6144_0_0_0) slices_S8x2048x6144_S8x2048x2048_0_0_2048)
    (extractStridedSlice S8x2048x2048 ![0, 0, 4096] (extractStridedSlice S8x2048x6144 ![0, 0, 0] x slices_S8x2048x14336_S8x2048x6144_0_0_0) slices_S8x2048x6144_S8x2048x2048_0_0_4096)

/-- The first group's sequences, a zero added at either end. -/
def paddedA (x : FVec Ideal S8x2048x14336 .f32) : FVec Ideal S8x2050x2048 .f32 :=
  pad S8x2050x2048 ![0, 1, 0] ![0, 1, 0] ![0, 0, 0] (innerA x) (sitofp .f32 (constantI S_ 32 0#32)) pads_S8x2048x2048_S8x2050x2048_000_110_000 h_S_

/-- Row `i` of the weights, along the first group's tokens. -/
def lineA (W : FVec Ideal S3x2048 .f32) (i : Nat) (hs : S3x2048.Slices ![i, 0] S1x2048) : FVec Ideal S8x2048x2048 .f32 :=
  broadcastInDim S8x2048x2048 ![0, 1, 2] bcast_S1x1x2048_S8x2048x2048_0_1_2 (broadcastInDim S1x1x2048 ![2] bcast_S2048_S1x1x2048_2
    (shapeCast _ (extractStridedSlice S1x2048 ![i, 0] W hs) shapeCasts_S1x2048_S2048))

/-- The first group's convolution. -/
def groupA (x : FVec Ideal S8x2048x14336 .f32) (W : FVec Ideal S3x2048 .f32) : FVec Ideal S8x2048x2048 .f32 :=
  mulf (extractStridedSlice S8x2048x2048 ![0, 0, 0] (extractStridedSlice S8x2048x6144 ![0, 0, 0] x slices_S8x2048x14336_S8x2048x6144_0_0_0) slices_S8x2048x6144_S8x2048x2048_0_0_0)
    (addf (addf (mulf (extractStridedSlice S8x2048x2048 ![0, 0, 0] (paddedA x) slices_S8x2050x2048_S8x2048x2048_0_0_0) (lineA W 0 slices_S3x2048_S1x2048_0_0))
      (mulf (extractStridedSlice S8x2048x2048 ![0, 1, 0] (paddedA x) slices_S8x2050x2048_S8x2048x2048_0_1_0) (lineA W 1 slices_S3x2048_S1x2048_1_0)))
      (mulf (extractStridedSlice S8x2048x2048 ![0, 2, 0] (paddedA x) slices_S8x2050x2048_S8x2048x2048_0_2_0) (lineA W 2 slices_S3x2048_S1x2048_2_0)))

/-- What the second group convolves. -/
def innerB (x : FVec Ideal S4x4096x14336 .f32) : FVec Ideal S4x4096x2048 .f32 :=
  mulf (extractStridedSlice S4x4096x2048 ![0, 0, 2048] (extractStridedSlice S4x4096x6144 ![0, 0, 0] x slices_S4x4096x14336_S4x4096x6144_0_0_0) slices_S4x4096x6144_S4x4096x2048_0_0_2048)
    (extractStridedSlice S4x4096x2048 ![0, 0, 4096] (extractStridedSlice S4x4096x6144 ![0, 0, 0] x slices_S4x4096x14336_S4x4096x6144_0_0_0) slices_S4x4096x6144_S4x4096x2048_0_0_4096)

/-- The second group's sequences, a zero added at either end. -/
def paddedB (x : FVec Ideal S4x4096x14336 .f32) : FVec Ideal S4x4098x2048 .f32 :=
  pad S4x4098x2048 ![0, 1, 0] ![0, 1, 0] ![0, 0, 0] (innerB x) (sitofp .f32 (constantI S_ 32 0#32)) pads_S4x4096x2048_S4x4098x2048_000_110_000 h_S_

/-- Row `i` of the weights, along the second group's tokens. -/
def lineB (W : FVec Ideal S3x2048 .f32) (i : Nat) (hs : S3x2048.Slices ![i, 0] S1x2048) : FVec Ideal S4x4096x2048 .f32 :=
  broadcastInDim S4x4096x2048 ![0, 1, 2] bcast_S1x1x2048_S4x4096x2048_0_1_2 (broadcastInDim S1x1x2048 ![2] bcast_S2048_S1x1x2048_2
    (shapeCast _ (extractStridedSlice S1x2048 ![i, 0] W hs) shapeCasts_S1x2048_S2048))

/-- The second group's convolution. -/
def groupB (x : FVec Ideal S4x4096x14336 .f32) (W : FVec Ideal S3x2048 .f32) : FVec Ideal S4x4096x2048 .f32 :=
  mulf (extractStridedSlice S4x4096x2048 ![0, 0, 0] (extractStridedSlice S4x4096x6144 ![0, 0, 0] x slices_S4x4096x14336_S4x4096x6144_0_0_0) slices_S4x4096x6144_S4x4096x2048_0_0_0)
    (addf (addf (mulf (extractStridedSlice S4x4096x2048 ![0, 0, 0] (paddedB x) slices_S4x4098x2048_S4x4096x2048_0_0_0) (lineB W 0 slices_S3x2048_S1x2048_0_0))
      (mulf (extractStridedSlice S4x4096x2048 ![0, 1, 0] (paddedB x) slices_S4x4098x2048_S4x4096x2048_0_1_0) (lineB W 1 slices_S3x2048_S1x2048_1_0)))
      (mulf (extractStridedSlice S4x4096x2048 ![0, 2, 0] (paddedB x) slices_S4x4098x2048_S4x4096x2048_0_2_0) (lineB W 2 slices_S3x2048_S1x2048_2_0)))

/-- What the reference returns. -/
def refArray (A : FVec Ideal S8x2048x14336 .f32) (B : FVec Ideal S4x4096x14336 .f32) (W : FVec Ideal S3x2048 .f32) : FVec Ideal S32768x2048 .bf16 :=
  truncf .bf16 (concatenate S32768x2048 0 [⟨S16384x2048, shapeCast _ (groupA A W) shapeCasts_S8x2048x2048_S16384x2048⟩,
    ⟨S16384x2048, shapeCast _ (groupB B W) shapeCasts_S4x4096x2048_S16384x2048⟩] concatenates_S16384x2048_S16384x2048_S32768x2048_d0) bitsLt_bf16_f32

theorem zero_apply' (i : S_.Idx) : sitofp (F := Ideal) .f32 (constantI S_ 32 0#32) i = (0 : EReal) := by
  show ((((0#32 : BitVec 32).toInt : ℝ)) : EReal) = 0
  simp

theorem lineA_apply (W : FVec Ideal S3x2048 .f32) (i : Nat) (hi : i < 3) (hs : S3x2048.Slices ![i, 0] S1x2048) (b : Fin 8) (s : Fin 2048) (k : Fin 2048) :
    lineA W i hs (ix3 b s k) = rd (a := 3) (b := 2048) W i k.val := by
  rw [rd_eq (a := 3) (b := 2048) W ⟨i, hi⟩ k]
  unfold lineA
  pointwise

theorem innerA_apply (x : FVec Ideal S8x2048x14336 .f32) (b : Fin 8) (s : Fin 2048) (k : Fin 2048) :
    innerA x (ix3 b s k) = x (ix3 b s ⟨2048 + k.val, by omega⟩) * x (ix3 b s ⟨4096 + k.val, by omega⟩) := by
  unfold innerA
  pointwise

theorem outerA_apply (x : FVec Ideal S8x2048x14336 .f32) (b : Fin 8) (s : Fin 2048) (k : Fin 2048) :
    extractStridedSlice S8x2048x2048 ![0, 0, 0] (extractStridedSlice S8x2048x6144 ![0, 0, 0] x slices_S8x2048x14336_S8x2048x6144_0_0_0) slices_S8x2048x6144_S8x2048x2048_0_0_0 (ix3 b s k) = x (ix3 b s ⟨k.val, by omega⟩) := by
  pointwise

theorem lineB_apply (W : FVec Ideal S3x2048 .f32) (i : Nat) (hi : i < 3) (hs : S3x2048.Slices ![i, 0] S1x2048) (b : Fin 4) (s : Fin 4096) (k : Fin 2048) :
    lineB W i hs (ix3 b s k) = rd (a := 3) (b := 2048) W i k.val := by
  rw [rd_eq (a := 3) (b := 2048) W ⟨i, hi⟩ k]
  unfold lineB
  pointwise

theorem innerB_apply (x : FVec Ideal S4x4096x14336 .f32) (b : Fin 4) (s : Fin 4096) (k : Fin 2048) :
    innerB x (ix3 b s k) = x (ix3 b s ⟨2048 + k.val, by omega⟩) * x (ix3 b s ⟨4096 + k.val, by omega⟩) := by
  unfold innerB
  pointwise

theorem outerB_apply (x : FVec Ideal S4x4096x14336 .f32) (b : Fin 4) (s : Fin 4096) (k : Fin 2048) :
    extractStridedSlice S4x4096x2048 ![0, 0, 0] (extractStridedSlice S4x4096x6144 ![0, 0, 0] x slices_S4x4096x14336_S4x4096x6144_0_0_0) slices_S4x4096x6144_S4x4096x2048_0_0_0 (ix3 b s k) = x (ix3 b s ⟨k.val, by omega⟩) := by
  pointwise

theorem innerA_at (A : FVec Ideal S8x2048x14336 .f32) (B : FVec Ideal S4x4096x14336 .f32) (b : Fin 8) (s : Fin 2048) (k : Fin 2048) :
    innerA A (ix3 b s k) = inner (tok (w := 14336) A B) k.val (2048 * b.val + s.val) := by
  rw [innerA_apply]
  unfold inner
  rw [← tok_first (A := A) (B := B) b s ⟨2048 + k.val, by omega⟩ rfl rfl, ← tok_first (A := A) (B := B) b s ⟨4096 + k.val, by omega⟩ rfl rfl]

theorem groupA_apply (A : FVec Ideal S8x2048x14336 .f32) (B : FVec Ideal S4x4096x14336 .f32) (W : FVec Ideal S3x2048 .f32)
    (b : Fin 8) (s : Fin 2048) (k : Fin 2048) :
    groupA A W (ix3 b s k) = convAt (tok (w := 14336) A B) (rd (a := 3) (b := 2048) W) (2048 * b.val + s.val) k.val := by
  refine (weighed _ _ _ _ _ _ _ (ix3 b s k)).trans ?_
  have hx := fun s : Fin 2048 => innerA_at A B b s k
  have g0 := back_first (innerA A) (sitofp (F := Ideal) .f32 (constantI S_ 32 0#32)) zero_apply' pads_S8x2048x2048_S8x2050x2048_000_110_000 h_S_ 0
    slices_S8x2050x2048_S8x2048x2048_0_0_0 (by omega) _ b s k hx
  have g1 := back_first (innerA A) (sitofp (F := Ideal) .f32 (constantI S_ 32 0#32)) zero_apply' pads_S8x2048x2048_S8x2050x2048_000_110_000 h_S_ 1
    slices_S8x2050x2048_S8x2048x2048_0_1_0 (by omega) _ b s k hx
  have g2 := fore_first (innerA A) (sitofp (F := Ideal) .f32 (constantI S_ 32 0#32)) zero_apply' pads_S8x2048x2048_S8x2050x2048_000_110_000 h_S_ 2
    slices_S8x2050x2048_S8x2048x2048_0_2_0 (by omega) _ b s k hx
  unfold paddedA
  rw [g0, g1, g2, back_zero, lineA_apply W 0 (by omega) slices_S3x2048_S1x2048_0_0 b s k, lineA_apply W 1 (by omega) slices_S3x2048_S1x2048_1_0 b s k,
    lineA_apply W 2 (by omega) slices_S3x2048_S1x2048_2_0 b s k, outerA_apply, tok_first (A := A) (B := B) b s ⟨k.val, by omega⟩ rfl rfl]
  rfl

theorem innerB_at (A : FVec Ideal S8x2048x14336 .f32) (B : FVec Ideal S4x4096x14336 .f32) (b : Fin 4) (s : Fin 4096) (k : Fin 2048) :
    innerB B (ix3 b s k) = inner (tok (w := 14336) A B) k.val (16384 + 4096 * b.val + s.val) := by
  rw [innerB_apply]
  unfold inner
  rw [← tok_second (A := A) (B := B) b s ⟨2048 + k.val, by omega⟩ rfl rfl, ← tok_second (A := A) (B := B) b s ⟨4096 + k.val, by omega⟩ rfl rfl]

theorem groupB_apply (A : FVec Ideal S8x2048x14336 .f32) (B : FVec Ideal S4x4096x14336 .f32) (W : FVec Ideal S3x2048 .f32)
    (b : Fin 4) (s : Fin 4096) (k : Fin 2048) :
    groupB B W (ix3 b s k) = convAt (tok (w := 14336) A B) (rd (a := 3) (b := 2048) W) (16384 + 4096 * b.val + s.val) k.val := by
  refine (weighed _ _ _ _ _ _ _ (ix3 b s k)).trans ?_
  have hx := fun s : Fin 4096 => innerB_at A B b s k
  have g0 := back_second (innerB B) (sitofp (F := Ideal) .f32 (constantI S_ 32 0#32)) zero_apply' pads_S4x4096x2048_S4x4098x2048_000_110_000 h_S_ 0
    slices_S4x4098x2048_S4x4096x2048_0_0_0 (by omega) _ b s k hx
  have g1 := back_second (innerB B) (sitofp (F := Ideal) .f32 (constantI S_ 32 0#32)) zero_apply' pads_S4x4096x2048_S4x4098x2048_000_110_000 h_S_ 1
    slices_S4x4098x2048_S4x4096x2048_0_1_0 (by omega) _ b s k hx
  have g2 := fore_second (innerB B) (sitofp (F := Ideal) .f32 (constantI S_ 32 0#32)) zero_apply' pads_S4x4096x2048_S4x4098x2048_000_110_000 h_S_ 2
    slices_S4x4098x2048_S4x4096x2048_0_2_0 (by omega) _ b s k hx
  unfold paddedB
  rw [g0, g1, g2, back_zero, lineB_apply W 0 (by omega) slices_S3x2048_S1x2048_0_0 b s k, lineB_apply W 1 (by omega) slices_S3x2048_S1x2048_1_0 b s k,
    lineB_apply W 2 (by omega) slices_S3x2048_S1x2048_2_0 b s k, outerB_apply, tok_second (A := A) (B := B) b s ⟨k.val, by omega⟩ rfl rfl]
  rfl

theorem refArray_apply (A : FVec Ideal S8x2048x14336 .f32) (B : FVec Ideal S4x4096x14336 .f32) (W : FVec Ideal S3x2048 .f32) (i : S32768x2048.Idx) :
    refArray A B W i = convAt (tok (w := 14336) A B) (rd (a := 3) (b := 2048) W) (i 0).val (i 1).val :=
  rows_of (w := 2048) shapeCasts_S8x2048x2048_S16384x2048 shapeCasts_S4x4096x2048_S16384x2048
    concatenates_S16384x2048_S16384x2048_S32768x2048_d0 _ (fun b s k => groupA_apply A B W b s k) (fun b s k => groupB_apply A B W b s k) i

end

theorem frame_P : quiescent_Kernel10 (hKernel10 := Cert.Kernel10.Gen.facts) := fun m ρ _ => Cert.Kernel10.Gen.frame m ρ

theorem frame_PI : quiescent_Kernel10Ideal (hKernel10Ideal := Cert.Kernel10Ideal.Gen.facts) := fun m ρ _ => Cert.Kernel10Ideal.Gen.frame m ρ

theorem frame_RI : quiescent_Reference10Ideal (hReference10Ideal := Cert.Reference10Ideal.Gen.facts) := by
  intro m g _
  exact (θ_run _ _ _).mono (fun r h => ⟨fun c => (h c).2, sem_eq_zero_of_no_sems rfl r.2⟩) (Cert.Reference10Ideal.Value.run m g)

theorem algebraic_PI : algebraic_Kernel10Ideal_Reference10Ideal (hKernel10Ideal := Cert.Kernel10Ideal.Gen.facts)
    (hReference10Ideal := Cert.Reference10Ideal.Gen.facts) := by
  intro m g m' g' _ hagree
  refine ⟨fun c => (Cert.Kernel10Ideal.Gen.dats m 0 c).arrAt 8 Cert.Kernel10Ideal.cfg0.N, Cert.Kernel10Ideal.Value.run_blocks m g, ?_⟩
  refine (θ_run _ _ _).mono (fun r h c => ?_) (Cert.Reference10Ideal.Value.run m' g')
  obtain ⟨h0, h1, h2⟩ := hagree c
  refine ⟨((h c).1.trans (by unfold Cert.Reference10Ideal.Value.res_main_v57; rfl : _ = refArray _ _ _)).trans ?_, (h c).2⟩
  rw [h0, h1, h2]
  exact funext fun i => (refArray_apply _ _ _ i).trans (array_apply m c i).symm

end Cert.Proof.ConvA
end
end
-- ==== Proof.ConvB.lean ====
module
public import proofs.«01_k».proof.Proof.Gen.Kernel11Ideal.Value
public import proofs.«01_k».proof.Proof.Conv
public import proofs.«01_k».proof.Proof.Norm
public import Idealize.ShloMosaic.Lib.Pipeline.ValueKit
public import Idealize.ShloMosaic.Lib.Pointwise
@[expose] public section
set_option maxRecDepth 16384
noncomputable section
namespace Cert.Proof.ConvB
open Idealize.ShloMosaic Idealize.ShloMosaic.TcCoe Idealize.SL.Sem Cert.Proof.Conv

/-! The recurrence's convolution: the kernel's array, entry by entry. -/

/-- What is convolved, at column `k`: the projection's columns from 10240 on. -/
def inner (X : Nat → Nat → EReal) (k n : Nat) : EReal := X n (10240 + k)

/-- Four values weighed and added, and a bias. -/
def weigh4 (w0 w1 w2 w3 z0 z1 z2 z3 c : EReal) : EReal := w0 * z0 + w1 * z1 + w2 * z2 + w3 * z3 + c

/-- Entry `k` of token `n`. -/
def convAt (X W : Nat → Nat → EReal) (b : Nat → EReal) (n k : Nat) : EReal :=
  weigh4 (W 0 k) (W 1 k) (W 2 k) (W 3 k) (back (inner X k) 2 n) (back (inner X k) 1 n) (inner X k n) (fore (inner X k) n) (b k)

open Cert.Kernel11Ideal Cert.Kernel11Ideal.Gen

variable (m : (ℓ : Loc nD τ sig) → Buf (Elt Ideal) ℓ)

/-- The tokens' projections the program is launched with. -/
abbrev launched (c : Dev nD) : Nat → Nat → EReal :=
  tok (w := 14336) (m ((c : Thread nD τ).loc main_arg0)) (m ((c : Thread nD τ).loc main_arg1))

/-- The weights the program is launched with. -/
abbrev weights (c : Dev nD) : Nat → Nat → EReal := rd (a := 4) (b := 4096) (m ((c : Thread nD τ).loc main_arg2))

/-- The bias the program is launched with. -/
abbrev bias (c : Dev nD) : Nat → EReal := rd1 (a := 4096) (m ((c : Thread nD τ).loc main_arg3))

theorem tokens_at (c : Dev nD) (i : S32768x14336.Idx) {a b : Nat} (h0 : (i 0).val = a) (h1 : (i 1).val = b) :
    V m c main_v2 i = launched m c a b := by
  entry_read
  exact rows_at (w := 14336) (m ((c : Thread nD τ).loc main_arg0)) (m ((c : Thread nD τ).loc main_arg1)) shapeCasts_S8x2048x14336_S16384x14336
    shapeCasts_S4x4096x14336_S16384x14336 concatenates_S16384x14336_S16384x14336_S32768x14336_d0 i h0 h1

theorem weights_at (c : Dev nD) (i : S4x4096.Idx) {a b : Nat} (h0 : (i 0).val = a) (h1 : (i 1).val = b) :
    V m c main_arg2 i = weights m c a b := by
  entry_read
  exact rd_at (m ((c : Thread nD τ).loc main_arg2)) i h0 h1

theorem bias_at (c : Dev nD) (i : S1x4096.Idx) {k : Nat} (h1 : (i 1).val = k) : V m c main_v3 i = bias m c k := by
  entry_read
  exact Norm.row_at (m ((c : Thread nD τ).loc main_arg3)) shapeCasts_S4096_S1x4096 i h1

theorem place0 : ∀ t : Fin grid0.N, (grid0.coords t 0).val = t.val / 8 := by decide +kernel

theorem idx0 : ∀ t : Fin grid0.N, win0_0.index t = ![t.val / 8 * 64 - 1, 20 + t.val % 8] := by decide +kernel
theorem idx1 : ∀ t : Fin grid0.N, win0_1.index t = ![t.val / 8, 20 + t.val % 8] := by decide +kernel
theorem idx2 : ∀ t : Fin grid0.N, win0_2.index t = ![min (t.val / 8 * 64 + 64) 4095, 20 + t.val % 8] := by decide +kernel
theorem idx3 : ∀ t : Fin grid0.N, win0_3.index t = ![0, t.val % 8] := by decide +kernel
theorem idx4 : ∀ t : Fin grid0.N, win0_4.index t = ![0, t.val % 8] := by decide +kernel
theorem idx5 : ∀ t : Fin grid0.N, win0_5.index t = ![t.val / 8, t.val % 8] := by decide +kernel

theorem block0 (c : Dev nD) (t : Fin cfg0.N) (r : Fin 8) (k : Fin 512) :
    iblk m c 0 t (ix2 r k) = launched m c ((t.val / 8 * 64 - 1) * 8 + r.val) (10240 + (t.val % 8 * 512 + k.val)) := by
  blk_simp [iblk, idx0]
  refine tokens_at m c _ ?_ ?_ <;> blk_simp [idx0]
  omega

theorem block1 (c : Dev nD) (t : Fin cfg0.N) (r k : Fin 512) :
    iblk m c 1 t (ix2 r k) = launched m c (t.val / 8 * 512 + r.val) (10240 + (t.val % 8 * 512 + k.val)) := by
  blk_simp [iblk, idx1]
  refine tokens_at m c _ ?_ ?_ <;> blk_simp [idx1]
  omega

theorem block2 (c : Dev nD) (t : Fin cfg0.N) (r : Fin 8) (k : Fin 512) :
    iblk m c 2 t (ix2 r k) = launched m c (min (t.val / 8 * 64 + 64) 4095 * 8 + r.val) (10240 + (t.val % 8 * 512 + k.val)) := by
  blk_simp [iblk, idx2]
  refine tokens_at m c _ ?_ ?_ <;> blk_simp [idx2]
  omega

theorem block3 (c : Dev nD) (t : Fin cfg0.N) (r : Fin 4) (k : Fin 512) :
    iblk m c 3 t (ix2 r k) = weights m c r.val (t.val % 8 * 512 + k.val) := by
  blk_simp [iblk, idx3]
  refine weights_at m c _ ?_ ?_ <;> blk_simp [idx3]

theorem block4 (c : Dev nD) (t : Fin cfg0.N) (k : Fin 512) :
    iblk m c 4 t (ix2 0 k) = bias m c (t.val % 8 * 512 + k.val) := by
  blk_simp [iblk, idx4]
  refine bias_at m c _ ?_ <;> blk_simp [idx4]

/-- The chunk with its sides, as the kernel puts it together. -/
abbrev chunk (a : BitVec 32) (p : Vec Ideal S8x512 .f32) (x : Vec Ideal S512x512 .f32) (q : Vec Ideal S8x512 .f32) : FVec Ideal S528x512 .f32 :=
  k0_pay5 a (k0_pay2 p) (k0_pay3 x) (k0_pay4 q) (opensBit a) (Scalar.cmpi .slt a 32#32) 4#32 (Scalar.cmpi .eq 4#32 0#32)

/-- The first two products, added, as the kernel adds them. -/
abbrev two (a : BitVec 32) (p : Vec Ideal S8x512 .f32) (x : Vec Ideal S512x512 .f32) (q : Vec Ideal S8x512 .f32) (w : Vec Ideal S4x512 .f32) :
    FVec Ideal S512x512 .f32 :=
  k0_pay6 a (k0_pay2 p) (k0_pay3 x) (k0_pay4 q) (opensBit a) (Scalar.cmpi .slt a 32#32) 4#32 (Scalar.cmpi .eq 4#32 0#32) w

theorem before_eq (i : grid0.Coords) (x0 : Vec Ideal S8x512 .f32) (x1 : Vec Ideal S512x512 .f32) (x2 : Vec Ideal S8x512 .f32)
    (x3 : Vec Ideal S4x512 .f32) (x4 : Vec Ideal S1x512 .f32) : k0_pay8 i x0 x1 x2 x3 x4 = k0_pay2 x0 :=
  congrArg k0_pay2 (View.ld_unit_lit (S := S8x512) inb_S8x512_S8x512_0_0 x0 (by decide))

theorem own_eq (i : grid0.Coords) (x0 : Vec Ideal S8x512 .f32) (x1 : Vec Ideal S512x512 .f32) (x2 : Vec Ideal S8x512 .f32)
    (x3 : Vec Ideal S4x512 .f32) (x4 : Vec Ideal S1x512 .f32) : k0_pay9 i x0 x1 x2 x3 x4 = k0_pay3 x1 :=
  congrArg k0_pay3 (View.ld_unit_lit (S := S512x512) inb_S512x512_S512x512_0_0 x1 (by decide))

theorem after_eq (i : grid0.Coords) (x0 : Vec Ideal S8x512 .f32) (x1 : Vec Ideal S512x512 .f32) (x2 : Vec Ideal S8x512 .f32)
    (x3 : Vec Ideal S4x512 .f32) (x4 : Vec Ideal S1x512 .f32) : k0_pay10 i x0 x1 x2 x3 x4 = k0_pay4 x2 :=
  congrArg k0_pay4 (View.ld_unit_lit (S := S8x512) inb_S8x512_S8x512_0_0 x2 (by decide))

theorem chunk_eq (a : BitVec 32) (p : Vec Ideal S8x512 .f32) (x : Vec Ideal S512x512 .f32) (q : Vec Ideal S8x512 .f32) :
    chunk a p x q = concatenate S528x512 0 (pieces
      (Scalar.select (opensBit a) (broadcast S8x512 (Scalar.ofBits (F := Ideal) .f32 0x00000000#32)) (shapeCast S8x512 p shapeCasts_S8x512_S8x512))
      (shapeCast S512x512 x shapeCasts_S512x512_S512x512)
      (Scalar.select (closesBit a) (broadcast S8x512 (Scalar.ofBits (F := Ideal) .f32 0x00000000#32)) (shapeCast S8x512 q shapeCasts_S8x512_S8x512)))
      concatenates_S8x512_S512x512_S8x512_S528x512_d0 := rfl

theorem side8 (p : Vec Ideal S8x512 .f32) (e : Fin 8) (k : Fin 512) : shapeCast S8x512 p shapeCasts_S8x512_S8x512 (ix2 e k) = p (ix2 e k) := by
  pointwise

theorem side512 (p : Vec Ideal S512x512 .f32) (e k : Fin 512) : shapeCast S512x512 p shapeCasts_S512x512_S512x512 (ix2 e k) = p (ix2 e k) := by
  pointwise

theorem zero_apply (i : S8x512.Idx) : broadcast S8x512 (Scalar.ofBits (F := Ideal) .f32 0x00000000#32) i = (0 : EReal) := by
  pointwise

theorem chunk_apply (c : Dev nD) (t : Fin cfg0.N) (e : Fin 528) (k : Fin 512) :
    chunk (BitVec.ofNat 32 (grid0.coords t 0).val) (iblk m c 0 t) (iblk m c 1 t) (iblk m c 2 t) (ix2 e k)
      = around (opens (t.val / 8)) (closes (t.val / 8)) (inner (launched m c) (t.val % 8 * 512 + k.val)) (t.val / 8 * 512) e.val := by
  have ht : t.val < 512 := t.isLt
  rw [chunk_eq, place0]
  refine around_apply _ _ _ (opens (t.val / 8)) (closes (t.val / 8)) (opensBit_eq ⟨t.val / 8, by omega⟩) (closesBit_eq ⟨t.val / 8, by omega⟩) _ _ _ _
    (fun k n => inner (launched m c) (t.val % 8 * 512 + k) n) _ zero_apply (fun h e k => ?_) (fun e k => ?_) (fun h e k => ?_) e k
  · rw [side8, block0]
    unfold inner
    have h0 : 0 < t.val / 8 := by
      by_contra g
      refine h ?_
      rw [show t.val / 8 = 0 by omega]
      decide
    rw [show (t.val / 8 * 64 - 1) * 8 + e.val = t.val / 8 * 512 + e.val - 8 by omega]
  · rw [side512, block1]
    rfl
  · rw [side8, block2]
    unfold inner
    have h0 : t.val / 8 < 63 := by
      by_contra g
      refine h ?_
      rw [show t.val / 8 = 63 by omega]
      decide
    rw [show min (t.val / 8 * 64 + 64) 4095 * 8 + e.val = t.val / 8 * 512 + 512 + e.val by omega]

/-- The first two products, added: the kernel's own, of a chunk `E` with its sides. -/
abbrev firstTwo (E : FVec Ideal S528x512 .f32) (w : Vec Ideal S4x512 .f32) : FVec Ideal S512x512 .f32 :=
  addf (mulf (broadcastTo S512x512 (extractStridedSlice S1x512 ![0, 0] w slices_S4x512_o0_0_S1x512) broadcasts_S1x512_S512x512)
      (extractStridedSlice S512x512 ![8, 0] (dynamicRotate 0 2#32 none E rotates_S528x512_d0) slices_S528x512_o8_0_S512x512))
    (mulf (broadcastTo S512x512 (extractStridedSlice S1x512 ![1, 0] w slices_S4x512_o1_0_S1x512) broadcasts_S1x512_S512x512)
      (extractStridedSlice S512x512 ![8, 0] (dynamicRotate 0 1#32 none E rotates_S528x512_d0) slices_S528x512_o8_0_S512x512))

theorem two_eq (a : BitVec 32) (p : Vec Ideal S8x512 .f32) (x : Vec Ideal S512x512 .f32) (q : Vec Ideal S8x512 .f32) (w : Vec Ideal S4x512 .f32) :
    two a p x q w = firstTwo (chunk a p x q) w := rfl

theorem pay_apply (E : FVec Ideal S528x512 .f32) (w : Vec Ideal S4x512 .f32) (b : Vec Ideal S1x512 .f32) (r k : Fin 512) :
    k0_pay1 E w (firstTwo E w) (k0_pay7 w) b (ix2 r k) = weigh4 (w (ix2 0 k)) (w (ix2 1 k)) (w (ix2 2 k)) (w (ix2 3 k))
      (E (ix2 ⟨r.val + 6, by omega⟩ k)) (E (ix2 ⟨r.val + 7, by omega⟩ k)) (E (ix2 ⟨r.val + 8, by omega⟩ k)) (E (ix2 ⟨r.val + 9, by omega⟩ k))
      (b (ix2 0 k)) := by
  have hr := r.isLt
  rw [← rolled_apply E 2#32 rotates_S528x512_d0 slices_S528x512_o8_0_S512x512 r k ⟨r.val + 6, by omega⟩
      (show r.val + 6 = (r.val + 8 + 528 - 2 % 528) % 528 by omega),
    ← rolled_apply E 1#32 rotates_S528x512_d0 slices_S528x512_o8_0_S512x512 r k ⟨r.val + 7, by omega⟩
      (show r.val + 7 = (r.val + 8 + 528 - 1 % 528) % 528 by omega),
    ← middle_apply E slices_S528x512_o8_0_S512x512 r k,
    ← rolled_apply E 527#32 rotates_S528x512_d0 slices_S528x512_o8_0_S512x512 r k ⟨r.val + 9, by omega⟩
      (show r.val + 9 = (r.val + 8 + 528 - 527 % 528) % 528 by omega)]
  unfold k0_pay1 k0_pay7 weigh4
  pointwise

theorem step_apply (c : Dev nD) (t : Fin cfg0.N) (r k : Fin 512) :
    k0_pay1 (chunk (BitVec.ofNat 32 (grid0.coords t 0).val) (iblk m c 0 t) (iblk m c 1 t) (iblk m c 2 t)) (iblk m c 3 t)
      (two (BitVec.ofNat 32 (grid0.coords t 0).val) (iblk m c 0 t) (iblk m c 1 t) (iblk m c 2 t) (iblk m c 3 t))
      (k0_pay7 (iblk m c 3 t)) (iblk m c 4 t) (ix2 r k)
      = convAt (launched m c) (weights m c) (bias m c) (t.val / 8 * 512 + r.val) (t.val % 8 * 512 + k.val) := by
  have ht : t.val < 512 := t.isLt
  have hc : t.val / 8 < 64 := by omega
  rw [two_eq]
  refine (pay_apply _ _ _ r k).trans ?_
  rw [chunk_apply, chunk_apply, chunk_apply, chunk_apply, block3, block3, block3, block3, block4]
  exact congrFun (congr (congr (congr (congrArg (weigh4 _ _ _ _) (around_back (d := 2) hc r.isLt (by omega) _))
    (around_back (d := 1) hc r.isLt (by omega) _)) (around_back (d := 0) hc r.isLt (by omega) _)) (around_fore hc r.isLt _)) _

theorem array_apply (c : Dev nD) (i : S32768x4096.Idx) :
    (dats m 0 c).arrAt 5 cfg0.N i = convAt (launched m c) (weights m c) (bias m c) (i 0).val (i 1).val := by
  refine congrFun ((dats m 0 c).arrAt_eq_of_covers 5 (fun i : S32768x4096.Idx => convAt (launched m c) (weights m c) (bias m c) (i 0).val (i 1).val)
    (by decide +kernel) fun t hf y => ?_) i
  blk_simp [idx5]
  rw [after0_5]
  frame_out
  rw [before_eq, own_eq, after_eq]
  exact (congrArg (k0_pay1 (chunk (BitVec.ofNat 32 (grid0.coords t 0).val) (iblk m c 0 t) (iblk m c 1 t) (iblk m c 2 t)) (iblk m c 3 t)
      (two (BitVec.ofNat 32 (grid0.coords t 0).val) (iblk m c 0 t) (iblk m c 1 t) (iblk m c 2 t) (iblk m c 3 t))
      (k0_pay7 (iblk m c 3 t)) (iblk m c 4 t)) (eq_ix2 y)).trans (step_apply m c t (y 0) (y 1))

end Cert.Proof.ConvB
end
end
-- ==== Proof.ConvBRef.lean ====
module
public import proofs.«01_k».proof.Proof.Gen.Reference11Ideal.Run
public import proofs.«01_k».proof.Proof.Gen.Kernel11.Frame
public import proofs.«01_k».proof.Proof.Gen.Kernel11Ideal.Frame
public import proofs.«01_k».proof.Proof.ConvB
public import proofs.«01_k».proof.Defs
public import Idealize.ShloMosaic.Lib.Pipeline.ValueKit
public import Idealize.ShloMosaic.Lib.Pointwise
@[expose] public section
set_option maxRecDepth 16384
noncomputable section
namespace Cert.Proof.ConvB
open Idealize.ShloMosaic Idealize.ShloMosaic.TcCoe Idealize.SL.Sem Cert.Proof.Conv

/-! The recurrence's convolution: the reference entry by entry, and the claims of this call. -/

/-- Four values weighed and added, and a bias, entry by entry. -/
theorem weighed {s : Shape} (p0 l0 p1 l1 p2 l2 p3 l3 c : FVec Ideal s .f32) (i : s.Idx) :
    addf (addf (addf (addf (mulf p0 l0) (mulf p1 l1)) (mulf p2 l2)) (mulf p3 l3)) c i
      = weigh4 (l0 i) (l1 i) (l2 i) (l3 i) (p0 i) (p1 i) (p2 i) (p3 i) (c i) := by
  unfold weigh4
  rw [mul_comm (l0 i), mul_comm (l1 i), mul_comm (l2 i), mul_comm (l3 i)]
  rfl

section
open Cert.Reference11Ideal Cert.Reference11Ideal.Gen

/-- What the first group convolves. -/
def innerA (x : FVec Ideal S8x2048x14336 .f32) : FVec Ideal S8x2048x4096 .f32 := extractStridedSlice S8x2048x4096 ![0, 0, 10240] x slices_S8x2048x14336_S8x2048x4096_0_0_10240

/-- The first group's sequences, two zeros added before and one after. -/
def paddedA (x : FVec Ideal S8x2048x14336 .f32) : FVec Ideal S8x2051x4096 .f32 :=
  pad S8x2051x4096 ![0, 2, 0] ![0, 1, 0] ![0, 0, 0] (innerA x) (sitofp .f32 (constantI S_ 32 0#32)) pads_S8x2048x4096_S8x2051x4096_000_210_000 h_S_

/-- Row `i` of the weights, along the first group's tokens. -/
def lineA (W : FVec Ideal S4x4096 .f32) (i : Nat) (hs : S4x4096.Slices ![i, 0] S1x4096) : FVec Ideal S8x2048x4096 .f32 :=
  broadcastInDim S8x2048x4096 ![0, 1, 2] bcast_S1x1x4096_S8x2048x4096_0_1_2 (broadcastInDim S1x1x4096 ![2] bcast_S4096_S1x1x4096_2
    (shapeCast _ (extractStridedSlice S1x4096 ![i, 0] W hs) shapeCasts_S1x4096_S4096))

/-- The bias, along the first group's tokens. -/
def biasA (v : FVec Ideal S4096 .f32) : FVec Ideal S8x2048x4096 .f32 :=
  broadcastInDim S8x2048x4096 ![0, 1, 2] bcast_S1x1x4096_S8x2048x4096_0_1_2 (broadcastInDim S1x1x4096 ![2] bcast_S4096_S1x1x4096_2 v)

/-- The first group's convolution. -/
def groupA (x : FVec Ideal S8x2048x14336 .f32) (W : FVec Ideal S4x4096 .f32) (v : FVec Ideal S4096 .f32) : FVec Ideal S8x2048x4096 .f32 :=
  addf (addf (addf (addf (mulf (extractStridedSlice S8x2048x4096 ![0, 0, 0] (paddedA x) slices_S8x2051x4096_S8x2048x4096_0_0_0) (lineA W 0 slices_S4x4096_S1x4096_0_0))
    (mulf (extractStridedSlice S8x2048x4096 ![0, 1, 0] (paddedA x) slices_S8x2051x4096_S8x2048x4096_0_1_0) (lineA W 1 slices_S4x4096_S1x4096_1_0)))
    (mulf (extractStridedSlice S8x2048x4096 ![0, 2, 0] (paddedA x) slices_S8x2051x4096_S8x2048x4096_0_2_0) (lineA W 2 slices_S4x4096_S1x4096_2_0)))
    (mulf (extractStridedSlice S8x2048x4096 ![0, 3, 0] (paddedA x) slices_S8x2051x4096_S8x2048x4096_0_3_0) (lineA W 3 slices_S4x4096_S1x4096_3_0))) (biasA v)

/-- What the second group convolves. -/
def innerB (x : FVec Ideal S4x4096x14336 .f32) : FVec Ideal S4x4096x4096 .f32 := extractStridedSlice S4x4096x4096 ![0, 0, 10240] x slices_S4x4096x14336_S4x4096x4096_0_0_10240

/-- The second group's sequences, two zeros added before and one after. -/
def paddedB (x : FVec Ideal S4x4096x14336 .f32) : FVec Ideal S4x4099x4096 .f32 :=
  pad S4x4099x4096 ![0, 2, 0] ![0, 1, 0] ![0, 0, 0] (innerB x) (sitofp .f32 (constantI S_ 32 0#32)) pads_S4x4096x4096_S4x4099x4096_000_210_000 h_S_

/-- Row `i` of the weights, along the second group's tokens. -/
def lineB (W : FVec Ideal S4x4096 .f32) (i : Nat) (hs : S4x4096.Slices ![i, 0] S1x4096) : FVec Ideal S4x4096x4096 .f32 :=
  broadcastInDim S4x4096x4096 ![0, 1, 2] bcast_S1x1x4096_S4x4096x4096_0_1_2 (broadcastInDim S1x1x4096 ![2] bcast_S4096_S1x1x4096_2
    (shapeCast _ (extractStridedSlice S1x4096 ![i, 0] W hs) shapeCasts_S1x4096_S4096))

/-- The bias, along the second group's tokens. -/
def biasB (v : FVec Ideal S4096 .f32) : FVec Ideal S4x4096x4096 .f32 :=
  broadcastInDim S4x4096x4096 ![0, 1, 2] bcast_S1x1x4096_S4x4096x4096_0_1_2 (broadcastInDim S1x1x4096 ![2] bcast_S4096_S1x1x4096_2 v)

/-- The second group's convolution. -/
def groupB (x : FVec Ideal S4x4096x14336 .f32) (W : FVec Ideal S4x4096 .f32) (v : FVec Ideal S4096 .f32) : FVec Ideal S4x4096x4096 .f32 :=
  addf (addf (addf (addf (mulf (extractStridedSlice S4x4096x4096 ![0, 0, 0] (paddedB x) slices_S4x4099x4096_S4x4096x4096_0_0_0) (lineB W 0 slices_S4x4096_S1x4096_0_0))
    (mulf (extractStridedSlice S4x4096x4096 ![0, 1, 0] (paddedB x) slices_S4x4099x4096_S4x4096x4096_0_1_0) (lineB W 1 slices_S4x4096_S1x4096_1_0)))
    (mulf (extractStridedSlice S4x4096x4096 ![0, 2, 0] (paddedB x) slices_S4x4099x4096_S4x4096x4096_0_2_0) (lineB W 2 slices_S4x4096_S1x4096_2_0)))
    (mulf (extractStridedSlice S4x4096x4096 ![0, 3, 0] (paddedB x) slices_S4x4099x4096_S4x4096x4096_0_3_0) (lineB W 3 slices_S4x4096_S1x4096_3_0))) (biasB v)

/-- What the reference returns. -/
def refArray (A : FVec Ideal S8x2048x14336 .f32) (B : FVec Ideal S4x4096x14336 .f32) (W : FVec Ideal S4x4096 .f32) (v : FVec Ideal S4096 .f32) :
    FVec Ideal S32768x4096 .f32 :=
  concatenate S32768x4096 0 [⟨S16384x4096, shapeCast _ (groupA A W v) shapeCasts_S8x2048x4096_S16384x4096⟩,
    ⟨S16384x4096, shapeCast _ (groupB B W v) shapeCasts_S4x4096x4096_S16384x4096⟩] concatenates_S16384x4096_S16384x4096_S32768x4096_d0

theorem zero_apply' (i : S_.Idx) : sitofp (F := Ideal) .f32 (constantI S_ 32 0#32) i = (0 : EReal) := by
  show ((((0#32 : BitVec 32).toInt : ℝ)) : EReal) = 0
  simp

theorem lineA_apply (W : FVec Ideal S4x4096 .f32) (i : Nat) (hi : i < 4) (hs : S4x4096.Slices ![i, 0] S1x4096) (b : Fin 8) (s : Fin 2048) (k : Fin 4096) :
    lineA W i hs (ix3 b s k) = rd (a := 4) (b := 4096) W i k.val := by
  rw [rd_eq (a := 4) (b := 4096) W ⟨i, hi⟩ k]
  unfold lineA
  pointwise

theorem biasA_apply (v : FVec Ideal S4096 .f32) (b : Fin 8) (s : Fin 2048) (k : Fin 4096) :
    biasA v (ix3 b s k) = rd1 (a := 4096) v k.val := by
  refine Eq.trans ?_ (Norm.scale_eq v k)
  unfold biasA
  pointwise

theorem innerA_at (A : FVec Ideal S8x2048x14336 .f32) (B : FVec Ideal S4x4096x14336 .f32) (b : Fin 8) (s : Fin 2048) (k : Fin 4096) :
    innerA A (ix3 b s k) = inner (tok (w := 14336) A B) k.val (2048 * b.val + s.val) := by
  unfold inner
  rw [← tok_first (A := A) (B := B) b s ⟨10240 + k.val, by omega⟩ rfl rfl]
  unfold innerA
  pointwise

theorem groupA_apply (A : FVec Ideal S8x2048x14336 .f32) (B : FVec Ideal S4x4096x14336 .f32) (W : FVec Ideal S4x4096 .f32) (v : FVec Ideal S4096 .f32)
    (b : Fin 8) (s : Fin 2048) (k : Fin 4096) :
    groupA A W v (ix3 b s k) = convAt (tok (w := 14336) A B) (rd (a := 4) (b := 4096) W) (rd1 (a := 4096) v) (2048 * b.val + s.val) k.val := by
  refine (weighed _ _ _ _ _ _ _ _ _ (ix3 b s k)).trans ?_
  have hx := fun s : Fin 2048 => innerA_at A B b s k
  have g0 := back_first (innerA A) (sitofp (F := Ideal) .f32 (constantI S_ 32 0#32)) zero_apply' pads_S8x2048x4096_S8x2051x4096_000_210_000 h_S_ 0
    slices_S8x2051x4096_S8x2048x4096_0_0_0 (by omega) _ b s k hx
  have g1 := back_first (innerA A) (sitofp (F := Ideal) .f32 (constantI S_ 32 0#32)) zero_apply' pads_S8x2048x4096_S8x2051x4096_000_210_000 h_S_ 1
    slices_S8x2051x4096_S8x2048x4096_0_1_0 (by omega) _ b s k hx
  have g2 := back_first (innerA A) (sitofp (F := Ideal) .f32 (constantI S_ 32 0#32)) zero_apply' pads_S8x2048x4096_S8x2051x4096_000_210_000 h_S_ 2
    slices_S8x2051x4096_S8x2048x4096_0_2_0 (by omega) _ b s k hx
  have g3 := fore_first (innerA A) (sitofp (F := Ideal) .f32 (constantI S_ 32 0#32)) zero_apply' pads_S8x2048x4096_S8x2051x4096_000_210_000 h_S_ 3
    slices_S8x2051x4096_S8x2048x4096_0_3_0 (by omega) _ b s k hx
  unfold paddedA
  rw [g0, g1, g2, g3, back_zero, lineA_apply W 0 (by omega) slices_S4x4096_S1x4096_0_0 b s k,
    lineA_apply W 1 (by omega) slices_S4x4096_S1x4096_1_0 b s k,
    lineA_apply W 2 (by omega) slices_S4x4096_S1x4096_2_0 b s k,
    lineA_apply W 3 (by omega) slices_S4x4096_S1x4096_3_0 b s k,
    biasA_apply]
  rfl

theorem lineB_apply (W : FVec Ideal S4x4096 .f32) (i : Nat) (hi : i < 4) (hs : S4x4096.Slices ![i, 0] S1x4096) (b : Fin 4) (s : Fin 4096) (k : Fin 4096) :
    lineB W i hs (ix3 b s k) = rd (a := 4) (b := 4096) W i k.val := by
  rw [rd_eq (a := 4) (b := 4096) W ⟨i, hi⟩ k]
  unfold lineB
  pointwise

theorem biasB_apply (v : FVec Ideal S4096 .f32) (b : Fin 4) (s : Fin 4096) (k : Fin 4096) :
    biasB v (ix3 b s k) = rd1 (a := 4096) v k.val := by
  refine Eq.trans ?_ (Norm.scale_eq v k)
  unfold biasB
  pointwise

theorem innerB_at (A : FVec Ideal S8x2048x14336 .f32) (B : FVec Ideal S4x4096x14336 .f32) (b : Fin 4) (s : Fin 4096) (k : Fin 4096) :
    innerB B (ix3 b s k) = inner (tok (w := 14336) A B) k.val (16384 + 4096 * b.val + s.val) := by
  unfold inner
  rw [← tok_second (A := A) (B := B) b s ⟨10240 + k.val, by omega⟩ rfl rfl]
  unfold innerB
  pointwise

theorem groupB_apply (A : FVec Ideal S8x2048x14336 .f32) (B : FVec Ideal S4x4096x14336 .f32) (W : FVec Ideal S4x4096 .f32) (v : FVec Ideal S4096 .f32)
    (b : Fin 4) (s : Fin 4096) (k : Fin 4096) :
    groupB B W v (ix3 b s k) = convAt (tok (w := 14336) A B) (rd (a := 4) (b := 4096) W) (rd1 (a := 4096) v) (16384 + 4096 * b.val + s.val) k.val := by
  refine (weighed _ _ _ _ _ _ _ _ _ (ix3 b s k)).trans ?_
  have hx := fun s : Fin 4096 => innerB_at A B b s k
  have g0 := back_second (innerB B) (sitofp (F := Ideal) .f32 (constantI S_ 32 0#32)) zero_apply' pads_S4x4096x4096_S4x4099x4096_000_210_000 h_S_ 0
    slices_S4x4099x4096_S4x4096x4096_0_0_0 (by omega) _ b s k hx
  have g1 := back_second (innerB B) (sitofp (F := Ideal) .f32 (constantI S_ 32 0#32)) zero_apply' pads_S4x4096x4096_S4x4099x4096_000_210_000 h_S_ 1
    slices_S4x4099x4096_S4x4096x4096_0_1_0 (by omega) _ b s k hx
  have g2 := back_second (innerB B) (sitofp (F := Ideal) .f32 (constantI S_ 32 0#32)) zero_apply' pads_S4x4096x4096_S4x4099x4096_000_210_000 h_S_ 2
    slices_S4x4099x4096_S4x4096x4096_0_2_0 (by omega) _ b s k hx
  have g3 := fore_second (innerB B) (sitofp (F := Ideal) .f32 (constantI S_ 32 0#32)) zero_apply' pads_S4x4096x4096_S4x4099x4096_000_210_000 h_S_ 3
    slices_S4x4099x4096_S4x4096x4096_0_3_0 (by omega) _ b s k hx
  unfold paddedB
  rw [g0, g1, g2, g3, back_zero, lineB_apply W 0 (by omega) slices_S4x4096_S1x4096_0_0 b s k,
    lineB_apply W 1 (by omega) slices_S4x4096_S1x4096_1_0 b s k,
    lineB_apply W 2 (by omega) slices_S4x4096_S1x4096_2_0 b s k,
    lineB_apply W 3 (by omega) slices_S4x4096_S1x4096_3_0 b s k,
    biasB_apply]
  rfl

theorem refArray_apply (A : FVec Ideal S8x2048x14336 .f32) (B : FVec Ideal S4x4096x14336 .f32) (W : FVec Ideal S4x4096 .f32) (v : FVec Ideal S4096 .f32)
    (i : S32768x4096.Idx) :
    refArray A B W v i = convAt (tok (w := 14336) A B) (rd (a := 4) (b := 4096) W) (rd1 (a := 4096) v) (i 0).val (i 1).val :=
  rows_of (w := 4096) shapeCasts_S8x2048x4096_S16384x4096 shapeCasts_S4x4096x4096_S16384x4096
    concatenates_S16384x4096_S16384x4096_S32768x4096_d0 _ (fun b s k => groupA_apply A B W v b s k) (fun b s k => groupB_apply A B W v b s k) i

end

theorem frame_P : quiescent_Kernel11 (hKernel11 := Cert.Kernel11.Gen.facts) := fun m ρ _ => Cert.Kernel11.Gen.frame m ρ

theorem frame_PI : quiescent_Kernel11Ideal (hKernel11Ideal := Cert.Kernel11Ideal.Gen.facts) := fun m ρ _ => Cert.Kernel11Ideal.Gen.frame m ρ

theorem frame_RI : quiescent_Reference11Ideal (hReference11Ideal := Cert.Reference11Ideal.Gen.facts) := by
  intro m g _
  exact (θ_run _ _ _).mono (fun r h => ⟨fun c => (h c).2, sem_eq_zero_of_no_sems rfl r.2⟩) (Cert.Reference11Ideal.Value.run m g)

theorem algebraic_PI : algebraic_Kernel11Ideal_Reference11Ideal (hKernel11Ideal := Cert.Kernel11Ideal.Gen.facts)
    (hReference11Ideal := Cert.Reference11Ideal.Gen.facts) := by
  intro m g m' g' _ hagree
  refine ⟨fun c => (Cert.Kernel11Ideal.Gen.dats m 0 c).arrAt 5 Cert.Kernel11Ideal.cfg0.N, Cert.Kernel11Ideal.Value.run_blocks m g, ?_⟩
  refine (θ_run _ _ _).mono (fun r h c => ?_) (Cert.Reference11Ideal.Value.run m' g')
  obtain ⟨h0, h1, h2, h3⟩ := hagree c
  refine ⟨((h c).1.trans (by unfold Cert.Reference11Ideal.Value.res_main_v66; rfl : _ = refArray _ _ _ _)).trans ?_, (h c).2⟩
  rw [h0, h1, h2, h3]
  exact funext fun i => (refArray_apply _ _ _ _ i).trans (array_apply m c i).symm

end Cert.Proof.ConvB
end
end
-- ==== Proof.Both.lean ====
module
public import proofs.«01_k».proof.Proof.Rows
@[expose] public section
set_option maxRecDepth 16384
noncomputable section
namespace Cert.Proof
open Idealize.ShloMosaic Idealize.ShloMosaic.TcCoe

/-! Arrays with one plane for each of the recurrence's two directions, laid out token by token. -/

/-- Entry `k` of token `n` in direction `d`. -/
def tok2 {w : Nat} (A : (⟨4, ![2, 8, 2048, w]⟩ : Shape).Idx → EReal) (B : (⟨4, ![2, 4, 4096, w]⟩ : Shape).Idx → EReal) (d : Fin 2) : Nat → Nat → EReal :=
  tok (w := w) (fun i => A (ix4 d (i 0) (i 1) (i 2))) (fun i => B (ix4 d (i 0) (i 1) (i 2)))

/-- The two groups, each plane reshaped to rows, put one after the other, hold token `n` at row `n`. -/
theorem both_apply {w : Nat} (A : (⟨4, ![2, 8, 2048, w]⟩ : Shape).Idx → EReal) (B : (⟨4, ![2, 4, 4096, w]⟩ : Shape).Idx → EReal)
    (hA : Shape.ShapeCasts ⟨4, ![2, 8, 2048, w]⟩ ⟨3, ![2, 16384, w]⟩) (hB : Shape.ShapeCasts ⟨4, ![2, 4, 4096, w]⟩ ⟨3, ![2, 16384, w]⟩)
    (hc : Shape.Concatenates [⟨3, ![2, 16384, w]⟩, ⟨3, ![2, 16384, w]⟩] ⟨3, ![2, 32768, w]⟩ 1) (d : Fin 2) (n : Fin 32768) (k : Fin w) :
    concatenate ⟨3, ![2, 32768, w]⟩ 1 [⟨⟨3, ![2, 16384, w]⟩, shapeCast ⟨3, ![2, 16384, w]⟩ A hA⟩, ⟨⟨3, ![2, 16384, w]⟩, shapeCast ⟨3, ![2, 16384, w]⟩ B hB⟩]
      hc (ix3 d n k) = tok2 A B d n.val k.val := by
  have hn := n.isLt
  have hk := k.isLt
  unfold tok2 tok
  by_cases h : n.val < 16384
  · rw [dif_pos ⟨h, hk⟩]
    refine (concatenate_pair_apply_left 1 _ _ hc (ix3 d n k) hc.rank_fst (ix3 d ⟨n.val, h⟩ k) fun b => ?_).trans ?_
    · match b with
      | 0 => rfl
      | 1 => rfl
      | 2 => rfl
    · refine shapeCast_apply _ _ _ _ ?_
      refine (Shape.rowMajor_val_four (d := ![2, 8, 2048, w]) _).trans (Eq.trans ?_ (Shape.rowMajor_val_three (d := ![2, 16384, w]) _).symm)
      change ((d.val * 8 + n.val / 2048) * 2048 + n.val % 2048) * w + k.val = (d.val * 16384 + n.val) * w + k.val
      rw [show (d.val * 8 + n.val / 2048) * 2048 + n.val % 2048 = d.val * 16384 + n.val by omega]
  · rw [dif_neg (by omega), dif_pos ⟨by omega, hn, hk⟩]
    refine (concatenate_pair_apply_right 1 _ _ hc (ix3 d n k) hc.rank_fst hc.rank_snd (ix3 d ⟨n.val - 16384, by omega⟩ k)
      (fun b hb => ?_) ?_).trans ?_
    · match b with
      | 0 => rfl
      | 1 => exact absurd rfl hb
      | 2 => rfl
    · show n.val - 16384 + 16384 = n.val
      omega
    · refine shapeCast_apply _ _ _ _ ?_
      refine (Shape.rowMajor_val_four (d := ![2, 4, 4096, w]) _).trans (Eq.trans ?_ (Shape.rowMajor_val_three (d := ![2, 16384, w]) _).symm)
      change ((d.val * 4 + (n.val - 16384) / 4096) * 4096 + (n.val - 16384) % 4096) * w + k.val = (d.val * 16384 + (n.val - 16384)) * w + k.val
      rw [show (d.val * 4 + (n.val - 16384) / 4096) * 4096 + (n.val - 16384) % 4096 = d.val * 16384 + (n.val - 16384) by omega]

theorem both_at {w : Nat} (A : (⟨4, ![2, 8, 2048, w]⟩ : Shape).Idx → EReal) (B : (⟨4, ![2, 4, 4096, w]⟩ : Shape).Idx → EReal)
    (hA : Shape.ShapeCasts ⟨4, ![2, 8, 2048, w]⟩ ⟨3, ![2, 16384, w]⟩) (hB : Shape.ShapeCasts ⟨4, ![2, 4, 4096, w]⟩ ⟨3, ![2, 16384, w]⟩)
    (hc : Shape.Concatenates [⟨3, ![2, 16384, w]⟩, ⟨3, ![2, 16384, w]⟩] ⟨3, ![2, 32768, w]⟩ 1) (i : (⟨3, ![2, 32768, w]⟩ : Shape).Idx)
    (d : Fin 2) {n k : Nat} (h0 : (i 0).val = d.val) (h1 : (i 1).val = n) (h2 : (i 2).val = k) :
    concatenate ⟨3, ![2, 32768, w]⟩ 1 [⟨⟨3, ![2, 16384, w]⟩, shapeCast ⟨3, ![2, 16384, w]⟩ A hA⟩, ⟨⟨3, ![2, 16384, w]⟩, shapeCast ⟨3, ![2, 16384, w]⟩ B hB⟩]
      hc i = tok2 A B d n k := by
  obtain rfl : i 0 = d := Fin.ext h0
  subst h1 h2
  exact (congrArg _ (eq_ix3 i)).trans (both_apply A B hA hB hc (i 0) (i 1) (i 2))

/-- Two groups of which every entry is known, each plane reshaped to rows and put one after the other. -/
theorem both_of {w : Nat} {A : (⟨4, ![2, 8, 2048, w]⟩ : Shape).Idx → EReal} {B : (⟨4, ![2, 4, 4096, w]⟩ : Shape).Idx → EReal}
    {f : Fin 2 → Nat → Fin w → EReal} (hA : ∀ d b s k, A (ix4 d b s k) = f d (2048 * b.val + s.val) k)
    (hB : ∀ d b s k, B (ix4 d b s k) = f d (16384 + 4096 * b.val + s.val) k)
    (hsA : Shape.ShapeCasts ⟨4, ![2, 8, 2048, w]⟩ ⟨3, ![2, 16384, w]⟩) (hsB : Shape.ShapeCasts ⟨4, ![2, 4, 4096, w]⟩ ⟨3, ![2, 16384, w]⟩)
    (hc : Shape.Concatenates [⟨3, ![2, 16384, w]⟩, ⟨3, ![2, 16384, w]⟩] ⟨3, ![2, 32768, w]⟩ 1) (i : (⟨3, ![2, 32768, w]⟩ : Shape).Idx) :
    concatenate ⟨3, ![2, 32768, w]⟩ 1 [⟨⟨3, ![2, 16384, w]⟩, shapeCast ⟨3, ![2, 16384, w]⟩ A hsA⟩, ⟨⟨3, ![2, 16384, w]⟩, shapeCast ⟨3, ![2, 16384, w]⟩ B hsB⟩]
      hc i = f (i 0) (i 1).val (i 2) := by
  refine (both_at A B hsA hsB hc i (i 0) rfl rfl rfl).trans ((tok_eq (w := w) (f := fun n k => if h : k < w then f (i 0) n ⟨k, h⟩ else 0)
    (fun b s k => ?_) (fun b s k => ?_) (i 1).isLt (i 2).isLt).trans (dif_pos (i 2).isLt))
  · exact (hA (i 0) b s k).trans (by simp)
  · exact (hB (i 0) b s k).trans (by simp)

end Cert.Proof
end
end
-- ==== Proof.GateOut.lean ====
module
public import proofs.«01_k».proof.Proof.Gen.Kernel12Ideal.Value
public import proofs.«01_k».proof.Proof.Gen.Reference12Ideal.Run
public import proofs.«01_k».proof.Proof.Gen.Kernel12.Frame
public import proofs.«01_k».proof.Proof.Gen.Kernel12Ideal.Frame
public import proofs.«01_k».proof.Proof.Both
public import proofs.«01_k».proof.Defs
public import Idealize.ShloMosaic.Lib.Pipeline.ValueKit
public import Idealize.ShloMosaic.Lib.Pointwise
@[expose] public section
set_option maxRecDepth 16384
noncomputable section
namespace Cert.Proof.GateOut
open Idealize.ShloMosaic Idealize.ShloMosaic.TcCoe Idealize.SL.Sem

/-! The recurrence's gated output: both arrays entry by entry, and the claims of this call. -/

/-- The gate at `x`, applied to the sum of the two directions' states. -/
def gated (x h g : EReal) : EReal :=
  x * (Ideal.ofBits .f32 0x3F000000#32 * (Ideal.ofBits .f32 0x3F800000#32 + Ideal.tanh (Ideal.ofBits .f32 0x3F4C422A#32
    * (x + Ideal.ofBits .f32 0x3D372713#32 * (x * (x * x)))))) * (h + g)

/-- Entry `k` of token `n`: its gate lies in the projection's columns 6144 to 10239. -/
def gatedAt (X H G : Nat → Nat → EReal) (n k : Nat) : EReal := gated (X n (6144 + k)) (H n k) (G n k)

section
open Cert.Kernel12Ideal Cert.Kernel12Ideal.Gen

variable (m : (ℓ : Loc nD τ sig) → Buf (Elt Ideal) ℓ)

/-- The tokens' projections the program is launched with. -/
abbrev launched (c : Dev nD) : Nat → Nat → EReal :=
  tok (w := 14336) (m ((c : Thread nD τ).loc main_arg0)) (m ((c : Thread nD τ).loc main_arg1))

/-- The states of direction `d` the program is launched with. -/
abbrev states (c : Dev nD) (d : Fin 2) : Nat → Nat → EReal :=
  tok2 (w := 4096) (m ((c : Thread nD τ).loc main_arg2)) (m ((c : Thread nD τ).loc main_arg3)) d

theorem tokens_at (c : Dev nD) (i : S32768x14336.Idx) {a b : Nat} (h0 : (i 0).val = a) (h1 : (i 1).val = b) :
    V m c main_v2 i = launched m c a b := by
  entry_read
  exact rows_at (w := 14336) (m ((c : Thread nD τ).loc main_arg0)) (m ((c : Thread nD τ).loc main_arg1)) shapeCasts_S8x2048x14336_S16384x14336
    shapeCasts_S4x4096x14336_S16384x14336 concatenates_S16384x14336_S16384x14336_S32768x14336_d0 i h0 h1

theorem states_at (c : Dev nD) (i : S2x32768x4096.Idx) (d : Fin 2) {a b : Nat} (h0 : (i 0).val = d.val) (h1 : (i 1).val = a) (h2 : (i 2).val = b) :
    V m c main_v5 i = states m c d a b := by
  entry_read
  exact both_at (w := 4096) (m ((c : Thread nD τ).loc main_arg2)) (m ((c : Thread nD τ).loc main_arg3)) shapeCasts_S2x8x2048x4096_S2x16384x4096
    shapeCasts_S2x4x4096x4096_S2x16384x4096 concatenates_S2x16384x4096_S2x16384x4096_S2x32768x4096_d1 i d h0 h1 h2

theorem idx0 : ∀ t : Fin grid0.N, win0_0.index t = ![t.val / 4, 6 + t.val % 4] := by decide +kernel
theorem idx1 : ∀ t : Fin grid0.N, win0_1.index t = ![0, t.val / 4, t.val % 4] := by decide +kernel
theorem idx2 : ∀ t : Fin grid0.N, win0_2.index t = ![t.val / 4, t.val % 4] := by decide +kernel

theorem block0 (c : Dev nD) (t : Fin cfg0.N) (r : Fin 512) (k : Fin 1024) :
    iblk m c 0 t (ix2 r k) = launched m c (t.val / 4 * 512 + r.val) (6144 + (t.val % 4 * 1024 + k.val)) := by
  blk_simp [iblk, idx0]
  refine tokens_at m c _ ?_ ?_ <;> blk_simp [idx0]
  omega

theorem block1 (c : Dev nD) (t : Fin cfg0.N) (d : Fin 2) (r : Fin 512) (k : Fin 1024) :
    iblk m c 1 t (ix3 d r k) = states m c d (t.val / 4 * 512 + r.val) (t.val % 4 * 1024 + k.val) := by
  blk_simp [iblk, idx1]
  refine states_at m c _ d ?_ ?_ ?_ <;> blk_simp [idx1]

theorem plane0 (c : Dev nD) (t : Fin cfg0.N) (r : Fin 512) (k : Fin 1024) :
    View.ld (iblk m c 1 t) r0_1 (ix3 0 r k) = states m c 0 (t.val / 4 * 512 + r.val) (t.val % 4 * 1024 + k.val) := by
  refine (congrArg (iblk m c 1 t) (funext fun a => Fin.ext ?_)).trans (block1 m c t 0 r k)
  match a with
  | 0 => rfl
  | 1 => show 0 + 1 * r.val = r.val; omega
  | 2 => show 0 + 1 * k.val = k.val; omega

theorem plane1 (c : Dev nD) (t : Fin cfg0.N) (r : Fin 512) (k : Fin 1024) :
    View.ld (iblk m c 1 t) r0_2 (ix3 0 r k) = states m c 1 (t.val / 4 * 512 + r.val) (t.val % 4 * 1024 + k.val) := by
  refine (congrArg (iblk m c 1 t) (funext fun a => Fin.ext ?_)).trans (block1 m c t 1 r k)
  match a with
  | 0 => rfl
  | 1 => show 0 + 1 * r.val = r.val; omega
  | 2 => show 0 + 1 * k.val = k.val; omega

theorem pay_apply (x : Vec Ideal S512x1024 .f32) (h g : Vec Ideal S1x512x1024 .f32) (r : Fin 512) (k : Fin 1024) :
    k0_pay1 x h g (ix2 r k) = gated (x (ix2 r k)) (h (ix3 0 r k)) (g (ix3 0 r k)) := by
  unfold k0_pay1 gated
  pointwise

theorem array_apply (c : Dev nD) (i : S32768x4096.Idx) :
    (dats m 0 c).arrAt 2 cfg0.N i = gatedAt (launched m c) (states m c 0) (states m c 1) (i 0).val (i 1).val := by
  refine congrFun ((dats m 0 c).arrAt_eq_of_covers 2
    (fun i : S32768x4096.Idx => gatedAt (launched m c) (states m c 0) (states m c 1) (i 0).val (i 1).val) (by decide +kernel) fun t hf y => ?_) i
  blk_simp [idx2]
  rw [after0_2]
  frame_out
  refine (congrArg (k0_pay1 (iblk m c 0 t) (View.ld (iblk m c 1 t) r0_1) (View.ld (iblk m c 1 t) r0_2)) (eq_ix2 y)).trans ((pay_apply _ _ _ _ _).trans ?_)
  rw [block0 m c t (y 0) (y 1), plane0 m c t (y 0) (y 1), plane1 m c t (y 0) (y 1)]
  rfl

end

section
open Cert.Reference12Ideal Cert.Reference12Ideal.Gen

/-- The first group's gated output. -/
def groupA (x : FVec Ideal S8x2048x14336 .f32) (h : FVec Ideal S2x8x2048x4096 .f32) : FVec Ideal S8x2048x4096 .f32 :=
  mulf (mulf (extractStridedSlice S8x2048x4096 ![0, 0, 6144] x slices_S8x2048x14336_S8x2048x4096_0_0_6144) (mulf (broadcastInDim S8x2048x4096 ![] bcast_S_S8x2048x4096 (constant S_ .f32 0x3F000000#32)) (addf (broadcastInDim S8x2048x4096 ![] bcast_S_S8x2048x4096 (constant S_ .f32 0x3F800000#32)) (Host.tanh (mulf (broadcastInDim S8x2048x4096 ![] bcast_S_S8x2048x4096 (constant S_ .f32 0x3F4C422A#32)) (addf (extractStridedSlice S8x2048x4096 ![0, 0, 6144] x slices_S8x2048x14336_S8x2048x4096_0_0_6144) (mulf (broadcastInDim S8x2048x4096 ![] bcast_S_S8x2048x4096 (constant S_ .f32 0x3D372713#32)) (mulf (mulf (extractStridedSlice S8x2048x4096 ![0, 0, 6144] x slices_S8x2048x14336_S8x2048x4096_0_0_6144) (extractStridedSlice S8x2048x4096 ![0, 0, 6144] x slices_S8x2048x14336_S8x2048x4096_0_0_6144)) (extractStridedSlice S8x2048x4096 ![0, 0, 6144] x slices_S8x2048x14336_S8x2048x4096_0_0_6144)))))))))
    (addf (shapeCast _ (extractStridedSlice S1x8x2048x4096 ![0, 0, 0, 0] h slices_S2x8x2048x4096_S1x8x2048x4096_0_0_0_0) shapeCasts_S1x8x2048x4096_S8x2048x4096) (shapeCast _ (extractStridedSlice S1x8x2048x4096 ![1, 0, 0, 0] h slices_S2x8x2048x4096_S1x8x2048x4096_1_0_0_0) shapeCasts_S1x8x2048x4096_S8x2048x4096))

/-- The second group's gated output. -/
def groupB (x : FVec Ideal S4x4096x14336 .f32) (h : FVec Ideal S2x4x4096x4096 .f32) : FVec Ideal S4x4096x4096 .f32 :=
  mulf (mulf (extractStridedSlice S4x4096x4096 ![0, 0, 6144] x slices_S4x4096x14336_S4x4096x4096_0_0_6144) (mulf (broadcastInDim S4x4096x4096 ![] bcast_S_S4x4096x4096 (constant S_ .f32 0x3F000000#32)) (addf (broadcastInDim S4x4096x4096 ![] bcast_S_S4x4096x4096 (constant S_ .f32 0x3F800000#32)) (Host.tanh (mulf (broadcastInDim S4x4096x4096 ![] bcast_S_S4x4096x4096 (constant S_ .f32 0x3F4C422A#32)) (addf (extractStridedSlice S4x4096x4096 ![0, 0, 6144] x slices_S4x4096x14336_S4x4096x4096_0_0_6144) (mulf (broadcastInDim S4x4096x4096 ![] bcast_S_S4x4096x4096 (constant S_ .f32 0x3D372713#32)) (mulf (mulf (extractStridedSlice S4x4096x4096 ![0, 0, 6144] x slices_S4x4096x14336_S4x4096x4096_0_0_6144) (extractStridedSlice S4x4096x4096 ![0, 0, 6144] x slices_S4x4096x14336_S4x4096x4096_0_0_6144)) (extractStridedSlice S4x4096x4096 ![0, 0, 6144] x slices_S4x4096x14336_S4x4096x4096_0_0_6144)))))))))
    (addf (shapeCast _ (extractStridedSlice S1x4x4096x4096 ![0, 0, 0, 0] h slices_S2x4x4096x4096_S1x4x4096x4096_0_0_0_0) shapeCasts_S1x4x4096x4096_S4x4096x4096) (shapeCast _ (extractStridedSlice S1x4x4096x4096 ![1, 0, 0, 0] h slices_S2x4x4096x4096_S1x4x4096x4096_1_0_0_0) shapeCasts_S1x4x4096x4096_S4x4096x4096))

/-- What the reference returns. -/
def refArray (A : FVec Ideal S8x2048x14336 .f32) (B : FVec Ideal S4x4096x14336 .f32) (H : FVec Ideal S2x8x2048x4096 .f32)
    (G : FVec Ideal S2x4x4096x4096 .f32) : FVec Ideal S32768x4096 .bf16 :=
  truncf .bf16 (concatenate S32768x4096 0 [⟨S16384x4096, shapeCast _ (groupA A H) shapeCasts_S8x2048x4096_S16384x4096⟩,
    ⟨S16384x4096, shapeCast _ (groupB B G) shapeCasts_S4x4096x4096_S16384x4096⟩] concatenates_S16384x4096_S16384x4096_S32768x4096_d0) bitsLt_bf16_f32

theorem cube (x h g : EReal) : x * (Ideal.ofBits .f32 0x3F000000#32 * (Ideal.ofBits .f32 0x3F800000#32 + Ideal.tanh (Ideal.ofBits .f32 0x3F4C422A#32
    * (x + Ideal.ofBits .f32 0x3D372713#32 * (x * x * x))))) * (h + g) = gated x h g := by
  unfold gated
  rw [mul_assoc x x x]

theorem groupA_apply (x : FVec Ideal S8x2048x14336 .f32) (h : FVec Ideal S2x8x2048x4096 .f32) (b : Fin 8) (s : Fin 2048) (k : Fin 4096) :
    groupA x h (ix3 b s k) = gated (x (ix3 b s ⟨6144 + k.val, by omega⟩)) (h (ix4 0 b s k)) (h (ix4 1 b s k)) := by
  rw [← cube]
  unfold groupA
  pointwise

theorem groupB_apply (x : FVec Ideal S4x4096x14336 .f32) (h : FVec Ideal S2x4x4096x4096 .f32) (b : Fin 4) (s : Fin 4096) (k : Fin 4096) :
    groupB x h (ix3 b s k) = gated (x (ix3 b s ⟨6144 + k.val, by omega⟩)) (h (ix4 0 b s k)) (h (ix4 1 b s k)) := by
  rw [← cube]
  unfold groupB
  pointwise

theorem refArray_apply (A : FVec Ideal S8x2048x14336 .f32) (B : FVec Ideal S4x4096x14336 .f32) (H : FVec Ideal S2x8x2048x4096 .f32)
    (G : FVec Ideal S2x4x4096x4096 .f32) (i : S32768x4096.Idx) :
    refArray A B H G i = gatedAt (tok (w := 14336) A B) (tok2 (w := 4096) H G 0) (tok2 (w := 4096) H G 1) (i 0).val (i 1).val := by
  refine rows_of (w := 4096) shapeCasts_S8x2048x4096_S16384x4096 shapeCasts_S4x4096x4096_S16384x4096
    concatenates_S16384x4096_S16384x4096_S32768x4096_d0 _ (fun b s k => (groupA_apply A H b s k).trans ?_) (fun b s k => (groupB_apply B G b s k).trans ?_) i
  · unfold gatedAt
    rw [← tok_first (A := A) (B := B) b s ⟨6144 + k.val, by omega⟩ rfl rfl, tok2, tok2, ← tok_first b s k rfl rfl, ← tok_first b s k rfl rfl]
    rfl
  · unfold gatedAt
    rw [← tok_second (A := A) (B := B) b s ⟨6144 + k.val, by omega⟩ rfl rfl, tok2, tok2, ← tok_second b s k rfl rfl, ← tok_second b s k rfl rfl]
    rfl

end

theorem frame_P : quiescent_Kernel12 (hKernel12 := Cert.Kernel12.Gen.facts) := fun m ρ _ => Cert.Kernel12.Gen.frame m ρ

theorem frame_PI : quiescent_Kernel12Ideal (hKernel12Ideal := Cert.Kernel12Ideal.Gen.facts) := fun m ρ _ => Cert.Kernel12Ideal.Gen.frame m ρ

theorem frame_RI : quiescent_Reference12Ideal (hReference12Ideal := Cert.Reference12Ideal.Gen.facts) := by
  intro m g _
  exact (θ_run _ _ _).mono (fun r h => ⟨fun c => (h c).2, sem_eq_zero_of_no_sems rfl r.2⟩) (Cert.Reference12Ideal.Value.run m g)

theorem algebraic_PI : algebraic_Kernel12Ideal_Reference12Ideal (hKernel12Ideal := Cert.Kernel12Ideal.Gen.facts)
    (hReference12Ideal := Cert.Reference12Ideal.Gen.facts) := by
  intro m g m' g' _ hagree
  refine ⟨fun c => (Cert.Kernel12Ideal.Gen.dats m 0 c).arrAt 2 Cert.Kernel12Ideal.cfg0.N, Cert.Kernel12Ideal.Value.run_blocks m g, ?_⟩
  refine (θ_run _ _ _).mono (fun r h c => ?_) (Cert.Reference12Ideal.Value.run m' g')
  obtain ⟨h0, h1, h2, h3⟩ := hagree c
  refine ⟨(h c).1.trans ?_, (h c).2⟩
  rw [h0, h1, h2, h3]
  exact funext fun i => (refArray_apply _ _ _ _ i).trans (array_apply m c i).symm

end Cert.Proof.GateOut
end
end
-- ==== Proof.GatesMath.lean ====
module
public import Idealize.ShloMosaic.Lib.Pointwise
@[expose] public section
noncomputable section
namespace Cert.Proof.Gates
open Idealize.ShloMosaic

/-! The gates' formulas over the extended reals: the half-argument tangent against the logistic function. -/

/-- The rate of the decay at an entry of `lru_lambda`: the softplus of its opposite, spelt without overflow. -/
def soft (l : EReal) : EReal := max (-l) 0 + Ideal.log1p (Ideal.exp (-(max (-l) (-(-l)))))

theorem soft_real {l : EReal} (h : ⊥ < l) : ∃ s : ℝ, soft l = s := by
  induction l with
  | bot => exact absurd h (lt_irrefl _)
  | top =>
    refine ⟨0, ?_⟩
    unfold soft
    have e : Ideal.log 1 = 0 := by
      rw [← EReal.coe_one, Ideal.log_coe]; simp
    simp [Ideal.log1p, e]
  | coe r =>
    refine ⟨max (-r) 0 + Real.log (1 + Real.exp (-(max (-r) (- -r)))), ?_⟩
    unfold soft Ideal.log1p
    have e : (max (-(r : EReal)) (-(-(r : EReal)))) = ((max (-r) (- -r) : ℝ) : EReal) := by
      rw [EReal.coe_strictMono.monotone.map_max]; norm_cast
    have e' : (max (-(r : EReal)) 0) = ((max (-r) 0 : ℝ) : EReal) := by
      rw [EReal.coe_strictMono.monotone.map_max]; norm_cast
    have p : 0 < 1 + Real.exp (-(max (-r) (- -r))) := by positivity
    rw [e, e', ← EReal.coe_neg, Ideal.exp_coe, ← EReal.coe_one, EReal.coe_add]
    congr 1
    rw [← EReal.coe_add, Ideal.log_coe, if_neg (not_le.mpr p)]

theorem tanh_form {a b : ℝ} (p : 0 < a) (q : 0 < b) (e : a * b = 1) : (a - b) / (a + b) = 2 * (1 / (1 + b * b)) - 1 := by
  have h : a + b ≠ 0 := (add_pos p q).ne'
  have h' : 1 + b * b ≠ 0 := (by positivity : 0 < 1 + b * b).ne'
  field_simp
  linear_combination 2 * b * e

/-- A logistic value, and the hyperbolic tangent of half its argument. -/
theorem half_tanh (z : EReal) : ∃ g : ℝ, Ideal.logistic z = g ∧ Ideal.tanh (((1 / 2 : ℝ) : EReal) * z) = ((2 * g - 1 : ℝ) : EReal) := by
  induction z with
  | bot =>
    refine ⟨0, by simp, ?_⟩
    rw [EReal.coe_mul_bot_of_pos (by norm_num)]
    simp
  | top =>
    refine ⟨1, by simp, ?_⟩
    rw [EReal.coe_mul_top_of_pos (by norm_num)]
    rw [Ideal.tanh_top]; norm_num
  | coe r =>
    refine ⟨1 / (1 + Real.exp (-r)), ?_, ?_⟩
    · simp
    · rw [← EReal.coe_mul, Ideal.tanh_coe, Real.tanh_eq]
      congr 1
      have e : Real.exp (-r) = Real.exp (-(1 / 2 * r)) * Real.exp (-(1 / 2 * r)) := by rw [← Real.exp_add]; congr 1; ring
      rw [e]
      exact tanh_form (Real.exp_pos _) (Real.exp_pos _) (by rw [← Real.exp_add]; simp)

/-- The decay's exponent: the reference's, negated. -/
def rateK (t s : EReal) : EReal := ((4 : ℝ) : EReal) * s * t + ((4 : ℝ) : EReal) * s

/-- The logarithm of the decay. -/
def logA (z s : EReal) : EReal := ((-8 : ℝ) : EReal) * Ideal.logistic z * s

theorem rateK_eq (z : EReal) (s : ℝ) : ∃ n : ℝ, rateK (Ideal.tanh (((1 / 2 : ℝ) : EReal) * z)) s = n ∧ logA z s = ((-n : ℝ) : EReal) := by
  obtain ⟨g, h, h'⟩ := half_tanh z
  refine ⟨4 * s * (2 * g - 1) + 4 * s, ?_, ?_⟩
  · rw [rateK, h']; norm_cast
  · rw [logA, h]
    rw [← EReal.coe_mul, ← EReal.coe_mul]
    congr 1; ring

theorem decay_eq (z : EReal) (s : ℝ) :
    Ideal.exp (0 - rateK (Ideal.tanh (((1 / 2 : ℝ) : EReal) * z)) s) = Ideal.exp (logA z s) := by
  obtain ⟨n, h, h'⟩ := rateK_eq z s
  rw [h, h', zero_sub, ← EReal.coe_neg]

theorem root_eq (z : EReal) (s : ℝ) :
    Ideal.tanh (rateK (Ideal.tanh (((1 / 2 : ℝ) : EReal) * z)) s) * (1 + Ideal.exp (logA z s) * Ideal.exp (logA z s))
      = -(Ideal.exp (((2 : ℝ) : EReal) * logA z s) - 1) := by
  obtain ⟨n, h, h'⟩ := rateK_eq z s
  rw [h, h', ← EReal.coe_mul, Ideal.exp_coe, Ideal.exp_coe, Ideal.tanh_coe, Real.tanh_eq]
  norm_cast
  have e : Real.exp (2 * -n) = Real.exp (-n) * Real.exp (-n) := by rw [← Real.exp_add]; congr 1; ring
  have e' : Real.exp n * Real.exp (-n) = 1 := by rw [← Real.exp_add]; simp
  have p := Real.exp_pos n
  have q := Real.exp_pos (-n)
  rw [e, tanh_form p q e']
  have h : 1 + Real.exp (-n) * Real.exp (-n) ≠ 0 := (by positivity : 0 < 1 + Real.exp (-n) * Real.exp (-n)).ne'
  generalize Real.exp (-n) = b at h
  field_simp
  ring

theorem input_eq (z x : EReal) :
    (Ideal.tanh (((1 / 2 : ℝ) : EReal) * z) + 1) * (((1 / 2 : ℝ) : EReal) * x) = Ideal.logistic z * x := by
  obtain ⟨g, h, h'⟩ := half_tanh z
  rw [h, h', ← mul_assoc]
  congr 1
  rw [← EReal.coe_one, ← EReal.coe_add, ← EReal.coe_mul]
  congr 1; ring

/-- A product of halved weights and half a bias make half the gate's argument. -/
theorem half_arg {n : Nat} (x w : Fin n → EReal) (b : EReal) :
    (∑ d, x d * (w d * ((1 / 2 : ℝ) : EReal))) + ((1 / 2 : ℝ) : EReal) * b = ((1 / 2 : ℝ) : EReal) * ((∑ d, x d * w d) + b) := by
  have hd (a b : EReal) : ((1 / 2 : ℝ) : EReal) * (a + b) = ((1 / 2 : ℝ) : EReal) * a + ((1 / 2 : ℝ) : EReal) * b :=
    EReal.left_distrib_of_nonneg_of_ne_top (by norm_cast; norm_num) (EReal.coe_ne_top _) _ _
  rw [hd]
  congr 1
  have key (S : Finset (Fin n)) : (∑ d ∈ S, x d * (w d * ((1 / 2 : ℝ) : EReal))) = ((1 / 2 : ℝ) : EReal) * ∑ d ∈ S, x d * w d := by
    induction S using Finset.cons_induction with
    | empty => simp
    | cons a S ha ih =>
      rw [Finset.sum_cons, Finset.sum_cons, ih, hd]
      congr 1
      rw [mul_comm (w a), ← mul_assoc, mul_comm (x a), mul_assoc]
  exact key _

/-- The argument of a gate in direction `d` at entry `k` of token `n`: one of 16 heads' 256 by 256 weights, and a bias. -/
def argAt (X : Nat → Nat → EReal) (W : (⟨4, ![2, 16, 256, 256]⟩ : Shape).Idx → EReal) (b : (⟨2, ![2, 4096]⟩ : Shape).Idx → EReal)
    (d : Fin 2) (n : Nat) (k : Fin 4096) : EReal :=
  (∑ j : Fin 256, X n (k.val / 256 * 256 + j.val) * W (ix4 d ⟨k.val / 256, by omega⟩ j ⟨k.val % 256, by omega⟩)) + b (ix2 d k)

/-- The recurrence's decay at a gate's argument `z` and a rate `s`. -/
def decay (z s : EReal) : EReal := Ideal.exp (logA z s)

/-- The recurrence's input at the gates' arguments `z` and `y`, a rate `s` and a token's entry `x`. -/
def inputs (z y s x : EReal) : EReal :=
  Ideal.sqrt (-(Ideal.exp (((2 : ℝ) : EReal) * logA z s) - 1)) * (Ideal.logistic y * x)

/-- The decay as the kernel writes it, from the tangent of half the gate's argument. -/
def decayK (t s : EReal) : EReal := Ideal.exp (0 - rateK t s)

/-- The input as the kernel writes it, from the tangents of half the gates' arguments. -/
def inputK (t t' s x : EReal) : EReal :=
  Ideal.sqrt (Ideal.tanh (rateK t s) * (1 + decayK t s * decayK t s)) * ((t' + 1) * (((1 / 2 : ℝ) : EReal) * x))

theorem decayK_eq (z : EReal) {l : EReal} (h : ⊥ < l) : decayK (Ideal.tanh (((1 / 2 : ℝ) : EReal) * z)) (soft l) = decay z (soft l) := by
  obtain ⟨s, hs⟩ := soft_real h
  rw [hs]
  exact decay_eq z s

theorem inputK_eq (z y x : EReal) {l : EReal} (h : ⊥ < l) :
    inputK (Ideal.tanh (((1 / 2 : ℝ) : EReal) * z)) (Ideal.tanh (((1 / 2 : ℝ) : EReal) * y)) (soft l) x = inputs z y (soft l) x := by
  rw [inputK, decayK_eq z h, input_eq, inputs]
  obtain ⟨s, hs⟩ := soft_real h
  rw [hs, decay, root_eq]

/-- The decay in direction `d` at entry `k` of token `n`. -/
def decayAt (X : Nat → Nat → EReal) (W : (⟨4, ![2, 16, 256, 256]⟩ : Shape).Idx → EReal) (b L : (⟨2, ![2, 4096]⟩ : Shape).Idx → EReal)
    (d : Fin 2) (n : Nat) (k : Fin 4096) : EReal :=
  decay (argAt X W b d n k) (soft (L (ix2 d k)))

/-- The input in direction `d` at entry `k` of token `n`. -/
def inputAt (X : Nat → Nat → EReal) (W : (⟨4, ![2, 16, 256, 256]⟩ : Shape).Idx → EReal) (b : (⟨2, ![2, 4096]⟩ : Shape).Idx → EReal)
    (W' : (⟨4, ![2, 16, 256, 256]⟩ : Shape).Idx → EReal) (b' L : (⟨2, ![2, 4096]⟩ : Shape).Idx → EReal) (d : Fin 2) (n : Nat) (k : Fin 4096) : EReal :=
  inputs (argAt X W b d n k) (argAt X W' b' d n k) (soft (L (ix2 d k))) (X n k.val)

theorem bits_neg_eight : Ideal.ofBits .f32 0xC1000000#32 = ((-8 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_four : Ideal.ofBits .f32 0x40800000#32 = ((4 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_half_narrow : Ideal.ofBits .bf16 0x3F00#16 = ((1 / 2 : ℝ) : EReal) := by
  simp [Ideal.ofBits, Ideal.ieee, -EReal.coe_mul]; norm_num

theorem abs_eq (x : EReal) : FloatOps.absf (F := Ideal) (φ := .f32) x = max x (-x) := rfl

end Cert.Proof.Gates
end
end
-- ==== Proof.GatesPay.lean ====
module
public import proofs.«01_k».proof.Proof.Gen.Kernel13Ideal.Value
public import proofs.«01_k».proof.Proof.GatesMath
public import Idealize.ShloMosaic.Lib.Pipeline.ValueKit
public import Idealize.ShloMosaic.Lib.Pointwise
@[expose] public section
set_option maxRecDepth 16384
noncomputable section
namespace Cert.Proof.Gates
open Idealize.ShloMosaic Idealize.ShloMosaic.TcCoe
open Cert.Kernel13Ideal Cert.Kernel13Ideal.Gen

/-! What one step of the gates' kernel writes, entry by entry. -/

/-- A gate's argument from a block of tokens, column `e` of the weights and a bias. -/
def blockArg (x : Vec Ideal S1024x256 .f32) (w : Vec Ideal S1x256x1024 .bf16) (b : Vec Ideal S1x256 .f32) (r : Fin 1024) (e : Fin 1024) (o : Fin 256) : EReal :=
  (∑ j : Fin 256, x (ix2 r j) * w (ix3 0 j e)) + b (ix2 0 o)

/-- The tangent of half a gate's argument, as the kernel writes it. -/
def halfArg (x : Vec Ideal S1024x256 .f32) (w : Vec Ideal S1x256x1024 .bf16) (b : Vec Ideal S1x256 .f32) (r : Fin 1024) (e : Fin 1024) (o : Fin 256) : EReal :=
  Ideal.tanh ((∑ j : Fin 256, x (ix2 r j) * (w (ix3 0 j e) * Ideal.ofBits .bf16 0x3F00#16)) + Ideal.ofBits .f32 0x3F000000#32 * b (ix2 0 o))

theorem halfArg_eq (x : Vec Ideal S1024x256 .f32) (w : Vec Ideal S1x256x1024 .bf16) (b : Vec Ideal S1x256 .f32) (r : Fin 1024) (e : Fin 1024) (o : Fin 256) :
    halfArg x w b r e o = Ideal.tanh (((1 / 2 : ℝ) : EReal) * blockArg x w b r e o) := by
  rw [halfArg, bits_half, bits_half_narrow, half_arg]
  rfl

theorem prod_apply (x : Vec Ideal S1024x256 .f32) (w : Vec Ideal S1x256x1024 .bf16) (r : Fin 1024) (e : Fin 1024) :
    k0_pay3 x w (ix2 r e) = ∑ j : Fin 256, x (ix2 r j) * (w (ix3 0 j e) * Ideal.ofBits .bf16 0x3F00#16) := by
  unfold k0_pay3 k0_pay1
  pointwise

theorem pay4_apply (x : Vec Ideal S1024x256 .f32) (w : Vec Ideal S1x256x1024 .bf16) (b : Vec Ideal S1x256 .f32) (r : Fin 1024) (o : Fin 256) :
    k0_pay4 x w b (ix2 r o) = Ideal.tanh (((1 / 2 : ℝ) : EReal) * blockArg x w b r ⟨o.val, by omega⟩ o) := by
  rw [← halfArg_eq, halfArg, ← prod_apply]
  unfold k0_pay4
  pointwise

theorem pay5_apply (x : Vec Ideal S1024x256 .f32) (w : Vec Ideal S1x256x1024 .bf16) (b : Vec Ideal S1x256 .f32) (r : Fin 1024) (o : Fin 256) :
    k0_pay5 x w b (ix2 r o) = Ideal.tanh (((1 / 2 : ℝ) : EReal) * blockArg x w b r ⟨256 + o.val, by omega⟩ o) := by
  rw [← halfArg_eq, halfArg, ← prod_apply]
  unfold k0_pay5
  pointwise

theorem pay16_apply (x : Vec Ideal S1024x256 .f32) (w : Vec Ideal S1x256x1024 .bf16) (b : Vec Ideal S1x256 .f32) (r : Fin 1024) (o : Fin 256) :
    k0_pay16 (k0_pay3 x w) b (ix2 r o) = Ideal.tanh (((1 / 2 : ℝ) : EReal) * blockArg x w b r ⟨512 + o.val, by omega⟩ o) := by
  rw [← halfArg_eq, halfArg, ← prod_apply]
  unfold k0_pay16
  pointwise

theorem pay17_apply (x : Vec Ideal S1024x256 .f32) (w : Vec Ideal S1x256x1024 .bf16) (b : Vec Ideal S1x256 .f32) (r : Fin 1024) (o : Fin 256) :
    k0_pay17 (k0_pay3 x w) b (ix2 r o) = Ideal.tanh (((1 / 2 : ℝ) : EReal) * blockArg x w b r ⟨768 + o.val, by omega⟩ o) := by
  rw [← halfArg_eq, halfArg, ← prod_apply]
  unfold k0_pay17
  pointwise

/-- The exponent of the decay in the second direction. -/
theorem rate_apply (t : FVec Ideal S1024x256 .f32) (l : Vec Ideal S1x256 .f32) (r : Fin 1024) (o : Fin 256) :
    k0_pay18 t l (ix2 r o) = rateK (t (ix2 r o)) (soft (l (ix2 0 o))) := by
  rw [rateK, soft, ← bits_four]
  unfold k0_pay18
  pointwise
  simp only [ne_eq, not_true_eq_false, if_false, abs_eq, zero_sub]

/-- The two directions' exponents are written alike. -/
theorem rate_first (t : FVec Ideal S1024x256 .f32) (l : Vec Ideal S1x256 .f32) :
    k0_pay12 t (k0_pay7 l) (k0_pay9 l) (k0_pay10 l) (k0_pay11 l) = k0_pay18 t l := rfl

theorem decay_apply (t : FVec Ideal S1024x256 .f32) (l : Vec Ideal S1x256 .f32) (r : Fin 1024) (o : Fin 256) :
    k0_pay20 t l (ix3 0 r o) = decayK (t (ix2 r o)) (soft (l (ix2 0 o))) := by
  rw [decayK, ← rate_apply]
  unfold k0_pay20 k0_pay19
  pointwise

theorem decay_first (t : FVec Ideal S1024x256 .f32) (l : Vec Ideal S1x256 .f32) :
    k0_pay14 t (k0_pay7 l) (k0_pay9 l) (k0_pay10 l) (k0_pay11 l) = k0_pay20 t l := rfl

theorem input_apply (x : Vec Ideal S1024x256 .f32) (t t' : FVec Ideal S1024x256 .f32) (l : Vec Ideal S1x256 .f32) (r : Fin 1024) (o : Fin 256) :
    k0_pay21 (k0_pay2 x) t t' l (ix3 0 r o) = inputK (t (ix2 r o)) (t' (ix2 r o)) (soft (l (ix2 0 o))) (x (ix2 r o)) := by
  rw [inputK, decayK, ← rate_apply, ← bits_half]
  unfold k0_pay21 k0_pay19 k0_pay2 k0_pay1
  pointwise

theorem input_first (x : Vec Ideal S1024x256 .f32) (t t' : FVec Ideal S1024x256 .f32) (l : Vec Ideal S1x256 .f32) :
    k0_pay15 (k0_pay2 x) t t' (k0_pay7 l) (k0_pay9 l) (k0_pay10 l) (k0_pay11 l) = k0_pay21 (k0_pay2 x) t t' l := rfl

/-- Two planes stored one after the other make the block. -/
theorem planes_apply (p q : Vec Ideal S1x1024x256 .f32) (d : Fin 2) (r : Fin 1024) (o : Fin 256) :
    (View.canon [⟨r0_5, q⟩, ⟨r0_3, p⟩] : Vec Ideal S2x1024x256 .f32) (ix3 d r o) = if d.val = 0 then p (ix3 0 r o) else q (ix3 0 r o) := by
  refine View.canon_apply_of_pieces (fun y : S2x1024x256.Idx => if (y 0).val = 0 then p (ix3 0 (y 1) (y 2)) else q (ix3 0 (y 1) (y 2))) _ ?_ (ix3 d r o)
    (cover0_5 q p _)
  intro pc hpc x
  have hx : (x 0).val < 1 := by
    rcases List.mem_cons.mp hpc with rfl | hpc
    · exact (x 0).isLt
    rcases List.mem_cons.mp hpc with rfl | hpc
    · exact (x 0).isLt
    exact absurd hpc List.not_mem_nil
  rcases List.mem_cons.mp hpc with rfl | hpc
  · refine Eq.trans ?_ (if_neg (show ¬ (1 + 1 * (x 0).val) = 0 by omega)).symm
    refine congrArg q (funext fun a => Fin.ext ?_)
    match a with
    | 0 => show (x 0).val = 0; omega
    | 1 => show (x 1).val = 0 + 1 * (x 1).val; omega
    | 2 => show (x 2).val = 0 + 1 * (x 2).val; omega
  rcases List.mem_cons.mp hpc with rfl | hpc
  · refine Eq.trans ?_ (if_pos (show (0 + 1 * (x 0).val) = 0 by omega)).symm
    refine congrArg p (funext fun a => Fin.ext ?_)
    match a with
    | 0 => show (x 0).val = 0; omega
    | 1 => show (x 1).val = 0 + 1 * (x 1).val; omega
    | 2 => show (x 2).val = 0 + 1 * (x 2).val; omega
  exact absurd hpc List.not_mem_nil

end Cert.Proof.Gates
end
end
-- ==== Proof.Gates.lean ====
module
public import proofs.«01_k».proof.Proof.GatesPay
public import proofs.«01_k».proof.Proof.Rows
@[expose] public section
set_option maxRecDepth 16384
noncomputable section
namespace Cert.Proof.Gates
open Idealize.ShloMosaic Idealize.ShloMosaic.TcCoe Idealize.SL.Sem
open Cert.Kernel13Ideal Cert.Kernel13Ideal.Gen

/-! The gates' kernel: both arrays entry by entry. -/

/-- The two gates' weights in both directions, side by side. -/
def stacked (A X : FVec Ideal S2x16x256x256 .f32) : FVec Ideal S16x256x1024 .bf16 :=
  truncf .bf16 (concatenate S16x256x1024 2 [
    ⟨S16x256x256, shapeCast _ (extractStridedSlice S1x16x256x256 ![0, 0, 0, 0] A slices_S2x16x256x256_S1x16x256x256_0_0_0_0) shapeCasts_S1x16x256x256_S16x256x256⟩,
    ⟨S16x256x256, shapeCast _ (extractStridedSlice S1x16x256x256 ![0, 0, 0, 0] X slices_S2x16x256x256_S1x16x256x256_0_0_0_0) shapeCasts_S1x16x256x256_S16x256x256⟩,
    ⟨S16x256x256, shapeCast _ (extractStridedSlice S1x16x256x256 ![1, 0, 0, 0] A slices_S2x16x256x256_S1x16x256x256_1_0_0_0) shapeCasts_S1x16x256x256_S16x256x256⟩,
    ⟨S16x256x256, shapeCast _ (extractStridedSlice S1x16x256x256 ![1, 0, 0, 0] X slices_S2x16x256x256_S1x16x256x256_1_0_0_0) shapeCasts_S1x16x256x256_S16x256x256⟩]
    concatenates_S16x256x256_S16x256x256_S16x256x256_S16x256x256_S16x256x1024_d2) bitsLt_bf16_f32

theorem stacked_first (A X : FVec Ideal S2x16x256x256 .f32) (d : Fin 2) (h : Fin 16) (j o : Fin 256) :
    stacked A X (ix3 h j ⟨512 * d.val + o.val, by omega⟩) = A (ix4 d h j o) := by
  have ho := o.isLt
  unfold stacked
  fin_cases d
  · pointwise
  · pointwise
    rw [dif_neg (by omega), dif_neg (by omega), dif_pos (by omega)]
    exact congrArg (fun o => A (ix4 1 h j o)) (Fin.ext (show 512 + o.val - 256 - 256 = o.val by omega))

theorem stacked_second (A X : FVec Ideal S2x16x256x256 .f32) (d : Fin 2) (h : Fin 16) (j o : Fin 256) :
    stacked A X (ix3 h j ⟨512 * d.val + 256 + o.val, by omega⟩) = X (ix4 d h j o) := by
  have ho := o.isLt
  unfold stacked
  fin_cases d
  · pointwise
  · pointwise
    rw [dif_neg (by omega), dif_neg (by omega), dif_neg (by omega)]
    exact congrArg (fun o => X (ix4 1 h j o)) (Fin.ext (show 768 + o.val - 256 - 256 - 256 = o.val by omega))

variable (m : (ℓ : Loc nD τ sig) → Buf (Elt Ideal) ℓ)

/-- The tokens the program is launched with. -/
abbrev launched (c : Dev nD) : Nat → Nat → EReal :=
  tok (w := 4096) (m ((c : Thread nD τ).loc main_arg0)) (m ((c : Thread nD τ).loc main_arg1))

theorem weights (c : Dev nD) : V m c main_v9 = stacked (m ((c : Thread nD τ).loc main_arg2)) (m ((c : Thread nD τ).loc main_arg4)) := by
  show StableHlo.after hostOps0 (fun b => m (c, b)) (Proc.devRef .tc main_v9) = _
  after_results
  rfl

theorem tokens_at (c : Dev nD) (i : S32768x4096.Idx) {a b : Nat} (h0 : (i 0).val = a) (h1 : (i 1).val = b) :
    V m c main_v12 i = launched m c a b := by
  entry_read
  exact rows_at (w := 4096) (m ((c : Thread nD τ).loc main_arg0)) (m ((c : Thread nD τ).loc main_arg1)) shapeCasts_S8x2048x4096_S16384x4096
    shapeCasts_S4x4096x4096_S16384x4096 concatenates_S16384x4096_S16384x4096_S32768x4096_d0 i h0 h1

theorem idx0 : ∀ t : Fin grid0.N, win0_0.index t = ![t.val / 16, t.val % 16] := by decide +kernel
theorem idx1 : ∀ t : Fin grid0.N, win0_1.index t = ![t.val % 16, 0, 0] := by decide +kernel
theorem idx2 : ∀ t : Fin grid0.N, win0_2.index t = ![0, t.val % 16] := by decide +kernel
theorem idx3 : ∀ t : Fin grid0.N, win0_3.index t = ![0, t.val % 16] := by decide +kernel
theorem idx4 : ∀ t : Fin grid0.N, win0_4.index t = ![0, t.val % 16] := by decide +kernel
theorem idx5 : ∀ t : Fin grid0.N, win0_5.index t = ![0, t.val / 16, t.val % 16] := by decide +kernel
theorem idx6 : ∀ t : Fin grid0.N, win0_6.index t = ![0, t.val / 16, t.val % 16] := by decide +kernel

theorem block0 (c : Dev nD) (t : Fin cfg0.N) (r : Fin 1024) (j : Fin 256) :
    iblk m c 0 t (ix2 r j) = launched m c (t.val / 16 * 1024 + r.val) (t.val % 16 * 256 + j.val) := by
  blk_simp [iblk, idx0]
  refine tokens_at m c _ ?_ ?_ <;> blk_simp [idx0]

/-- The head of a step of the grid. -/
abbrev head (t : Fin cfg0.N) : Fin 16 := ⟨t.val % 16, Nat.mod_lt _ (by decide)⟩

/-- A column of a step's head, among all columns. -/
abbrev column (t : Fin cfg0.N) (o : Fin 256) : Fin 4096 := ⟨t.val % 16 * 256 + o.val, by omega⟩

theorem block1 (c : Dev nD) (t : Fin cfg0.N) (j : Fin 256) (e : Fin 1024) :
    iblk m c 1 t (ix3 0 j e) = stacked (m ((c : Thread nD τ).loc main_arg2)) (m ((c : Thread nD τ).loc main_arg4)) (ix3 (head t) j e) := by
  rw [← weights]
  blk_ext [iblk, idx1]

theorem block2 (c : Dev nD) (t : Fin cfg0.N) (d : Fin 2) (o : Fin 256) :
    iblk m c 2 t (ix2 d o) = m ((c : Thread nD τ).loc main_arg3) (ix2 d (column t o)) := by
  blk_ext [iblk, V_main_arg3, idx2]

theorem block3 (c : Dev nD) (t : Fin cfg0.N) (d : Fin 2) (o : Fin 256) :
    iblk m c 3 t (ix2 d o) = m ((c : Thread nD τ).loc main_arg5) (ix2 d (column t o)) := by
  blk_ext [iblk, V_main_arg5, idx3]

theorem block4 (c : Dev nD) (t : Fin cfg0.N) (d : Fin 2) (o : Fin 256) :
    iblk m c 4 t (ix2 d o) = m ((c : Thread nD τ).loc main_arg6) (ix2 d (column t o)) := by
  blk_ext [iblk, V_main_arg6, idx4]

/-- A direction's row of a block of two. -/
abbrev row (x : Vec Ideal S2x256 .f32) (d : Fin 2) : Vec Ideal S1x256 .f32 := fun i => x (ix2 d (i 1))

theorem row_zero (x : Vec Ideal S2x256 .f32) : View.ld x r0_2 = row x 0 :=
  funext fun i => congrArg x (funext fun a => Fin.ext (match a with
    | 0 => by have h : (i 0).val < 1 := (i 0).isLt; show 0 + 1 * (i 0).val = 0; omega
    | 1 => show 0 + 1 * (i 1).val = (i 1).val by omega))

theorem row_one (x : Vec Ideal S2x256 .f32) : View.ld x r0_4 = row x 1 :=
  funext fun i => congrArg x (funext fun a => Fin.ext (match a with
    | 0 => by have h : (i 0).val < 1 := (i 0).isLt; show 1 + 1 * (i 0).val = 1; omega
    | 1 => show 0 + 1 * (i 1).val = (i 1).val by omega))

/-- One step's decays. -/
theorem decays_apply (x0 : Vec Ideal S1024x256 .f32) (x1 : Vec Ideal S1x256x1024 .bf16) (x2 x3 x4 : Vec Ideal S2x256 .f32) (d : Fin 2)
    (r : Fin 1024) (o : Fin 256) (h : ⊥ < x4 (ix2 d o)) :
    out0_5 x0 x1 x2 x3 x4 (ix3 d r o) = decay (blockArg x0 x1 (row x2 d) r ⟨512 * d.val + o.val, by omega⟩ o) (soft (x4 (ix2 d o))) := by
  unfold_out out0_5
  rw [planes_apply, View.ld_unit_lit (S := S1024x256) inb_S1024x256_S1024x256_0_0 x0 (by decide),
    View.ld_unit_lit (S := S1x256x1024) inb_S1x256x1024_S1x256x1024_0_0_0 x1 (by decide), row_zero, row_zero, row_one, row_one, decay_first, decay_apply, decay_apply]
  fin_cases d
  · refine (if_pos rfl).trans ?_
    rw [pay4_apply]
    refine (decayK_eq _ h).trans ?_
    exact congrArg (fun e => decay (blockArg x0 x1 (row x2 0) r e o) (soft (x4 (ix2 0 o)))) (Fin.ext (show o.val = 512 * 0 + o.val by omega))
  · refine (if_neg (by decide)).trans ?_
    rw [pay16_apply]
    exact decayK_eq _ h

/-- One step's inputs. -/
theorem inputs_apply (x0 : Vec Ideal S1024x256 .f32) (x1 : Vec Ideal S1x256x1024 .bf16) (x2 x3 x4 : Vec Ideal S2x256 .f32) (d : Fin 2)
    (r : Fin 1024) (o : Fin 256) (h : ⊥ < x4 (ix2 d o)) :
    out0_6 x0 x1 x2 x3 x4 (ix3 d r o) = inputs (blockArg x0 x1 (row x2 d) r ⟨512 * d.val + o.val, by omega⟩ o)
      (blockArg x0 x1 (row x3 d) r ⟨512 * d.val + 256 + o.val, by omega⟩ o) (soft (x4 (ix2 d o))) (x0 (ix2 r o)) := by
  unfold_out out0_6
  rw [planes_apply, View.ld_unit_lit (S := S1024x256) inb_S1024x256_S1024x256_0_0 x0 (by decide),
    View.ld_unit_lit (S := S1x256x1024) inb_S1x256x1024_S1x256x1024_0_0_0 x1 (by decide), row_zero, row_zero, row_zero, row_one, row_one, row_one,
    input_first, input_apply, input_apply]
  fin_cases d
  · refine (if_pos rfl).trans ?_
    rw [pay4_apply, pay5_apply]
    refine (inputK_eq _ _ _ h).trans ?_
    exact congrArg₂ (fun e e' => inputs (blockArg x0 x1 (row x2 0) r e o) (blockArg x0 x1 (row x3 0) r e' o) (soft (x4 (ix2 0 o))) (x0 (ix2 r o)))
      (Fin.ext (show o.val = 512 * 0 + o.val by omega)) (Fin.ext (show 256 + o.val = 512 * 0 + 256 + o.val by omega))
  · refine (if_neg (by decide)).trans ?_
    rw [pay16_apply, pay17_apply]
    exact inputK_eq _ _ _ h

/-- The first gate's argument at a step is the argument at its tokens and columns. -/
theorem block_first (c : Dev nD) (t : Fin cfg0.N) (d : Fin 2) (r : Fin 1024) (o : Fin 256) :
    blockArg (iblk m c 0 t) (iblk m c 1 t) (row (iblk m c 2 t) d) r ⟨512 * d.val + o.val, by omega⟩ o
      = argAt (launched m c) (m ((c : Thread nD τ).loc main_arg2)) (m ((c : Thread nD τ).loc main_arg3)) d (t.val / 16 * 1024 + r.val) (column t o) := by
  refine congrArg₂ (· + ·) (Finset.sum_congr rfl fun j _ => ?_) (block2 m c t d o)
  rw [block0, block1, stacked_first]
  have ho := o.isLt
  refine congrArg₂ (· * ·) (congrArg (launched m c _) (show _ = (t.val % 16 * 256 + o.val) / 256 * 256 + j.val by omega)) ?_
  exact congrArg₂ (fun h o => m ((c : Thread nD τ).loc main_arg2) (ix4 d h j o))
    (Fin.ext (show t.val % 16 = (t.val % 16 * 256 + o.val) / 256 by omega)) (Fin.ext (show o.val = (t.val % 16 * 256 + o.val) % 256 by omega))

/-- The same for the second gate. -/
theorem block_second (c : Dev nD) (t : Fin cfg0.N) (d : Fin 2) (r : Fin 1024) (o : Fin 256) :
    blockArg (iblk m c 0 t) (iblk m c 1 t) (row (iblk m c 3 t) d) r ⟨512 * d.val + 256 + o.val, by omega⟩ o
      = argAt (launched m c) (m ((c : Thread nD τ).loc main_arg4)) (m ((c : Thread nD τ).loc main_arg5)) d (t.val / 16 * 1024 + r.val) (column t o) := by
  refine congrArg₂ (· + ·) (Finset.sum_congr rfl fun j _ => ?_) (block3 m c t d o)
  rw [block0, block1, stacked_second]
  have ho := o.isLt
  refine congrArg₂ (· * ·) (congrArg (launched m c _) (show _ = (t.val % 16 * 256 + o.val) / 256 * 256 + j.val by omega)) ?_
  exact congrArg₂ (fun h o => m ((c : Thread nD τ).loc main_arg4) (ix4 d h j o))
    (Fin.ext (show t.val % 16 = (t.val % 16 * 256 + o.val) / 256 by omega)) (Fin.ext (show o.val = (t.val % 16 * 256 + o.val) % 256 by omega))

variable (c : Dev nD) (hl : ∀ (d : Fin 2) (k : Fin 4096), (⊥ : EReal) < m ((c : Thread nD τ).loc main_arg6) (ix2 d k))

include hl in
theorem step_decays (t : Fin cfg0.N) (d : Fin 2) (r : Fin 1024) (o : Fin 256) :
    out0_5 (iblk m c 0 t) (iblk m c 1 t) (iblk m c 2 t) (iblk m c 3 t) (iblk m c 4 t) (ix3 d r o)
      = decayAt (launched m c) (m ((c : Thread nD τ).loc main_arg2)) (m ((c : Thread nD τ).loc main_arg3)) (m ((c : Thread nD τ).loc main_arg6))
        d (t.val / 16 * 1024 + r.val) (column t o) := by
  rw [decays_apply _ _ _ _ _ d r o (by rw [block4]; exact hl _ _), block_first, block4]
  rfl

include hl in
theorem step_inputs (t : Fin cfg0.N) (d : Fin 2) (r : Fin 1024) (o : Fin 256) :
    out0_6 (iblk m c 0 t) (iblk m c 1 t) (iblk m c 2 t) (iblk m c 3 t) (iblk m c 4 t) (ix3 d r o)
      = inputAt (launched m c) (m ((c : Thread nD τ).loc main_arg2)) (m ((c : Thread nD τ).loc main_arg3)) (m ((c : Thread nD τ).loc main_arg4))
        (m ((c : Thread nD τ).loc main_arg5)) (m ((c : Thread nD τ).loc main_arg6)) d (t.val / 16 * 1024 + r.val) (column t o) := by
  rw [inputs_apply _ _ _ _ _ d r o (by rw [block4]; exact hl _ _), block_first, block_second, block4, block0]
  rfl

include hl in
theorem decays_array (i : S2x32768x4096.Idx) :
    (dats m 0 c).arrAt 5 cfg0.N i = decayAt (launched m c) (m ((c : Thread nD τ).loc main_arg2)) (m ((c : Thread nD τ).loc main_arg3))
      (m ((c : Thread nD τ).loc main_arg6)) (i 0) (i 1).val (i 2) := by
  refine congrFun ((dats m 0 c).arrAt_eq_of_covers 5 (fun i : S2x32768x4096.Idx => decayAt (launched m c) (m ((c : Thread nD τ).loc main_arg2))
    (m ((c : Thread nD τ).loc main_arg3)) (m ((c : Thread nD τ).loc main_arg6)) (i 0) (i 1).val (i 2)) (by decide +kernel) fun t hf y => ?_) i
  blk_simp [idx5]
  rw [after0_5]
  refine (congrArg (out0_5 (iblk m c 0 t) (iblk m c 1 t) (iblk m c 2 t) (iblk m c 3 t) (iblk m c 4 t)) (eq_ix3 y)).trans
    ((step_decays m c hl t (y 0) (y 1) (y 2)).trans ?_)
  refine congrArg₂ (fun d k => decayAt (launched m c) (m ((c : Thread nD τ).loc main_arg2)) (m ((c : Thread nD τ).loc main_arg3))
    (m ((c : Thread nD τ).loc main_arg6)) d (t.val / 16 * 1024 + (y 1).val) k) (Fin.ext ?_) (Fin.ext ?_) <;> blk_simp [idx5]

include hl in
theorem inputs_array (i : S2x32768x4096.Idx) :
    (dats m 0 c).arrAt 6 cfg0.N i = inputAt (launched m c) (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1).val (i 2) := by
  refine congrFun ((dats m 0 c).arrAt_eq_of_covers 6 (fun i : S2x32768x4096.Idx => inputAt (launched m c) (m ((c : Thread nD τ).loc main_arg2)) (m ((c : Thread nD τ).loc main_arg3)) (m ((c : Thread nD τ).loc main_arg4))
    (m ((c : Thread nD τ).loc main_arg5)) (m ((c : Thread nD τ).loc main_arg6))
    (i 0) (i 1).val (i 2)) (by decide +kernel) fun t hf y => ?_) i
  blk_simp [idx6]
  rw [after0_6]
  refine (congrArg (out0_6 (iblk m c 0 t) (iblk m c 1 t) (iblk m c 2 t) (iblk m c 3 t) (iblk m c 4 t)) (eq_ix3 y)).trans
    ((step_inputs m c hl t (y 0) (y 1) (y 2)).trans ?_)
  refine congrArg₂ (fun d k => inputAt (launched m c) (m ((c : Thread nD τ).loc main_arg2)) (m ((c : Thread nD τ).loc main_arg3)) (m ((c : Thread nD τ).loc main_arg4))
    (m ((c : Thread nD τ).loc main_arg5)) (m ((c : Thread nD τ).loc main_arg6)) d (t.val / 16 * 1024 + (y 1).val) k) (Fin.ext ?_) (Fin.ext ?_) <;> blk_simp [idx6]

end Cert.Proof.Gates
end
end
-- ==== Proof.GatesRef.lean ====
module
public import proofs.«01_k».proof.Proof.Gen.Reference13Ideal.Run
public import proofs.«01_k».proof.Proof.GatesMath
public import proofs.«01_k».proof.Proof.Both
public import Idealize.ShloMosaic.Lib.Pipeline.ValueKit
@[expose] public section
set_option maxRecDepth 16384
noncomputable section
namespace Cert.Proof.Gates
open Idealize.ShloMosaic Idealize.ShloMosaic.TcCoe
open Cert.Reference13Ideal Cert.Reference13Ideal.Gen

/-! The reference's decays and inputs of the recurrence, entry by entry. -/

/-- The rates of the decay. -/
def rates (L : FVec Ideal S2x4096 .f32) : FVec Ideal S2x4096 .f32 :=
  select (cmpf .une (subf (Host.negf L) (broadcastInDim S2x4096 ![] bcast_S_S2x4096 (constant S_ .f32 0x00000000#32))) (subf (Host.negf L) (broadcastInDim S2x4096 ![] bcast_S_S2x4096 (constant S_ .f32 0x00000000#32)))) (addf (Host.negf L) (broadcastInDim S2x4096 ![] bcast_S_S2x4096 (constant S_ .f32 0x00000000#32))) (addf (maximumf (Host.negf L) (broadcastInDim S2x4096 ![] bcast_S_S2x4096 (constant S_ .f32 0x00000000#32))) (Host.log1p (Host.exp (Host.negf (Host.absf (subf (Host.negf L) (broadcastInDim S2x4096 ![] bcast_S_S2x4096 (constant S_ .f32 0x00000000#32))))))))

theorem rates_apply (L : FVec Ideal S2x4096 .f32) (d : Fin 2) (k : Fin 4096) : rates L (ix2 d k) = soft (L (ix2 d k)) := by
  unfold rates soft
  pointwise
  simp only [ne_eq, not_true_eq_false, if_false, abs_eq]

/-- A gate's arguments, for the first group. -/
def argA (x : FVec Ideal S8x2048x4096 .f32) (W : FVec Ideal S2x16x256x256 .f32) (b : FVec Ideal S2x4096 .f32) : FVec Ideal S2x8x2048x4096 .f32 :=
  addf (shapeCast _ (transpose S2x8x2048x16x256 [1, 3, 4, 0, 2] (Host.dotGeneral dot_S2x16x256x256_S8x2048x16x256_S16x2x256x8x2048_2_3_03_01_1_2 none W (shapeCast _ x shapeCasts_S8x2048x4096_S8x2048x16x256)) transposes_S16x2x256x8x2048_S2x8x2048x16x256_1_3_4_0_2) shapeCasts_S2x8x2048x16x256_S2x8x2048x4096) (broadcastInDim S2x8x2048x4096 ![0, 1, 2, 3] bcast_S2x1x1x4096_S2x8x2048x4096_0_1_2_3 (broadcastInDim S2x1x1x4096 ![0, 3] bcast_S2x4096_S2x1x1x4096_0_3 b))

theorem argA_apply (x : FVec Ideal S8x2048x4096 .f32) (W : FVec Ideal S2x16x256x256 .f32) (b : FVec Ideal S2x4096 .f32) (d : Fin 2)
    (g : Fin 8) (s : Fin 2048) (k : Fin 4096) : argA x W b (ix4 d g s k)
      = (∑ j : Fin 256, W (ix4 d ⟨k.val / 256, by omega⟩ j ⟨k.val % 256, by omega⟩) * x (ix3 g s ⟨k.val / 256 * 256 + j.val, by omega⟩)) + b (ix2 d k) := by
  unfold argA
  pointwise

/-- The decay's logarithms, for the first group. -/
def logsA (z : FVec Ideal S2x8x2048x4096 .f32) (L : FVec Ideal S2x4096 .f32) : FVec Ideal S2x8x2048x4096 .f32 :=
  mulf (mulf (broadcastInDim S2x8x2048x4096 ![] bcast_S_S2x8x2048x4096 (constant S_ .f32 0xC1000000#32)) (Host.divf (broadcastInDim S2x8x2048x4096 ![] bcast_S_S2x8x2048x4096 (constant S_ .f32 0x3F800000#32)) (addf (broadcastInDim S2x8x2048x4096 ![] bcast_S_S2x8x2048x4096 (constant S_ .f32 0x3F800000#32)) (Host.exp (Host.negf z))))) (broadcastInDim S2x8x2048x4096 ![0, 1, 2, 3] bcast_S2x1x1x4096_S2x8x2048x4096_0_1_2_3 (broadcastInDim S2x1x1x4096 ![0, 3] bcast_S2x4096_S2x1x1x4096_0_3 (rates L)))

theorem logsA_apply (z : FVec Ideal S2x8x2048x4096 .f32) (L : FVec Ideal S2x4096 .f32) (d : Fin 2) (g : Fin 8) (s : Fin 2048) (k : Fin 4096) :
    logsA z L (ix4 d g s k) = logA (z (ix4 d g s k)) (soft (L (ix2 d k))) := by
  rw [← rates_apply, logA, ← bits_neg_eight]
  unfold logsA Ideal.logistic
  pointwise

/-- The decays, for the first group. -/
def decaysA (x : FVec Ideal S8x2048x4096 .f32) (W : FVec Ideal S2x16x256x256 .f32) (b L : FVec Ideal S2x4096 .f32) : FVec Ideal S2x8x2048x4096 .f32 :=
  Host.exp (logsA (argA x W b) L)

theorem decaysA_apply (x : FVec Ideal S8x2048x4096 .f32) (W : FVec Ideal S2x16x256x256 .f32) (b L : FVec Ideal S2x4096 .f32) (d : Fin 2)
    (g : Fin 8) (s : Fin 2048) (k : Fin 4096) : decaysA x W b L (ix4 d g s k) = decay (argA x W b (ix4 d g s k)) (soft (L (ix2 d k))) :=
  congrArg Ideal.exp (logsA_apply _ L d g s k)

/-- The recurrence's inputs, for the first group. -/
def inputsA (x : FVec Ideal S8x2048x4096 .f32) (W : FVec Ideal S2x16x256x256 .f32) (b : FVec Ideal S2x4096 .f32)
    (W' : FVec Ideal S2x16x256x256 .f32) (b' L : FVec Ideal S2x4096 .f32) : FVec Ideal S2x8x2048x4096 .f32 :=
  mulf (Host.sqrt (Host.negf (Host.expm1 (mulf (broadcastInDim S2x8x2048x4096 ![] bcast_S_S2x8x2048x4096 (constant S_ .f32 0x40000000#32)) (logsA (argA x W b) L)))))
    (mulf (Host.divf (broadcastInDim S2x8x2048x4096 ![] bcast_S_S2x8x2048x4096 (constant S_ .f32 0x3F800000#32)) (addf (broadcastInDim S2x8x2048x4096 ![] bcast_S_S2x8x2048x4096 (constant S_ .f32 0x3F800000#32)) (Host.exp (Host.negf (argA x W' b')))))
      (broadcastInDim S2x8x2048x4096 ![0, 1, 2, 3] bcast_S1x8x2048x4096_S2x8x2048x4096_0_1_2_3 (broadcastInDim S1x8x2048x4096 ![1, 2, 3] bcast_S8x2048x4096_S1x8x2048x4096_1_2_3 x)))

theorem inputsA_apply (x : FVec Ideal S8x2048x4096 .f32) (W : FVec Ideal S2x16x256x256 .f32) (b : FVec Ideal S2x4096 .f32)
    (W' : FVec Ideal S2x16x256x256 .f32) (b' L : FVec Ideal S2x4096 .f32) (d : Fin 2) (g : Fin 8) (s : Fin 2048) (k : Fin 4096) :
    inputsA x W b W' b' L (ix4 d g s k)
      = inputs (argA x W b (ix4 d g s k)) (argA x W' b' (ix4 d g s k)) (soft (L (ix2 d k))) (x (ix3 g s k)) := by
  rw [inputs, ← logsA_apply, ← bits_two]
  unfold inputsA Ideal.logistic
  pointwise

/-- A gate's arguments, for the second group. -/
def argB (x : FVec Ideal S4x4096x4096 .f32) (W : FVec Ideal S2x16x256x256 .f32) (b : FVec Ideal S2x4096 .f32) : FVec Ideal S2x4x4096x4096 .f32 :=
  addf (shapeCast _ (transpose S2x4x4096x16x256 [1, 3, 4, 0, 2] (Host.dotGeneral dot_S2x16x256x256_S4x4096x16x256_S16x2x256x4x4096_2_3_03_01_1_2 none W (shapeCast _ x shapeCasts_S4x4096x4096_S4x4096x16x256)) transposes_S16x2x256x4x4096_S2x4x4096x16x256_1_3_4_0_2) shapeCasts_S2x4x4096x16x256_S2x4x4096x4096) (broadcastInDim S2x4x4096x4096 ![0, 1, 2, 3] bcast_S2x1x1x4096_S2x4x4096x4096_0_1_2_3 (broadcastInDim S2x1x1x4096 ![0, 3] bcast_S2x4096_S2x1x1x4096_0_3 b))

theorem argB_apply (x : FVec Ideal S4x4096x4096 .f32) (W : FVec Ideal S2x16x256x256 .f32) (b : FVec Ideal S2x4096 .f32) (d : Fin 2)
    (g : Fin 4) (s : Fin 4096) (k : Fin 4096) : argB x W b (ix4 d g s k)
      = (∑ j : Fin 256, W (ix4 d ⟨k.val / 256, by omega⟩ j ⟨k.val % 256, by omega⟩) * x (ix3 g s ⟨k.val / 256 * 256 + j.val, by omega⟩)) + b (ix2 d k) := by
  unfold argB
  pointwise

/-- The decay's logarithms, for the second group. -/
def logsB (z : FVec Ideal S2x4x4096x4096 .f32) (L : FVec Ideal S2x4096 .f32) : FVec Ideal S2x4x4096x4096 .f32 :=
  mulf (mulf (broadcastInDim S2x4x4096x4096 ![] bcast_S_S2x4x4096x4096 (constant S_ .f32 0xC1000000#32)) (Host.divf (broadcastInDim S2x4x4096x4096 ![] bcast_S_S2x4x4096x4096 (constant S_ .f32 0x3F800000#32)) (addf (broadcastInDim S2x4x4096x4096 ![] bcast_S_S2x4x4096x4096 (constant S_ .f32 0x3F800000#32)) (Host.exp (Host.negf z))))) (broadcastInDim S2x4x4096x4096 ![0, 1, 2, 3] bcast_S2x1x1x4096_S2x4x4096x4096_0_1_2_3 (broadcastInDim S2x1x1x4096 ![0, 3] bcast_S2x4096_S2x1x1x4096_0_3 (rates L)))

theorem logsB_apply (z : FVec Ideal S2x4x4096x4096 .f32) (L : FVec Ideal S2x4096 .f32) (d : Fin 2) (g : Fin 4) (s : Fin 4096) (k : Fin 4096) :
    logsB z L (ix4 d g s k) = logA (z (ix4 d g s k)) (soft (L (ix2 d k))) := by
  rw [← rates_apply, logA, ← bits_neg_eight]
  unfold logsB Ideal.logistic
  pointwise

/-- The decays, for the second group. -/
def decaysB (x : FVec Ideal S4x4096x4096 .f32) (W : FVec Ideal S2x16x256x256 .f32) (b L : FVec Ideal S2x4096 .f32) : FVec Ideal S2x4x4096x4096 .f32 :=
  Host.exp (logsB (argB x W b) L)

theorem decaysB_apply (x : FVec Ideal S4x4096x4096 .f32) (W : FVec Ideal S2x16x256x256 .f32) (b L : FVec Ideal S2x4096 .f32) (d : Fin 2)
    (g : Fin 4) (s : Fin 4096) (k : Fin 4096) : decaysB x W b L (ix4 d g s k) = decay (argB x W b (ix4 d g s k)) (soft (L (ix2 d k))) :=
  congrArg Ideal.exp (logsB_apply _ L d g s k)

/-- The recurrence's inputs, for the second group. -/
def inputsB (x : FVec Ideal S4x4096x4096 .f32) (W : FVec Ideal S2x16x256x256 .f32) (b : FVec Ideal S2x4096 .f32)
    (W' : FVec Ideal S2x16x256x256 .f32) (b' L : FVec Ideal S2x4096 .f32) : FVec Ideal S2x4x4096x4096 .f32 :=
  mulf (Host.sqrt (Host.negf (Host.expm1 (mulf (broadcastInDim S2x4x4096x4096 ![] bcast_S_S2x4x4096x4096 (constant S_ .f32 0x40000000#32)) (logsB (argB x W b) L)))))
    (mulf (Host.divf (broadcastInDim S2x4x4096x4096 ![] bcast_S_S2x4x4096x4096 (constant S_ .f32 0x3F800000#32)) (addf (broadcastInDim S2x4x4096x4096 ![] bcast_S_S2x4x4096x4096 (constant S_ .f32 0x3F800000#32)) (Host.exp (Host.negf (argB x W' b')))))
      (broadcastInDim S2x4x4096x4096 ![0, 1, 2, 3] bcast_S1x4x4096x4096_S2x4x4096x4096_0_1_2_3 (broadcastInDim S1x4x4096x4096 ![1, 2, 3] bcast_S4x4096x4096_S1x4x4096x4096_1_2_3 x)))

theorem inputsB_apply (x : FVec Ideal S4x4096x4096 .f32) (W : FVec Ideal S2x16x256x256 .f32) (b : FVec Ideal S2x4096 .f32)
    (W' : FVec Ideal S2x16x256x256 .f32) (b' L : FVec Ideal S2x4096 .f32) (d : Fin 2) (g : Fin 4) (s : Fin 4096) (k : Fin 4096) :
    inputsB x W b W' b' L (ix4 d g s k)
      = inputs (argB x W b (ix4 d g s k)) (argB x W' b' (ix4 d g s k)) (soft (L (ix2 d k))) (x (ix3 g s k)) := by
  rw [inputs, ← logsB_apply, ← bits_two]
  unfold inputsB Ideal.logistic
  pointwise

theorem arg_first (A : FVec Ideal S8x2048x4096 .f32) (B : FVec Ideal S4x4096x4096 .f32) (W : FVec Ideal S2x16x256x256 .f32) (b : FVec Ideal S2x4096 .f32)
    (d : Fin 2) (g : Fin 8) (s : Fin 2048) (k : Fin 4096) :
    argA A W b (ix4 d g s k) = argAt (tok (w := 4096) A B) W b d (2048 * g.val + s.val) k :=
  (argA_apply A W b d g s k).trans (congrArg (· + b (ix2 d k)) (Finset.sum_congr rfl fun j _ =>
    (mul_comm _ _).trans (congrArg (· * _) (tok_first g s ⟨k.val / 256 * 256 + j.val, by omega⟩ rfl rfl))))

theorem arg_second (A : FVec Ideal S8x2048x4096 .f32) (B : FVec Ideal S4x4096x4096 .f32) (W : FVec Ideal S2x16x256x256 .f32) (b : FVec Ideal S2x4096 .f32)
    (d : Fin 2) (g : Fin 4) (s : Fin 4096) (k : Fin 4096) :
    argB B W b (ix4 d g s k) = argAt (tok (w := 4096) A B) W b d (16384 + 4096 * g.val + s.val) k :=
  (argB_apply B W b d g s k).trans (congrArg (· + b (ix2 d k)) (Finset.sum_congr rfl fun j _ =>
    (mul_comm _ _).trans (congrArg (· * _) (tok_second g s ⟨k.val / 256 * 256 + j.val, by omega⟩ rfl rfl))))

/-- The reference's decays. -/
def refDecays (A : FVec Ideal S8x2048x4096 .f32) (B : FVec Ideal S4x4096x4096 .f32) (W : FVec Ideal S2x16x256x256 .f32) (b L : FVec Ideal S2x4096 .f32) :
    FVec Ideal S2x32768x4096 .f32 :=
  concatenate S2x32768x4096 1 [⟨S2x16384x4096, shapeCast _ (decaysA A W b L) shapeCasts_S2x8x2048x4096_S2x16384x4096⟩,
    ⟨S2x16384x4096, shapeCast _ (decaysB B W b L) shapeCasts_S2x4x4096x4096_S2x16384x4096⟩] concatenates_S2x16384x4096_S2x16384x4096_S2x32768x4096_d1

/-- The reference's inputs. -/
def refInputs (A : FVec Ideal S8x2048x4096 .f32) (B : FVec Ideal S4x4096x4096 .f32) (W : FVec Ideal S2x16x256x256 .f32) (b : FVec Ideal S2x4096 .f32)
    (W' : FVec Ideal S2x16x256x256 .f32) (b' L : FVec Ideal S2x4096 .f32) : FVec Ideal S2x32768x4096 .f32 :=
  concatenate S2x32768x4096 1 [⟨S2x16384x4096, shapeCast _ (inputsA A W b W' b' L) shapeCasts_S2x8x2048x4096_S2x16384x4096⟩,
    ⟨S2x16384x4096, shapeCast _ (inputsB B W b W' b' L) shapeCasts_S2x4x4096x4096_S2x16384x4096⟩] concatenates_S2x16384x4096_S2x16384x4096_S2x32768x4096_d1

theorem refDecays_apply (A : FVec Ideal S8x2048x4096 .f32) (B : FVec Ideal S4x4096x4096 .f32) (W : FVec Ideal S2x16x256x256 .f32)
    (b L : FVec Ideal S2x4096 .f32) (i : S2x32768x4096.Idx) :
    refDecays A B W b L i = decayAt (tok (w := 4096) A B) W b L (i 0) (i 1).val (i 2) :=
  both_of (w := 4096) (f := decayAt (tok (w := 4096) A B) W b L)
    (fun d g s k => (decaysA_apply A W b L d g s k).trans (congrArg (decay · _) (arg_first A B W b d g s k)))
    (fun d g s k => (decaysB_apply B W b L d g s k).trans (congrArg (decay · _) (arg_second A B W b d g s k))) _ _ _ i

theorem refInputs_apply (A : FVec Ideal S8x2048x4096 .f32) (B : FVec Ideal S4x4096x4096 .f32) (W : FVec Ideal S2x16x256x256 .f32)
    (b : FVec Ideal S2x4096 .f32) (W' : FVec Ideal S2x16x256x256 .f32) (b' L : FVec Ideal S2x4096 .f32) (i : S2x32768x4096.Idx) :
    refInputs A B W b W' b' L i = inputAt (tok (w := 4096) A B) W b W' b' L (i 0) (i 1).val (i 2) := by
  refine both_of (w := 4096) (f := inputAt (tok (w := 4096) A B) W b W' b' L)
    (fun d g s k => (inputsA_apply A W b W' b' L d g s k).trans ?_) (fun d g s k => (inputsB_apply B W b W' b' L d g s k).trans ?_) _ _ _ i
  · rw [arg_first A B, arg_first A B, inputAt, tok_first (A := A) (B := B) g s k rfl rfl]
  · rw [arg_second A B, arg_second A B, inputAt, tok_second (A := A) (B := B) g s k rfl rfl]

end Cert.Proof.Gates
end
end
-- ==== Proof.GatesClaims.lean ====
module
public import proofs.«01_k».proof.Proof.Gates
public import proofs.«01_k».proof.Proof.GatesRef
public import proofs.«01_k».proof.Proof.Head
public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Pre_decay_above
public import Idealize.ShloMosaic.Adequacy
public import Idealize.ShloMosaic.Init
@[expose] public section
set_option maxRecDepth 16384
noncomputable section
namespace Cert.Proof.Gates
open Idealize.ShloMosaic Idealize.ShloMosaic.TcCoe Idealize.SL.Sem

/-! The claims of the gates' call: both arrays are the reference's, of arguments whose `lru_lambda` is nowhere -∞. -/

theorem frame_P : quiescent_Kernel13 (hKernel13 := Cert.Kernel13.Gen.facts) := fun m ρ _ => Cert.Kernel13.Gen.frame m ρ

theorem frame_PI : quiescent_Kernel13Ideal (hKernel13Ideal := Cert.Kernel13Ideal.Gen.facts) := fun m ρ _ => Cert.Kernel13Ideal.Gen.frame m ρ

theorem frame_PI_pre : quiescent_Kernel13Ideal_pre_decay_above (hKernel13Ideal := Cert.Kernel13Ideal.Gen.facts)
    (hPre_decay_above := Cert.Pre_decay_above.Gen.facts) := fun m ρ _ => Cert.Kernel13Ideal.Gen.frame m ρ

theorem frame_RI : quiescent_Reference13Ideal (hReference13Ideal := Cert.Reference13Ideal.Gen.facts) := by
  intro m g _
  exact (θ_run _ _ _).mono (fun r h => ⟨fun c => (h c).2.2, sem_eq_zero_of_no_sems rfl r.2⟩) (Cert.Reference13Ideal.Value.run m g)

theorem frame_RI_pre : quiescent_Reference13Ideal_pre_decay_above (hReference13Ideal := Cert.Reference13Ideal.Gen.facts)
    (hPre_decay_above := Cert.Pre_decay_above.Gen.facts) := fun m g _ => frame_RI m g trivial

/-- What the precondition says of an entry of `lru_lambda`. -/
theorem above (m : (ℓ : Loc Cert.Kernel13Ideal.nD Cert.Kernel13Ideal.τ Cert.Kernel13Ideal.sig) → Buf (Elt Ideal) ℓ)
    (h : Pre_Kernel13Ideal_decay_above (hPre_decay_above := Cert.Pre_decay_above.Gen.facts) m) (c : Dev Cert.Kernel13Ideal.nD)
    (d : Fin 2) (k : Fin 4096) :
    (⊥ : EReal) < m ((c : Thread Cert.Kernel13Ideal.nD Cert.Kernel13Ideal.τ).loc Cert.Kernel13Ideal.main_arg6) (ix2 d k) := by
  have e : BitVec.ofBool (decide (Ideal.ofBits .f32 0xFF800000#32 <
      m ((c : Thread Cert.Kernel13Ideal.nD Cert.Kernel13Ideal.τ).loc Cert.Kernel13Ideal.main_arg6) (ix2 d k))) = 1#1 :=
    congrFun (h c) (ix2 d k)
  rw [neg_inf_word] at e
  by_contra hn
  rw [decide_eq_false hn] at e
  exact absurd e (by decide)

theorem algebraic_PI : algebraic_Kernel13Ideal_Reference13Ideal_pre_decay_above (hKernel13Ideal := Cert.Kernel13Ideal.Gen.facts)
    (hReference13Ideal := Cert.Reference13Ideal.Gen.facts) (hPre_decay_above := Cert.Pre_decay_above.Gen.facts) := by
  intro m g m' g' hpre hagree
  refine ⟨fun c => (Cert.Kernel13Ideal.Gen.dats m 0 c).arrAt 5 Cert.Kernel13Ideal.cfg0.N,
    fun c => (Cert.Kernel13Ideal.Gen.dats m 0 c).arrAt 6 Cert.Kernel13Ideal.cfg0.N, Cert.Kernel13Ideal.Value.run_blocks m g, ?_⟩
  refine (θ_run _ _ _).mono (fun r h c => ?_) (Cert.Reference13Ideal.Value.run m' g')
  obtain ⟨h0, h1, h2, h3, h4, h5, h6⟩ := hagree c
  refine ⟨(h c).1.trans ?_, (h c).2.1.trans ?_, (h c).2.2⟩
  · rw [h0, h1, h2, h3, h6]
    exact funext fun i => (refDecays_apply _ _ _ _ _ i).trans (decays_array m c (above m hpre c) i).symm
  · unfold Cert.Reference13Ideal.Value.res_main_v89
    rw [h0, h1, h2, h3, h4, h5, h6]
    exact funext fun i => (refInputs_apply _ _ _ _ _ _ _ i).trans (inputs_array m c (above m hpre c) i).symm

end Cert.Proof.Gates
end
end
-- ==== Proof.Router.lean ====
module
public import proofs.«01_k».proof.Proof.Gen.Kernel14Ideal.Value
public import proofs.«01_k».proof.Proof.Norm
public import proofs.«01_k».proof.Proof.Words
public import Idealize.ShloMosaic.Lib.Pipeline.ValueKit
public import Idealize.ShloMosaic.Lib.Pointwise
@[expose] public section
set_option maxRecDepth 16384
noncomputable section
namespace Cert.Proof.Router
open Idealize.ShloMosaic Idealize.ShloMosaic.TcCoe Idealize.SL.Sem Cert.Proof.Norm
open Cert.Kernel14Ideal Cert.Kernel14Ideal.Gen

/-! The router's affinities, entry by entry. -/

/-- Entry `e` of the softmax of sixteen numbers. -/
def softAt (l : Fin 16 → EReal) (e : Fin 16) : EReal :=
  Ideal.div (Ideal.exp (l e - Finset.univ.fold max ⊥ l)) (∑ f : Fin 16, Ideal.exp (l f - Finset.univ.fold max ⊥ l))

/-- The affinity of token `n` to expert `e`. -/
def affAt (X : Nat → Nat → EReal) (g : Nat → EReal) (W : Nat → Nat → EReal) (e : Fin 16) (n : Nat) : EReal :=
  softAt (fun f => prodAt 4096 (normAt X g) W n f.val) e

/-- The softmax of every column. -/
def soft (l : FVec Ideal S16x512 .f32) : FVec Ideal S16x512 .f32 :=
  let p := exp (subf l (broadcastTo S16x512 (shapeCast S1x512 (multiReduction .maximumf [0] S512 l 0xFF800000#32 reduces_S16x512_S512 (.inl rfl) rfl)
    shapeCasts_S512_S1x512) broadcasts_S1x512_S16x512))
  divf p (broadcastTo S16x512 (shapeCast S1x512 (multiReduction .add [0] S512 p 0x00000000#32 reduces_S16x512_S512 (.inl rfl) rfl)
    shapeCasts_S512_S1x512) broadcasts_S1x512_S16x512)

theorem neg_inf : Ideal.ofBits .f32 0xFF800000#32 = ⊥ := by
  simp [Ideal.ofBits, Ideal.ieee]

theorem soft_apply (l : FVec Ideal S16x512 .f32) (e : Fin 16) (r : Fin 512) : soft l (ix2 e r) = softAt (fun f => l (ix2 f r)) e := by
  pointwise [soft, softAt]
  rw [neg_inf]

theorem norm_apply (x : Vec Ideal S512x4096 .f32) (g : Vec Ideal S1x4096 .f32) (r : Fin 512) (k : Fin 4096) :
    k0_pay1 x g (ix2 r k) = x (ix2 r k) * Ideal.rsqrt (Ideal.div (∑ d : Fin 4096, x (ix2 r d) * x (ix2 r d))
      (Ideal.ofBits .f32 0x45800000#32) + Ideal.ofBits .f32 0x358637BD#32) * g (ix2 0 k) := by
  unfold k0_pay1
  pointwise

/-- The scores of the experts. -/
def scores (h : FVec Ideal S512x4096 .bf16) (w : Vec Ideal S16x4096 .bf16) : FVec Ideal S16x512 .f32 :=
  matmul dot_S16x4096_S512x4096_S16x512_1_1_0_0_n_n none (shapeCast S16x4096 w shapeCasts_S16x4096_S16x4096 : FVec Ideal S16x4096 .bf16) h
    (constant S16x512 .f32 0x00000000#32)

theorem scores_apply (h : FVec Ideal S512x4096 .bf16) (w : Vec Ideal S16x4096 .bf16) (e : Fin 16) (r : Fin 512) :
    scores h w (ix2 e r) = ∑ d : Fin 4096, h (ix2 r d) * w (ix2 e d) := by
  pointwise [scores]
  exact Finset.sum_congr rfl fun d _ => mul_comm _ _

theorem pay_apply (x : Vec Ideal S512x4096 .f32) (g : Vec Ideal S1x4096 .f32) (w : Vec Ideal S16x4096 .bf16) (e : Fin 16) (r : Fin 512) :
    k0_pay3 x g w (ix2 e r) = softAt (fun f => ∑ d : Fin 4096, k0_pay1 x g (ix2 r d) * w (ix2 f d)) e :=
  (show k0_pay3 x g w (ix2 e r) = soft (scores (k0_pay1 x g) w) (ix2 e r) from rfl).trans
    ((soft_apply _ e r).trans (congrArg (fun l => softAt l e) (funext fun f => scores_apply _ w f r)))

variable (m : (ℓ : Loc nD τ sig) → Buf (Elt Ideal) ℓ)

/-- The tokens the program is launched with. -/
abbrev launched (c : Dev nD) : Nat → Nat → EReal :=
  tok (w := 4096) (m ((c : Thread nD τ).loc main_arg0)) (m ((c : Thread nD τ).loc main_arg1))

/-- The scale the program is launched with. -/
abbrev scale (c : Dev nD) : Nat → EReal := rd1 (a := 4096) (m ((c : Thread nD τ).loc main_arg2))

/-- The router's weights the program is launched with. -/
abbrev weights (c : Dev nD) : Nat → Nat → EReal := rd (a := 4096) (b := 16) (m ((c : Thread nD τ).loc main_arg3))

theorem tokens_at (c : Dev nD) (i : S32768x4096.Idx) {a b : Nat} (h0 : (i 0).val = a) (h1 : (i 1).val = b) :
    V m c main_v2 i = launched m c a b := by
  entry_read
  exact rows_at (w := 4096) (m ((c : Thread nD τ).loc main_arg0)) (m ((c : Thread nD τ).loc main_arg1)) shapeCasts_S8x2048x4096_S16384x4096
    shapeCasts_S4x4096x4096_S16384x4096 concatenates_S16384x4096_S16384x4096_S32768x4096_d0 i h0 h1

theorem scale_at (c : Dev nD) (i : S1x4096.Idx) {k : Nat} (h1 : (i 1).val = k) : V m c main_v5 i = scale m c k := by
  entry_read
  exact row_at (m ((c : Thread nD τ).loc main_arg2)) shapeCasts_S4096_S1x4096 i h1

theorem turned_apply (w : FVec Ideal S4096x16 .f32) (e : Fin 16) (d : Fin 4096) :
    (truncf .bf16 (transpose S16x4096 [1, 0] w transposes_S4096x16_S16x4096_1_0) bitsLt_bf16_f32 : FVec Ideal S16x4096 .bf16) (ix2 e d) = w (ix2 d e) := by
  pointwise

theorem weights_at (c : Dev nD) (i : S16x4096.Idx) {e d : Nat} (h0 : (i 0).val = e) (h1 : (i 1).val = d) :
    V m c main_v4 i = weights m c d e := by
  entry_read
  subst h0 h1
  exact (congrArg _ (eq_ix2 i)).trans ((turned_apply (m ((c : Thread nD τ).loc main_arg3)) (i 0) (i 1)).trans (rd_eq _ (i 1) (i 0)).symm)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx4 : ∀ t : Fin grid0.N, win0_4.index t = ![0, t.val] := by decide +kernel

theorem block0 (c : Dev nD) (t : Fin cfg0.N) (r : Fin 512) (k : Fin 4096) :
    iblk m c 0 t (ix2 r k) = launched m c (t.val * 512 + r.val) k.val := by
  blk_simp [iblk, idx0]
  refine tokens_at m c _ ?_ ?_ <;> blk_simp [idx0]

theorem block1 (c : Dev nD) (t : Fin cfg0.N) (k : Fin 4096) : iblk m c 1 t (ix2 0 k) = scale m c k.val := by
  blk_simp [iblk, idx1]
  refine scale_at m c _ ?_
  blk_simp [idx1]

theorem block2 (c : Dev nD) (t : Fin cfg0.N) (e : Fin 16) (d : Fin 4096) : iblk m c 2 t (ix2 e d) = weights m c d.val e.val := by
  blk_simp [iblk, idx2]
  refine weights_at m c _ ?_ ?_ <;> blk_simp [idx2]

theorem aff_of (c : Dev nD) (t : Fin cfg0.N) (e : Fin 16) (r : Fin 512) :
    k0_pay3 (iblk m c 0 t) (iblk m c 1 t) (iblk m c 2 t) (ix2 e r)
      = affAt (launched m c) (scale m c) (weights m c) e (t.val * 512 + r.val) := by
  refine (pay_apply _ _ _ e r).trans (congrArg (fun l => softAt l e) (funext fun f => Finset.sum_congr rfl fun d _ => ?_))
  exact congrArg₂ (· * ·) ((norm_apply _ _ r d).trans
    (normAt_of (fun k => iblk m c 0 t (ix2 r k)) _ d (fun k => block0 m c t r k) (block1 m c t d))) (block2 m c t f d)

theorem array_apply (c : Dev nD) (i : S16x32768.Idx) :
    (dats m 0 c).arrAt 4 cfg0.N i = affAt (launched m c) (scale m c) (weights m c) (i 0) (i 1).val := by
  refine congrFun ((dats m 0 c).arrAt_eq_of_covers 4
    (fun i : S16x32768.Idx => affAt (launched m c) (scale m c) (weights m c) (i 0) (i 1).val) (by decide +kernel) fun t hf y => ?_) i
  blk_simp [idx4]
  rw [after0_4]
  frame_out
  refine (congrArg (k0_pay3 (iblk m c 0 t) (iblk m c 1 t) (iblk m c 2 t)) (eq_ix2 y)).trans ((aff_of m c t _ _).trans ?_)
  refine congrArg₂ (affAt (launched m c) (scale m c) (weights m c)) (Fin.ext ?_) rfl
  blk_simp [idx4]

end Cert.Proof.Router
end
end
-- ==== Proof.RouterRef.lean ====
module
public import proofs.«01_k».proof.Proof.Gen.Reference14Ideal.Run
public import proofs.«01_k».proof.Proof.Gen.Kernel14.Frame
public import proofs.«01_k».proof.Proof.Router
public import proofs.«01_k».proof.Defs
public import Idealize.ShloMosaic.Lib.Bf16Pair
public import Idealize.ShloMosaic.Lib.Bf16PairInverse
@[expose] public section
set_option maxRecDepth 16384
noncomputable section
namespace Cert.Proof.Router
open Idealize.ShloMosaic Idealize.ShloMosaic.TcCoe Idealize.SL.Sem Cert.Proof.Norm

/-! The affinities the reference returns, entry by entry, and the claims of this call. -/

section
open Cert.Reference14Ideal Cert.Reference14Ideal.Gen

/-- The softmax of every row, turned. -/
def softRows (l : FVec Ideal S16384x16 .f32) : FVec Ideal S16x16384 .f32 :=
  transpose S16x16384 [1, 0] (Host.divf
    (Host.exp (subf l (broadcastInDim S16384x16 ![0, 1] bcast_S16384x1_S16384x16_0_1 (broadcastInDim S16384x1 ![0] bcast_S16384_S16384x1_0
      (maximumf (broadcastInDim S16384 ![] bcast_S_S16384 (constant S_ .f32 0xFF800000#32))
        (Host.reduce FloatOps.maximumf l (constant S_ .f32 0xFF800000#32) reducesTo_S16384x16_S16384_d1 h_S_))))))
    (broadcastInDim S16384x16 ![0, 1] bcast_S16384x1_S16384x16_0_1 (broadcastInDim S16384x1 ![0] bcast_S16384_S16384x1_0
      (Host.reduceAdd (Host.exp (subf l (broadcastInDim S16384x16 ![0, 1] bcast_S16384x1_S16384x16_0_1 (broadcastInDim S16384x1 ![0] bcast_S16384_S16384x1_0
        (maximumf (broadcastInDim S16384 ![] bcast_S_S16384 (constant S_ .f32 0xFF800000#32))
          (Host.reduce FloatOps.maximumf l (constant S_ .f32 0xFF800000#32) reducesTo_S16384x16_S16384_d1 h_S_))))))
        (constant S_ .f32 0x00000000#32) reducesTo_S16384x16_S16384_d1 h_S_)))) transposes_S16384x16_S16x16384_1_0

theorem softRows_apply (l : FVec Ideal S16384x16 .f32) (e : Fin 16) (n : Fin 16384) :
    softRows l (ix2 e n) = softAt (fun f => l (ix2 n f)) e := by
  pointwise [softRows, softAt]
  rw [neg_inf]
  simp only [bot_le, max_eq_right]

/-- The norm of every token of the first group. -/
def normedA (x : FVec Ideal S8x2048x4096 .f32) (g : FVec Ideal S4096 .f32) : FVec Ideal S8x2048x4096 .f32 :=
  mulf (mulf x (broadcastInDim S8x2048x4096 ![0, 1, 2] bcast_S8x2048x1_S8x2048x4096_0_1_2 (Host.rsqrt (addf (Host.divf
    (broadcastInDim S8x2048x1 ![0, 1] bcast_S8x2048_S8x2048x1_0_1 (Host.reduceAdd (mulf x x) (constant S_ .f32 0x00000000#32) reducesTo_S8x2048x4096_S8x2048_d2 h_S_))
    (broadcastInDim S8x2048x1 ![] bcast_S_S8x2048x1 (constant S_ .f32 0x45800000#32)))
    (broadcastInDim S8x2048x1 ![] bcast_S_S8x2048x1 (constant S_ .f32 0x358637BD#32))))))
    (broadcastInDim S8x2048x4096 ![0, 1, 2] bcast_S1x1x4096_S8x2048x4096_0_1_2 (broadcastInDim S1x1x4096 ![2] bcast_S4096_S1x1x4096_2 g))

/-- The norm of every token of the second group. -/
def normedB (x : FVec Ideal S4x4096x4096 .f32) (g : FVec Ideal S4096 .f32) : FVec Ideal S4x4096x4096 .f32 :=
  mulf (mulf x (broadcastInDim S4x4096x4096 ![0, 1, 2] bcast_S4x4096x1_S4x4096x4096_0_1_2 (Host.rsqrt (addf (Host.divf
    (broadcastInDim S4x4096x1 ![0, 1] bcast_S4x4096_S4x4096x1_0_1 (Host.reduceAdd (mulf x x) (constant S_ .f32 0x00000000#32) reducesTo_S4x4096x4096_S4x4096_d2 h_S_))
    (broadcastInDim S4x4096x1 ![] bcast_S_S4x4096x1 (constant S_ .f32 0x45800000#32)))
    (broadcastInDim S4x4096x1 ![] bcast_S_S4x4096x1 (constant S_ .f32 0x358637BD#32))))))
    (broadcastInDim S4x4096x4096 ![0, 1, 2] bcast_S1x1x4096_S4x4096x4096_0_1_2 (broadcastInDim S1x1x4096 ![2] bcast_S4096_S1x1x4096_2 g))

theorem normedA_apply (x : FVec Ideal S8x2048x4096 .f32) (g : FVec Ideal S4096 .f32) (b : Fin 8) (s : Fin 2048) (k : Fin 4096) :
    normedA x g (ix3 b s k) = x (ix3 b s k) * Ideal.rsqrt (Ideal.div (∑ d : Fin 4096, x (ix3 b s d) * x (ix3 b s d))
      (Ideal.ofBits .f32 0x45800000#32) + Ideal.ofBits .f32 0x358637BD#32) * g (ix1 k) := by
  unfold normedA
  pointwise

theorem normedB_apply (x : FVec Ideal S4x4096x4096 .f32) (g : FVec Ideal S4096 .f32) (b : Fin 4) (s : Fin 4096) (k : Fin 4096) :
    normedB x g (ix3 b s k) = x (ix3 b s k) * Ideal.rsqrt (Ideal.div (∑ d : Fin 4096, x (ix3 b s d) * x (ix3 b s d))
      (Ideal.ofBits .f32 0x45800000#32) + Ideal.ofBits .f32 0x358637BD#32) * g (ix1 k) := by
  unfold normedB
  pointwise

/-- The scores of the experts at every row. -/
def scoreRows (h : FVec Ideal S16384x4096 .f32) (w : FVec Ideal S4096x16 .f32) : FVec Ideal S16384x16 .f32 :=
  Host.dotGeneral dot_S16384x4096_S4096x16_S16384x16_1_0_0_1_n_n none h w

theorem scoreRows_apply (h : FVec Ideal S16384x4096 .f32) (w : FVec Ideal S4096x16 .f32) (n : Fin 16384) (e : Fin 16) :
    scoreRows h w (ix2 n e) = ∑ d : Fin 4096, h (ix2 n d) * w (ix2 d e) := by
  pointwise [scoreRows]

variable (A : FVec Ideal S8x2048x4096 .f32) (B : FVec Ideal S4x4096x4096 .f32) (g : FVec Ideal S4096 .f32) (w : FVec Ideal S4096x16 .f32)

theorem rowA_apply (n : Fin 16384) (d : Fin 4096) : shapeCast S16384x4096 (normedA A g) shapeCasts_S8x2048x4096_S16384x4096 (ix2 n d)
    = normAt (tok (w := 4096) A B) (rd1 (a := 4096) g) n.val d.val := by
  have hn := n.isLt
  refine (flat_apply (normedA A g) shapeCasts_S8x2048x4096_S16384x4096 (ix2 n d) ⟨n.val / 2048, by omega⟩ ⟨n.val % 2048, by omega⟩
    (Nat.div_add_mod' _ _).symm).trans ((normedA_apply A g _ _ _).trans ?_)
  exact normAt_of (fun k => A (ix3 _ _ k)) _ d
    (fun k => tok_first _ _ k (show n.val = 2048 * (n.val / 2048) + n.val % 2048 by omega) rfl) (scale_eq g d)

theorem rowB_apply (n : Fin 16384) (d : Fin 4096) : shapeCast S16384x4096 (normedB B g) shapeCasts_S4x4096x4096_S16384x4096 (ix2 n d)
    = normAt (tok (w := 4096) A B) (rd1 (a := 4096) g) (16384 + n.val) d.val := by
  have hn := n.isLt
  refine (flat_apply (normedB B g) shapeCasts_S4x4096x4096_S16384x4096 (ix2 n d) ⟨n.val / 4096, by omega⟩ ⟨n.val % 4096, by omega⟩
    (Nat.div_add_mod' _ _).symm).trans ((normedB_apply B g _ _ _).trans ?_)
  exact normAt_of (fun k => B (ix3 _ _ k)) _ d
    (fun k => tok_second _ _ k (show 16384 + n.val = 16384 + 4096 * (n.val / 4096) + n.val % 4096 by omega) rfl) (scale_eq g d)

/-- The affinities of the first group. -/
def groupA : FVec Ideal S16x16384 .f32 :=
  softRows (scoreRows (shapeCast S16384x4096 (normedA A g) shapeCasts_S8x2048x4096_S16384x4096) w)

/-- The affinities of the second group. -/
def groupB : FVec Ideal S16x16384 .f32 :=
  softRows (scoreRows (shapeCast S16384x4096 (normedB B g) shapeCasts_S4x4096x4096_S16384x4096) w)

/-- Rows of which every entry is known have known affinities. -/
theorem group_of {X : Nat → Nat → EReal} {s : Nat → EReal} {h : FVec Ideal S16384x4096 .f32} {N : Nat} (e : Fin 16) (n : Fin 16384)
    (hh : ∀ d : Fin 4096, h (ix2 n d) = normAt X s N d.val) : softRows (scoreRows h w) (ix2 e n) = affAt X s (rd (a := 4096) (b := 16) w) e N :=
  (softRows_apply _ e n).trans (congrArg (fun l => softAt l e) (funext fun f =>
    (scoreRows_apply h w n f).trans (Finset.sum_congr rfl fun d _ => congrArg₂ (· * ·) (hh d) (rd_eq w d f).symm)))

/-- What the reference returns. -/
def refArray : FVec Ideal S16x32768 .f32 :=
  concatenate S16x32768 1 [⟨S16x16384, groupA A g w⟩, ⟨S16x16384, groupB B g w⟩] concatenates_S16x16384_S16x16384_S16x32768_d1

theorem refArray_apply (i : S16x32768.Idx) :
    refArray A B g w i = affAt (tok (w := 4096) A B) (rd1 (a := 4096) g) (rd (a := 4096) (b := 16) w) (i 0) (i 1).val := by
  have hi : (i 1).val < 32768 := (i 1).isLt
  have hc := concatenates_S16x16384_S16x16384_S16x32768_d1
  by_cases h : (i 1).val < 16384
  · refine (concatenate_pair_apply_left 1 _ _ hc i hc.rank_fst (ix2 (i 0) ⟨(i 1).val, h⟩) fun b => ?_).trans ?_
    · match b with
      | 0 => rfl
      | 1 => rfl
    · exact group_of w (i 0) _ fun d => rowA_apply A B g _ d
  · refine (concatenate_pair_apply_right 1 _ _ hc i hc.rank_fst hc.rank_snd (ix2 (i 0) ⟨(i 1).val - 16384, by omega⟩) (fun b hb => ?_) ?_).trans ?_
    · match b with
      | 0 => rfl
      | 1 => exact absurd rfl hb
    · show (i 1).val - 16384 + 16384 = (i 1).val
      omega
    · refine (group_of w (i 0) _ fun d => rowB_apply A B g _ d).trans (congrArg _ ?_)
      show 16384 + ((i 1).val - 16384) = (i 1).val
      omega

end

theorem frame_P : quiescent_Kernel14 (hKernel14 := Cert.Kernel14.Gen.facts) := fun m ρ _ => Cert.Kernel14.Gen.frame m ρ

theorem frame_PI : quiescent_Kernel14Ideal (hKernel14Ideal := Cert.Kernel14Ideal.Gen.facts) := fun m ρ _ => Cert.Kernel14Ideal.Gen.frame m ρ

theorem frame_RI : quiescent_Reference14Ideal (hReference14Ideal := Cert.Reference14Ideal.Gen.facts) := by
  intro m g _
  exact (θ_run _ _ _).mono (fun r h => ⟨fun c => (h c).2, sem_eq_zero_of_no_sems rfl r.2⟩) (Cert.Reference14Ideal.Value.run m g)

/-- The packed words as rows of pairs: the array and its blocks; the store of a block; the pack of its two halves. -/
theorem preserves_P : preserves_Kernel14_Kernel14Ideal :=
  ⟨IdealRules.bf16_pair.bufferStatement Cert.Kernel14Ideal.S32768x2x2048 Cert.Kernel14Ideal.S32768x1x2048,
    IdealRules.bf16_pair.bufferStatement Cert.Kernel14Ideal.S512x2x2048 Cert.Kernel14Ideal.S512x1x2048,
    IdealRules.bf16_pair.statement Cert.Kernel14Ideal.S512x2x2048 Cert.Kernel14Ideal.S512x1x2048,
    IdealRules.bf16_pack.statement Cert.Kernel14Ideal.S512x2048⟩

theorem algebraic_PI : algebraic_Kernel14Ideal_Reference14Ideal (hKernel14Ideal := Cert.Kernel14Ideal.Gen.facts)
    (hReference14Ideal := Cert.Reference14Ideal.Gen.facts) := by
  intro m g m' g' _ hagree
  refine ⟨fun c => (Cert.Kernel14Ideal.Gen.dats m 0 c).arrAt 4 Cert.Kernel14Ideal.cfg0.N,
    (θ_run _ _ _).mono (fun _ h c => (h c).2) (Cert.Kernel14Ideal.Value.run_blocks m g), ?_⟩
  refine (θ_run _ _ _).mono (fun r h c => ?_) (Cert.Reference14Ideal.Value.run m' g')
  obtain ⟨h0, h1, h2, h3⟩ := hagree c
  refine ⟨(h c).1.trans ?_, (h c).2⟩
  unfold Cert.Reference14Ideal.Value.res_main_v54
  rw [h0, h1, h2, h3]
  exact funext fun i => (refArray_apply _ _ _ _ i).trans (array_apply m c i).symm

end Cert.Proof.Router
end
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Array
public import proofs.«01_k».proof.Proof.RefArray
public import proofs.«01_k».proof.Proof.UpRef
public import proofs.«01_k».proof.Proof.DownRef
public import proofs.«01_k».proof.Proof.InRef
public import proofs.«01_k».proof.Proof.OutRef
public import proofs.«01_k».proof.Proof.QkvRef
public import proofs.«01_k».proof.Proof.WoRef
public import proofs.«01_k».proof.Proof.NormPrompt
public import proofs.«01_k».proof.Proof.NormSample
public import proofs.«01_k».proof.Proof.ConvARef
public import proofs.«01_k».proof.Proof.ConvBRef
public import proofs.«01_k».proof.Proof.GateOut
public import proofs.«01_k».proof.Proof.GatesClaims
public import proofs.«01_k».proof.Proof.RouterRef
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-! The attention call: its frames, its named constants, and its array beside the reference's. -/

theorem frame_P : quiescent_Kernel (hKernel := Cert.Kernel.Gen.facts) := fun m ρ _ => Cert.Kernel.Gen.frame m ρ

theorem frame_PI : quiescent_KernelIdeal (hKernelIdeal := Cert.KernelIdeal.Gen.facts) := fun m ρ _ => Cert.KernelIdeal.Gen.frame m ρ

theorem frame_RI : quiescent_ReferenceIdeal (hReferenceIdeal := Cert.ReferenceIdeal.Gen.facts) := by
  intro m g _
  exact (θ_run _ _ _).mono (fun r h => ⟨fun c => (h c).2, sem_eq_zero_of_no_sems rfl r.2⟩) (Cert.ReferenceIdeal.Value.run m g)

theorem preserves_P : preserves_Kernel_KernelIdeal := ⟨
  IdealRules.named_const.statement Cert.KernelIdeal.κ "slope2" .f32 0x3F1837F0#32 (((1 * ((Real.sqrt 2) * (Real.sqrt (Real.sqrt 2))))⁻¹ : ℝ) : EReal) rfl,
  IdealRules.named_const.statement Cert.KernelIdeal.κ "slope1" .f32 0x3F3504F3#32 (((1 * (Real.sqrt 2))⁻¹ : ℝ) : EReal) rfl,
  IdealRules.named_const.statement Cert.KernelIdeal.κ "slope0" .f32 0x3F5744FD#32 (((1 * (Real.sqrt (Real.sqrt 2)))⁻¹ : ℝ) : EReal) rfl,
  IdealRules.named_const.statement Cert.KernelIdeal.κ "scale" .f32 0x3DB504F3#32 (((Real.sqrt 128)⁻¹ : ℝ) : EReal) rfl,
  IdealRules.named_const.statement Cert.KernelIdeal.κ "mask" .f32 0xF149F2CA#32 ⊥ rfl,
  IdealRules.named_const.statement Cert.KernelIdeal.κ "slope6" .f32 0x3E9837F0#32 (((2 * ((Real.sqrt 2) * (Real.sqrt (Real.sqrt 2))))⁻¹ : ℝ) : EReal) rfl,
  IdealRules.named_const.statement Cert.KernelIdeal.κ "slope5" .f32 0x3EB504F3#32 (((2 * (Real.sqrt 2))⁻¹ : ℝ) : EReal) rfl,
  IdealRules.named_const.statement Cert.KernelIdeal.κ "slope4" .f32 0x3ED744FD#32 (((2 * (Real.sqrt (Real.sqrt 2)))⁻¹ : ℝ) : EReal) rfl,
  IdealRules.named_const.statement Cert.KernelIdeal.κ "slope10" .f32 0x3E1837F0#32 (((4 * ((Real.sqrt 2) * (Real.sqrt (Real.sqrt 2))))⁻¹ : ℝ) : EReal) rfl,
  IdealRules.named_const.statement Cert.KernelIdeal.κ "slope9" .f32 0x3E3504F3#32 (((4 * (Real.sqrt 2))⁻¹ : ℝ) : EReal) rfl,
  IdealRules.named_const.statement Cert.KernelIdeal.κ "slope8" .f32 0x3E5744FD#32 (((4 * (Real.sqrt (Real.sqrt 2)))⁻¹ : ℝ) : EReal) rfl,
  IdealRules.named_const.statement Cert.KernelIdeal.κ "slope14" .f32 0x3D9837F0#32 (((8 * ((Real.sqrt 2) * (Real.sqrt (Real.sqrt 2))))⁻¹ : ℝ) : EReal) rfl,
  IdealRules.named_const.statement Cert.KernelIdeal.κ "slope12" .f32 0x3DD744FD#32 (((8 * (Real.sqrt (Real.sqrt 2)))⁻¹ : ℝ) : EReal) rfl,
  IdealRules.named_const.statement Cert.KernelIdeal.κ "slope18" .f32 0x3D1837F0#32 (((16 * ((Real.sqrt 2) * (Real.sqrt (Real.sqrt 2))))⁻¹ : ℝ) : EReal) rfl,
  IdealRules.named_const.statement Cert.KernelIdeal.κ "slope17" .f32 0x3D3504F3#32 (((16 * (Real.sqrt 2))⁻¹ : ℝ) : EReal) rfl,
  IdealRules.named_const.statement Cert.KernelIdeal.κ "slope16" .f32 0x3D5744FD#32 (((16 * (Real.sqrt (Real.sqrt 2)))⁻¹ : ℝ) : EReal) rfl,
  IdealRules.named_const.statement Cert.KernelIdeal.κ "slope22" .f32 0x3C9837F0#32 (((32 * ((Real.sqrt 2) * (Real.sqrt (Real.sqrt 2))))⁻¹ : ℝ) : EReal) rfl,
  IdealRules.named_const.statement Cert.KernelIdeal.κ "slope21" .f32 0x3CB504F3#32 (((32 * (Real.sqrt 2))⁻¹ : ℝ) : EReal) rfl,
  IdealRules.named_const.statement Cert.KernelIdeal.κ "slope20" .f32 0x3CD744FD#32 (((32 * (Real.sqrt (Real.sqrt 2)))⁻¹ : ℝ) : EReal) rfl,
  IdealRules.named_const.statement Cert.KernelIdeal.κ "slope26" .f32 0x3C1837F0#32 (((64 * ((Real.sqrt 2) * (Real.sqrt (Real.sqrt 2))))⁻¹ : ℝ) : EReal) rfl,
  IdealRules.named_const.statement Cert.KernelIdeal.κ "slope25" .f32 0x3C3504F3#32 (((64 * (Real.sqrt 2))⁻¹ : ℝ) : EReal) rfl,
  IdealRules.named_const.statement Cert.KernelIdeal.κ "slope24" .f32 0x3C5744FD#32 (((64 * (Real.sqrt (Real.sqrt 2)))⁻¹ : ℝ) : EReal) rfl,
  IdealRules.named_const.statement Cert.KernelIdeal.κ "slope30" .f32 0x3B9837F0#32 (((128 * ((Real.sqrt 2) * (Real.sqrt (Real.sqrt 2))))⁻¹ : ℝ) : EReal) rfl,
  IdealRules.named_const.statement Cert.KernelIdeal.κ "slope29" .f32 0x3BB504F3#32 (((128 * (Real.sqrt 2))⁻¹ : ℝ) : EReal) rfl,
  IdealRules.named_const.statement Cert.KernelIdeal.κ "slope28" .f32 0x3BD744FD#32 (((128 * (Real.sqrt (Real.sqrt 2)))⁻¹ : ℝ) : EReal) rfl⟩

/-- From the same arrays the kernel's array and the reference's are one. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    refArray (StableHlo.launchContents m' c) = (Cert.KernelIdeal.Gen.dats m 0 c).arrAt 8 Cert.KernelIdeal.cfg0.N := by
  have e0 : StableHlo.launchContents m' c (Proc.devRef .tc Cert.ReferenceIdeal.main_arg0) = _ := h0
  have e1 : StableHlo.launchContents m' c (Proc.devRef .tc Cert.ReferenceIdeal.main_arg1) = _ := h1
  have e2 : StableHlo.launchContents m' c (Proc.devRef .tc Cert.ReferenceIdeal.main_arg2) = _ := h2
  have hR := refArray_apply (StableHlo.launchContents m' c)
  rw [e0, e1, e2] at hR
  exact funext fun i => (hR i).trans (array_apply m c i).symm

theorem algebraic_PI : algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 8 Cert.KernelIdeal.cfg0.N, Cert.KernelIdeal.Value.run_blocks m g, ?_⟩
  refine (θ_run _ _ _).mono (fun r h c => ?_) (Cert.ReferenceIdeal.Value.run m' g')
  obtain ⟨h0, h1, h2⟩ := hagree c
  exact ⟨(h c).1.trans (arrays_eq m m' c h0 h1 h2), (h c).2⟩

/-- The calls' claims. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_decay_above.Gen.facts,
  frame_P, frame_PI, frame_RI,
  Up.frame_P, Up.frame_PI, Up.frame_RI,
  Down.frame_P, Down.frame_PI, Down.frame_RI,
  InProj.frame_P, InProj.frame_PI, InProj.frame_RI,
  Out.frame_P, Out.frame_PI, Out.frame_RI,
  Qkv.frame_P, Qkv.frame_PI, Qkv.frame_RI,
  Wo.frame_P, Wo.frame_PI, Wo.frame_RI,
  NormPrompt.frame_P, NormPrompt.frame_PI, NormPrompt.frame_RI,
  NormSample.frame_P, NormSample.frame_PI, NormSample.frame_RI,
  ConvA.frame_P, ConvA.frame_PI, ConvA.frame_RI,
  ConvB.frame_P, ConvB.frame_PI, ConvB.frame_RI,
  GateOut.frame_P, GateOut.frame_PI, GateOut.frame_RI,
  Gates.frame_P, Gates.frame_PI, Gates.frame_PI_pre, Gates.frame_RI, Gates.frame_RI_pre,
  Router.frame_P, Router.frame_PI, Router.frame_RI,
  preserves_P, algebraic_PI,
  trivial, Up.algebraic_PI,
  trivial, Down.algebraic_PI,
  trivial, InProj.algebraic_PI,
  trivial, Out.algebraic_PI,
  trivial, Qkv.algebraic_PI,
  trivial, Wo.algebraic_PI,
  trivial, NormPrompt.algebraic_PI,
  trivial, NormSample.algebraic_PI,
  trivial, ConvA.algebraic_PI,
  trivial, ConvB.algebraic_PI,
  trivial, GateOut.algebraic_PI,
  trivial, Gates.algebraic_PI,
  Router.preserves_P, Router.algebraic_PI⟩

end Cert.Proof

end
